-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v61_1)) (v2 : (c : Dev Cert.KernelIdeal.nD) → Buf (Elt Ideal) ((c.tc : Thread Cert.KernelIdeal.nD Cert.KernelIdeal.τ).loc Cert.KernelIdeal.main_v61_2)) (v3 : (c : Dev Cert.KernelIdeal.nD) → Buf (Elt Ideal) ((c.tc : Thread Cert.KernelIdeal.nD Cert.KernelIdeal.τ).loc Cert.KernelIdeal.main_v61_3)) (v4 : (c : Dev Cert.KernelIdeal.nD) → Buf (Elt Ideal) ((c.tc : Thread Cert.KernelIdeal.nD Cert.KernelIdeal.τ).loc Cert.KernelIdeal.main_v61_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v61_1) = v1 c
          ∧ r.2.mem ((c.tc : Thread Cert.KernelIdeal.nD Cert.KernelIdeal.τ).loc Cert.KernelIdeal.main_v61_2) = v2 c
          ∧ r.2.mem ((c.tc : Thread Cert.KernelIdeal.nD Cert.KernelIdeal.τ).loc Cert.KernelIdeal.main_v61_3) = v3 c
          ∧ r.2.mem ((c.tc : Thread Cert.KernelIdeal.nD Cert.KernelIdeal.τ).loc Cert.KernelIdeal.main_v61_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v102) = v3 c
          ∧ r.2.mem ((c.tc : Thread Cert.ReferenceIdeal.nD Cert.ReferenceIdeal.τ).loc Cert.ReferenceIdeal.main_v105) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)) (v4 : (c : Dev Cert.Kernel5Ideal.nD) → Buf (Elt Ideal) ((c.tc : Thread Cert.Kernel5Ideal.nD Cert.Kernel5Ideal.τ).loc Cert.Kernel5Ideal.main_v2_4)) (v5 : (c : Dev Cert.Kernel5Ideal.nD) → Buf (Elt Ideal) ((c.tc : Thread Cert.Kernel5Ideal.nD Cert.Kernel5Ideal.τ).loc Cert.Kernel5Ideal.main_v2_5)) (v6 : (c : Dev Cert.Kernel5Ideal.nD) → Buf (Elt Ideal) ((c.tc : Thread Cert.Kernel5Ideal.nD Cert.Kernel5Ideal.τ).loc Cert.Kernel5Ideal.main_v2_6)) (v7 : (c : Dev Cert.Kernel5Ideal.nD) → Buf (Elt Ideal) ((c.tc : Thread Cert.Kernel5Ideal.nD Cert.Kernel5Ideal.τ).loc Cert.Kernel5Ideal.main_v2_7)) (v8 : (c : Dev Cert.Kernel5Ideal.nD) → Buf (Elt Ideal) ((c.tc : Thread Cert.Kernel5Ideal.nD Cert.Kernel5Ideal.τ).loc Cert.Kernel5Ideal.main_v2_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_v2_4) = v4 c
          ∧ r.2.mem ((c.tc : Thread Cert.Kernel5Ideal.nD Cert.Kernel5Ideal.τ).loc Cert.Kernel5Ideal.main_v2_5) = v5 c
          ∧ r.2.mem ((c.tc : Thread Cert.Kernel5Ideal.nD Cert.Kernel5Ideal.τ).loc Cert.Kernel5Ideal.main_v2_6) = v6 c
          ∧ r.2.mem ((c.tc : Thread Cert.Kernel5Ideal.nD Cert.Kernel5Ideal.τ).loc Cert.Kernel5Ideal.main_v2_7) = v7 c
          ∧ r.2.mem ((c.tc : Thread Cert.Kernel5Ideal.nD Cert.Kernel5Ideal.τ).loc Cert.Kernel5Ideal.main_v2_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_v58) = v1 c
          ∧ r.2.mem ((c.tc : Thread Cert.Reference5Ideal.nD Cert.Reference5Ideal.τ).loc Cert.Reference5Ideal.main_v59) = v2 c
          ∧ r.2.mem ((c.tc : Thread Cert.Reference5Ideal.nD Cert.Reference5Ideal.τ).loc Cert.Reference5Ideal.main_v60) = v3 c
          ∧ r.2.mem ((c.tc : Thread Cert.Reference5Ideal.nD Cert.Reference5Ideal.τ).loc Cert.Reference5Ideal.main_v61) = v4 c
          ∧ r.2.mem ((c.tc : Thread Cert.Reference5Ideal.nD Cert.Reference5Ideal.τ).loc Cert.Reference5Ideal.main_v62) = v5 c
          ∧ r.2.mem ((c.tc : Thread Cert.Reference5Ideal.nD Cert.Reference5Ideal.τ).loc Cert.Reference5Ideal.main_v63) = v6 c
          ∧ r.2.mem ((c.tc : Thread Cert.Reference5Ideal.nD Cert.Reference5Ideal.τ).loc Cert.Reference5Ideal.main_v41) = v7 c
          ∧ r.2.mem ((c.tc : Thread Cert.Reference5Ideal.nD Cert.Reference5Ideal.τ).loc Cert.Reference5Ideal.main_v30) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_v53) = v1 c
          ∧ r.2.mem ((c.tc : Thread Cert.Reference7Ideal.nD Cert.Reference7Ideal.τ).loc Cert.Reference7Ideal.main_v56) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_v27) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4224x512 : Shape := ⟨2, ![4224, 512]⟩
abbrev S4224x8 : Shape := ⟨2, ![4224, 8]⟩
abbrev S4112x512 : Shape := ⟨2, ![4112, 512]⟩
abbrev S_ : Shape := ⟨0, ![]⟩

class Facts : Prop where
  bcast_S_S4224x512 : S_.BroadcastsInDim S4224x512 (![] : Fin 0 → Fin S4224x512.rank)
  reducesTo_S4224x512_S_d0_1 : S4224x512.ReducesTo [0, 1] S_
  h_S_ : 0 < S_.numel
  bcast_S_S4224x8 : S_.BroadcastsInDim S4224x8 (![] : Fin 0 → Fin S4224x8.rank)
  reducesTo_S4224x8_S_d0_1 : S4224x8.ReducesTo [0, 1] S_
  bcast_S_S4112x512 : S_.BroadcastsInDim S4112x512 (![] : Fin 0 → Fin S4112x512.rank)
  reducesTo_S4112x512_S_d0_1 : S4112x512.ReducesTo [0, 1] S_

variable [Facts]

def fn_part1 {F : FTy → Type} [FloatOps F] (main_arg4 : FVec F S4112x512 .f32) (main_v13 : IVec S_ 1) (main_v16 : IVec S4224x8 1) : IVec S_ 1 :=
  let main_c_5 : IVec S_ 1 := constantI S_ 1 1#1
  let main_v17 : IVec S_ 1 := (fun x v => Host.reduce IntOp.andi x v reducesTo_S4224x8_S_d0_1 h_S_) main_v16 main_c_5
  let main_v18 : IVec S_ 1 := andi main_v13 main_v17
  let main_v19 : FVec F S4112x512 .f32 := Host.absf main_arg4
  let main_cst_6 : FVec F S_ .f32 := constant S_ .f32 0x7F800000#32
  let main_v20 : FVec F S4112x512 .f32 := broadcastInDim S4112x512 ![] bcast_S_S4112x512 main_cst_6
  let main_v21 : IVec S4112x512 1 := cmpf .olt main_v19 main_v20
  let main_c_7 : IVec S_ 1 := constantI S_ 1 1#1
  let main_v22 : IVec S_ 1 := (fun x v => Host.reduce IntOp.andi x v reducesTo_S4112x512_S_d0_1 h_S_) main_v21 main_c_7
  let main_v23 : IVec S_ 1 := andi main_v18 main_v22
  main_v23

def fn {F : FTy → Type} [FloatOps F] (main_arg0 : FVec F S4224x512 .f32) (main_arg1 : FVec F S4224x512 .f32) (main_arg2 : FVec F S4224x512 .f32) (main_arg3 : FVec F S4224x8 .f32) (main_arg4 : FVec F S4112x512 .f32) : IVec S_ 1 :=
  let main_v0 : FVec F S4224x512 .f32 := Host.absf main_arg0
  let main_cst : FVec F S_ .f32 := constant S_ .f32 0x7F800000#32
  let main_v1 : FVec F S4224x512 .f32 := broadcastInDim S4224x512 ![] bcast_S_S4224x512 main_cst
  let main_v2 : IVec S4224x512 1 := cmpf .olt main_v0 main_v1
  let main_c : IVec S_ 1 := constantI S_ 1 1#1
  let main_v3 : IVec S_ 1 := (fun x v => Host.reduce IntOp.andi x v reducesTo_S4224x512_S_d0_1 h_S_) main_v2 main_c
  let main_v4 : FVec F S4224x512 .f32 := Host.absf main_arg1
  let main_cst_0 : FVec F S_ .f32 := constant S_ .f32 0x7F800000#32
  let main_v5 : FVec F S4224x512 .f32 := broadcastInDim S4224x512 ![] bcast_S_S4224x512 main_cst_0
  let main_v6 : IVec S4224x512 1 := cmpf .olt main_v4 main_v5
  let main_c_1 : IVec S_ 1 := constantI S_ 1 1#1
  let main_v7 : IVec S_ 1 := (fun x v => Host.reduce IntOp.andi x v reducesTo_S4224x512_S_d0_1 h_S_) main_v6 main_c_1
  let main_v8 : IVec S_ 1 := andi main_v3 main_v7
  let main_v9 : FVec F S4224x512 .f32 := Host.absf main_arg2
  let main_cst_2 : FVec F S_ .f32 := constant S_ .f32 0x7F800000#32
  let main_v10 : FVec F S4224x512 .f32 := broadcastInDim S4224x512 ![] bcast_S_S4224x512 main_cst_2
  let main_v11 : IVec S4224x512 1 := cmpf .olt main_v9 main_v10
  let main_c_3 : IVec S_ 1 := constantI S_ 1 1#1
  let main_v12 : IVec S_ 1 := (fun x v => Host.reduce IntOp.andi x v reducesTo_S4224x512_S_d0_1 h_S_) main_v11 main_c_3
  let main_v13 : IVec S_ 1 := andi main_v8 main_v12
  let main_v14 : FVec F S4224x8 .f32 := Host.absf main_arg3
  let main_cst_4 : FVec F S_ .f32 := constant S_ .f32 0x7F800000#32
  let main_v15 : FVec F S4224x8 .f32 := broadcastInDim S4224x8 ![] bcast_S_S4224x8 main_cst_4
  let main_v16 : IVec S4224x8 1 := cmpf .olt main_v14 main_v15
  fn_part1 (F := F) main_arg4 main_v13 main_v16
-- ==== Pre_finite5.lean ====
abbrev S4224x1024 : Shape := ⟨2, ![4224, 1024]⟩
abbrev S4224x512 : Shape := ⟨2, ![4224, 512]⟩
abbrev S4224x7680 : Shape := ⟨2, ![4224, 7680]⟩
abbrev S3x512x1024 : Shape := ⟨3, ![3, 512, 1024]⟩
abbrev S1024x1024 : Shape := ⟨2, ![1024, 1024]⟩
abbrev S_ : Shape := ⟨0, ![]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S4224x512 : S_.BroadcastsInDim S4224x512 (![] : Fin 0 → Fin S4224x512.rank)
  reducesTo_S4224x512_S_d0_1 : S4224x512.ReducesTo [0, 1] S_
  bcast_S_S4224x7680 : S_.BroadcastsInDim S4224x7680 (![] : Fin 0 → Fin S4224x7680.rank)
  reducesTo_S4224x7680_S_d0_1 : S4224x7680.ReducesTo [0, 1] S_
  bcast_S_S3x512x1024 : S_.BroadcastsInDim S3x512x1024 (![] : Fin 0 → Fin S3x512x1024.rank)
  reducesTo_S3x512x1024_S_d0_1_2 : S3x512x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S4224x7680 .f32) (main_arg5 : FVec F S3x512x1024 .f32) (main_arg6 : FVec F S1024x1024 .f32) (main_v13 : IVec S_ 1) (main_v16 : IVec S4224x512 1) : IVec S_ 1 :=
  let main_c_5 : IVec S_ 1 := constantI S_ 1 1#1
  let main_v17 : IVec S_ 1 := (fun x v => Host.reduce IntOp.andi x v reducesTo_S4224x512_S_d0_1 h_S_) main_v16 main_c_5
  let main_v18 : IVec S_ 1 := andi main_v13 main_v17
  let main_v19 : FVec F S4224x7680 .f32 := Host.absf main_arg4
  let main_cst_6 : FVec F S_ .f32 := constant S_ .f32 0x7F800000#32
  let main_v20 : FVec F S4224x7680 .f32 := broadcastInDim S4224x7680 ![] bcast_S_S4224x7680 main_cst_6
  let main_v21 : IVec S4224x7680 1 := cmpf .olt main_v19 main_v20
  let main_c_7 : IVec S_ 1 := constantI S_ 1 1#1
  let main_v22 : IVec S_ 1 := (fun x v => Host.reduce IntOp.andi x v reducesTo_S4224x7680_S_d0_1 h_S_) main_v21 main_c_7
  let main_v23 : IVec S_ 1 := andi main_v18 main_v22
  let main_v24 : FVec F S3x512x1024 .f32 := Host.absf main_arg5
  let main_cst_8 : FVec F S_ .f32 := constant S_ .f32 0x7F800000#32
  let main_v25 : FVec F S3x512x1024 .f32 := broadcastInDim S3x512x1024 ![] bcast_S_S3x512x1024 main_cst_8
  let main_v26 : IVec S3x512x1024 1 := cmpf .olt main_v24 main_v25
  let main_c_9 : IVec S_ 1 := constantI S_ 1 1#1
  let main_v27 : IVec S_ 1 := (fun x v => Host.reduce IntOp.andi x v reducesTo_S3x512x1024_S_d0_1_2 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S4224x1024 .f32) (main_arg1 : FVec F S4224x512 .f32) (main_arg2 : FVec F S4224x512 .f32) (main_arg3 : FVec F S4224x512 .f32) (main_arg4 : FVec F S4224x7680 .f32) (main_arg5 : FVec F S3x512x1024 .f32) (main_arg6 : FVec F S1024x1024 .f32) : IVec S_ 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_c : IVec S_ 1 := constantI S_ 1 1#1
  let main_v3 : IVec S_ 1 := (fun x v => Host.reduce IntOp.andi x v reducesTo_S4224x1024_S_d0_1 h_S_) main_v2 main_c
  let main_v4 : FVec F S4224x512 .f32 := Host.absf main_arg1
  let main_cst_0 : FVec F S_ .f32 := constant S_ .f32 0x7F800000#32
  let main_v5 : FVec F S4224x512 .f32 := broadcastInDim S4224x512 ![] bcast_S_S4224x512 main_cst_0
  let main_v6 : IVec S4224x512 1 := cmpf .olt main_v4 main_v5
  let main_c_1 : IVec S_ 1 := constantI S_ 1 1#1
  let main_v7 : IVec S_ 1 := (fun x v => Host.reduce IntOp.andi x v reducesTo_S4224x512_S_d0_1 h_S_) main_v6 main_c_1
  let main_v8 : IVec S_ 1 := andi main_v3 main_v7
  let main_v9 : FVec F S4224x512 .f32 := Host.absf main_arg2
  let main_cst_2 : FVec F S_ .f32 := constant S_ .f32 0x7F800000#32
  let main_v10 : FVec F S4224x512 .f32 := broadcastInDim S4224x512 ![] bcast_S_S4224x512 main_cst_2
  let main_v11 : IVec S4224x512 1 := cmpf .olt main_v9 main_v10
  let main_c_3 : IVec S_ 1 := constantI S_ 1 1#1
  let main_v12 : IVec S_ 1 := (fun x v => Host.reduce IntOp.andi x v reducesTo_S4224x512_S_d0_1 h_S_) main_v11 main_c_3
  let main_v13 : IVec S_ 1 := andi main_v8 main_v12
  let main_v14 : FVec F S4224x512 .f32 := Host.absf main_arg3
  let main_cst_4 : FVec F S_ .f32 := constant S_ .f32 0x7F800000#32
  let main_v15 : FVec F S4224x512 .f32 := broadcastInDim S4224x512 ![] bcast_S_S4224x512 main_cst_4
  let main_v16 : IVec S4224x512 1 := cmpf .olt main_v14 main_v15
  fn_part1 (F := F) main_arg4 main_arg5 main_arg6 main_v13 main_v16
-- ==== Kernel.lean ====
abbrev S4224x512 : Shape := ⟨2, ![4224, 512]⟩
abbrev S4224x8 : Shape := ⟨2, ![4224, 8]⟩
abbrev S4112x512 : Shape := ⟨2, ![4112, 512]⟩
abbrev S4224x8x64 : Shape := ⟨3, ![4224, 8, 64]⟩
abbrev S4112x8x64 : Shape := ⟨3, ![4112, 8, 64]⟩
abbrev S8x4112x4224 : Shape := ⟨3, ![8, 4112, 4224]⟩
abbrev S_ : Shape := ⟨0, ![]⟩
abbrev S8x4224 : Shape := ⟨2, ![8, 4224]⟩
abbrev S8x1x4224 : Shape := ⟨3, ![8, 1, 4224]⟩
abbrev S4224 : Shape := ⟨1, ![4224]⟩
abbrev S1x4224 : Shape := ⟨2, ![1, 4224]⟩
abbrev S4112 : Shape := ⟨1, ![4112]⟩
abbrev S4112x1 : Shape := ⟨2, ![4112, 1]⟩
abbrev S4112x4224 : Shape := ⟨2, ![4112, 4224]⟩
abbrev S1x4112x4224 : Shape := ⟨3, ![1, 4112, 4224]⟩
abbrev S8x4112 : Shape := ⟨2, ![8, 4112]⟩
abbrev S8x4112x1 : Shape := ⟨3, ![8, 4112, 1]⟩
abbrev S8x64x4112 : Shape := ⟨3, ![8, 64, 4112]⟩
abbrev S4112x8 : Shape := ⟨2, ![4112, 8]⟩
abbrev S112x512 : Shape := ⟨2, ![112, 512]⟩
abbrev S4224x8x128 : Shape := ⟨3, ![4224, 8, 128]⟩
abbrev S4224x1024 : Shape := ⟨2, ![4224, 1024]⟩
abbrev S8x112 : Shape := ⟨2, ![8, 112]⟩
abbrev S4x2x11x384 : Shape := ⟨4, ![4, 2, 11, 384]⟩
abbrev S4x11x2x384 : Shape := ⟨4, ![4, 11, 2, 384]⟩
abbrev S4224x128 : Shape := ⟨2, ![4224, 128]⟩
abbrev S384x128 : Shape := ⟨2, ![384, 128]⟩
abbrev S1x11x2x384 : Shape := ⟨4, ![1, 11, 2, 384]⟩
abbrev S384x256 : Shape := ⟨2, ![384, 256]⟩
abbrev S1x128 : Shape := ⟨2, ![1, 128]⟩
abbrev S768x128 : Shape := ⟨2, ![768, 128]⟩
abbrev S384x1 : Shape := ⟨2, ![384, 1]⟩
abbrev S384x384 : Shape := ⟨2, ![384, 384]⟩
abbrev S384x768 : Shape := ⟨2, ![384, 768]⟩
abbrev S1x1x2x384 : Shape := ⟨4, ![1, 1, 2, 384]⟩
abbrev S2x384 : Shape := ⟨2, ![2, 384]⟩
abbrev S1x384 : Shape := ⟨2, ![1, 384]⟩
abbrev S1x768 : Shape := ⟨2, ![1, 768]⟩
abbrev S384 : Shape := ⟨1, ![384]⟩
abbrev S768 : Shape := ⟨1, ![768]⟩
abbrev S1x1x1x384 : Shape := ⟨4, ![1, 1, 1, 384]⟩
abbrev S768x384 : Shape := ⟨2, ![768, 384]⟩

abbrev nBuf : Space → Nat
  | .hbm => 84
  | .vmem => 24
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S4224x512, .f32⟩
  | .hbm, ⟨3, _⟩ => ⟨S4224x8, .f32⟩
  | .hbm, ⟨4, _⟩ => ⟨S4112x512, .f32⟩
  | .hbm, ⟨5, _⟩ => ⟨S4224x8x64, .f32⟩
  | .hbm, ⟨6, _⟩ => ⟨S4112x8x64, .f32⟩
  | .hbm, ⟨7, _⟩ => ⟨S4224x8x64, .f32⟩
  | .hbm, ⟨8, _⟩ => ⟨S8x4112x4224, .f32⟩
  | .hbm, ⟨9, _⟩ => ⟨S_, .f32⟩
  | .hbm, ⟨10, _⟩ => ⟨S8x4112x4224, .f32⟩
  | .hbm, ⟨11, _⟩ => ⟨S8x4112x4224, .f32⟩
  | .hbm, ⟨12, _⟩ => ⟨S8x4224, .f32⟩
  | .hbm, ⟨13, _⟩ => ⟨S8x1x4224, .f32⟩
  | .hbm, ⟨14, _⟩ => ⟨S8x4112x4224, .f32⟩
  | .hbm, ⟨15, _⟩ => ⟨S8x4112x4224, .f32⟩
  | .hbm, ⟨16, _⟩ => ⟨S4224, .i32⟩
  | .hbm, ⟨17, _⟩ => ⟨S1x4224, .i32⟩
  | .hbm, ⟨18, _⟩ => ⟨S4112, .i32⟩
  | .hbm, ⟨19, _⟩ => ⟨S4112x1, .i32⟩
  | .hbm, ⟨20, _⟩ => ⟨S4112x4224, .i32⟩
  | .hbm, ⟨21, _⟩ => ⟨S4112x4224, .i32⟩
  | .hbm, ⟨22, _⟩ => ⟨S4112x4224, .i1⟩
  | .hbm, ⟨23, _⟩ => ⟨S1x4224, .i32⟩
  | .hbm, ⟨24, _⟩ => ⟨S_, .i32⟩
  | .hbm, ⟨25, _⟩ => ⟨S1x4224, .i32⟩
  | .hbm, ⟨26, _⟩ => ⟨S1x4224, .i1⟩
  | .hbm, ⟨27, _⟩ => ⟨S4112x4224, .i1⟩
  | .hbm, ⟨28, _⟩ => ⟨S4112x4224, .i1⟩
  | .hbm, ⟨29, _⟩ => ⟨S1x4112x4224, .i1⟩
  | .hbm, ⟨30, _⟩ => ⟨S_, .f32⟩
  | .hbm, ⟨31, _⟩ => ⟨S_, .f32⟩
  | .hbm, ⟨32, _⟩ => ⟨S8x4112x4224, .i1⟩
  | .hbm, ⟨33, _⟩ => ⟨S8x4112x4224, .f32⟩
  | .hbm, ⟨34, _⟩ => ⟨S8x4112x4224, .f32⟩
  | .hbm, ⟨35, _⟩ => ⟨S_, .f32⟩
  | .hbm, ⟨36, _⟩ => ⟨S8x4112, .f32⟩
  | .hbm, ⟨37, _⟩ => ⟨S8x4112x1, .f32⟩
  | .hbm, ⟨38, _⟩ => ⟨S8x4112x4224, .f32⟩
  | .hbm, ⟨39, _⟩ => ⟨S8x4112x4224, .f32⟩
  | .hbm, ⟨40, _⟩ => ⟨S8x4112x4224, .f32⟩
  | .hbm, ⟨41, _⟩ => ⟨S_, .f32⟩
  | .hbm, ⟨42, _⟩ => ⟨S8x4112, .f32⟩
  | .hbm, ⟨43, _⟩ => ⟨S8x4112x1, .f32⟩
  | .hbm, ⟨44, _⟩ => ⟨S8x4112x4224, .f32⟩
  | .hbm, ⟨45, _⟩ => ⟨S8x4112x4224, .f32⟩
  | .hbm, ⟨46, _⟩ => ⟨S4224x8x64, .f32⟩
  | .hbm, ⟨47, _⟩ => ⟨S8x64x4112, .f32⟩
  | .hbm, ⟨48, _⟩ => ⟨S4112x8x64, .f32⟩
  | .hbm, ⟨49, _⟩ => ⟨S8x4112x1, .f32⟩
  | .hbm, ⟨50, _⟩ => ⟨S8x4112x1, .f32⟩
  | .hbm, ⟨51, _⟩ => ⟨S8x4112, .f32⟩
  | .hbm, ⟨52, _⟩ => ⟨S4112x8x64, .f32⟩
  | .hbm, ⟨53, _⟩ => ⟨S4112x8x64, .f32⟩
  | .hbm, ⟨54, _⟩ => ⟨S_, .f32⟩
  | .hbm, ⟨55, _⟩ => ⟨S4112x8, .f32⟩
  | .hbm, ⟨56, _⟩ => ⟨S8x4112, .f32⟩
  | .hbm, ⟨57, _⟩ => ⟨S_, .f32⟩
  | .hbm, ⟨58, _⟩ => ⟨S4224x512, .f32⟩
  | .hbm, ⟨59, _⟩ => ⟨S4224x512, .f32⟩
  | .hbm, ⟨60, _⟩ => ⟨S4224x512, .bf16⟩
  | .hbm, ⟨61, _⟩ => ⟨S4224x512, .bf16⟩
  | .hbm, ⟨62, _⟩ => ⟨S4224x512, .bf16⟩
  | .hbm, ⟨63, _⟩ => ⟨S_, .bf16⟩
  | .hbm, ⟨64, _⟩ => ⟨S112x512, .bf16⟩
  | .hbm, ⟨65, _⟩ => ⟨S4112x512, .bf16⟩
  | .hbm, ⟨66, _⟩ => ⟨S4224x512, .bf16⟩
  | .hbm, ⟨67, _⟩ => ⟨S4224x8x128, .f32⟩
  | .hbm, ⟨68, _⟩ => ⟨S4224x1024, .f32⟩
  | .hbm, ⟨69, _⟩ => ⟨S_, .f32⟩
  | .hbm, ⟨70, _⟩ => ⟨S8x112, .f32⟩
  | .hbm, ⟨71, _⟩ => ⟨S8x4224, .f32⟩
  | .hbm, ⟨72, _⟩ => ⟨S4x2x11x384, .f32⟩
  | .hbm, ⟨73, _⟩ => ⟨S4x11x2x384, .f32⟩
  | .hbm, ⟨74, _⟩ => ⟨S_, .f32⟩
  | .hbm, ⟨75, _⟩ => ⟨S8x112, .f32⟩
  | .hbm, ⟨76, _⟩ => ⟨S8x4224, .f32⟩
  | .hbm, ⟨77, _⟩ => ⟨S4x2x11x384, .f32⟩
  | .hbm, ⟨78, _⟩ => ⟨S4x11x2x384, .f32⟩
  | .hbm, ⟨79, _⟩ => ⟨S4224x512, .f32⟩
  | .hbm, ⟨80, _⟩ => ⟨S4224x512, .bf16⟩
  | .hbm, ⟨81, _⟩ => ⟨S4224x512, .bf16⟩
  | .hbm, ⟨82, _⟩ => ⟨S4224x512, .f32⟩
  | .hbm, ⟨83, _⟩ => ⟨S4x11x2x384, .f32⟩
  | .local _ .vmem, ⟨0, _⟩ => ⟨S4224x128, .bf16⟩
  | .local _ .vmem, ⟨1, _⟩ => ⟨S4224x128, .bf16⟩
  | .local _ .vmem, ⟨2, _⟩ => ⟨S384x128, .bf16⟩
  | .local _ .vmem, ⟨3, _⟩ => ⟨S384x128, .bf16⟩
  | .local _ .vmem, ⟨4, _⟩ => ⟨S384x128, .bf16⟩
  | .local _ .vmem, ⟨5, _⟩ => ⟨S384x128, .bf16⟩
  | .local _ .vmem, ⟨6, _⟩ => ⟨S4224x128, .bf16⟩
  | .local _ .vmem, ⟨7, _⟩ => ⟨S4224x128, .bf16⟩
  | .local _ .vmem, ⟨8, _⟩ => ⟨S1x11x2x384, .f32⟩
  | .local _ .vmem, ⟨9, _⟩ => ⟨S1x11x2x384, .f32⟩
  | .local _ .vmem, ⟨10, _⟩ => ⟨S1x11x2x384, .f32⟩
  | .local _ .vmem, ⟨11, _⟩ => ⟨S1x11x2x384, .f32⟩
  | .local _ .vmem, ⟨12, _⟩ => ⟨S384x256, .f32⟩
  | .local _ .vmem, ⟨13, _⟩ => ⟨S384x256, .f32⟩
  | .local _ .vmem, ⟨14, _⟩ => ⟨S4224x128, .f32⟩
  | .local _ .vmem, ⟨15, _⟩ => ⟨S4224x128, .f32⟩
  | .local _ .vmem, ⟨16, _⟩ => ⟨S384x128, .bf16⟩
  | .local _ .vmem, ⟨17, _⟩ => ⟨S384x128, .bf16⟩
  | .local _ .vmem, ⟨18, _⟩ => ⟨S384x128, .bf16⟩
  | .local _ .vmem, ⟨19, _⟩ => ⟨S384x128, .bf16⟩
  | .local _ .vmem, ⟨20, _⟩ => ⟨S384x128, .f32⟩
  | .local _ .vmem, ⟨21, _⟩ => ⟨S384x128, .f32⟩
  | .local _ .vmem, ⟨22, _⟩ => ⟨S1x11x2x384, .f32⟩
  | .local _ .vmem, ⟨23, _⟩ => ⟨S1x11x2x384, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61_0 : Ref sig .tc := ⟨.hbm, 79, rfl⟩
abbrev main_v61_1 : Ref sig .tc := ⟨.hbm, 80, rfl⟩
abbrev main_v61_2 : Ref sig .tc := ⟨.hbm, 81, rfl⟩
abbrev main_v61_3 : Ref sig .tc := ⟨.hbm, 82, rfl⟩
abbrev main_v61_4 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 11], ![false, false]⟩

@[reducible] def k0_t1_loop (i : grid0.Coords) : Scf.Loop 32 :=
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let v41 : BitVec 32 := Scalar.subi v40 arg1
  let c1_i32_12 : BitVec 32 := 1#32
  let v43 : BitVec 32 := Scalar.divsi v41 c1_i32_12
  let v44 : BitVec 32 := Scalar.muli v43 c1_i32_12
  let v45 : BitVec 32 := Scalar.addi arg1 v44
  let c1_i32_13 : BitVec 32 := 1#32
  ⟨arg1, v45, c1_i32_13⟩
def k0_mult1 (i : grid0.Coords) (k0_t1 : Fin (k0_t1_loop i).trips) : BitVec 32 :=
  let arg1 : BitVec 32 := BitVec.ofNat 32 (i 1).val
  let c1_i32_13 : BitVec 32 := 1#32
  let arg14 : BitVec 32 := Scf.iv arg1 c1_i32_13 k0_t1
  let c384_i32_25 : BitVec 32 := 384#32
  let v67 : BitVec 32 := Scalar.muli arg14 c384_i32_25
  v67
def k0_off1 (i : grid0.Coords) (k0_t1 : Fin (k0_t1_loop i).trips) : Fin 2 → Nat :=
  let arg1 : BitVec 32 := BitVec.ofNat 32 (i 1).val
  let c1_i32_13 : BitVec 32 := 1#32
  let arg14 : BitVec 32 := Scf.iv arg1 c1_i32_13 k0_t1
  let c384_i32_25 : BitVec 32 := 384#32
  let v67 : BitVec 32 := Scalar.muli arg14 c384_i32_25
  let v68 : BitVec 32 := v67
  let v69 : Index := Scalar.indexCast v68
  let c0_26 : Index := 0#32
  ![v69.toNat, 0]
def k0_off2 (i : grid0.Coords) (k0_t1 : Fin (k0_t1_loop i).trips) : Fin 4 → Nat :=
  let c0_32 : Index := 0#32
  let arg1 : BitVec 32 := BitVec.ofNat 32 (i 1).val
  let c1_i32_13 : BitVec 32 := 1#32
  let arg14 : BitVec 32 := Scf.iv arg1 c1_i32_13 k0_t1
  let v97 : Index := Scalar.indexCast arg14
  let c0_33 : Index := 0#32
  let c0_34 : Index := 0#32
  ![0, v97.toNat, 0, 0]
def k0_off3 (i : grid0.Coords) (k0_t1 : Fin (k0_t1_loop i).trips) : Fin 4 → Nat :=
  let c0_45 : Index := 0#32
  let arg1 : BitVec 32 := BitVec.ofNat 32 (i 1).val
  let c1_i32_13 : BitVec 32 := 1#32
  let arg14 : BitVec 32 := Scf.iv arg1 c1_i32_13 k0_t1
  let v142 : Index := Scalar.indexCast arg14
  let c0_46 : Index := 0#32
  let c0_47 : Index := 0#32
  ![0, v142.toNat, 0, 0]
def k0_off4 (i : grid0.Coords) (k0_t1 : Fin (k0_t1_loop i).trips) : Fin 4 → Nat :=
  let c0_51 : Index := 0#32
  let arg1 : BitVec 32 := BitVec.ofNat 32 (i 1).val
  let c1_i32_13 : BitVec 32 := 1#32
  let arg14 : BitVec 32 := Scf.iv arg1 c1_i32_13 k0_t1
  let v151 : Index := Scalar.indexCast arg14
  let c1 : Index := 1#32
  let c0_52 : Index := 0#32
  ![0, v151.toNat, 1, 0]
@[reducible] def k0_t2_loop (i : grid0.Coords) : Scf.Loop 32 :=
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let v41 : BitVec 32 := Scalar.subi v40 arg1
  let c1_i32_12 : BitVec 32 := 1#32
  let v43 : BitVec 32 := Scalar.divsi v41 c1_i32_12
  let v44 : BitVec 32 := Scalar.muli v43 c1_i32_12
  let v45 : BitVec 32 := Scalar.addi arg1 v44
  let v42 : BitVec 32 := Scalar.addi arg1 v41
  let c1_i32_14 : BitVec 32 := 1#32
  ⟨v45, v42, c1_i32_14⟩
def k0_mult2 (i : grid0.Coords) (k0_t2 : Fin (k0_t2_loop i).trips) : BitVec 32 :=
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let v41 : BitVec 32 := Scalar.subi v40 arg1
  let c1_i32_12 : BitVec 32 := 1#32
  let v43 : BitVec 32 := Scalar.divsi v41 c1_i32_12
  let v44 : BitVec 32 := Scalar.muli v43 c1_i32_12
  let v45 : BitVec 32 := Scalar.addi arg1 v44
  let c1_i32_14 : BitVec 32 := 1#32
  let arg14 : BitVec 32 := Scf.iv v45 c1_i32_14 k0_t2
  let c384_i32_25 : BitVec 32 := 384#32
  let v67 : BitVec 32 := Scalar.muli arg14 c384_i32_25
  v67
def k0_off5 (i : grid0.Coords) (k0_t2 : Fin (k0_t2_loop i).trips) : Fin 2 → Nat :=
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let v41 : BitVec 32 := Scalar.subi v40 arg1
  let c1_i32_12 : BitVec 32 := 1#32
  let v43 : BitVec 32 := Scalar.divsi v41 c1_i32_12
  let v44 : BitVec 32 := Scalar.muli v43 c1_i32_12
  let v45 : BitVec 32 := Scalar.addi arg1 v44
  let c1_i32_14 : BitVec 32 := 1#32
  let arg14 : BitVec 32 := Scf.iv v45 c1_i32_14 k0_t2
  let c384_i32_25 : BitVec 32 := 384#32
  let v67 : BitVec 32 := Scalar.muli arg14 c384_i32_25
  let v68 : BitVec 32 := v67
  let v69 : Index := Scalar.indexCast v68
  let c0_26 : Index := 0#32
  ![v69.toNat, 0]
def k0_off6 (i : grid0.Coords) (k0_t2 : Fin (k0_t2_loop i).trips) : Fin 4 → Nat :=
  let c0_32 : Index := 0#32
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let v41 : BitVec 32 := Scalar.subi v40 arg1
  let c1_i32_12 : BitVec 32 := 1#32
  let v43 : BitVec 32 := Scalar.divsi v41 c1_i32_12
  let v44 : BitVec 32 := Scalar.muli v43 c1_i32_12
  let v45 : BitVec 32 := Scalar.addi arg1 v44
  let c1_i32_14 : BitVec 32 := 1#32
  let arg14 : BitVec 32 := Scf.iv v45 c1_i32_14 k0_t2
  let v97 : Index := Scalar.indexCast arg14
  let c0_33 : Index := 0#32
  let c0_34 : Index := 0#32
  ![0, v97.toNat, 0, 0]
def k0_off7 (i : grid0.Coords) (k0_t2 : Fin (k0_t2_loop i).trips) : Fin 4 → Nat :=
  let c0_45 : Index := 0#32
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let v41 : BitVec 32 := Scalar.subi v40 arg1
  let c1_i32_12 : BitVec 32 := 1#32
  let v43 : BitVec 32 := Scalar.divsi v41 c1_i32_12
  let v44 : BitVec 32 := Scalar.muli v43 c1_i32_12
  let v45 : BitVec 32 := Scalar.addi arg1 v44
  let c1_i32_14 : BitVec 32 := 1#32
  let arg14 : BitVec 32 := Scf.iv v45 c1_i32_14 k0_t2
  let v142 : Index := Scalar.indexCast arg14
  let c0_46 : Index := 0#32
  let c0_47 : Index := 0#32
  ![0, v142.toNat, 0, 0]
def k0_off8 (i : grid0.Coords) (k0_t2 : Fin (k0_t2_loop i).trips) : Fin 4 → Nat :=
  let c0_51 : Index := 0#32
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let v41 : BitVec 32 := Scalar.subi v40 arg1
  let c1_i32_12 : BitVec 32 := 1#32
  let v43 : BitVec 32 := Scalar.divsi v41 c1_i32_12
  let v44 : BitVec 32 := Scalar.muli v43 c1_i32_12
  let v45 : BitVec 32 := Scalar.addi arg1 v44
  let c1_i32_14 : BitVec 32 := 1#32
  let arg14 : BitVec 32 := Scf.iv v45 c1_i32_14 k0_t2
  let v151 : Index := Scalar.indexCast arg14
  let c1 : Index := 1#32
  let c0_52 : Index := 0#32
  ![0, v151.toNat, 1, 0]
@[reducible] def k0_t3_loop (i : grid0.Coords) : Scf.Loop 32 :=
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let c11_i32_15 : BitVec 32 := 11#32
  let v48 : BitVec 32 := Scalar.subi c11_i32_15 v40
  let c1_i32_16 : BitVec 32 := 1#32
  let v50 : BitVec 32 := Scalar.divsi v48 c1_i32_16
  let v51 : BitVec 32 := Scalar.muli v50 c1_i32_16
  let v52 : BitVec 32 := Scalar.addi v40 v51
  let c1_i32_17 : BitVec 32 := 1#32
  ⟨v40, v52, c1_i32_17⟩
def k0_mult3 (i : grid0.Coords) (k0_t3 : Fin (k0_t3_loop i).trips) : BitVec 32 :=
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let c1_i32_17 : BitVec 32 := 1#32
  let arg14 : BitVec 32 := Scf.iv v40 c1_i32_17 k0_t3
  let c384_i32_25 : BitVec 32 := 384#32
  let v67 : BitVec 32 := Scalar.muli arg14 c384_i32_25
  v67
def k0_off9 (i : grid0.Coords) (k0_t3 : Fin (k0_t3_loop i).trips) : Fin 2 → Nat :=
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let c1_i32_17 : BitVec 32 := 1#32
  let arg14 : BitVec 32 := Scf.iv v40 c1_i32_17 k0_t3
  let c384_i32_25 : BitVec 32 := 384#32
  let v67 : BitVec 32 := Scalar.muli arg14 c384_i32_25
  let v68 : BitVec 32 := v67
  let v69 : Index := Scalar.indexCast v68
  let c0_26 : Index := 0#32
  ![v69.toNat, 0]
def k0_off10 (i : grid0.Coords) (k0_t3 : Fin (k0_t3_loop i).trips) : Fin 4 → Nat :=
  let c0_32 : Index := 0#32
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let c1_i32_17 : BitVec 32 := 1#32
  let arg14 : BitVec 32 := Scf.iv v40 c1_i32_17 k0_t3
  let v97 : Index := Scalar.indexCast arg14
  let c0_33 : Index := 0#32
  let c0_34 : Index := 0#32
  ![0, v97.toNat, 0, 0]
def k0_off11 (i : grid0.Coords) (k0_t3 : Fin (k0_t3_loop i).trips) : Fin 4 → Nat :=
  let c0_43 : Index := 0#32
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let c1_i32_17 : BitVec 32 := 1#32
  let arg14 : BitVec 32 := Scf.iv v40 c1_i32_17 k0_t3
  let v128 : Index := Scalar.indexCast arg14
  let c0_44 : Index := 0#32
  let c0_45 : Index := 0#32
  ![0, v128.toNat, 0, 0]
def k0_off12 (i : grid0.Coords) (k0_t3 : Fin (k0_t3_loop i).trips) : Fin 4 → Nat :=
  let c0_49 : Index := 0#32
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let c1_i32_17 : BitVec 32 := 1#32
  let arg14 : BitVec 32 := Scf.iv v40 c1_i32_17 k0_t3
  let v137 : Index := Scalar.indexCast arg14
  let c1 : Index := 1#32
  let c0_50 : Index := 0#32
  ![0, v137.toNat, 1, 0]
@[reducible] def k0_t4_loop (i : grid0.Coords) : Scf.Loop 32 :=
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let c11_i32_15 : BitVec 32 := 11#32
  let v48 : BitVec 32 := Scalar.subi c11_i32_15 v40
  let c1_i32_16 : BitVec 32 := 1#32
  let v50 : BitVec 32 := Scalar.divsi v48 c1_i32_16
  let v51 : BitVec 32 := Scalar.muli v50 c1_i32_16
  let v52 : BitVec 32 := Scalar.addi v40 v51
  let v49 : BitVec 32 := Scalar.addi v40 v48
  let c1_i32_18 : BitVec 32 := 1#32
  ⟨v52, v49, c1_i32_18⟩
def k0_mult4 (i : grid0.Coords) (k0_t4 : Fin (k0_t4_loop i).trips) : BitVec 32 :=
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let c11_i32_15 : BitVec 32 := 11#32
  let v48 : BitVec 32 := Scalar.subi c11_i32_15 v40
  let c1_i32_16 : BitVec 32 := 1#32
  let v50 : BitVec 32 := Scalar.divsi v48 c1_i32_16
  let v51 : BitVec 32 := Scalar.muli v50 c1_i32_16
  let v52 : BitVec 32 := Scalar.addi v40 v51
  let c1_i32_18 : BitVec 32 := 1#32
  let arg14 : BitVec 32 := Scf.iv v52 c1_i32_18 k0_t4
  let c384_i32_25 : BitVec 32 := 384#32
  let v67 : BitVec 32 := Scalar.muli arg14 c384_i32_25
  v67
def k0_off13 (i : grid0.Coords) (k0_t4 : Fin (k0_t4_loop i).trips) : Fin 2 → Nat :=
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let c11_i32_15 : BitVec 32 := 11#32
  let v48 : BitVec 32 := Scalar.subi c11_i32_15 v40
  let c1_i32_16 : BitVec 32 := 1#32
  let v50 : BitVec 32 := Scalar.divsi v48 c1_i32_16
  let v51 : BitVec 32 := Scalar.muli v50 c1_i32_16
  let v52 : BitVec 32 := Scalar.addi v40 v51
  let c1_i32_18 : BitVec 32 := 1#32
  let arg14 : BitVec 32 := Scf.iv v52 c1_i32_18 k0_t4
  let c384_i32_25 : BitVec 32 := 384#32
  let v67 : BitVec 32 := Scalar.muli arg14 c384_i32_25
  let v68 : BitVec 32 := v67
  let v69 : Index := Scalar.indexCast v68
  let c0_26 : Index := 0#32
  ![v69.toNat, 0]
def k0_off14 (i : grid0.Coords) (k0_t4 : Fin (k0_t4_loop i).trips) : Fin 4 → Nat :=
  let c0_32 : Index := 0#32
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let c11_i32_15 : BitVec 32 := 11#32
  let v48 : BitVec 32 := Scalar.subi c11_i32_15 v40
  let c1_i32_16 : BitVec 32 := 1#32
  let v50 : BitVec 32 := Scalar.divsi v48 c1_i32_16
  let v51 : BitVec 32 := Scalar.muli v50 c1_i32_16
  let v52 : BitVec 32 := Scalar.addi v40 v51
  let c1_i32_18 : BitVec 32 := 1#32
  let arg14 : BitVec 32 := Scf.iv v52 c1_i32_18 k0_t4
  let v97 : Index := Scalar.indexCast arg14
  let c0_33 : Index := 0#32
  let c0_34 : Index := 0#32
  ![0, v97.toNat, 0, 0]
def k0_off15 (i : grid0.Coords) (k0_t4 : Fin (k0_t4_loop i).trips) : Fin 4 → Nat :=
  let c0_43 : Index := 0#32
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let c11_i32_15 : BitVec 32 := 11#32
  let v48 : BitVec 32 := Scalar.subi c11_i32_15 v40
  let c1_i32_16 : BitVec 32 := 1#32
  let v50 : BitVec 32 := Scalar.divsi v48 c1_i32_16
  let v51 : BitVec 32 := Scalar.muli v50 c1_i32_16
  let v52 : BitVec 32 := Scalar.addi v40 v51
  let c1_i32_18 : BitVec 32 := 1#32
  let arg14 : BitVec 32 := Scf.iv v52 c1_i32_18 k0_t4
  let v128 : Index := Scalar.indexCast arg14
  let c0_44 : Index := 0#32
  let c0_45 : Index := 0#32
  ![0, v128.toNat, 0, 0]
def k0_off16 (i : grid0.Coords) (k0_t4 : Fin (k0_t4_loop i).trips) : Fin 4 → Nat :=
  let c0_49 : Index := 0#32
  let arg1 : BitVec 32 := BitVec.ofNat 32 (i 1).val
  let c0_i32_11 : BitVec 32 := 0#32
  let v38 : BitVec 1 := Scalar.cmpi .eq arg1 c0_i32_11
  let c11_i32 : BitVec 32 := 11#32
  let c1_i32 : BitVec 32 := 1#32
  let v39 : BitVec 32 := Scalar.addi arg1 c1_i32
  let v40 : BitVec 32 := Scalar.select v38 c11_i32 v39
  let c11_i32_15 : BitVec 32 := 11#32
  let v48 : BitVec 32 := Scalar.subi c11_i32_15 v40
  let c1_i32_16 : BitVec 32 := 1#32
  let v50 : BitVec 32 := Scalar.divsi v48 c1_i32_16
  let v51 : BitVec 32 := Scalar.muli v50 c1_i32_16
  let v52 : BitVec 32 := Scalar.addi v40 v51
  let c1_i32_18 : BitVec 32 := 1#32
  let arg14 : BitVec 32 := Scf.iv v52 c1_i32_18 k0_t4
  let v137 : Index := Scalar.indexCast arg14
  let c1 : Index := 1#32
  let c0_50 : Index := 0#32
  ![0, v137.toNat, 1, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4224x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4224x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x11x2x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x11x2x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S384x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4224x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S384x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S384x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x11x2x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4224x512 : Shape := ⟨2, ![4224, 512]⟩
abbrev S4224x8 : Shape := ⟨2, ![4224, 8]⟩
abbrev S4112x512 : Shape := ⟨2, ![4112, 512]⟩
abbrev S4224x8x64 : Shape := ⟨3, ![4224, 8, 64]⟩
abbrev S4112x8x64 : Shape := ⟨3, ![4112, 8, 64]⟩
abbrev S8x4112x4224 : Shape := ⟨3, ![8, 4112, 4224]⟩
abbrev S_ : Shape := ⟨0, ![]⟩
abbrev S8x4224 : Shape := ⟨2, ![8, 4224]⟩
abbrev S8x4112 : Shape := ⟨2, ![8, 4112]⟩
abbrev S8x4112x1 : Shape := ⟨3, ![8, 4112, 1]⟩
abbrev S8x1x4224 : Shape := ⟨3, ![8, 1, 4224]⟩
abbrev S4224 : Shape := ⟨1, ![4224]⟩
abbrev S1x4224 : Shape := ⟨2, ![1, 4224]⟩
abbrev S4112 : Shape := ⟨1, ![4112]⟩
abbrev S4112x1 : Shape := ⟨2, ![4112, 1]⟩
abbrev S4112x4224 : Shape := ⟨2, ![4112, 4224]⟩
abbrev S1x4112x4224 : Shape := ⟨3, ![1, 4112, 4224]⟩
abbrev S8x64x4112 : Shape := ⟨3, ![8, 64, 4112]⟩
abbrev S8x64x4224 : Shape := ⟨3, ![8, 64, 4224]⟩
abbrev S8x4224x64 : Shape := ⟨3, ![8, 4224, 64]⟩
abbrev S8x4112x64 : Shape := ⟨3, ![8, 4112, 64]⟩
abbrev S4x2x11x384 : Shape := ⟨4, ![4, 2, 11, 384]⟩
abbrev S4x11x2x384 : Shape := ⟨4, ![4, 11, 2, 384]⟩

abbrev nBuf : Space → Nat
  | .hbm => 140
  | .vmem => 0
  | .smem => 0
  | _ => 0

abbrev hbmTy0_0 (i : Nat) : BufTy := match i % 128 with
  | 0 => ⟨S4224x512, .f32⟩
  | 1 => ⟨S4224x512, .f32⟩
  | 2 => ⟨S4224x512, .f32⟩
  | 3 => ⟨S4224x8, .f32⟩
  | 4 => ⟨S4112x512, .f32⟩
  | 5 => ⟨S4224x8x64, .f32⟩
  | 6 => ⟨S4112x8x64, .f32⟩
  | 7 => ⟨S4224x8x64, .f32⟩
  | 8 => ⟨S8x4112x4224, .f32⟩
  | 9 => ⟨S_, .f32⟩
  | 10 => ⟨S8x4112x4224, .f32⟩
  | 11 => ⟨S8x4112x4224, .f32⟩
  | 12 => ⟨S8x4224, .f32⟩
  | 13 => ⟨S8x4112, .f32⟩
  | 14 => ⟨S8x4112x1, .f32⟩
  | 15 => ⟨S8x4224, .f32⟩
  | 16 => ⟨S8x1x4224, .f32⟩
  | 17 => ⟨S8x4112x4224, .f32⟩
  | 18 => ⟨S8x4112x4224, .f32⟩
  | 19 => ⟨S8x4112x4224, .f32⟩
  | 20 => ⟨S8x4112x4224, .f32⟩
  | 21 => ⟨S4224, .i32⟩
  | 22 => ⟨S1x4224, .i32⟩
  | 23 => ⟨S4112, .i32⟩
  | 24 => ⟨S4112x1, .i32⟩
  | 25 => ⟨S4112x4224, .i32⟩
  | 26 => ⟨S4112x4224, .i32⟩
  | 27 => ⟨S4112x4224, .i1⟩
  | 28 => ⟨S1x4224, .i32⟩
  | 29 => ⟨S_, .i32⟩
  | 30 => ⟨S1x4224, .i32⟩
  | 31 => ⟨S1x4224, .i1⟩
  | 32 => ⟨S4112x4224, .i1⟩
  | 33 => ⟨S4112x4224, .i1⟩
  | 34 => ⟨S1x4112x4224, .i1⟩
  | 35 => ⟨S_, .f32⟩
  | 36 => ⟨S_, .f32⟩
  | 37 => ⟨S8x4112x4224, .i1⟩
  | 38 => ⟨S8x4112x4224, .f32⟩
  | 39 => ⟨S8x4112x4224, .f32⟩
  | 40 => ⟨S_, .f32⟩
  | 41 => ⟨S8x4112x4224, .f32⟩
  | 42 => ⟨S_, .f32⟩
  | 43 => ⟨S8x4112, .f32⟩
  | 44 => ⟨S8x4112x1, .f32⟩
  | 45 => ⟨S8x4112x4224, .f32⟩
  | 46 => ⟨S8x4112x4224, .i1⟩
  | 47 => ⟨S8x4112x4224, .f32⟩
  | 48 => ⟨S_, .f32⟩
  | 49 => ⟨S8x4112, .f32⟩
  | 50 => ⟨S_, .f32⟩
  | 51 => ⟨S8x4112, .f32⟩
  | 52 => ⟨S8x4112, .f32⟩
  | 53 => ⟨S_, .f32⟩
  | 54 => ⟨S8x4112, .f32⟩
  | 55 => ⟨S8x4112, .i1⟩
  | 56 => ⟨S_, .f32⟩
  | 57 => ⟨S8x4112, .f32⟩
  | 58 => ⟨S8x4112, .i1⟩
  | 59 => ⟨S_, .f32⟩
  | 60 => ⟨S8x4112, .f32⟩
  | 61 => ⟨S_, .f32⟩
  | 62 => ⟨S8x4112, .f32⟩
  | 63 => ⟨S_, .f32⟩
  | 64 => ⟨S8x4112, .f32⟩
  | 65 => ⟨S8x4112, .f32⟩
  | 66 => ⟨S8x4112, .f32⟩
  | 67 => ⟨S8x4112x1, .f32⟩
  | 68 => ⟨S8x4112x4224, .f32⟩
  | 69 => ⟨S8x4112x4224, .f32⟩
  | 70 => ⟨S8x4112x4224, .f32⟩
  | 71 => ⟨S_, .f32⟩
  | 72 => ⟨S8x4112, .f32⟩
  | 73 => ⟨S8x4112x1, .f32⟩
  | 74 => ⟨S8x4112x4224, .f32⟩
  | 75 => ⟨S8x4112x4224, .f32⟩
  | 76 => ⟨S8x4112x1, .f32⟩
  | 77 => ⟨S_, .f32⟩
  | 78 => ⟨S8x4112x1, .f32⟩
  | 79 => ⟨S8x4112x1, .f32⟩
  | 80 => ⟨S4224x8x64, .f32⟩
  | 81 => ⟨S8x64x4112, .f32⟩
  | 82 => ⟨S4112x8x64, .f32⟩
  | 83 => ⟨S4112x512, .f32⟩
  | 84 => ⟨S4112x8x64, .f32⟩
  | 85 => ⟨S8x64x4112, .f32⟩
  | 86 => ⟨S8x4112x4224, .f32⟩
  | 87 => ⟨S8x64x4224, .f32⟩
  | 88 => ⟨S4224x8x64, .f32⟩
  | 89 => ⟨S4224x512, .f32⟩
  | 90 => ⟨S8x4112x4224, .f32⟩
  | 91 => ⟨S8x4112x4224, .f32⟩
  | 92 => ⟨S8x4112x4224, .f32⟩
  | 93 => ⟨S_, .f32⟩
  | 94 => ⟨S8x4112, .f32⟩
  | 95 => ⟨S8x4112x1, .f32⟩
  | 96 => ⟨S8x4112x1, .f32⟩
  | 97 => ⟨S8x4112x4224, .f32⟩
  | 98 => ⟨S8x4112x4224, .f32⟩
  | 99 => ⟨S_, .f32⟩
  | 100 => ⟨S8x4112, .f32⟩
  | 101 => ⟨S8x4112x4224, .f32⟩
  | 102 => ⟨S8x4112x4224, .f32⟩
  | 103 => ⟨S8x4112x4224, .f32⟩
  | 104 => ⟨S_, .f32⟩
  | 105 => ⟨S8x4112x4224, .f32⟩
  | 106 => ⟨S8x4112x4224, .f32⟩
  | 107 => ⟨S_, .f32⟩
  | 108 => ⟨S8x4112, .f32⟩
  | 109 => ⟨S8x4112x1, .f32⟩
  | 110 => ⟨S8x4112x4224, .f32⟩
  | 111 => ⟨S_, .f32⟩
  | 112 => ⟨S8x4224, .f32⟩
  | 113 => ⟨S8x1x4224, .f32⟩
  | 114 => ⟨S_, .f32⟩
  | 115 => ⟨S8x4224, .f32⟩
  | 116 => ⟨S4224x8, .f32⟩
  | 117 => ⟨S_, .f32⟩
  | 118 => ⟨S8x4112, .f32⟩
  | 119 => ⟨S_, .f32⟩
  | 120 => ⟨S8x4224, .f32⟩
  | 121 => ⟨S4224x8, .f32⟩
  | 122 => ⟨S_, .f32⟩
  | 123 => ⟨S8x4112x4224, .f32⟩
  | 124 => ⟨S8x4112x4224, .f32⟩
  | 125 => ⟨S8x4224x64, .f32⟩
  | 126 => ⟨S4224x8x64, .f32⟩
  | 127 => ⟨S8x4112x64, .f32⟩
  | _ => ⟨S4224x512, .f32⟩

abbrev hbmTy0_1 (i : Nat) : BufTy := match i % 128 with
  | 0 => ⟨S4112x8x64, .f32⟩
  | 1 => ⟨S4224x512, .f32⟩
  | 2 => ⟨S_, .f32⟩
  | 3 => ⟨S4224x8x64, .f32⟩
  | 4 => ⟨S4224x512, .f32⟩
  | 5 => ⟨S4224x512, .bf16⟩
  | 6 => ⟨S4224x512, .bf16⟩
  | 7 => ⟨S4224x8x64, .f32⟩
  | 8 => ⟨S4224x512, .f32⟩
  | 9 => ⟨S8x4224, .f32⟩
  | 10 => ⟨S4x2x11x384, .f32⟩
  | 11 => ⟨S4x11x2x384, .f32⟩
  | _ => ⟨S4224x512, .f32⟩

abbrev hbmTy (i : Nat) : BufTy := match i / 128 with
  | 0 => hbmTy0_0 i
  | 1 => hbmTy0_1 i
  | _ => ⟨S4224x512, .f32⟩

abbrev bufTy : (tb : Table) → Fin (tcTables nBuf tb) → BufTy
  | .hbm, ⟨i, _⟩ => hbmTy i
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_call0_v0 : Ref sig .tc := ⟨.hbm, 36, rfl⟩
abbrev main_v28_1 : Ref sig .tc := ⟨.hbm, 37, rfl⟩
abbrev main_call0_v2 : Ref sig .tc := ⟨.hbm, 38, rfl⟩
abbrev main_v28_0 : Ref sig .tc := ⟨.hbm, 39, rfl⟩
abbrev main_call0_cst : Ref sig .tc := ⟨.hbm, 40, rfl⟩
abbrev main_v28_2 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_11 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_call1_cst : Ref sig .tc := ⟨.hbm, 104, rfl⟩
abbrev main_call1_v0 : Ref sig .tc := ⟨.hbm, 105, rfl⟩
abbrev main_v79 : Ref sig .tc := ⟨.hbm, 106, rfl⟩
abbrev main_cst_13 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_14 : Ref sig .tc := ⟨.hbm, 111, rfl⟩
abbrev main_v83 : Ref sig .tc := ⟨.hbm, 112, rfl⟩
abbrev main_v84 : Ref sig .tc := ⟨.hbm, 113, rfl⟩
abbrev main_cst_15 : Ref sig .tc := ⟨.hbm, 114, rfl⟩
abbrev main_v85 : Ref sig .tc := ⟨.hbm, 115, rfl⟩
abbrev main_v86 : Ref sig .tc := ⟨.hbm, 116, rfl⟩
abbrev main_cst_16 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_v89 : Ref sig .tc := ⟨.hbm, 121, rfl⟩
abbrev main_cst_18 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_19 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩

abbrev nD : Nat := 1
abbrev τ : Topo := Topo.v7x

variable {F : FTy → Type} [FloatOps F]
-- ==== Kernel2.lean ====
abbrev S4224x1024 : Shape := ⟨2, ![4224, 1024]⟩
abbrev S1024 : Shape := ⟨1, ![1024]⟩
abbrev S1024x7680 : Shape := ⟨2, ![1024, 7680]⟩
abbrev S4224x7680 : Shape := ⟨2, ![4224, 7680]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S1408x1024 : Shape := ⟨2, ![1408, 1024]⟩
abbrev S1408x1280 : Shape := ⟨2, ![1408, 1280]⟩
abbrev S1024x1280 : Shape := ⟨2, ![1024, 1280]⟩

abbrev nBuf : Space → Nat
  | .hbm => 23
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x7680, .f32⟩
  | .hbm, ⟨3, _⟩ => ⟨S4224x7680, .f32⟩
  | .hbm, ⟨4, _⟩ => ⟨S4224x1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1024, .f32⟩
  | .hbm, ⟨16, _⟩ => ⟨S4224x1024, .f32⟩
  | .hbm, ⟨17, _⟩ => ⟨S1x1024, .f32⟩
  | .hbm, ⟨18, _⟩ => ⟨S4224x1024, .f32⟩
  | .hbm, ⟨19, _⟩ => ⟨S4224x1024, .f32⟩
  | .hbm, ⟨20, _⟩ => ⟨S4224x1024, .bf16⟩
  | .hbm, ⟨21, _⟩ => ⟨S4224x7680, .bf16⟩
  | .hbm, ⟨22, _⟩ => ⟨S1024x7680, .f32⟩
  | .local _ .vmem, ⟨0, _⟩ => ⟨S1408x1024, .bf16⟩
  | .local _ .vmem, ⟨1, _⟩ => ⟨S1408x1024, .bf16⟩
  | .local _ .vmem, ⟨2, _⟩ => ⟨S1408x1280, .bf16⟩
  | .local _ .vmem, ⟨3, _⟩ => ⟨S1408x1280, .bf16⟩
  | .local _ .vmem, ⟨4, _⟩ => ⟨S1024x1280, .f32⟩
  | .local _ .vmem, ⟨5, _⟩ => ⟨S1024x1280, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 3], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4224x1024 : Shape := ⟨2, ![4224, 1024]⟩
abbrev S1024 : Shape := ⟨1, ![1024]⟩
abbrev S1024x7680 : Shape := ⟨2, ![1024, 7680]⟩
abbrev S4224x7680 : Shape := ⟨2, ![4224, 7680]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S7680x1024 : Shape := ⟨2, ![7680, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x7680, .f32⟩
  | .hbm, ⟨3, _⟩ => ⟨S4224x7680, .f32⟩
  | .hbm, ⟨4, _⟩ => ⟨S4224x1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1024, .f32⟩
  | .hbm, ⟨16, _⟩ => ⟨S4224x1024, .f32⟩
  | .hbm, ⟨17, _⟩ => ⟨S1x1024, .f32⟩
  | .hbm, ⟨18, _⟩ => ⟨S4224x1024, .f32⟩
  | .hbm, ⟨19, _⟩ => ⟨S4224x1024, .f32⟩
  | .hbm, ⟨20, _⟩ => ⟨S4224x7680, .f32⟩
  | .hbm, ⟨21, _⟩ => ⟨S7680x1024, .f32⟩
  | .hbm, ⟨22, _⟩ => ⟨S1024x7680, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel3.lean ====
abbrev S4224x1024 : Shape := ⟨2, ![4224, 1024]⟩
abbrev S1024 : Shape := ⟨1, ![1024]⟩
abbrev S1024x7680 : Shape := ⟨2, ![1024, 7680]⟩
abbrev S4224x7680 : Shape := ⟨2, ![4224, 7680]⟩
abbrev S1x1024 : Shape := ⟨2, ![1, 1024]⟩
abbrev S8x1024 : Shape := ⟨2, ![8, 1024]⟩
abbrev S384x7680 : Shape := ⟨2, ![384, 7680]⟩
abbrev S384x1024 : Shape := ⟨2, ![384, 1024]⟩
abbrev S_ : Shape := ⟨0, ![]⟩
abbrev S384 : Shape := ⟨1, ![384]⟩
abbrev S384x1 : Shape := ⟨2, ![384, 1]⟩

abbrev nBuf : Space → Nat
  | .hbm => 10
  | .vmem => 11
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x7680, .f32⟩
  | .hbm, ⟨3, _⟩ => ⟨S4224x7680, .f32⟩
  | .hbm, ⟨4, _⟩ => ⟨S4224x1024, .f32⟩
  | .hbm, ⟨5, _⟩ => ⟨S4224x7680, .bf16⟩
  | .hbm, ⟨6, _⟩ => ⟨S1024x7680, .bf16⟩
  | .hbm, ⟨7, _⟩ => ⟨S1x1024, .f32⟩
  | .hbm, ⟨8, _⟩ => ⟨S4224x1024, .f32⟩
  | .hbm, ⟨9, _⟩ => ⟨S8x1024, .f32⟩
  | .local _ .vmem, ⟨0, _⟩ => ⟨S384x7680, .bf16⟩
  | .local _ .vmem, ⟨1, _⟩ => ⟨S384x7680, .bf16⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S8x1024, .f32⟩
  | .local _ .vmem, ⟨10, _⟩ => ⟨S1024x7680, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x7680 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference3Ideal.lean ====
abbrev S4224x1024 : Shape := ⟨2, ![4224, 1024]⟩
abbrev S1024 : Shape := ⟨1, ![1024]⟩
abbrev S1024x7680 : Shape := ⟨2, ![1024, 7680]⟩
abbrev S4224x7680 : Shape := ⟨2, ![4224, 7680]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x7680, .f32⟩
  | .hbm, ⟨3, _⟩ => ⟨S4224x7680, .f32⟩
  | .hbm, ⟨4, _⟩ => ⟨S4224x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S1x1024, .f32⟩
  | .hbm, ⟨23, _⟩ => ⟨S4224x1024, .f32⟩
  | .hbm, ⟨24, _⟩ => ⟨S4224x1024, .f32⟩
  | .hbm, ⟨25, _⟩ => ⟨S4224x7680, .f32⟩
  | .hbm, ⟨26, _⟩ => ⟨S4224x1024, .f32⟩
  | .hbm, ⟨27, _⟩ => ⟨S4224x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4224x1024, .f32⟩
  | .hbm, ⟨32, _⟩ => ⟨S4224x1024, .f32⟩
  | .hbm, ⟨33, _⟩ => ⟨S_, .f32⟩
  | .hbm, ⟨34, _⟩ => ⟨S1024, .f32⟩
  | .hbm, ⟨35, _⟩ => ⟨S4224x1024, .f32⟩
  | .hbm, ⟨36, _⟩ => ⟨S_, .f32⟩
  | .hbm, ⟨37, _⟩ => ⟨S4224, .f32⟩
  | .hbm, ⟨38, _⟩ => ⟨S4224x1, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S4224x1, .f32⟩
  | .hbm, ⟨43, _⟩ => ⟨S_, .f32⟩
  | .hbm, ⟨44, _⟩ => ⟨S4224x1, .f32⟩
  | .hbm, ⟨45, _⟩ => ⟨S4224x1, .f32⟩
  | .hbm, ⟨46, _⟩ => ⟨S_, .f32⟩
  | .hbm, ⟨47, _⟩ => ⟨S4224, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224x1024, .f32⟩
  | .hbm, ⟨53, _⟩ => ⟨S1x1024, .f32⟩
  | .hbm, ⟨54, _⟩ => ⟨S_, .f32⟩
  | .hbm, ⟨55, _⟩ => ⟨S7x1024, .f32⟩
  | .hbm, ⟨56, _⟩ => ⟨S8x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel4.lean ====
abbrev S4224x1024 : Shape := ⟨2, ![4224, 1024]⟩
abbrev S1024 : Shape := ⟨1, ![1024]⟩
abbrev S1024x7680 : Shape := ⟨2, ![1024, 7680]⟩
abbrev S1x1024 : Shape := ⟨2, ![1, 1024]⟩
abbrev S4224x7680 : Shape := ⟨2, ![4224, 7680]⟩
abbrev S1408x1024 : Shape := ⟨2, ![1408, 1024]⟩
abbrev S1024x1280 : Shape := ⟨2, ![1024, 1280]⟩
abbrev S1408x1280 : Shape := ⟨2, ![1408, 1280]⟩
abbrev S1408 : Shape := ⟨1, ![1408]⟩
abbrev S1408x1 : Shape := ⟨2, ![1408, 1]⟩

abbrev nBuf : Space → Nat
  | .hbm => 7
  | .vmem => 9
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x7680, .f32⟩
  | .hbm, ⟨3, _⟩ => ⟨S1x1024, .f32⟩
  | .hbm, ⟨4, _⟩ => ⟨S1024x7680, .bf16⟩
  | .hbm, ⟨5, _⟩ => ⟨S4224x7680, .f32⟩
  | .hbm, ⟨6, _⟩ => ⟨S4224x1024, .bf16⟩
  | .local _ .vmem, ⟨0, _⟩ => ⟨S1408x1024, .f32⟩
  | .local _ .vmem, ⟨1, _⟩ => ⟨S1408x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1280, .bf16⟩
  | .local _ .vmem, ⟨5, _⟩ => ⟨S1408x1280, .f32⟩
  | .local _ .vmem, ⟨6, _⟩ => ⟨S1408x1280, .f32⟩
  | .local _ .vmem, ⟨7, _⟩ => ⟨S1408x1024, .bf16⟩
  | .local _ .vmem, ⟨8, _⟩ => ⟨S1408x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![3, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S4224x1024 : Shape := ⟨2, ![4224, 1024]⟩
abbrev S1024 : Shape := ⟨1, ![1024]⟩
abbrev S1024x7680 : Shape := ⟨2, ![1024, 7680]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x7680 : Shape := ⟨2, ![4224, 7680]⟩

abbrev nBuf : Space → Nat
  | .hbm => 21
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x7680, .f32⟩
  | .hbm, ⟨3, _⟩ => ⟨S4224x1024, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1024, .f32⟩
  | .hbm, ⟨15, _⟩ => ⟨S4224x1024, .f32⟩
  | .hbm, ⟨16, _⟩ => ⟨S1x1024, .f32⟩
  | .hbm, ⟨17, _⟩ => ⟨S4224x1024, .f32⟩
  | .hbm, ⟨18, _⟩ => ⟨S4224x1024, .f32⟩
  | .hbm, ⟨19, _⟩ => ⟨S4224x7680, .f32⟩
  | .hbm, ⟨20, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S4224x1024 : Shape := ⟨2, ![4224, 1024]⟩
abbrev S4224x512 : Shape := ⟨2, ![4224, 512]⟩
abbrev S4224x7680 : Shape := ⟨2, ![4224, 7680]⟩
abbrev S3x512x1024 : Shape := ⟨3, ![3, 512, 1024]⟩
abbrev S1024x1024 : Shape := ⟨2, ![1024, 1024]⟩
abbrev S4224x3072 : Shape := ⟨2, ![4224, 3072]⟩
abbrev S192x1024 : Shape := ⟨2, ![192, 1024]⟩
abbrev S192x512 : Shape := ⟨2, ![192, 512]⟩
abbrev S192x3072 : Shape := ⟨2, ![192, 3072]⟩
abbrev S1x512x1024 : Shape := ⟨3, ![1, 512, 1024]⟩
abbrev S512x1024 : Shape := ⟨2, ![512, 1024]⟩
abbrev S_ : Shape := ⟨0, ![]⟩

abbrev nBuf : Space → Nat
  | .hbm => 18
  | .vmem => 38
  | .smem => 0
  | _ => 0

abbrev bufTy : (tb : Table) → Fin (tcTables nBuf tb) → BufTy
  | .hbm, ⟨0, _⟩ => ⟨S4224x1024, .f32⟩
  | .hbm, ⟨1, _⟩ => ⟨S4224x512, .f32⟩
  | .hbm, ⟨2, _⟩ => ⟨S4224x512, .f32⟩
  | .hbm, ⟨3, _⟩ => ⟨S4224x512, .f32⟩
  | .hbm, ⟨4, _⟩ => ⟨S4224x7680, .f32⟩
  | .hbm, ⟨5, _⟩ => ⟨S3x512x1024, .f32⟩
  | .hbm, ⟨6, _⟩ => ⟨S1024x1024, .f32⟩
  | .hbm, ⟨7, _⟩ => ⟨S3x512x1024, .bf16⟩
  | .hbm, ⟨8, _⟩ => ⟨S1024x1024, .bf16⟩
  | .hbm, ⟨9, _⟩ => ⟨S4224x512, .bf16⟩
  | .hbm, ⟨10, _⟩ => ⟨S4224x512, .bf16⟩
  | .hbm, ⟨11, _⟩ => ⟨S4224x512, .bf16⟩
  | .hbm, ⟨12, _⟩ => ⟨S4224x512, .bf16⟩
  | .hbm, ⟨13, _⟩ => ⟨S4224x512, .bf16⟩
  | .hbm, ⟨14, _⟩ => ⟨S4224x512, .bf16⟩
  | .hbm, ⟨15, _⟩ => ⟨S4224x3072, .bf16⟩
  | .hbm, ⟨16, _⟩ => ⟨S3x512x1024, .f32⟩
  | .hbm, ⟨17, _⟩ => ⟨S1024x1024, .f32⟩
  | .local _ .vmem, ⟨0, _⟩ => ⟨S192x1024, .f32⟩
  | .local _ .vmem, ⟨1, _⟩ => ⟨S192x1024, .f32⟩
  | .local _ .vmem, ⟨2, _⟩ => ⟨S192x512, .f32⟩
  | .local _ .vmem, ⟨3, _⟩ => ⟨S192x512, .f32⟩
  | .local _ .vmem, ⟨4, _⟩ => ⟨S192x512, .f32⟩
  | .local _ .vmem, ⟨5, _⟩ => ⟨S192x512, .f32⟩
  | .local _ .vmem, ⟨6, _⟩ => ⟨S192x512, .f32⟩
  | .local _ .vmem, ⟨7, _⟩ => ⟨S192x512, .f32⟩
  | .local _ .vmem, ⟨8, _⟩ => ⟨S192x512, .f32⟩
  | .local _ .vmem, ⟨9, _⟩ => ⟨S192x512, .f32⟩
  | .local _ .vmem, ⟨10, _⟩ => ⟨S192x512, .f32⟩
  | .local _ .vmem, ⟨11, _⟩ => ⟨S192x512, .f32⟩
  | .local _ .vmem, ⟨12, _⟩ => ⟨S192x512, .f32⟩
  | .local _ .vmem, ⟨13, _⟩ => ⟨S192x512, .f32⟩
  | .local _ .vmem, ⟨14, _⟩ => ⟨S192x1024, .f32⟩
  | .local _ .vmem, ⟨15, _⟩ => ⟨S192x1024, .f32⟩
  | .local _ .vmem, ⟨16, _⟩ => ⟨S192x1024, .f32⟩
  | .local _ .vmem, ⟨17, _⟩ => ⟨S192x1024, .f32⟩
  | .local _ .vmem, ⟨18, _⟩ => ⟨S192x1024, .f32⟩
  | .local _ .vmem, ⟨19, _⟩ => ⟨S192x1024, .f32⟩
  | .local _ .vmem, ⟨20, _⟩ => ⟨S3x512x1024, .bf16⟩
  | .local _ .vmem, ⟨21, _⟩ => ⟨S1024x1024, .bf16⟩
  | .local _ .vmem, ⟨22, _⟩ => ⟨S192x512, .bf16⟩
  | .local _ .vmem, ⟨23, _⟩ => ⟨S192x512, .bf16⟩
  | .local _ .vmem, ⟨24, _⟩ => ⟨S192x512, .bf16⟩
  | .local _ .vmem, ⟨25, _⟩ => ⟨S192x512, .bf16⟩
  | .local _ .vmem, ⟨26, _⟩ => ⟨S192x512, .bf16⟩
  | .local _ .vmem, ⟨27, _⟩ => ⟨S192x512, .bf16⟩
  | .local _ .vmem, ⟨28, _⟩ => ⟨S192x512, .bf16⟩
  | .local _ .vmem, ⟨29, _⟩ => ⟨S192x512, .bf16⟩
  | .local _ .vmem, ⟨30, _⟩ => ⟨S192x512, .bf16⟩
  | .local _ .vmem, ⟨31, _⟩ => ⟨S192x512, .bf16⟩
  | .local _ .vmem, ⟨32, _⟩ => ⟨S192x512, .bf16⟩
  | .local _ .vmem, ⟨33, _⟩ => ⟨S192x512, .bf16⟩
  | .local _ .vmem, ⟨34, _⟩ => ⟨S192x3072, .bf16⟩
  | .local _ .vmem, ⟨35, _⟩ => ⟨S192x3072, .bf16⟩
  | .local _ .vmem, ⟨36, _⟩ => ⟨S3x512x1024, .f32⟩
  | .local _ .vmem, ⟨37, _⟩ => ⟨S1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev main_v2_7 : Ref sig .tc := ⟨.hbm, 16, rfl⟩
abbrev main_v2_8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S192x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S192x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S192x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S192x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S192x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S192x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S192x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S192x3072 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference5Ideal.lean ====
abbrev S4224x1024 : Shape := ⟨2, ![4224, 1024]⟩
abbrev S4224x512 : Shape := ⟨2, ![4224, 512]⟩
abbrev S4224x7680 : Shape := ⟨2, ![4224, 7680]⟩
abbrev S3x512x1024 : Shape := ⟨3, ![3, 512, 1024]⟩
abbrev S1024x1024 : Shape := ⟨2, ![1024, 1024]⟩
abbrev S4224x3072 : Shape := ⟨2, ![4224, 3072]⟩
abbrev S_ : Shape := ⟨0, ![]⟩
abbrev S4224x1x512 : Shape := ⟨3, ![4224, 1, 512]⟩
abbrev S4224x3x512 : Shape := ⟨3, ![4224, 3, 512]⟩
abbrev S3x1024x4224 : Shape := ⟨3, ![3, 1024, 4224]⟩
abbrev S4224x3x1024 : Shape := ⟨3, ![4224, 3, 1024]⟩
abbrev S3x4224x512 : Shape := ⟨3, ![3, 4224, 512]⟩
abbrev S3x1024x512 : Shape := ⟨3, ![3, 1024, 512]⟩

abbrev nBuf : Space → Nat
  | .hbm => 120
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x512, .f32⟩
  | .hbm, ⟨2, _⟩ => ⟨S4224x512, .f32⟩
  | .hbm, ⟨3, _⟩ => ⟨S4224x512, .f32⟩
  | .hbm, ⟨4, _⟩ => ⟨S4224x7680, .f32⟩
  | .hbm, ⟨5, _⟩ => ⟨S3x512x1024, .f32⟩
  | .hbm, ⟨6, _⟩ => ⟨S1024x1024, .f32⟩
  | .hbm, ⟨7, _⟩ => ⟨S4224x512, .f32⟩
  | .hbm, ⟨8, _⟩ => ⟨S4224x512, .f32⟩
  | .hbm, ⟨9, _⟩ => ⟨S4224x512, .f32⟩
  | .hbm, ⟨10, _⟩ => ⟨S4224x3072, .f32⟩
  | .hbm, ⟨11, _⟩ => ⟨S4224x512, .f32⟩
  | .hbm, ⟨12, _⟩ => ⟨S4224x512, .f32⟩
  | .hbm, ⟨13, _⟩ => ⟨S_, .f32⟩
  | .hbm, ⟨14, _⟩ => ⟨S4224x512, .f32⟩
  | .hbm, ⟨15, _⟩ => ⟨S4224x512, .f32⟩
  | .hbm, ⟨16, _⟩ => ⟨S_, .f32⟩
  | .hbm, ⟨17, _⟩ => ⟨S4224x512, .f32⟩
  | .hbm, ⟨18, _⟩ => ⟨S4224x512, .f32⟩
  | .hbm, ⟨19, _⟩ => ⟨S_, .f32⟩
  | .hbm, ⟨20, _⟩ => ⟨S4224x512, .f32⟩
  | .hbm, ⟨21, _⟩ => ⟨S4224x512, .f32⟩
  | .hbm, ⟨22, _⟩ => ⟨S4224x512, .f32⟩
  | .hbm, ⟨23, _⟩ => ⟨S4224x512, .f32⟩
  | .hbm, ⟨24, _⟩ => ⟨S4224x512, .f32⟩
  | .hbm, ⟨25, _⟩ => ⟨S4224x512, .f32⟩
  | .hbm, ⟨26, _⟩ => ⟨S4224x512, .f32⟩
  | .hbm, ⟨27, _⟩ => ⟨S_, .f32⟩
  | .hbm, ⟨28, _⟩ => ⟨S4224x512, .f32⟩
  | .hbm, ⟨29, _⟩ => ⟨S4224x512, .f32⟩
  | .hbm, ⟨30, _⟩ => ⟨S_, .f32⟩
  | .hbm, ⟨31, _⟩ => ⟨S4224x512, .f32⟩
  | .hbm, ⟨32, _⟩ => ⟨S4224x512, .f32⟩
  | .hbm, ⟨33, _⟩ => ⟨S_, .f32⟩
  | .hbm, ⟨34, _⟩ => ⟨S4224x512, .f32⟩
  | .hbm, ⟨35, _⟩ => ⟨S4224x512, .f32⟩
  | .hbm, ⟨36, _⟩ => ⟨S4224x512, .f32⟩
  | .hbm, ⟨37, _⟩ => ⟨S4224x512, .f32⟩
  | .hbm, ⟨38, _⟩ => ⟨S4224x512, .f32⟩
  | .hbm, ⟨39, _⟩ => ⟨S4224x512, .f32⟩
  | .hbm, ⟨40, _⟩ => ⟨S4224x512, .f32⟩
  | .hbm, ⟨41, _⟩ => ⟨S_, .f32⟩
  | .hbm, ⟨42, _⟩ => ⟨S4224x512, .f32⟩
  | .hbm, ⟨43, _⟩ => ⟨S4224x512, .f32⟩
  | .hbm, ⟨44, _⟩ => ⟨S_, .f32⟩
  | .hbm, ⟨45, _⟩ => ⟨S4224x512, .f32⟩
  | .hbm, ⟨46, _⟩ => ⟨S4224x512, .f32⟩
  | .hbm, ⟨47, _⟩ => ⟨S_, .f32⟩
  | .hbm, ⟨48, _⟩ => ⟨S4224x512, .f32⟩
  | .hbm, ⟨49, _⟩ => ⟨S4224x512, .f32⟩
  | .hbm, ⟨50, _⟩ => ⟨S4224x512, .f32⟩
  | .hbm, ⟨51, _⟩ => ⟨S4224x512, .f32⟩
  | .hbm, ⟨52, _⟩ => ⟨S4224x512, .f32⟩
  | .hbm, ⟨53, _⟩ => ⟨S4224x1x512, .f32⟩
  | .hbm, ⟨54, _⟩ => ⟨S4224x1x512, .f32⟩
  | .hbm, ⟨55, _⟩ => ⟨S4224x1x512, .f32⟩
  | .hbm, ⟨56, _⟩ => ⟨S4224x3x512, .f32⟩
  | .hbm, ⟨57, _⟩ => ⟨S3x1024x4224, .f32⟩
  | .hbm, ⟨58, _⟩ => ⟨S4224x3x1024, .f32⟩
  | .hbm, ⟨59, _⟩ => ⟨S4224x3x1024, .f32⟩
  | .hbm, ⟨60, _⟩ => ⟨S4224x3x1024, .f32⟩
  | .hbm, ⟨61, _⟩ => ⟨S4224x3x1024, .f32⟩
  | .hbm, ⟨62, _⟩ => ⟨S_, .f32⟩
  | .hbm, ⟨63, _⟩ => ⟨S4224x3x1024, .f32⟩
  | .hbm, ⟨64, _⟩ => ⟨S4224x3x1024, .f32⟩
  | .hbm, ⟨65, _⟩ => ⟨S_, .f32⟩
  | .hbm, ⟨66, _⟩ => ⟨S4224x3x1024, .f32⟩
  | .hbm, ⟨67, _⟩ => ⟨S4224x3x1024, .f32⟩
  | .hbm, ⟨68, _⟩ => ⟨S_, .f32⟩
  | .hbm, ⟨69, _⟩ => ⟨S4224x3x1024, .f32⟩
  | .hbm, ⟨70, _⟩ => ⟨S4224x3x1024, .f32⟩
  | .hbm, ⟨71, _⟩ => ⟨S4224x3x1024, .f32⟩
  | .hbm, ⟨72, _⟩ => ⟨S4224x3x1024, .f32⟩
  | .hbm, ⟨73, _⟩ => ⟨S_, .f32⟩
  | .hbm, ⟨74, _⟩ => ⟨S4224x1024, .f32⟩
  | .hbm, ⟨75, _⟩ => ⟨S4224x1024, .f32⟩
  | .hbm, ⟨76, _⟩ => ⟨S1024x1024, .f32⟩
  | .hbm, ⟨77, _⟩ => ⟨S1024x1024, .f32⟩
  | .hbm, ⟨78, _⟩ => ⟨S4224x1024, .f32⟩
  | .hbm, ⟨79, _⟩ => ⟨S4224x3x1024, .f32⟩
  | .hbm, ⟨80, _⟩ => ⟨S4224x3x1024, .f32⟩
  | .hbm, ⟨81, _⟩ => ⟨S4224x3x1024, .f32⟩
  | .hbm, ⟨82, _⟩ => ⟨S4224x3x1024, .f32⟩
  | .hbm, ⟨83, _⟩ => ⟨S4224x3072, .f32⟩
  | .hbm, ⟨84, _⟩ => ⟨S3x1024x4224, .f32⟩
  | .hbm, ⟨85, _⟩ => ⟨S3x4224x512, .f32⟩
  | .hbm, ⟨86, _⟩ => ⟨S4224x3x512, .f32⟩
  | .hbm, ⟨87, _⟩ => ⟨S3x1024x512, .f32⟩
  | .hbm, ⟨88, _⟩ => ⟨S3x512x1024, .f32⟩
  | .hbm, ⟨89, _⟩ => ⟨S4224x1x512, .f32⟩
  | .hbm, ⟨90, _⟩ => ⟨S4224x512, .f32⟩
  | .hbm, ⟨91, _⟩ => ⟨S4224x1x512, .f32⟩
  | .hbm, ⟨92, _⟩ => ⟨S4224x512, .f32⟩
  | .hbm, ⟨93, _⟩ => ⟨S4224x1x512, .f32⟩
  | .hbm, ⟨94, _⟩ => ⟨S4224x512, .f32⟩
  | .hbm, ⟨95, _⟩ => ⟨S4224x512, .f32⟩
  | .hbm, ⟨96, _⟩ => ⟨S4224x512, .f32⟩
  | .hbm, ⟨97, _⟩ => ⟨S4224x512, .f32⟩
  | .hbm, ⟨98, _⟩ => ⟨S4224x512, .f32⟩
  | .hbm, ⟨99, _⟩ => ⟨S4224x512, .f32⟩
  | .hbm, ⟨100, _⟩ => ⟨S4224x512, .f32⟩
  | .hbm, ⟨101, _⟩ => ⟨S4224x512, .f32⟩
  | .hbm, ⟨102, _⟩ => ⟨S4224x512, .f32⟩
  | .hbm, ⟨103, _⟩ => ⟨S4224x512, .f32⟩
  | .hbm, ⟨104, _⟩ => ⟨S4224x512, .f32⟩
  | .hbm, ⟨105, _⟩ => ⟨S4224x512, .f32⟩
  | .hbm, ⟨106, _⟩ => ⟨S4224x512, .f32⟩
  | .hbm, ⟨107, _⟩ => ⟨S4224x512, .f32⟩
  | .hbm, ⟨108, _⟩ => ⟨S4224x512, .f32⟩
  | .hbm, ⟨109, _⟩ => ⟨S4224x512, .f32⟩
  | .hbm, ⟨110, _⟩ => ⟨S4224x512, .f32⟩
  | .hbm, ⟨111, _⟩ => ⟨S4224x512, .f32⟩
  | .hbm, ⟨112, _⟩ => ⟨S4224x512, .f32⟩
  | .hbm, ⟨113, _⟩ => ⟨S4224x512, .bf16⟩
  | .hbm, ⟨114, _⟩ => ⟨S4224x512, .bf16⟩
  | .hbm, ⟨115, _⟩ => ⟨S4224x512, .bf16⟩
  | .hbm, ⟨116, _⟩ => ⟨S4224x512, .bf16⟩
  | .hbm, ⟨117, _⟩ => ⟨S4224x512, .bf16⟩
  | .hbm, ⟨118, _⟩ => ⟨S4224x512, .bf16⟩
  | .hbm, ⟨119, _⟩ => ⟨S4224x3072, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v4_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v4_1 : Ref sig .tc := ⟨.hbm, 22, rfl⟩
abbrev main_v4_0 : Ref sig .tc := ⟨.hbm, 23, rfl⟩
abbrev main_v5 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_v6_2 : Ref sig .tc := ⟨.hbm, 32, rfl⟩
abbrev main_call1_cst_1 : Ref sig .tc := ⟨.hbm, 33, rfl⟩
abbrev main_call1_v6 : Ref sig .tc := ⟨.hbm, 34, rfl⟩
abbrev main_call1_v7 : Ref sig .tc := ⟨.hbm, 35, rfl⟩
abbrev main_v6_1 : Ref sig .tc := ⟨.hbm, 36, rfl⟩
abbrev main_v6_0 : Ref sig .tc := ⟨.hbm, 37, rfl⟩
abbrev main_v7 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_v8_2 : Ref sig .tc := ⟨.hbm, 46, rfl⟩
abbrev main_call2_cst_1 : Ref sig .tc := ⟨.hbm, 47, rfl⟩
abbrev main_call2_v6 : Ref sig .tc := ⟨.hbm, 48, rfl⟩
abbrev main_call2_v7 : Ref sig .tc := ⟨.hbm, 49, rfl⟩
abbrev main_v8_1 : Ref sig .tc := ⟨.hbm, 50, rfl⟩
abbrev main_v8_0 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst : Ref sig .tc := ⟨.hbm, 62, rfl⟩
abbrev main_v19 : Ref sig .tc := ⟨.hbm, 63, rfl⟩
abbrev main_v20 : Ref sig .tc := ⟨.hbm, 64, rfl⟩
abbrev main_cst_0 : Ref sig .tc := ⟨.hbm, 65, rfl⟩
abbrev main_v21 : Ref sig .tc := ⟨.hbm, 66, rfl⟩
abbrev main_v22 : Ref sig .tc := ⟨.hbm, 67, rfl⟩
abbrev main_cst_1 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_cst_2 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩

abbrev nD : Nat := 1
abbrev τ : Topo := Topo.v7x

variable {F : FTy → Type} [FloatOps F]
-- ==== Kernel6.lean ====
abbrev S4224x1024 : Shape := ⟨2, ![4224, 1024]⟩
abbrev S4224x512 : Shape := ⟨2, ![4224, 512]⟩
abbrev S4224x7680 : Shape := ⟨2, ![4224, 7680]⟩
abbrev S3x512x1024 : Shape := ⟨3, ![3, 512, 1024]⟩
abbrev S1024x1024 : Shape := ⟨2, ![1024, 1024]⟩
abbrev S384x1024 : Shape := ⟨2, ![384, 1024]⟩
abbrev S384x512 : Shape := ⟨2, ![384, 512]⟩
abbrev S1x512x1024 : Shape := ⟨3, ![1, 512, 1024]⟩
abbrev S512x1024 : Shape := ⟨2, ![512, 1024]⟩

abbrev nBuf : Space → Nat
  | .hbm => 10
  | .vmem => 24
  | .smem => 0
  | _ => 0

abbrev bufTy : (tb : Table) → Fin (tcTables nBuf tb) → BufTy
  | .hbm, ⟨0, _⟩ => ⟨S4224x1024, .f32⟩
  | .hbm, ⟨1, _⟩ => ⟨S4224x512, .f32⟩
  | .hbm, ⟨2, _⟩ => ⟨S4224x512, .f32⟩
  | .hbm, ⟨3, _⟩ => ⟨S4224x512, .f32⟩
  | .hbm, ⟨4, _⟩ => ⟨S4224x7680, .f32⟩
  | .hbm, ⟨5, _⟩ => ⟨S3x512x1024, .f32⟩
  | .hbm, ⟨6, _⟩ => ⟨S1024x1024, .f32⟩
  | .hbm, ⟨7, _⟩ => ⟨S3x512x1024, .bf16⟩
  | .hbm, ⟨8, _⟩ => ⟨S1024x1024, .bf16⟩
  | .hbm, ⟨9, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S384x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S384x512, .f32⟩
  | .local _ .vmem, ⟨9, _⟩ => ⟨S384x512, .f32⟩
  | .local _ .vmem, ⟨10, _⟩ => ⟨S384x512, .f32⟩
  | .local _ .vmem, ⟨11, _⟩ => ⟨S384x512, .f32⟩
  | .local _ .vmem, ⟨12, _⟩ => ⟨S384x512, .f32⟩
  | .local _ .vmem, ⟨13, _⟩ => ⟨S384x512, .f32⟩
  | .local _ .vmem, ⟨14, _⟩ => ⟨S384x1024, .f32⟩
  | .local _ .vmem, ⟨15, _⟩ => ⟨S384x1024, .f32⟩
  | .local _ .vmem, ⟨16, _⟩ => ⟨S384x1024, .f32⟩
  | .local _ .vmem, ⟨17, _⟩ => ⟨S384x1024, .f32⟩
  | .local _ .vmem, ⟨18, _⟩ => ⟨S384x1024, .f32⟩
  | .local _ .vmem, ⟨19, _⟩ => ⟨S384x1024, .f32⟩
  | .local _ .vmem, ⟨20, _⟩ => ⟨S3x512x1024, .bf16⟩
  | .local _ .vmem, ⟨21, _⟩ => ⟨S1024x1024, .bf16⟩
  | .local _ .vmem, ⟨22, _⟩ => ⟨S384x1024, .f32⟩
  | .local _ .vmem, ⟨23, _⟩ => ⟨S384x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S384x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S4224x1024 : Shape := ⟨2, ![4224, 1024]⟩
abbrev S4224x512 : Shape := ⟨2, ![4224, 512]⟩
abbrev S4224x7680 : Shape := ⟨2, ![4224, 7680]⟩
abbrev S3x512x1024 : Shape := ⟨3, ![3, 512, 1024]⟩
abbrev S1024x1024 : Shape := ⟨2, ![1024, 1024]⟩
abbrev S4224x3072 : Shape := ⟨2, ![4224, 3072]⟩
abbrev S_ : Shape := ⟨0, ![]⟩
abbrev S4224x1x512 : Shape := ⟨3, ![4224, 1, 512]⟩
abbrev S4224x3x512 : Shape := ⟨3, ![4224, 3, 512]⟩
abbrev S3x1024x4224 : Shape := ⟨3, ![3, 1024, 4224]⟩
abbrev S4224x3x1024 : Shape := ⟨3, ![4224, 3, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x512, .f32⟩
  | .hbm, ⟨2, _⟩ => ⟨S4224x512, .f32⟩
  | .hbm, ⟨3, _⟩ => ⟨S4224x512, .f32⟩
  | .hbm, ⟨4, _⟩ => ⟨S4224x7680, .f32⟩
  | .hbm, ⟨5, _⟩ => ⟨S3x512x1024, .f32⟩
  | .hbm, ⟨6, _⟩ => ⟨S1024x1024, .f32⟩
  | .hbm, ⟨7, _⟩ => ⟨S4224x512, .f32⟩
  | .hbm, ⟨8, _⟩ => ⟨S4224x512, .f32⟩
  | .hbm, ⟨9, _⟩ => ⟨S4224x512, .f32⟩
  | .hbm, ⟨10, _⟩ => ⟨S4224x3072, .f32⟩
  | .hbm, ⟨11, _⟩ => ⟨S4224x512, .f32⟩
  | .hbm, ⟨12, _⟩ => ⟨S4224x512, .f32⟩
  | .hbm, ⟨13, _⟩ => ⟨S_, .f32⟩
  | .hbm, ⟨14, _⟩ => ⟨S4224x512, .f32⟩
  | .hbm, ⟨15, _⟩ => ⟨S4224x512, .f32⟩
  | .hbm, ⟨16, _⟩ => ⟨S_, .f32⟩
  | .hbm, ⟨17, _⟩ => ⟨S4224x512, .f32⟩
  | .hbm, ⟨18, _⟩ => ⟨S4224x512, .f32⟩
  | .hbm, ⟨19, _⟩ => ⟨S4224x512, .f32⟩
  | .hbm, ⟨20, _⟩ => ⟨S4224x512, .f32⟩
  | .hbm, ⟨21, _⟩ => ⟨S4224x512, .f32⟩
  | .hbm, ⟨22, _⟩ => ⟨S4224x512, .f32⟩
  | .hbm, ⟨23, _⟩ => ⟨S_, .f32⟩
  | .hbm, ⟨24, _⟩ => ⟨S4224x512, .f32⟩
  | .hbm, ⟨25, _⟩ => ⟨S4224x512, .f32⟩
  | .hbm, ⟨26, _⟩ => ⟨S_, .f32⟩
  | .hbm, ⟨27, _⟩ => ⟨S4224x512, .f32⟩
  | .hbm, ⟨28, _⟩ => ⟨S4224x512, .f32⟩
  | .hbm, ⟨29, _⟩ => ⟨S4224x512, .f32⟩
  | .hbm, ⟨30, _⟩ => ⟨S4224x512, .f32⟩
  | .hbm, ⟨31, _⟩ => ⟨S4224x512, .f32⟩
  | .hbm, ⟨32, _⟩ => ⟨S4224x512, .f32⟩
  | .hbm, ⟨33, _⟩ => ⟨S_, .f32⟩
  | .hbm, ⟨34, _⟩ => ⟨S4224x512, .f32⟩
  | .hbm, ⟨35, _⟩ => ⟨S4224x512, .f32⟩
  | .hbm, ⟨36, _⟩ => ⟨S_, .f32⟩
  | .hbm, ⟨37, _⟩ => ⟨S4224x512, .f32⟩
  | .hbm, ⟨38, _⟩ => ⟨S4224x512, .f32⟩
  | .hbm, ⟨39, _⟩ => ⟨S4224x512, .f32⟩
  | .hbm, ⟨40, _⟩ => ⟨S4224x512, .f32⟩
  | .hbm, ⟨41, _⟩ => ⟨S4224x1x512, .f32⟩
  | .hbm, ⟨42, _⟩ => ⟨S4224x1x512, .f32⟩
  | .hbm, ⟨43, _⟩ => ⟨S4224x1x512, .f32⟩
  | .hbm, ⟨44, _⟩ => ⟨S4224x3x512, .f32⟩
  | .hbm, ⟨45, _⟩ => ⟨S3x1024x4224, .f32⟩
  | .hbm, ⟨46, _⟩ => ⟨S4224x3x1024, .f32⟩
  | .hbm, ⟨47, _⟩ => ⟨S4224x3x1024, .f32⟩
  | .hbm, ⟨48, _⟩ => ⟨S4224x3x1024, .f32⟩
  | .hbm, ⟨49, _⟩ => ⟨S4224x3x1024, .f32⟩
  | .hbm, ⟨50, _⟩ => ⟨S_, .f32⟩
  | .hbm, ⟨51, _⟩ => ⟨S4224x3x1024, .f32⟩
  | .hbm, ⟨52, _⟩ => ⟨S4224x3x1024, .f32⟩
  | .hbm, ⟨53, _⟩ => ⟨S_, .f32⟩
  | .hbm, ⟨54, _⟩ => ⟨S4224x3x1024, .f32⟩
  | .hbm, ⟨55, _⟩ => ⟨S4224x3x1024, .f32⟩
  | .hbm, ⟨56, _⟩ => ⟨S4224x3x1024, .f32⟩
  | .hbm, ⟨57, _⟩ => ⟨S_, .f32⟩
  | .hbm, ⟨58, _⟩ => ⟨S4224x1024, .f32⟩
  | .hbm, ⟨59, _⟩ => ⟨S4224x1024, .f32⟩
  | .hbm, ⟨60, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v6 : Ref sig .tc := ⟨.hbm, 29, rfl⟩
abbrev main_v7 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_call2_v5 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst : Ref sig .tc := ⟨.hbm, 50, rfl⟩
abbrev main_v19 : Ref sig .tc := ⟨.hbm, 51, rfl⟩
abbrev main_v20 : Ref sig .tc := ⟨.hbm, 52, rfl⟩
abbrev main_cst_0 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_1 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩

abbrev nD : Nat := 1
abbrev τ : Topo := Topo.v7x

variable {F : FTy → Type} [FloatOps F]
-- ==== Kernel7.lean ====
abbrev S4224x1024 : Shape := ⟨2, ![4224, 1024]⟩
abbrev S1024 : Shape := ⟨1, ![1024]⟩
abbrev S4096x1024 : Shape := ⟨2, ![4096, 1024]⟩
abbrev S1x1024 : Shape := ⟨2, ![1, 1024]⟩
abbrev S8x128 : Shape := ⟨2, ![8, 128]⟩
abbrev S8x1024 : Shape := ⟨2, ![8, 1024]⟩
abbrev S128x1024 : Shape := ⟨2, ![128, 1024]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4224x1024, .f32⟩
  | .hbm, ⟨5, _⟩ => ⟨S8x128, .f32⟩
  | .hbm, ⟨6, _⟩ => ⟨S8x1024, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S8x128, .f32⟩
  | .local _ .vmem, ⟨8, _⟩ => ⟨S8x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference7Ideal.lean ====
abbrev S4224x1024 : Shape := ⟨2, ![4224, 1024]⟩
abbrev S1024 : Shape := ⟨1, ![1024]⟩
abbrev S4096x1024 : Shape := ⟨2, ![4096, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4096 : Shape := ⟨1, ![4096]⟩
abbrev S8x128 : Shape := ⟨2, ![8, 128]⟩
abbrev S7x1024 : Shape := ⟨2, ![7, 1024]⟩
abbrev S8x1024 : Shape := ⟨2, ![8, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S4096x1024, .f32⟩
  | .hbm, ⟨3, _⟩ => ⟨S4224x1024, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x1024, .f32⟩
  | .hbm, ⟨19, _⟩ => ⟨S4224x1024, .f32⟩
  | .hbm, ⟨20, _⟩ => ⟨S1x1024, .f32⟩
  | .hbm, ⟨21, _⟩ => ⟨S4224x1024, .f32⟩
  | .hbm, ⟨22, _⟩ => ⟨S4224x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4224x1024, .f32⟩
  | .hbm, ⟨49, _⟩ => ⟨S4224x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4224x1024, .f32⟩
  | .hbm, ⟨54, _⟩ => ⟨S4224x1024, .f32⟩
  | .hbm, ⟨55, _⟩ => ⟨S_, .f32⟩
  | .hbm, ⟨56, _⟩ => ⟨S1024, .f32⟩
  | .hbm, ⟨57, _⟩ => ⟨S4224x1024, .f32⟩
  | .hbm, ⟨58, _⟩ => ⟨S_, .f32⟩
  | .hbm, ⟨59, _⟩ => ⟨S4224, .f32⟩
  | .hbm, ⟨60, _⟩ => ⟨S4224x1, .f32⟩
  | .hbm, ⟨61, _⟩ => ⟨S4224x1024, .f32⟩
  | .hbm, ⟨62, _⟩ => ⟨S4224x1024, .f32⟩
  | .hbm, ⟨63, _⟩ => ⟨S4224x1, .f32⟩
  | .hbm, ⟨64, _⟩ => ⟨S_, .f32⟩
  | .hbm, ⟨65, _⟩ => ⟨S4224x1, .f32⟩
  | .hbm, ⟨66, _⟩ => ⟨S4224x1, .f32⟩
  | .hbm, ⟨67, _⟩ => ⟨S_, .f32⟩
  | .hbm, ⟨68, _⟩ => ⟨S4224, .f32⟩
  | .hbm, ⟨69, _⟩ => ⟨S4224x1024, .f32⟩
  | .hbm, ⟨70, _⟩ => ⟨S4224x1024, .f32⟩
  | .hbm, ⟨71, _⟩ => ⟨S4224x1024, .f32⟩
  | .hbm, ⟨72, _⟩ => ⟨S4224x1024, .f32⟩
  | .hbm, ⟨73, _⟩ => ⟨S4224x1024, .f32⟩
  | .hbm, ⟨74, _⟩ => ⟨S8x128, .f32⟩
  | .hbm, ⟨75, _⟩ => ⟨S1x1024, .f32⟩
  | .hbm, ⟨76, _⟩ => ⟨S_, .f32⟩
  | .hbm, ⟨77, _⟩ => ⟨S7x1024, .f32⟩
  | .hbm, ⟨78, _⟩ => ⟨S8x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_17 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel8.lean ====
abbrev S2x1024x1898 : Shape := ⟨3, ![2, 1024, 1898]⟩
abbrev S2048x1898 : Shape := ⟨2, ![2048, 1898]⟩
abbrev S1x256x1898 : Shape := ⟨3, ![1, 256, 1898]⟩
abbrev S256x1898 : Shape := ⟨2, ![256, 1898]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1898, .f32⟩
  | .hbm, ⟨1, _⟩ => ⟨S2x1024x1898, .f32⟩
  | .hbm, ⟨2, _⟩ => ⟨S2x1024x1898, .f32⟩
  | .hbm, ⟨3, _⟩ => ⟨S2x1024x1898, .f32⟩
  | .hbm, ⟨4, _⟩ => ⟨S2048x1898, .f32⟩
  | .hbm, ⟨5, _⟩ => ⟨S2048x1898, .f32⟩
  | .hbm, ⟨6, _⟩ => ⟨S2048x1898, .f32⟩
  | .hbm, ⟨7, _⟩ => ⟨S2048x1898, .f32⟩
  | .local _ .vmem, ⟨0, _⟩ => ⟨S1x256x1898, .f32⟩
  | .local _ .vmem, ⟨1, _⟩ => ⟨S1x256x1898, .f32⟩
  | .local _ .vmem, ⟨2, _⟩ => ⟨S1x256x1898, .f32⟩
  | .local _ .vmem, ⟨3, _⟩ => ⟨S1x256x1898, .f32⟩
  | .local _ .vmem, ⟨4, _⟩ => ⟨S1x256x1898, .f32⟩
  | .local _ .vmem, ⟨5, _⟩ => ⟨S1x256x1898, .f32⟩
  | .local _ .vmem, ⟨6, _⟩ => ⟨S1x256x1898, .f32⟩
  | .local _ .vmem, ⟨7, _⟩ => ⟨S1x256x1898, .f32⟩
  | .local _ .vmem, ⟨8, _⟩ => ⟨S256x1898, .f32⟩
  | .local _ .vmem, ⟨9, _⟩ => ⟨S256x1898, .f32⟩
  | .local _ .vmem, ⟨10, _⟩ => ⟨S256x1898, .f32⟩
  | .local _ .vmem, ⟨11, _⟩ => ⟨S256x1898, .f32⟩
  | .local _ .vmem, ⟨12, _⟩ => ⟨S256x1898, .f32⟩
  | .local _ .vmem, ⟨13, _⟩ => ⟨S256x1898, .f32⟩
  | .local _ .vmem, ⟨14, _⟩ => ⟨S256x1898, .f32⟩
  | .local _ .vmem, ⟨15, _⟩ => ⟨S256x1898, .f32⟩
  | _, _ => ⟨S2x1024x1898, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1898 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1898 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1898 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1898 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1898 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1898 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1898 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1898 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S2x1024x1898 : Shape := ⟨3, ![2, 1024, 1898]⟩
abbrev S_ : Shape := ⟨0, ![]⟩
abbrev S2048x1898 : Shape := ⟨2, ![2048, 1898]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1898, .f32⟩
  | .hbm, ⟨1, _⟩ => ⟨S2x1024x1898, .f32⟩
  | .hbm, ⟨2, _⟩ => ⟨S2x1024x1898, .f32⟩
  | .hbm, ⟨3, _⟩ => ⟨S2x1024x1898, .f32⟩
  | .hbm, ⟨4, _⟩ => ⟨S_, .f32⟩
  | .hbm, ⟨5, _⟩ => ⟨S2x1024x1898, .f32⟩
  | .hbm, ⟨6, _⟩ => ⟨S2x1024x1898, .f32⟩
  | .hbm, ⟨7, _⟩ => ⟨S_, .f32⟩
  | .hbm, ⟨8, _⟩ => ⟨S2x1024x1898, .f32⟩
  | .hbm, ⟨9, _⟩ => ⟨S2x1024x1898, .f32⟩
  | .hbm, ⟨10, _⟩ => ⟨S2x1024x1898, .f32⟩
  | .hbm, ⟨11, _⟩ => ⟨S_, .f32⟩
  | .hbm, ⟨12, _⟩ => ⟨S2x1024x1898, .f32⟩
  | .hbm, ⟨13, _⟩ => ⟨S2x1024x1898, .f32⟩
  | .hbm, ⟨14, _⟩ => ⟨S2x1024x1898, .f32⟩
  | .hbm, ⟨15, _⟩ => ⟨S_, .f32⟩
  | .hbm, ⟨16, _⟩ => ⟨S2x1024x1898, .f32⟩
  | .hbm, ⟨17, _⟩ => ⟨S2x1024x1898, .f32⟩
  | .hbm, ⟨18, _⟩ => ⟨S2x1024x1898, .f32⟩
  | .hbm, ⟨19, _⟩ => ⟨S_, .f32⟩
  | .hbm, ⟨20, _⟩ => ⟨S2x1024x1898, .f32⟩
  | .hbm, ⟨21, _⟩ => ⟨S2x1024x1898, .f32⟩
  | .hbm, ⟨22, _⟩ => ⟨S_, .f32⟩
  | .hbm, ⟨23, _⟩ => ⟨S2x1024x1898, .f32⟩
  | .hbm, ⟨24, _⟩ => ⟨S2x1024x1898, .f32⟩
  | .hbm, ⟨25, _⟩ => ⟨S2x1024x1898, .f32⟩
  | .hbm, ⟨26, _⟩ => ⟨S_, .f32⟩
  | .hbm, ⟨27, _⟩ => ⟨S2x1024x1898, .f32⟩
  | .hbm, ⟨28, _⟩ => ⟨S2x1024x1898, .f32⟩
  | .hbm, ⟨29, _⟩ => ⟨S2x1024x1898, .f32⟩
  | .hbm, ⟨30, _⟩ => ⟨S_, .f32⟩
  | .hbm, ⟨31, _⟩ => ⟨S2x1024x1898, .f32⟩
  | .hbm, ⟨32, _⟩ => ⟨S2x1024x1898, .f32⟩
  | .hbm, ⟨33, _⟩ => ⟨S2x1024x1898, .f32⟩
  | .hbm, ⟨34, _⟩ => ⟨S_, .f32⟩
  | .hbm, ⟨35, _⟩ => ⟨S2x1024x1898, .f32⟩
  | .hbm, ⟨36, _⟩ => ⟨S2x1024x1898, .f32⟩
  | .hbm, ⟨37, _⟩ => ⟨S2048x1898, .f32⟩
  | .hbm, ⟨38, _⟩ => ⟨S2048x1898, .f32⟩
  | .hbm, ⟨39, _⟩ => ⟨S2048x1898, .f32⟩
  | .hbm, ⟨40, _⟩ => ⟨S2048x1898, .f32⟩
  | _, _ => ⟨S2x1024x1898, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.IdealLoops.lean ====
module

public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the runs below. -/
local notation "𝕄" => MT nD τ sig Unit (Elt F) ℕ (UR sig nD τ) ℕ

/-! ## Where the loops' trips lie -/

/-- The masked loop of point `i` visits query block `i 1 + k` on trip `k`; this is the row offset of that block. -/
theorem k0_off1_eq : ∀ (i : grid0.Coords) (k0_t1 : Fin (k0_t1_loop i).trips),
    k0_off1 i k0_t1 = ![384 * ((i 1).val + k0_t1.val), 0] := by decide +kernel
instance (i : grid0.Coords) (k0_t1 : Fin (k0_t1_loop i).trips) : ClosedOff (k0_off1 i k0_t1) := ⟨_, k0_off1_eq i k0_t1⟩

theorem k0_off2_eq : ∀ (i : grid0.Coords) (k0_t1 : Fin (k0_t1_loop i).trips),
    k0_off2 i k0_t1 = ![0, (i 1).val + k0_t1.val, 0, 0] := by decide +kernel
instance (i : grid0.Coords) (k0_t1 : Fin (k0_t1_loop i).trips) : ClosedOff (k0_off2 i k0_t1) := ⟨_, k0_off2_eq i k0_t1⟩

theorem k0_off3_eq : ∀ (i : grid0.Coords) (k0_t1 : Fin (k0_t1_loop i).trips),
    k0_off3 i k0_t1 = ![0, (i 1).val + k0_t1.val, 0, 0] := by decide +kernel
instance (i : grid0.Coords) (k0_t1 : Fin (k0_t1_loop i).trips) : ClosedOff (k0_off3 i k0_t1) := ⟨_, k0_off3_eq i k0_t1⟩

theorem k0_off4_eq : ∀ (i : grid0.Coords) (k0_t1 : Fin (k0_t1_loop i).trips),
    k0_off4 i k0_t1 = ![0, (i 1).val + k0_t1.val, 1, 0] := by decide +kernel
instance (i : grid0.Coords) (k0_t1 : Fin (k0_t1_loop i).trips) : ClosedOff (k0_off4 i k0_t1) := ⟨_, k0_off4_eq i k0_t1⟩

theorem k0_t2_trips : ∀ i : grid0.Coords, (k0_t2_loop i).trips = 0 := by decide +kernel
theorem k0_t4_trips : ∀ i : grid0.Coords, (k0_t4_loop i).trips = 0 := by decide +kernel

/-! ## One trip and one loop, as functions of the values -/

/-- What a loop carries: the running dk and dv of the point's keys, and the two running columns of dck. -/
abbrev Acc (F : FTy → Type) := FVec F S384x128 .f32 × FVec F S384x128 .f32 × FVec F S384x1 .f32 × FVec F S384x1 .f32

/-- What a trip changes: the carried values, the dq block and the dcq block. -/
abbrev St (F : FTy → Type) := Acc F × Vec F S4224x128 .f32 × Vec F S1x11x2x384 .f32

/-- What a point holds fixed while it runs over the query blocks: the scaled queries, the incoming gradient, the row
    log-sums and the row products of the point's pair of heads, and the values the point computes once from its keys. -/
structure Cx (F : FTy → Type) where
  q : Vec F S4224x128 .bf16
  d : Vec F S4224x128 .bf16
  lse : Vec F S1x11x2x384 .f32
  del : Vec F S1x11x2x384 .f32
  a1 : BitVec 32
  v2 : IVec S1x128 1
  v8 : IVec S1x128 1
  v10 : FVec F S384x128 .bf16
  v12 : FVec F S384x128 .bf16
  v23 : FVec F S768x128 .bf16
  v27 : IVec S384x1 32
  v34 : FVec F S384x768 .f32

section steps

variable (i : grid0.Coords) (x : Cx F)

section masked
variable (k : Fin (k0_t1_loop i).trips)

/-- The scaled queries of trip `k`'s block, one copy per head of the pair. -/
def eq1 : FVec F S768x128 .bf16 := k0_pay16 x.v8 (View.ld (Val := Elt F) x.q (Rect.unit (s := S4224x128) (k0_off1 i k) S384x128.size (k0_off1_inb i k)))
/-- The incoming gradient of trip `k`'s block, one copy per head of the pair. -/
def ed1 : FVec F S768x128 .bf16 := k0_pay17 x.v2 (View.ld (Val := Elt F) x.d (Rect.unit (s := S4224x128) (k0_off1 i k) S384x128.size (k0_off1_inb i k)))
/-- The row log-sums of trip `k`'s block, the two heads side by side. -/
def el1 : FVec F S1x768 .f32 := k0_pay18 (View.ld (Val := Elt F) x.lse (Rect.unit (s := S1x11x2x384) (k0_off2 i k) S1x1x2x384.size (k0_off2_inb i k)))
/-- The row products of trip `k`'s block, the two heads side by side. -/
def er1 : FVec F S1x768 .f32 := k0_pay19 (View.ld (Val := Elt F) x.del (Rect.unit (s := S1x11x2x384) (k0_off2 i k) S1x1x2x384.size (k0_off2_inb i k)))
/-- The biased scores of trip `k`'s block. -/
def es1 : FVec F S384x768 .f32 := k0_pay20 x.v8 x.v10 x.v34 (View.ld (Val := Elt F) x.q (Rect.unit (s := S4224x128) (k0_off1 i k) S384x128.size (k0_off1_inb i k)))
/-- The masked weights of trip `k`'s block. -/
def ep1 : FVec F S384x768 .f32 := k0_pay21 x.v27 (Scf.iv x.a1 1#32 k) (el1 i x k) (es1 i x k) 384#32
/-- The gradient of the masked scores of trip `k`'s block. -/
def eg1 : FVec F S384x768 .f32 := k0_pay22 x.v12 x.v27 (Scf.iv x.a1 1#32 k) (ed1 i x k) (el1 i x k) (er1 i x k) (es1 i x k) 384#32

/-- Trip `k` of the masked loop: the carried sums grow, block `k`'s rows of dq and of dcq grow. -/
def step1 (s : St F) : St F :=
  ((k0_pay4 s.1.1 (eq1 i x k) (eg1 i x k), k0_pay3 s.1.2.1 (ed1 i x k) (ep1 i x k),
    k0_pay23 x.v12 x.v27 s.1.2.2.1 (Scf.iv x.a1 1#32 k) (ed1 i x k) (el1 i x k) (er1 i x k) (es1 i x k) 384#32,
    k0_pay24 x.v12 x.v27 s.1.2.2.2 (Scf.iv x.a1 1#32 k) (ed1 i x k) (el1 i x k) (er1 i x k) (es1 i x k) 384#32),
   VecWindow.put s.2.1 (k0_off1 i k) S384x128.size
     (k0_pay5 x.v23 (eg1 i x k) (View.ld (Val := Elt F) s.2.1 (Rect.unit (s := S4224x128) (k0_off1 i k) S384x128.size (k0_off1_inb i k)))),
   VecWindow.put (VecWindow.put s.2.2 (k0_off3 i k) S1x1x1x384.size
     (k0_pay26 x.v12 x.v27 (Scf.iv x.a1 1#32 k) (ed1 i x k) (el1 i x k) (er1 i x k) (es1 i x k) 384#32
       (View.ld (Val := Elt F) s.2.2 (Rect.unit (s := S1x11x2x384) (k0_off3 i k) S1x1x1x384.size (k0_off3_inb i k)))))
     (k0_off4 i k) S1x1x1x384.size
     (k0_pay1 (k0_pay27 (View.ld (Val := Elt F) s.2.2 (Rect.unit (s := S1x11x2x384) (k0_off4 i k) S1x1x1x384.size (k0_off4_inb i k))))
       (k0_pay28 x.v12 x.v27 (Scf.iv x.a1 1#32 k) (ed1 i x k) (el1 i x k) (er1 i x k) (es1 i x k) 384#32)))

end masked

section plain
variable (k : Fin (k0_t3_loop i).trips)

/-- The scaled queries of trip `k`'s block, one copy per head of the pair. -/
def eq3 : FVec F S768x128 .bf16 := k0_pay42 x.v8 (View.ld (Val := Elt F) x.q (Rect.unit (s := S4224x128) (k0_off9 i k) S384x128.size (k0_off9_inb i k)))
/-- The incoming gradient of trip `k`'s block, one copy per head of the pair. -/
def ed3 : FVec F S768x128 .bf16 := k0_pay43 x.v2 (View.ld (Val := Elt F) x.d (Rect.unit (s := S4224x128) (k0_off9 i k) S384x128.size (k0_off9_inb i k)))
/-- The row products of trip `k`'s block, the two heads side by side. -/
def er3 : FVec F S1x768 .f32 := k0_pay44 (View.ld (Val := Elt F) x.del (Rect.unit (s := S1x11x2x384) (k0_off10 i k) S1x1x2x384.size (k0_off10_inb i k)))
/-- The biased scores of trip `k`'s block. -/
def es3 : FVec F S384x768 .f32 := k0_pay45 x.v8 x.v10 x.v34 (View.ld (Val := Elt F) x.q (Rect.unit (s := S4224x128) (k0_off9 i k) S384x128.size (k0_off9_inb i k)))
/-- The row log-sums of trip `k`'s block, one copy per key. -/
def el3 : FVec F S384x768 .f32 := k0_pay46 (View.ld (Val := Elt F) x.lse (Rect.unit (s := S1x11x2x384) (k0_off10 i k) S1x1x2x384.size (k0_off10_inb i k)))

/-- Trip `k` of the unmasked loop: the carried sums grow, block `k`'s rows of dq and of dcq grow. -/
def step3 (s : St F) : St F :=
  ((k0_pay56 x.v12 s.1.1 (eq3 i x k) (ed3 i x k) (er3 i x k) (es3 i x k) (el3 i x k), k0_pay55 s.1.2.1 (ed3 i x k) (es3 i x k) (el3 i x k),
    k0_pay49 x.v12 s.1.2.2.1 (ed3 i x k) (er3 i x k) (es3 i x k) (el3 i x k),
    k0_pay50 x.v12 s.1.2.2.2 (ed3 i x k) (er3 i x k) (es3 i x k) (el3 i x k)),
   VecWindow.put s.2.1 (k0_off9 i k) S384x128.size
     (k0_pay11 x.v23 (k0_pay54 x.v12 (ed3 i x k) (er3 i x k) (es3 i x k) (el3 i x k))
       (View.ld (Val := Elt F) s.2.1 (Rect.unit (s := S4224x128) (k0_off9 i k) S384x128.size (k0_off9_inb i k)))),
   VecWindow.put (VecWindow.put s.2.2 (k0_off11 i k) S1x1x1x384.size
     (k0_pay52 x.v12 (ed3 i x k) (er3 i x k) (es3 i x k) (el3 i x k)
       (View.ld (Val := Elt F) s.2.2 (Rect.unit (s := S1x11x2x384) (k0_off11 i k) S1x1x1x384.size (k0_off11_inb i k)))))
     (k0_off12 i k) S1x1x1x384.size
     (k0_pay53 x.v12 (ed3 i x k) (er3 i x k) (es3 i x k) (el3 i x k)
       (View.ld (Val := Elt F) s.2.2 (Rect.unit (s := S1x11x2x384) (k0_off12 i k) S1x1x1x384.size (k0_off12_inb i k)))))

end plain

end steps

/-- The state before trip `n` of a loop of `T` trips whose trip is `f`, from the state `s`. -/
def runN {T : ℕ} (f : Fin T → St F → St F) (s : St F) : ℕ → St F
  | 0 => s
  | n + 1 => if h : n < T then f ⟨n, h⟩ (runN f s n) else runN f s n

theorem runN_zero {T : ℕ} (f : Fin T → St F → St F) (s : St F) : runN f s 0 = s := by rw [runN]

theorem runN_succ {T : ℕ} (f : Fin T → St F → St F) (s : St F) (k : Fin T) :
    runN f s (k.val + 1) = f k (runN f s k.val) := by
  rw [runN]; exact dif_pos k.isLt

attribute [irreducible] runN

/-- The masked loop's trips at point `i`, all of them. -/
def run1 (i : grid0.Coords) (x : Cx F) (s : St F) : St F := runN (step1 i x) s (k0_t1_loop i).trips

/-- The unmasked loop's trips at point `i`, all of them. -/
def run3 (i : grid0.Coords) (x : Cx F) (s : St F) : St F := runN (step3 i x) s (k0_t3_loop i).trips

theorem run1_eq (i : grid0.Coords) (x : Cx F) (s : St F) : run1 i x s = runN (step1 i x) s (k0_t1_loop i).trips := rfl
theorem run3_eq (i : grid0.Coords) (x : Cx F) (s : St F) : run3 i x s = runN (step3 i x) s (k0_t3_loop i).trips := rfl
attribute [irreducible] run1 run3

/-! ## One trip, run -/

section run
variable (c : Dev nD) (i : grid0.Coords)
  (arg2 : Memref sig .tc .vmem S4224x128 .bf16) (harg2 : arg2.IsWhole)
  (arg3 : Memref sig .tc .vmem S384x128 .bf16) (harg3 : arg3.IsWhole)
  (arg4 : Memref sig .tc .vmem S384x128 .bf16) (harg4 : arg4.IsWhole)
  (arg5 : Memref sig .tc .vmem S4224x128 .bf16) (harg5 : arg5.IsWhole)
  (arg6 : Memref sig .tc .vmem S1x11x2x384 .f32) (harg6 : arg6.IsWhole)
  (arg7 : Memref sig .tc .vmem S1x11x2x384 .f32) (harg7 : arg7.IsWhole)
  (arg8 : Memref sig .tc .vmem S384x256 .f32) (harg8 : arg8.IsWhole)
  (arg9 : Memref sig .tc .vmem S4224x128 .f32) (harg9 : arg9.IsWhole)
  (arg10 : Memref sig .tc .vmem S384x128 .bf16) (harg10 : arg10.IsWhole)
  (arg11 : Memref sig .tc .vmem S384x128 .bf16) (harg11 : arg11.IsWhole)
  (arg12 : Memref sig .tc .vmem S384x128 .f32) (harg12 : arg12.IsWhole)
  (arg13 : Memref sig .tc .vmem S1x11x2x384 .f32) (harg13 : arg13.IsWhole)

variable (X2 : BufTy.Contents (Elt F) arg2.view.ty) (X5 : BufTy.Contents (Elt F) arg5.view.ty) (X6 : BufTy.Contents (Elt F) arg6.view.ty) (X7 : BufTy.Contents (Elt F) arg7.view.ty)

/-- The memrefs a trip touches, the four it reads at their contents and the two it writes reading as `y9`, `y13`. -/
abbrev Res (y9 : Vec F S4224x128 .f32) (y13 : Vec F S1x11x2x384 .f32) : sProp 𝕄 :=
  iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
    ∗ (∃ f, (arg9.view.loc (c : Thread nD τ) ↦[arg9.view.set]{fullShare} f) ∗ ⌜arg9.view.read (Elt F) f = y9⌝)
    ∗ (∃ f, (arg13.view.loc (c : Thread nD τ) ↦[arg13.view.set]{fullShare} f) ∗ ⌜arg13.view.read (Elt F) f = y13⌝))

/-- One trip of the masked loop takes the state `s` to `step1 s`. -/
theorem trip1 (arg1 : BitVec 32) (v2 : IVec S1x128 1) (v8 : IVec S1x128 1) (v10 : FVec F S384x128 .bf16) (v12 : FVec F S384x128 .bf16) (v23 : FVec F S768x128 .bf16) (v27 : IVec S384x1 32) (v34 : FVec F S384x768 .f32) (E : Set ℕ) (k : Fin (k0_t1_loop i).trips) (s : St F) :
    Res (F := F) c arg2 arg5 arg6 arg7 arg9 arg13 X2 X5 X6 X7 s.2.1 s.2.2
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 arg13 harg13 arg1 v2 v8 v10 v12 v23 v27 v34 k s.1)
          (fun yld => iprop(⌜yld = (step1 i ⟨arg2.view.read (Elt F) X2, arg5.view.read (Elt F) X5, arg6.view.read (Elt F) X6, arg7.view.read (Elt F) X7, arg1, v2, v8, v10, v12, v23, v27, v34⟩ k s).1⌝
            ∗ Res (F := F) c arg2 arg5 arg6 arg7 arg9 arg13 X2 X5 X6 X7
                (step1 i ⟨arg2.view.read (Elt F) X2, arg5.view.read (Elt F) X5, arg6.view.read (Elt F) X6, arg7.view.read (Elt F) X7, arg1, v2, v8, v10, v12, v23, v27, v34⟩ k s).2.1
                (step1 i ⟨arg2.view.read (Elt F) X2, arg5.view.read (Elt F) X5, arg6.view.read (Elt F) X6, arg7.view.read (Elt F) X7, arg1, v2, v8, v10, v12, v23, v27, v34⟩ k s).2.2)) := by
  obtain ⟨acc, y9, y13⟩ := s
  unfold k0_t1_body
  iintro ⟨H2, H5, H6, H7, ⟨%f9, H9, %h9⟩, ⟨%f13, H13, %h13⟩⟩
  subst h9 h13
  sl_exec
  sl_step
  isplitr; · ipureintro; rfl
  isplitl [H2]; · iexact H2
  isplitl [H5]; · iexact H5
  isplitl [H6]; · iexact H6
  isplitl [H7]; · iexact H7
  isplitl [H9]
  · iexists _; isplitl [H9]; · iexact H9
    ipureintro; rw [View.read_writes_cons_put _ _ _ _ _ rfl]; rfl
  · iexists _; isplitl [H13]; · iexact H13
    ipureintro; rw [View.read_writes_cons_put _ _ _ _ _ rfl, View.read_writes_cons_put _ _ _ _ _ rfl]; rfl

/-- One trip of the unmasked loop takes the state `s` to `step3 s`. -/
theorem trip3 (v2 : IVec S1x128 1) (v8 : IVec S1x128 1) (v10 : FVec F S384x128 .bf16) (v12 : FVec F S384x128 .bf16) (v23 : FVec F S768x128 .bf16) (v34 : FVec F S384x768 .f32) (v40 : BitVec 32) (E : Set ℕ) (k : Fin (k0_t3_loop i).trips) (s : St F) :
    Res (F := F) c arg2 arg5 arg6 arg7 arg9 arg13 X2 X5 X6 X7 s.2.1 s.2.2
      ⊢ wp frame (wpE (defs₀ (F := F)) Variants.none (c : Thread nD τ) none) E
          (k0_t3_body (F := F) i arg2 harg2 arg3 harg3 arg4 harg4 arg5 harg5 arg6 harg6 arg7 harg7 arg8 harg8 arg9 harg9 arg10 harg10 arg11 harg11 arg12 harg12 arg13 harg13 v2 v8 v10 v12 v23 v34 v40 k s.1)
          (fun yld => iprop(⌜yld = (step3 i ⟨arg2.view.read (Elt F) X2, arg5.view.read (Elt F) X5, arg6.view.read (Elt F) X6, arg7.view.read (Elt F) X7, 0#32, v2, v8, v10, v12, v23, fun _ => 0#32, v34⟩ k s).1⌝
            ∗ Res (F := F) c arg2 arg5 arg6 arg7 arg9 arg13 X2 X5 X6 X7 (step3 i ⟨arg2.view.read (Elt F) X2, arg5.view.read (Elt F) X5, arg6.view.read (Elt F) X6, arg7.view.read (Elt F) X7, 0#32, v2, v8, v10, v12, v23, fun _ => 0#32, v34⟩ k s).2.1 (step3 i ⟨arg2.view.read (Elt F) X2, arg5.view.read (Elt F) X5, arg6.view.read (Elt F) X6, arg7.view.read (Elt F) X7, 0#32, v2, v8, v10, v12, v23, fun _ => 0#32, v34⟩ k s).2.2)) := by
  obtain ⟨acc, y9, y13⟩ := s
  unfold k0_t3_body
  iintro ⟨H2, H5, H6, H7, ⟨%f9, H9, %h9⟩, ⟨%f13, H13, %h13⟩⟩
  subst h9 h13
  sl_exec
  sl_step
  isplitr; · ipureintro; rfl
  isplitl [H2]; · iexact H2
  isplitl [H5]; · iexact H5
  isplitl [H6]; · iexact H6
  isplitl [H7]; · iexact H7
  isplitl [H9]
  · iexists _; isplitl [H9]; · iexact H9
    ipureintro; rw [View.read_writes_cons_put _ _ _ _ _ rfl]; rfl
  · iexists _; isplitl [H13]; · iexact H13
    ipureintro; rw [View.read_writes_cons_put _ _ _ _ _ rfl, View.read_writes_cons_put _ _ _ _ _ rfl]; rfl

/-! ## The loops -/

set_option warn.classDefReducibility false in
/-- The masked loop, from the contents `G9`, `G13` and the carried value `init`. -/
@[sl_loop] def loopInv_k0_t1 (arg1 : BitVec 32) (v2 : IVec S1x128 1) (v8 : IVec S1x128 1) (v10 : FVec F S384x128 .bf16) (v12 : FVec F S384x128 .bf16) (v23 : FVec F S768x128 .bf16) (v27 : IVec S384x1 32) (v34 : FVec F S384x768 .f32) (G9 : BufTy.Contents (Elt F) arg9.view.ty) (G13 : BufTy.Contents (Elt F) arg13.view.ty) (init : Acc F) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg1 v2 v8 v10 v12 v23 v27 v34 init where
  inv k acc := iprop(Res (F := F) c arg2 arg5 arg6 arg7 arg9 arg13 X2 X5 X6 X7
      (runN (step1 i ⟨arg2.view.read (Elt F) X2, arg5.view.read (Elt F) X5, arg6.view.read (Elt F) X6, arg7.view.read (Elt F) X7, arg1, v2, v8, v10, v12, v23, v27, v34⟩) (init, arg9.view.read (Elt F) G9, arg13.view.read (Elt F) G13) k).2.1
      (runN (step1 i ⟨arg2.view.read (Elt F) X2, arg5.view.read (Elt F) X5, arg6.view.read (Elt F) X6, arg7.view.read (Elt F) X7, arg1, v2, v8, v10, v12, v23, v27, v34⟩) (init, arg9.view.read (Elt F) G9, arg13.view.read (Elt F) G13) k).2.2
    ∗ ⌜acc = (runN (step1 i ⟨arg2.view.read (Elt F) X2, arg5.view.read (Elt F) X5, arg6.view.read (Elt F) X6, arg7.view.read (Elt F) X7, arg1, v2, v8, v10, v12, v23, v27, v34⟩) (init, arg9.view.read (Elt F) G9, arg13.view.read (Elt F) G13) k).1⌝)
  step k acc := by
    iintro ⟨HR, %h⟩
    subst h
    iapply (wp_wand_r Idealize.ShloMosaic.frame (wpE (defs₀ (F := F)) Variants.none (c : Thread nD τ) none) Set.univ)
    isplitl [HR]
    · iapply (trip1 (F := F) c i arg2 harg2 arg3 harg3 arg4 harg4 arg5 harg5 arg6 harg6 arg7 harg7 arg8 harg8 arg9 harg9 arg10 harg10 arg11 harg11 arg12 harg12 arg13 harg13 X2 X5 X6 X7 arg1 v2 v8 v10 v12 v23 v27 v34 Set.univ k (runN (step1 i ⟨arg2.view.read (Elt F) X2, arg5.view.read (Elt F) X5, arg6.view.read (Elt F) X6, arg7.view.read (Elt F) X7, arg1, v2, v8, v10, v12, v23, v27, v34⟩) (init, arg9.view.read (Elt F) G9, arg13.view.read (Elt F) G13) k.val)) $$ HR
    · iintro %yld ⟨%hy, HR⟩
      rw [runN_succ]
      isplitl [HR]; · iexact HR
      ipureintro; exact hy

set_option warn.classDefReducibility false in
/-- The unmasked loop, from the contents `G9`, `G13` and the carried value `init`. -/
@[sl_loop] def loopInv_k0_t3 (v2 : IVec S1x128 1) (v8 : IVec S1x128 1) (v10 : FVec F S384x128 .bf16) (v12 : FVec F S384x128 .bf16) (v23 : FVec F S768x128 .bf16) (v34 : FVec F S384x768 .f32) (v40 : BitVec 32) (G9 : BufTy.Contents (Elt F) arg9.view.ty) (G13 : BufTy.Contents (Elt F) arg13.view.ty) (init : Acc F) :
    LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 v2 v8 v10 v12 v23 v34 v40 init where
  inv k acc := iprop(Res (F := F) c arg2 arg5 arg6 arg7 arg9 arg13 X2 X5 X6 X7
      (runN (step3 i ⟨arg2.view.read (Elt F) X2, arg5.view.read (Elt F) X5, arg6.view.read (Elt F) X6, arg7.view.read (Elt F) X7, 0#32, v2, v8, v10, v12, v23, fun _ => 0#32, v34⟩) (init, arg9.view.read (Elt F) G9, arg13.view.read (Elt F) G13) k).2.1
      (runN (step3 i ⟨arg2.view.read (Elt F) X2, arg5.view.read (Elt F) X5, arg6.view.read (Elt F) X6, arg7.view.read (Elt F) X7, 0#32, v2, v8, v10, v12, v23, fun _ => 0#32, v34⟩) (init, arg9.view.read (Elt F) G9, arg13.view.read (Elt F) G13) k).2.2
    ∗ ⌜acc = (runN (step3 i ⟨arg2.view.read (Elt F) X2, arg5.view.read (Elt F) X5, arg6.view.read (Elt F) X6, arg7.view.read (Elt F) X7, 0#32, v2, v8, v10, v12, v23, fun _ => 0#32, v34⟩) (init, arg9.view.read (Elt F) G9, arg13.view.read (Elt F) G13) k).1⌝)
  step k acc := by
    iintro ⟨HR, %h⟩
    subst h
    iapply (wp_wand_r Idealize.ShloMosaic.frame (wpE (defs₀ (F := F)) Variants.none (c : Thread nD τ) none) Set.univ)
    isplitl [HR]
    · iapply (trip3 (F := F) c i arg2 harg2 arg3 harg3 arg4 harg4 arg5 harg5 arg6 harg6 arg7 harg7 arg8 harg8 arg9 harg9 arg10 harg10 arg11 harg11 arg12 harg12 arg13 harg13 X2 X5 X6 X7 v2 v8 v10 v12 v23 v34 v40 Set.univ k (runN (step3 i ⟨arg2.view.read (Elt F) X2, arg5.view.read (Elt F) X5, arg6.view.read (Elt F) X6, arg7.view.read (Elt F) X7, 0#32, v2, v8, v10, v12, v23, fun _ => 0#32, v34⟩) (init, arg9.view.read (Elt F) G9, arg13.view.read (Elt F) G13) k.val)) $$ HR
    · iintro %yld ⟨%hy, HR⟩
      rw [runN_succ]
      isplitl [HR]; · iexact HR
      ipureintro; exact hy

set_option warn.classDefReducibility false in
/-- The masked loop's tail, which has no trip. -/
@[sl_loop] def loopInv_k0_t2 (v2 : IVec S1x128 1) (v8 : IVec S1x128 1) (v10 : FVec F S384x128 .bf16) (v12 : FVec F S384x128 .bf16) (v23 : FVec F S768x128 .bf16) (v27 : IVec S384x1 32) (v34 : FVec F S384x768 .f32) (v45 : BitVec 32) (init : Acc F) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 v2 v8 v10 v12 v23 v27 v34 v45 init where
  inv k acc := iprop(⌜acc = init⌝)
  step k acc := absurd k.isLt (by
    have h : Scf.trips (k0_t2_loop i).lb (k0_t2_loop i).ub (k0_t2_loop i).st = 0 := k0_t2_trips i
    omega)

set_option warn.classDefReducibility false in
/-- The unmasked loop's tail, which has no trip. -/
@[sl_loop] def loopInv_k0_t4 (v2 : IVec S1x128 1) (v8 : IVec S1x128 1) (v10 : FVec F S384x128 .bf16) (v12 : FVec F S384x128 .bf16) (v23 : FVec F S768x128 .bf16) (v34 : FVec F S384x768 .f32) (v52 : BitVec 32) (init : Acc F) :
    LoopInvTy_k0_t4 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 v2 v8 v10 v12 v23 v34 v52 init where
  inv k acc := iprop(⌜acc = init⌝)
  step k acc := absurd k.isLt (by
    have h : Scf.trips (k0_t4_loop i).lb (k0_t4_loop i).ub (k0_t4_loop i).st = 0 := k0_t4_trips i
    omega)

/-- The masked loop takes the state `(init, y9, y13)` through all its trips. -/
theorem loop1 {β : Type} {kk : Acc F → Prog (TpuEff nD τ sig (Elt F) Λ₀ .tc) β} {Q : β → sProp 𝕄} (arg1 : BitVec 32) (v2 : IVec S1x128 1) (v8 : IVec S1x128 1) (v10 : FVec F S384x128 .bf16) (v12 : FVec F S384x128 .bf16) (v23 : FVec F S768x128 .bf16) (v27 : IVec S384x1 32) (v34 : FVec F S384x768 .f32) (y9 : Vec F S4224x128 .f32) (y13 : Vec F S1x11x2x384 .f32) (init : Acc F) :
    Res (F := F) c arg2 arg5 arg6 arg7 arg9 arg13 X2 X5 X6 X7 y9 y13
      ⊢ iprop((∀ acc, (⌜acc = (run1 i ⟨arg2.view.read (Elt F) X2, arg5.view.read (Elt F) X5, arg6.view.read (Elt F) X6, arg7.view.read (Elt F) X7, arg1, v2, v8, v10, v12, v23, v27, v34⟩ (init, y9, y13)).1⌝ ∗ Res (F := F) c arg2 arg5 arg6 arg7 arg9 arg13 X2 X5 X6 X7 (run1 i ⟨arg2.view.read (Elt F) X2, arg5.view.read (Elt F) X5, arg6.view.read (Elt F) X6, arg7.view.read (Elt F) X7, arg1, v2, v8, v10, v12, v23, v27, v34⟩ (init, y9, y13)).2.1 (run1 i ⟨arg2.view.read (Elt F) X2, arg5.view.read (Elt F) X5, arg6.view.read (Elt F) X6, arg7.view.read (Elt F) X7, arg1, v2, v8, v10, v12, v23, v27, v34⟩ (init, y9, y13)).2.2)
          -∗ wp frame (wpE (defs₀ (F := F)) Variants.none (c : Thread nD τ) none) Set.univ (kk acc) Q)
        -∗ wp frame (wpE (defs₀ (F := F)) Variants.none (c : Thread nD τ) none) Set.univ (Scf.Loop.for (k0_t1_loop i) (k0_t1_ok i) init (k0_t1_body (F := F) i arg2 harg2 arg3 harg3 arg4 harg4 arg5 harg5 arg6 harg6 arg7 harg7 arg8 harg8 arg9 harg9 arg10 harg10 arg11 harg11 arg12 harg12 arg13 harg13 arg1 v2 v8 v10 v12 v23 v27 v34) >>= kk) Q) := by
  iintro ⟨H2, H5, H6, H7, ⟨%f9, H9, %h9⟩, ⟨%f13, H13, %h13⟩⟩ HK
  subst h9 h13
  rw [run1_eq]
  have hin : (iprop(Res (F := F) c arg2 arg5 arg6 arg7 arg9 arg13 X2 X5 X6 X7 (runN (step1 i ⟨arg2.view.read (Elt F) X2, arg5.view.read (Elt F) X5, arg6.view.read (Elt F) X6, arg7.view.read (Elt F) X7, arg1, v2, v8, v10, v12, v23, v27, v34⟩) (init, arg9.view.read (Elt F) f9, arg13.view.read (Elt F) f13) 0).2.1 (runN (step1 i ⟨arg2.view.read (Elt F) X2, arg5.view.read (Elt F) X5, arg6.view.read (Elt F) X6, arg7.view.read (Elt F) X7, arg1, v2, v8, v10, v12, v23, v27, v34⟩) (init, arg9.view.read (Elt F) f9, arg13.view.read (Elt F) f13) 0).2.2 ∗ ⌜init = (runN (step1 i ⟨arg2.view.read (Elt F) X2, arg5.view.read (Elt F) X5, arg6.view.read (Elt F) X6, arg7.view.read (Elt F) X7, arg1, v2, v8, v10, v12, v23, v27, v34⟩) (init, arg9.view.read (Elt F) f9, arg13.view.read (Elt F) f13) 0).1⌝) : sProp 𝕄)
      ⊢ (loopInv_k0_t1 (F := F) c i arg2 harg2 arg3 harg3 arg4 harg4 arg5 harg5 arg6 harg6 arg7 harg7 arg8 harg8 arg9 harg9 arg10 harg10 arg11 harg11 arg12 harg12 arg13 harg13 X2 X5 X6 X7 arg1 v2 v8 v10 v12 v23 v27 v34 f9 f13 init).inv 0 init := .rfl
  have hout (acc : Acc F) : (loopInv_k0_t1 (F := F) c i arg2 harg2 arg3 harg3 arg4 harg4 arg5 harg5 arg6 harg6 arg7 harg7 arg8 harg8 arg9 harg9 arg10 harg10 arg11 harg11 arg12 harg12 arg13 harg13 X2 X5 X6 X7 arg1 v2 v8 v10 v12 v23 v27 v34 f9 f13 init).inv (k0_t1_loop i).trips acc
      ⊢ (iprop(Res (F := F) c arg2 arg5 arg6 arg7 arg9 arg13 X2 X5 X6 X7 (runN (step1 i ⟨arg2.view.read (Elt F) X2, arg5.view.read (Elt F) X5, arg6.view.read (Elt F) X6, arg7.view.read (Elt F) X7, arg1, v2, v8, v10, v12, v23, v27, v34⟩) (init, arg9.view.read (Elt F) f9, arg13.view.read (Elt F) f13) (k0_t1_loop i).trips).2.1 (runN (step1 i ⟨arg2.view.read (Elt F) X2, arg5.view.read (Elt F) X5, arg6.view.read (Elt F) X6, arg7.view.read (Elt F) X7, arg1, v2, v8, v10, v12, v23, v27, v34⟩) (init, arg9.view.read (Elt F) f9, arg13.view.read (Elt F) f13) (k0_t1_loop i).trips).2.2 ∗ ⌜acc = (runN (step1 i ⟨arg2.view.read (Elt F) X2, arg5.view.read (Elt F) X5, arg6.view.read (Elt F) X6, arg7.view.read (Elt F) X7, arg1, v2, v8, v10, v12, v23, v27, v34⟩) (init, arg9.view.read (Elt F) f9, arg13.view.read (Elt F) f13) (k0_t1_loop i).trips).1⌝) : sProp 𝕄) := .rfl
  iapply (exec_loop _ _ _ _ _ _ _ _ _ (loopInv_k0_t1 (F := F) c i arg2 harg2 arg3 harg3 arg4 harg4 arg5 harg5 arg6 harg6 arg7 harg7 arg8 harg8 arg9 harg9 arg10 harg10 arg11 harg11 arg12 harg12 arg13 harg13 X2 X5 X6 X7 arg1 v2 v8 v10 v12 v23 v27 v34 f9 f13 init)) $$ [H2 H5 H6 H7 H9 H13]
  · iapply hin
    isplitl
    · isplitl [H2]; · iexact H2
      isplitl [H5]; · iexact H5
      isplitl [H6]; · iexact H6
      isplitl [H7]; · iexact H7
      isplitl [H9]
      · iexists f9; isplitl [H9]; · iexact H9
        ipureintro; rw [runN_zero]
      · iexists f13; isplitl [H13]; · iexact H13
        ipureintro; rw [runN_zero]
    · ipureintro; rw [runN_zero]
  iintro %acc HI
  ihave HI := (hout acc) $$ HI
  icases HI with ⟨HR, %e⟩
  iapply HK
  isplitr; · ipureintro; exact e
  iexact HR

/-- The unmasked loop takes the state `(init, y9, y13)` through all its trips. -/
theorem loop3 {β : Type} {kk : Acc F → Prog (TpuEff nD τ sig (Elt F) Λ₀ .tc) β} {Q : β → sProp 𝕄} (v2 : IVec S1x128 1) (v8 : IVec S1x128 1) (v10 : FVec F S384x128 .bf16) (v12 : FVec F S384x128 .bf16) (v23 : FVec F S768x128 .bf16) (v34 : FVec F S384x768 .f32) (v40 : BitVec 32) (y9 : Vec F S4224x128 .f32) (y13 : Vec F S1x11x2x384 .f32) (init : Acc F) :
    Res (F := F) c arg2 arg5 arg6 arg7 arg9 arg13 X2 X5 X6 X7 y9 y13
      ⊢ iprop((∀ acc, (⌜acc = (run3 i ⟨arg2.view.read (Elt F) X2, arg5.view.read (Elt F) X5, arg6.view.read (Elt F) X6, arg7.view.read (Elt F) X7, 0#32, v2, v8, v10, v12, v23, fun _ => 0#32, v34⟩ (init, y9, y13)).1⌝ ∗ Res (F := F) c arg2 arg5 arg6 arg7 arg9 arg13 X2 X5 X6 X7 (run3 i ⟨arg2.view.read (Elt F) X2, arg5.view.read (Elt F) X5, arg6.view.read (Elt F) X6, arg7.view.read (Elt F) X7, 0#32, v2, v8, v10, v12, v23, fun _ => 0#32, v34⟩ (init, y9, y13)).2.1 (run3 i ⟨arg2.view.read (Elt F) X2, arg5.view.read (Elt F) X5, arg6.view.read (Elt F) X6, arg7.view.read (Elt F) X7, 0#32, v2, v8, v10, v12, v23, fun _ => 0#32, v34⟩ (init, y9, y13)).2.2)
          -∗ wp frame (wpE (defs₀ (F := F)) Variants.none (c : Thread nD τ) none) Set.univ (kk acc) Q)
        -∗ wp frame (wpE (defs₀ (F := F)) Variants.none (c : Thread nD τ) none) Set.univ (Scf.Loop.for (k0_t3_loop i) (k0_t3_ok i) init (k0_t3_body (F := F) i arg2 harg2 arg3 harg3 arg4 harg4 arg5 harg5 arg6 harg6 arg7 harg7 arg8 harg8 arg9 harg9 arg10 harg10 arg11 harg11 arg12 harg12 arg13 harg13 v2 v8 v10 v12 v23 v34 v40) >>= kk) Q) := by
  iintro ⟨H2, H5, H6, H7, ⟨%f9, H9, %h9⟩, ⟨%f13, H13, %h13⟩⟩ HK
  subst h9 h13
  rw [run3_eq]
  have hin : (iprop(Res (F := F) c arg2 arg5 arg6 arg7 arg9 arg13 X2 X5 X6 X7 (runN (step3 i ⟨arg2.view.read (Elt F) X2, arg5.view.read (Elt F) X5, arg6.view.read (Elt F) X6, arg7.view.read (Elt F) X7, 0#32, v2, v8, v10, v12, v23, fun _ => 0#32, v34⟩) (init, arg9.view.read (Elt F) f9, arg13.view.read (Elt F) f13) 0).2.1 (runN (step3 i ⟨arg2.view.read (Elt F) X2, arg5.view.read (Elt F) X5, arg6.view.read (Elt F) X6, arg7.view.read (Elt F) X7, 0#32, v2, v8, v10, v12, v23, fun _ => 0#32, v34⟩) (init, arg9.view.read (Elt F) f9, arg13.view.read (Elt F) f13) 0).2.2 ∗ ⌜init = (runN (step3 i ⟨arg2.view.read (Elt F) X2, arg5.view.read (Elt F) X5, arg6.view.read (Elt F) X6, arg7.view.read (Elt F) X7, 0#32, v2, v8, v10, v12, v23, fun _ => 0#32, v34⟩) (init, arg9.view.read (Elt F) f9, arg13.view.read (Elt F) f13) 0).1⌝) : sProp 𝕄)
      ⊢ (loopInv_k0_t3 (F := F) c i arg2 harg2 arg3 harg3 arg4 harg4 arg5 harg5 arg6 harg6 arg7 harg7 arg8 harg8 arg9 harg9 arg10 harg10 arg11 harg11 arg12 harg12 arg13 harg13 X2 X5 X6 X7 v2 v8 v10 v12 v23 v34 v40 f9 f13 init).inv 0 init := .rfl
  have hout (acc : Acc F) : (loopInv_k0_t3 (F := F) c i arg2 harg2 arg3 harg3 arg4 harg4 arg5 harg5 arg6 harg6 arg7 harg7 arg8 harg8 arg9 harg9 arg10 harg10 arg11 harg11 arg12 harg12 arg13 harg13 X2 X5 X6 X7 v2 v8 v10 v12 v23 v34 v40 f9 f13 init).inv (k0_t3_loop i).trips acc
      ⊢ (iprop(Res (F := F) c arg2 arg5 arg6 arg7 arg9 arg13 X2 X5 X6 X7 (runN (step3 i ⟨arg2.view.read (Elt F) X2, arg5.view.read (Elt F) X5, arg6.view.read (Elt F) X6, arg7.view.read (Elt F) X7, 0#32, v2, v8, v10, v12, v23, fun _ => 0#32, v34⟩) (init, arg9.view.read (Elt F) f9, arg13.view.read (Elt F) f13) (k0_t3_loop i).trips).2.1 (runN (step3 i ⟨arg2.view.read (Elt F) X2, arg5.view.read (Elt F) X5, arg6.view.read (Elt F) X6, arg7.view.read (Elt F) X7, 0#32, v2, v8, v10, v12, v23, fun _ => 0#32, v34⟩) (init, arg9.view.read (Elt F) f9, arg13.view.read (Elt F) f13) (k0_t3_loop i).trips).2.2 ∗ ⌜acc = (runN (step3 i ⟨arg2.view.read (Elt F) X2, arg5.view.read (Elt F) X5, arg6.view.read (Elt F) X6, arg7.view.read (Elt F) X7, 0#32, v2, v8, v10, v12, v23, fun _ => 0#32, v34⟩) (init, arg9.view.read (Elt F) f9, arg13.view.read (Elt F) f13) (k0_t3_loop i).trips).1⌝) : sProp 𝕄) := .rfl
  iapply (exec_loop _ _ _ _ _ _ _ _ _ (loopInv_k0_t3 (F := F) c i arg2 harg2 arg3 harg3 arg4 harg4 arg5 harg5 arg6 harg6 arg7 harg7 arg8 harg8 arg9 harg9 arg10 harg10 arg11 harg11 arg12 harg12 arg13 harg13 X2 X5 X6 X7 v2 v8 v10 v12 v23 v34 v40 f9 f13 init)) $$ [H2 H5 H6 H7 H9 H13]
  · iapply hin
    isplitl
    · isplitl [H2]; · iexact H2
      isplitl [H5]; · iexact H5
      isplitl [H6]; · iexact H6
      isplitl [H7]; · iexact H7
      isplitl [H9]
      · iexists f9; isplitl [H9]; · iexact H9
        ipureintro; rw [runN_zero]
      · iexists f13; isplitl [H13]; · iexact H13
        ipureintro; rw [runN_zero]
    · ipureintro; rw [runN_zero]
  iintro %acc HI
  ihave HI := (hout acc) $$ HI
  icases HI with ⟨HR, %e⟩
  iapply HK
  isplitr; · ipureintro; exact e
  iexact HR

/-- The tail of the masked loop does nothing. -/
theorem loop2 {β : Type} {kk : Acc F → Prog (TpuEff nD τ sig (Elt F) Λ₀ .tc) β} {Q : β → sProp 𝕄} (v2 : IVec S1x128 1) (v8 : IVec S1x128 1) (v10 : FVec F S384x128 .bf16) (v12 : FVec F S384x128 .bf16) (v23 : FVec F S768x128 .bf16) (v27 : IVec S384x1 32) (v34 : FVec F S384x768 .f32) (v45 : BitVec 32) (init : Acc F) :
    wp frame (wpE (defs₀ (F := F)) Variants.none (c : Thread nD τ) none) Set.univ (kk init) Q
      ⊢ wp frame (wpE (defs₀ (F := F)) Variants.none (c : Thread nD τ) none) Set.univ (Scf.Loop.for (k0_t2_loop i) (k0_t2_ok i) init (k0_t2_body (F := F) i arg2 harg2 arg3 harg3 arg4 harg4 arg5 harg5 arg6 harg6 arg7 harg7 arg8 harg8 arg9 harg9 arg10 harg10 arg11 harg11 arg12 harg12 arg13 harg13 v2 v8 v10 v12 v23 v27 v34 v45) >>= kk) Q := by
  iintro HK
  have hin : (iprop(⌜init = init⌝) : sProp 𝕄) ⊢ (loopInv_k0_t2 (F := F) c i arg2 harg2 arg3 harg3 arg4 harg4 arg5 harg5 arg6 harg6 arg7 harg7 arg8 harg8 arg9 harg9 arg10 harg10 arg11 harg11 arg12 harg12 arg13 harg13 v2 v8 v10 v12 v23 v27 v34 v45 init).inv 0 init := .rfl
  have hout (acc : Acc F) : (loopInv_k0_t2 (F := F) c i arg2 harg2 arg3 harg3 arg4 harg4 arg5 harg5 arg6 harg6 arg7 harg7 arg8 harg8 arg9 harg9 arg10 harg10 arg11 harg11 arg12 harg12 arg13 harg13 v2 v8 v10 v12 v23 v27 v34 v45 init).inv (k0_t2_loop i).trips acc ⊢ (iprop(⌜acc = init⌝) : sProp 𝕄) := .rfl
  iapply (exec_loop _ _ _ _ _ _ _ _ _ (loopInv_k0_t2 (F := F) c i arg2 harg2 arg3 harg3 arg4 harg4 arg5 harg5 arg6 harg6 arg7 harg7 arg8 harg8 arg9 harg9 arg10 harg10 arg11 harg11 arg12 harg12 arg13 harg13 v2 v8 v10 v12 v23 v27 v34 v45 init)) $$ []
  · iapply hin
    ipureintro; rfl
  iintro %acc HI
  ihave HI := (hout acc) $$ HI
  icases HI with %e
  subst e
  iexact HK

/-- The tail of the unmasked loop does nothing. -/
theorem loop4 {β : Type} {kk : Acc F → Prog (TpuEff nD τ sig (Elt F) Λ₀ .tc) β} {Q : β → sProp 𝕄} (v2 : IVec S1x128 1) (v8 : IVec S1x128 1) (v10 : FVec F S384x128 .bf16) (v12 : FVec F S384x128 .bf16) (v23 : FVec F S768x128 .bf16) (v34 : FVec F S384x768 .f32) (v52 : BitVec 32) (init : Acc F) :
    wp frame (wpE (defs₀ (F := F)) Variants.none (c : Thread nD τ) none) Set.univ (kk init) Q
      ⊢ wp frame (wpE (defs₀ (F := F)) Variants.none (c : Thread nD τ) none) Set.univ (Scf.Loop.for (k0_t4_loop i) (k0_t4_ok i) init (k0_t4_body (F := F) i arg2 harg2 arg3 harg3 arg4 harg4 arg5 harg5 arg6 harg6 arg7 harg7 arg8 harg8 arg9 harg9 arg10 harg10 arg11 harg11 arg12 harg12 arg13 harg13 v2 v8 v10 v12 v23 v34 v52) >>= kk) Q := by
  iintro HK
  have hin : (iprop(⌜init = init⌝) : sProp 𝕄) ⊢ (loopInv_k0_t4 (F := F) c i arg2 harg2 arg3 harg3 arg4 harg4 arg5 harg5 arg6 harg6 arg7 harg7 arg8 harg8 arg9 harg9 arg10 harg10 arg11 harg11 arg12 harg12 arg13 harg13 v2 v8 v10 v12 v23 v34 v52 init).inv 0 init := .rfl
  have hout (acc : Acc F) : (loopInv_k0_t4 (F := F) c i arg2 harg2 arg3 harg3 arg4 harg4 arg5 harg5 arg6 harg6 arg7 harg7 arg8 harg8 arg9 harg9 arg10 harg10 arg11 harg11 arg12 harg12 arg13 harg13 v2 v8 v10 v12 v23 v34 v52 init).inv (k0_t4_loop i).trips acc ⊢ (iprop(⌜acc = init⌝) : sProp 𝕄) := .rfl
  iapply (exec_loop _ _ _ _ _ _ _ _ _ (loopInv_k0_t4 (F := F) c i arg2 harg2 arg3 harg3 arg4 harg4 arg5 harg5 arg6 harg6 arg7 harg7 arg8 harg8 arg9 harg9 arg10 harg10 arg11 harg11 arg12 harg12 arg13 harg13 v2 v8 v10 v12 v23 v34 v52 init)) $$ []
  · iapply hin
    ipureintro; rfl
  iintro %acc HI
  ihave HI := (hout acc) $$ HI
  icases HI with %e
  subst e
  iexact HK

end run

end Cert.KernelIdeal.Hand
-- ==== Proof.IdealPoint.lean ====
module

public import proofs.«01_k».proof.Proof.IdealLoops
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the runs below. -/
local notation "𝕄" => MT nD τ sig Unit (Elt F) ℕ (UR sig nD τ) ℕ

/-! ## One grid point, as a function of the values -/

/-- The point zeroes its dq and dcq blocks exactly when it is the first of its pair of heads. -/
def guard (i : grid0.Coords) : Prop :=
  Scalar.cmpi .ne (Scalar.extui (Scalar.cmpi .eq (BitVec.ofNat 32 (i 1).val) 0#32) : BitVec 32) 0#32 = 1#1

/-- The fixed values of point `i`, from its seven input blocks. -/
def cx (i : grid0.Coords) (x2 : Vec F S4224x128 .bf16) (x3 x4 : Vec F S384x128 .bf16) (x5 : Vec F S4224x128 .bf16)
    (x6 x7 : Vec F S1x11x2x384 .f32) (x8 : Vec F S384x256 .f32) : Cx F :=
  ⟨x2, x5, x6, x7, BitVec.ofNat 32 (i 1).val, k0_pay72, k0_pay75, k0_pay76 x3, k0_pay77 x4, k0_pay78 x3, k0_pay79 i, k0_pay80 x8⟩

/-- The same without what the unmasked loop does not read. -/
def Cx.plain (x : Cx F) : Cx F := ⟨x.q, x.d, x.lse, x.del, 0#32, x.v2, x.v8, x.v10, x.v12, x.v23, fun _ => 0#32, x.v34⟩

/-- The state point `i` ends in, from the dq and dcq blocks `y9`, `y13` its loops start from. -/
def fin (i : grid0.Coords) (x : Cx F) (y9 : Vec F S4224x128 .f32) (y13 : Vec F S1x11x2x384 .f32) : St F :=
  run3 i x.plain (run1 i x ((k0_pay82 (F := F), k0_pay83 (F := F), k0_pay81 (F := F), k0_pay81 (F := F)), y9, y13))

section run
variable (c : Dev nD) (i : grid0.Coords)
  (arg2 : Memref sig .tc .vmem S4224x128 .bf16) (harg2 : arg2.IsWhole)
  (arg3 : Memref sig .tc .vmem S384x128 .bf16) (harg3 : arg3.IsWhole)
  (arg4 : Memref sig .tc .vmem S384x128 .bf16) (harg4 : arg4.IsWhole)
  (arg5 : Memref sig .tc .vmem S4224x128 .bf16) (harg5 : arg5.IsWhole)
  (arg6 : Memref sig .tc .vmem S1x11x2x384 .f32) (harg6 : arg6.IsWhole)
  (arg7 : Memref sig .tc .vmem S1x11x2x384 .f32) (harg7 : arg7.IsWhole)
  (arg8 : Memref sig .tc .vmem S384x256 .f32) (harg8 : arg8.IsWhole)
  (arg9 : Memref sig .tc .vmem S4224x128 .f32) (harg9 : arg9.IsWhole)
  (arg10 : Memref sig .tc .vmem S384x128 .bf16) (harg10 : arg10.IsWhole)
  (arg11 : Memref sig .tc .vmem S384x128 .bf16) (harg11 : arg11.IsWhole)
  (arg12 : Memref sig .tc .vmem S384x128 .f32) (harg12 : arg12.IsWhole)
  (arg13 : Memref sig .tc .vmem S1x11x2x384 .f32) (harg13 : arg13.IsWhole)

variable (x2 : Vec F S4224x128 .bf16) (x3 x4 : Vec F S384x128 .bf16) (x5 : Vec F S4224x128 .bf16)
    (x6 x7 : Vec F S1x11x2x384 .f32) (x8 : Vec F S384x256 .f32)

set_option maxHeartbeats 1000000 in
/-- A point that is not the first of its pair adds to the dq and dcq blocks it finds and writes its own dk, dv and dck blocks. -/
theorem body_acc (hg : ¬ guard i) (y9 : Vec F S4224x128 .f32) (y13 : Vec F S1x11x2x384 .f32) (d10 d11 : Vec F S384x128 .bf16) (d12 : Vec F S384x128 .f32) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ owns (c : Thread nD τ) arg9 fullShare y9 ∗ owns (c : Thread nD τ) arg10 fullShare d10 ∗ owns (c : Thread nD τ) arg11 fullShare d11 ∗ owns (c : Thread nD τ) arg12 fullShare d12 ∗ owns (c : Thread nD τ) arg13 fullShare y13) : sProp 𝕄)
      ⊢ wp frame (wpE (defs₀ (F := F)) Variants.none (c : Thread nD τ) none) Set.univ
          (cc0_fox_bwd (F := F) i arg2 harg2 arg3 harg3 arg4 harg4 arg5 harg5 arg6 harg6 arg7 harg7 arg8 harg8 arg9 harg9 arg10 harg10 arg11 harg11 arg12 harg12 arg13 harg13)
          (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg9 fullShare (fin i (cx i x2 x3 x4 x5 x6 x7 x8) y9 y13).2.1 ∗ owns (c : Thread nD τ) arg10 fullShare (k0_pay13 (fin i (cx i x2 x3 x4 x5 x6 x7 x8) y9 y13).1.1)
            ∗ owns (c : Thread nD τ) arg11 fullShare (k0_pay14 (fin i (cx i x2 x3 x4 x5 x6 x7 x8) y9 y13).1.2.1)
            ∗ owns (c : Thread nD τ) arg12 fullShare (k0_pay15 k0_pay72 (fin i (cx i x2 x3 x4 x5 x6 x7 x8) y9 y13).1.2.2.1 (fin i (cx i x2 x3 x4 x5 x6 x7 x8) y9 y13).1.2.2.2)
            ∗ owns (c : Thread nD τ) arg13 fullShare (fin i (cx i x2 x3 x4 x5 x6 x7 x8) y9 y13).2.2)) := by
  simp only [cc0_fox_bwd_eq_skeleton, k0_part9_eq_skeleton]; unfold cc0_fox_bwd_skel
  rw [k0_part9_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  unfold guard at hg
  sl_exec (disch := sl_exact hg)
  iapply (loop1 (F := F) c i arg2 harg2 arg3 harg3 arg4 harg4 arg5 harg5 arg6 harg6 arg7 harg7 arg8 harg8 arg9 harg9 arg10 harg10 arg11 harg11 arg12 harg12 arg13 harg13 f2 f5 f6 f7 _ _ _ _ _ _ _ _ (arg9.view.read (Elt F) f9) (arg13.view.read (Elt F) f13) _) $$ [H2 H5 H6 H7 H9 H13]
  · isplitl [H2]; · iexact H2
    isplitl [H5]; · iexact H5
    isplitl [H6]; · iexact H6
    isplitl [H7]; · iexact H7
    isplitl [H9]
    · iexists _; isplitl [H9]; · iexact H9
      ipureintro; rfl
    · iexists _; isplitl [H13]; · iexact H13
      ipureintro; rfl
  iintro %acc1 ⟨%ea1, HR⟩
  iapply (loop2 (F := F) c i arg2 harg2 arg3 harg3 arg4 harg4 arg5 harg5 arg6 harg6 arg7 harg7 arg8 harg8 arg9 harg9 arg10 harg10 arg11 harg11 arg12 harg12 arg13 harg13)
  iapply (loop3 (F := F) c i arg2 harg2 arg3 harg3 arg4 harg4 arg5 harg5 arg6 harg6 arg7 harg7 arg8 harg8 arg9 harg9 arg10 harg10 arg11 harg11 arg12 harg12 arg13 harg13 f2 f5 f6 f7 _ _ _ _ _ _ _ _ _ _) $$ [HR]
  · iexact HR
  iintro %acc3 ⟨%ea3, HR⟩
  iapply (loop4 (F := F) c i arg2 harg2 arg3 harg3 arg4 harg4 arg5 harg5 arg6 harg6 arg7 harg7 arg8 harg8 arg9 harg9 arg10 harg10 arg11 harg11 arg12 harg12 arg13 harg13)
  icases HR with ⟨H2, H5, H6, H7, ⟨%g9, H9, %e9⟩, ⟨%g13, H13, %e13⟩⟩
  sl_exec
  sl_step
  have r0 : body_acc.sl.r c arg3 f3 = k0_pay76 (arg3.view.read (Elt F) f3) := by unfold body_acc.sl.r; rw [View.readAt_full]
  have r1 : body_acc.sl.r_1 c arg4 f4 = k0_pay77 (arg4.view.read (Elt F) f4) := by unfold body_acc.sl.r_1; rw [View.readAt_full]
  have r2 : body_acc.sl.r_2 c arg3 f3 = k0_pay78 (arg3.view.read (Elt F) f3) := by unfold body_acc.sl.r_2; rw [View.readAt_full]
  have r3 : body_acc.sl.r_3 c arg8 f8 = k0_pay80 (arg8.view.read (Elt F) f8) := by unfold body_acc.sl.r_3; rw [View.readAt_full]
  rw [r0, r1, r2, r3] at ea1
  rw [r0, r1, r2, r3] at ea3
  rw [r0, r1, r2, r3] at e9
  rw [r0, r1, r2, r3] at e13
  subst h2 h3 h4 h5 h6 h7 h8 h9 h13
  subst ea1
  have ef : acc3 = (fin i (cx i (arg2.view.read (Elt F) f2) (arg3.view.read (Elt F) f3) (arg4.view.read (Elt F) f4) (arg5.view.read (Elt F) f5) (arg6.view.read (Elt F) f6) (arg7.view.read (Elt F) f7) (arg8.view.read (Elt F) f8)) (arg9.view.read (Elt F) f9) (arg13.view.read (Elt F) f13)).1 := ea3
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]; · iexists _; isplitr; · ipureintro; exact e9
                  iexact H9
  isplitl [H10]; · iexists _; isplitr; rotate_left; · iexact H10
                   ipureintro; rw [← ef]; exact View.read_writes_full _ _ _ _ _
  isplitl [H11]; · iexists _; isplitr; rotate_left; · iexact H11
                   ipureintro; rw [← ef]; exact View.read_writes_full _ _ _ _ _
  isplitl [H12]; · iexists _; isplitr; rotate_left; · iexact H12
                   ipureintro; rw [← ef]; exact View.read_writes_full _ _ _ _ _
  iexists _; isplitr; · ipureintro; exact e13
  iexact H13

set_option maxHeartbeats 1000000 in
/-- The first point of a pair adds to zero dq and dcq blocks, whatever it finds, and writes its own dk, dv and dck blocks. -/
theorem body_reset (hg : guard i) (d9 : Vec F S4224x128 .f32) (d13 : Vec F S1x11x2x384 .f32) (d10 d11 : Vec F S384x128 .bf16) (d12 : Vec F S384x128 .f32) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13) : sProp 𝕄)
      ⊢ wp frame (wpE (defs₀ (F := F)) Variants.none (c : Thread nD τ) none) Set.univ
          (cc0_fox_bwd (F := F) i arg2 harg2 arg3 harg3 arg4 harg4 arg5 harg5 arg6 harg6 arg7 harg7 arg8 harg8 arg9 harg9 arg10 harg10 arg11 harg11 arg12 harg12 arg13 harg13)
          (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg9 fullShare (fin i (cx i x2 x3 x4 x5 x6 x7 x8) k0_pay73 k0_pay74).2.1 ∗ owns (c : Thread nD τ) arg10 fullShare (k0_pay13 (fin i (cx i x2 x3 x4 x5 x6 x7 x8) k0_pay73 k0_pay74).1.1)
            ∗ owns (c : Thread nD τ) arg11 fullShare (k0_pay14 (fin i (cx i x2 x3 x4 x5 x6 x7 x8) k0_pay73 k0_pay74).1.2.1)
            ∗ owns (c : Thread nD τ) arg12 fullShare (k0_pay15 k0_pay72 (fin i (cx i x2 x3 x4 x5 x6 x7 x8) k0_pay73 k0_pay74).1.2.2.1 (fin i (cx i x2 x3 x4 x5 x6 x7 x8) k0_pay73 k0_pay74).1.2.2.2)
            ∗ owns (c : Thread nD τ) arg13 fullShare (fin i (cx i x2 x3 x4 x5 x6 x7 x8) k0_pay73 k0_pay74).2.2)) := by
  simp only [cc0_fox_bwd_eq_skeleton, k0_part9_eq_skeleton]; unfold cc0_fox_bwd_skel
  rw [k0_part9_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  unfold guard at hg
  sl_exec (disch := sl_exact hg)
  iapply (loop1 (F := F) c i arg2 harg2 arg3 harg3 arg4 harg4 arg5 harg5 arg6 harg6 arg7 harg7 arg8 harg8 arg9 harg9 arg10 harg10 arg11 harg11 arg12 harg12 arg13 harg13 f2 f5 f6 f7 _ _ _ _ _ _ _ _ k0_pay73 k0_pay74 _) $$ [H2 H5 H6 H7 H9 H13]
  · isplitl [H2]; · iexact H2
    isplitl [H5]; · iexact H5
    isplitl [H6]; · iexact H6
    isplitl [H7]; · iexact H7
    isplitl [H9]
    · iexists _; isplitl [H9]; · iexact H9
      ipureintro; exact View.read_writes_full _ _ _ _ _
    · iexists _; isplitl [H13]; · iexact H13
      ipureintro; exact View.read_writes_full _ _ _ _ _
  iintro %acc1 ⟨%ea1, HR⟩
  iapply (loop2 (F := F) c i arg2 harg2 arg3 harg3 arg4 harg4 arg5 harg5 arg6 harg6 arg7 harg7 arg8 harg8 arg9 harg9 arg10 harg10 arg11 harg11 arg12 harg12 arg13 harg13)
  iapply (loop3 (F := F) c i arg2 harg2 arg3 harg3 arg4 harg4 arg5 harg5 arg6 harg6 arg7 harg7 arg8 harg8 arg9 harg9 arg10 harg10 arg11 harg11 arg12 harg12 arg13 harg13 f2 f5 f6 f7 _ _ _ _ _ _ _ _ _ _) $$ [HR]
  · iexact HR
  iintro %acc3 ⟨%ea3, HR⟩
  iapply (loop4 (F := F) c i arg2 harg2 arg3 harg3 arg4 harg4 arg5 harg5 arg6 harg6 arg7 harg7 arg8 harg8 arg9 harg9 arg10 harg10 arg11 harg11 arg12 harg12 arg13 harg13)
  icases HR with ⟨H2, H5, H6, H7, ⟨%g9, H9, %e9⟩, ⟨%g13, H13, %e13⟩⟩
  sl_exec
  sl_step
  have r0 : body_reset.sl.r c arg3 f3 = k0_pay76 (arg3.view.read (Elt F) f3) := by unfold body_reset.sl.r; rw [View.readAt_full]
  have r1 : body_reset.sl.r_1 c arg4 f4 = k0_pay77 (arg4.view.read (Elt F) f4) := by unfold body_reset.sl.r_1; rw [View.readAt_full]
  have r2 : body_reset.sl.r_2 c arg3 f3 = k0_pay78 (arg3.view.read (Elt F) f3) := by unfold body_reset.sl.r_2; rw [View.readAt_full]
  have r3 : body_reset.sl.r_3 c arg8 f8 = k0_pay80 (arg8.view.read (Elt F) f8) := by unfold body_reset.sl.r_3; rw [View.readAt_full]
  rw [r0, r1, r2, r3] at ea1
  rw [r0, r1, r2, r3] at ea3
  rw [r0, r1, r2, r3] at e9
  rw [r0, r1, r2, r3] at e13
  subst h2 h3 h4 h5 h6 h7 h8 h9 h13
  subst ea1
  have ef : acc3 = (fin i (cx i (arg2.view.read (Elt F) f2) (arg3.view.read (Elt F) f3) (arg4.view.read (Elt F) f4) (arg5.view.read (Elt F) f5) (arg6.view.read (Elt F) f6) (arg7.view.read (Elt F) f7) (arg8.view.read (Elt F) f8)) k0_pay73 k0_pay74).1 := ea3
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]; · iexists _; isplitr; · ipureintro; exact e9
                  iexact H9
  isplitl [H10]; · iexists _; isplitr; rotate_left; · iexact H10
                   ipureintro; rw [← ef]; exact View.read_writes_full _ _ _ _ _
  isplitl [H11]; · iexists _; isplitr; rotate_left; · iexact H11
                   ipureintro; rw [← ef]; exact View.read_writes_full _ _ _ _ _
  isplitl [H12]; · iexists _; isplitr; rotate_left; · iexact H12
                   ipureintro; rw [← ef]; exact View.read_writes_full _ _ _ _ _
  iexists _; isplitr; · ipureintro; exact e13
  iexact H13

end run

end Cert.KernelIdeal.Hand
-- ==== Proof.IdealRun.lean ====
module

public import proofs.«01_k».proof.Proof.IdealPoint
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the points leave -/

/-- The fixed values of point `t`, read off its seven input blocks. -/
def cxAt (c : Dev nD) (t : Fin cfg0.N) : Cx F :=
  cx (grid0.coords t) (iblk m c 0 t) (iblk m c 1 t) (iblk m c 2 t) (iblk m c 3 t) (iblk m c 4 t) (iblk m c 5 t) (iblk m c 6 t)

/-- The state after point `n`: a first point of a pair starts from zero dq and dcq blocks, every other one from what the
    point before left. -/
def stateN (c : Dev nD) : (n : ℕ) → n < cfg0.N → St F
  | 0, h => fin (grid0.coords ⟨0, h⟩) (cxAt m c ⟨0, h⟩) k0_pay73 k0_pay74
  | n + 1, h =>
    if (n + 1) % 11 = 0 then fin (grid0.coords ⟨n + 1, h⟩) (cxAt m c ⟨n + 1, h⟩) k0_pay73 k0_pay74
    else fin (grid0.coords ⟨n + 1, h⟩) (cxAt m c ⟨n + 1, h⟩) (stateN c n (Nat.lt_of_succ_lt h)).2.1 (stateN c n (Nat.lt_of_succ_lt h)).2.2

/-- The state after point `t`. -/
def stateAt (c : Dev nD) (t : Fin cfg0.N) : St F := stateN m c t.val t.isLt

theorem stateAt_reset (c : Dev nD) (t : Fin cfg0.N) (h : t.val % 11 = 0) :
    stateAt m c t = fin (grid0.coords t) (cxAt m c t) k0_pay73 k0_pay74 := by
  obtain ⟨n, hn⟩ := t
  unfold stateAt
  cases n with
  | zero => rw [stateN]
  | succ n => rw [stateN]; exact if_pos h

theorem stateAt_acc (c : Dev nD) (t : Fin cfg0.N) (h : ¬ t.val % 11 = 0) :
    stateAt m c t = fin (grid0.coords t) (cxAt m c t)
      (stateAt m c ⟨t.val - 1, Nat.lt_of_le_of_lt (Nat.sub_le _ _) t.isLt⟩).2.1
      (stateAt m c ⟨t.val - 1, Nat.lt_of_le_of_lt (Nat.sub_le _ _) t.isLt⟩).2.2 := by
  obtain ⟨n, hn⟩ := t
  unfold stateAt
  cases n with
  | zero => exact absurd rfl h
  | succ n => rw [stateN]; exact if_neg h

attribute [irreducible] stateAt

/-- The points that zero their accumulators are those ≡ 0 (mod 11). -/
theorem guard_iff : ∀ t : Fin cfg0.N, guard (grid0.coords t) ↔ t.val % 11 = 0 := by
  unfold guard; decide +kernel

/-! ## The pipeline's proof data -/

/-- The arrays as the region finds them; after each point the inputs' buffers at their blocks and the results' at what the
    point's state says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (stateAt m c t).2.1
    | ⟨8, _⟩ => k0_pay13 (stateAt m c t).1.1
    | ⟨9, _⟩ => k0_pay14 (stateAt m c t).1.2.1
    | ⟨10, _⟩ => k0_pay15 k0_pay72 (stateAt m c t).1.2.2.1 (stateAt m c t).1.2.2.2
    | ⟨11, _⟩ => (stateAt m c t).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (stateAt m c t).2.1 := by dsimp only [dats]
theorem after0_8 (c : Dev nD) (t : Fin cfg0.N) : (dats m 0 c).after 8 t = k0_pay13 (stateAt m c t).1.1 := by dsimp only [dats]
theorem after0_9 (c : Dev nD) (t : Fin cfg0.N) : (dats m 0 c).after 9 t = k0_pay14 (stateAt m c t).1.2.1 := by dsimp only [dats]
theorem after0_10 (c : Dev nD) (t : Fin cfg0.N) : (dats m 0 c).after 10 t = k0_pay15 k0_pay72 (stateAt m c t).1.2.2.1 (stateAt m c t).1.2.2.2 := by dsimp only [dats]
theorem after0_11 (c : Dev nD) (t : Fin cfg0.N) : (dats m 0 c).after 11 t = (stateAt m c t).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- Within a pair of heads, result 0's buffer holds what the point before left. -/
theorem before0_7 (c : Dev nD) (t : Fin cfg0.N) (h : ¬ t.val % 11 = 0) (d) :
    (dats m 0 c).before 7 t d = (stateAt m c ⟨t.val - 1, Nat.lt_of_le_of_lt (Nat.sub_le _ _) t.isLt⟩).2.1 := by
  have h0 : t.val ≠ 0 := fun e => h (by rw [e])
  rw [Dat.before_out_kept _ 7 rfl t h0 (by
    rw [Bool.eq_false_iff]; intro e
    have := (flush0_7 _).mp e
    dsimp only at this
    omega) (fun _ => rfl) (fun _ _ => rfl) d, after0_7]

/-- Within a pair of heads, result 4's buffer holds what the point before left. -/
theorem before0_11 (c : Dev nD) (t : Fin cfg0.N) (h : ¬ t.val % 11 = 0) (d) :
    (dats m 0 c).before 11 t d = (stateAt m c ⟨t.val - 1, Nat.lt_of_le_of_lt (Nat.sub_le _ _) t.isLt⟩).2.2 := by
  have h0 : t.val ≠ 0 := fun e => h (by rw [e])
  rw [Dat.before_out_kept _ 11 rfl t h0 (by
    rw [Bool.eq_false_iff]; intro e
    have := (flush0_11 _).mp e
    dsimp only at this
    omega) (fun _ => rfl) (fun _ _ => rfl) d, after0_11]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  by_cases h : t.val % 11 = 0
  · rw [stateAt_reset m c t h]; unfold cxAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (wp_wand_r Idealize.ShloMosaic.frame (wpE (defs₀ (F := F)) Variants.none (c : Thread nD τ) none) Set.univ)
    isplitl [H0 H1 H2 H3 H4 H5 H6 H7 H8 H9 H10 H11]
    · iapply (body_reset (F := F) c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((guard_iff t).mpr h) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro %_ H
    isplitl [HΦ]; · iexact HΦ
    isplitl [Ho]; · iexact Ho
    iexact H
  · rw [stateAt_acc m c t h]; unfold cxAt
    simp only [before0_7 m c t h, before0_11 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (wp_wand_r Idealize.ShloMosaic.frame (wpE (defs₀ (F := F)) Variants.none (c : Thread nD τ) none) Set.univ)
    isplitl [H0 H1 H2 H3 H4 H5 H6 H7 H8 H9 H10 H11]
    · iapply (body_acc (F := F) c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (fun hg => h ((guard_iff t).mp hg)) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro %_ H
    isplitl [HΦ]; · iexact HΦ
    isplitl [Ho]; · iexact Ho
    iexact H

/-- The body table's row at point `t`'s buffers is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run of the program ends with the arrays at what the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.KernelIdeal.Hand
-- ==== Proof.IdealTerms.lean ====
/- The terms of one trip at the ideal numbers: every entry a trip computes, as a real number. -/
module

public import proofs.«01_k».proof.Proof.IdealPoint
public import Idealize.ShloMosaic.Lib.Pointwise
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## Real numbers inside the extended ones -/

/-- A sum of real numbers is the same in the extended reals. -/
theorem coe_sum {ι : Type} (t : Finset ι) (f : ι → ℝ) : ∑ x ∈ t, ((f x : ℝ) : EReal) = ((∑ x ∈ t, f x : ℝ) : EReal) := by
  classical
  induction t using Finset.induction_on with
  | empty => simp
  | insert a s ha ih => rw [Finset.sum_insert ha, Finset.sum_insert ha, ih, EReal.coe_add]

/-- A choice between two real numbers is the same in the extended reals. -/
theorem coe_ite' (P : Prop) [Decidable P] (x y : ℝ) : (if P then ((x : ℝ) : EReal) else ((y : ℝ) : EReal)) = ((if P then x else y : ℝ) : EReal) := by
  split <;> rfl

/-- A sum over the two heads' columns side by side, taken head by head. -/
theorem sum768 (f : ℕ → ℝ) : ∑ c : Fin 768, f c.val = ∑ r : Fin 384, f r.val + ∑ r : Fin 384, f (384 + r.val) := by
  rw [show (∑ c : Fin 768, f c.val) = ∑ c : Fin (384 + 384), f c.val from rfl, Fin.sum_univ_add]
  simp [add_comm]

/-- A choice by a decided bit is the choice by the proposition. -/
theorem sel_ofBool {α : Type} (P : Prop) [Decidable P] (x y : α) : Scalar.select (BitVec.ofBool (decide P)) x y = if P then x else y := by
  by_cases h : P <;> simp [Scalar.select, h]

/-- The mask's bit: the key row is no later than the query row and past the padding. -/
theorem mask_bit (s j k r : ℕ) (hs : s < 2 ^ 31) (hr : 384 * (j + k) + r < 2 ^ 31) :
    IntOp.andi (IntOp.cmpi .sle (BitVec.ofNat 32 s) (IntOp.addi (Scalar.muli (Scf.iv (BitVec.ofNat 32 j) 1#32 k) 384#32) (BitVec.ofNat 32 r)))
      (IntOp.cmpi .sge (BitVec.ofNat 32 s) 112#32) = BitVec.ofBool (decide (s ≤ 384 * (j + k) + r ∧ 112 ≤ s)) := by
  have h1 : IntOp.addi (Scalar.muli (Scf.iv (BitVec.ofNat 32 j) 1#32 k) 384#32) (BitVec.ofNat 32 r) = BitVec.ofNat 32 (384 * (j + k) + r) := by
    show (BitVec.ofNat 32 j + BitVec.ofNat 32 k * 1#32) * 384#32 + BitVec.ofNat 32 r = _
    apply BitVec.eq_of_toNat_eq
    simp [BitVec.toNat_add, BitVec.toNat_mul]
    ring_nf
  rw [h1, WordCmp.cmpi_sle_ofNat (by omega) (by omega), show (112#32 : BitVec 32) = BitVec.ofNat 32 112 from rfl,
    WordCmp.cmpi_sge_ofNat (by omega) (by omega), WordCmp.andi_ofBool, Bool.decide_and]

/-! ## The real numbers of one pair of heads -/

/-- The real numbers one pair of heads computes with: its 128 lanes of scaled queries `q`, incoming gradient `d`, keys `k` and
    values `v` by row and lane; its row log-sums `l`, row products `e` and key biases `c` by head and row. -/
structure Re where
  q : ℕ → ℕ → ℝ
  d : ℕ → ℕ → ℝ
  k : ℕ → ℕ → ℝ
  v : ℕ → ℕ → ℝ
  l : ℕ → ℕ → ℝ
  e : ℕ → ℕ → ℝ
  c : ℕ → ℕ → ℝ

namespace Re
variable (R : Re)

/-- The biased score of head `h` between query row `t` and key row `s`. -/
def s (h t s : ℕ) : ℝ := ∑ b : Fin 128, R.k s b.val * (if b.val / 64 = h then R.q t b.val else 0) - R.c h s
/-- Its weight: the exponential of the score less the row's log-sum where the mask admits the pair, zero elsewhere. -/
def p (h t s : ℕ) : ℝ := if s ≤ t ∧ 112 ≤ s then Real.exp (R.s h t s - R.l h t) else 0
/-- The gradient of the score. -/
def g (h t s : ℕ) : ℝ := R.p h t s * (∑ b : Fin 128, R.v s b.val * (if b.val / 64 = h then R.d t b.val else 0) - R.e h t)

end Re

/-- The values `x` a point holds are the real numbers of the pair `R` at key block `j`. -/
structure IsCx (x : Cx Ideal) (R : Re) (j : ℕ) : Prop where
  q : ∀ (t : Fin 4224) (b : Fin 128), x.q (ix2 t b) = ((R.q t.val b.val : ℝ) : EReal)
  d : ∀ (t : Fin 4224) (b : Fin 128), x.d (ix2 t b) = ((R.d t.val b.val : ℝ) : EReal)
  lse : ∀ (z : Fin 1) (n : Fin 11) (h : Fin 2) (r : Fin 384), x.lse (ix4 z n h r) = ((R.l h.val (384 * n.val + r.val) : ℝ) : EReal)
  del : ∀ (z : Fin 1) (n : Fin 11) (h : Fin 2) (r : Fin 384), x.del (ix4 z n h r) = ((R.e h.val (384 * n.val + r.val) : ℝ) : EReal)
  v2 : ∀ b : Fin 128, x.v2 (ix2 0 b) = BitVec.ofBool (decide (b.val < 64))
  v8 : ∀ b : Fin 128, x.v8 (ix2 0 b) = BitVec.ofBool (decide (b.val < 64))
  v10 : ∀ (a : Fin 384) (b : Fin 128), x.v10 (ix2 a b) = ((R.k (384 * j + a.val) b.val : ℝ) : EReal)
  v12 : ∀ (a : Fin 384) (b : Fin 128), x.v12 (ix2 a b) = ((R.v (384 * j + a.val) b.val : ℝ) : EReal)
  v23 : ∀ (c : Fin 768) (b : Fin 128), x.v23 (ix2 c b) = ((if b.val / 64 = c.val / 384 then R.k (384 * j + c.val % 384) b.val else 0 : ℝ) : EReal)
  v34 : ∀ (a : Fin 384) (c : Fin 768), x.v34 (ix2 a c) = ((R.c (c.val / 384) (384 * j + a.val) : ℝ) : EReal)

/-- What the masked loop alone reads: the number of the key block and its rows. -/
structure IsMk (x : Cx Ideal) (j : ℕ) : Prop where
  a1 : x.a1 = BitVec.ofNat 32 j
  v27 : ∀ a : Fin 384, x.v27 (ix2 a 0) = BitVec.ofNat 32 (384 * j + a.val)

variable {i : grid0.Coords} {x : Cx Ideal} {R : Re} {j : ℕ}

section masked
variable (hx : IsCx x R j) (k : Fin (k0_t1_loop i).trips) (n : ℕ) (hn : (i 1).val + k.val = n) (hn' : n < 11)
include hx hn hn'

/-- The entries of the scaled queries of the trip's block. -/
theorem eq1_at (c : Fin 768) (b : Fin 128) :
    eq1 i x k (ix2 c b) = ((if b.val / 64 = c.val / 384 then R.q (384 * n + c.val % 384) b.val else 0 : ℝ) : EReal) := by
  unfold eq1
  pointwise [k0_pay16]
  simp only [hx.v8, sel_ofBool, hx.q, k0_off1_eq]
  have hb := b.isLt
  have hc := c.isLt
  split
  · have h1 : c.val / 384 = 0 := by omega
    have h2 : c.val % 384 = c.val := by omega
    by_cases h : b.val < 64
    · simp [h, h1, h2, hn, show b.val / 64 = 0 by omega]
    · simp [h, h1, show b.val / 64 ≠ 0 by omega]
  · have h1 : c.val / 384 = 1 := by omega
    have h2 : c.val % 384 = c.val - 384 := by omega
    by_cases h : b.val < 64
    · simp [h, h1, show b.val / 64 ≠ 1 by omega]
    · simp [h, h1, h2, hn, show b.val / 64 = 1 by omega]

/-- The entries of the incoming gradient of the trip's block. -/
theorem ed1_at (c : Fin 768) (b : Fin 128) :
    ed1 i x k (ix2 c b) = ((if b.val / 64 = c.val / 384 then R.d (384 * n + c.val % 384) b.val else 0 : ℝ) : EReal) := by
  unfold ed1
  pointwise [k0_pay17]
  simp only [hx.v2, sel_ofBool, hx.d, k0_off1_eq]
  have hb := b.isLt
  have hc := c.isLt
  split
  · have h1 : c.val / 384 = 0 := by omega
    have h2 : c.val % 384 = c.val := by omega
    by_cases h : b.val < 64
    · simp [h, h1, h2, hn, show b.val / 64 = 0 by omega]
    · simp [h, h1, show b.val / 64 ≠ 0 by omega]
  · have h1 : c.val / 384 = 1 := by omega
    have h2 : c.val % 384 = c.val - 384 := by omega
    by_cases h : b.val < 64
    · simp [h, h1, show b.val / 64 ≠ 1 by omega]
    · simp [h, h1, h2, hn, show b.val / 64 = 1 by omega]

/-- The row log-sums of the trip's block. -/
theorem el1_at (c : Fin 768) : el1 i x k (ix2 0 c) = ((R.l (c.val / 384) (384 * n + c.val % 384) : ℝ) : EReal) := by
  unfold el1
  pointwise [k0_pay18]
  simp only [hx.lse, k0_off2_eq]
  have hc := c.isLt
  split
  · simp [hn, show c.val / 384 = 0 by omega, show c.val % 384 = c.val by omega]
  · simp [hn, show c.val / 384 = 1 by omega, show c.val % 384 = c.val - 384 by omega]

/-- The row products of the trip's block. -/
theorem er1_at (c : Fin 768) : er1 i x k (ix2 0 c) = ((R.e (c.val / 384) (384 * n + c.val % 384) : ℝ) : EReal) := by
  unfold er1
  pointwise [k0_pay19]
  simp only [hx.del, k0_off2_eq]
  have hc := c.isLt
  split
  · simp [hn, show c.val / 384 = 0 by omega, show c.val % 384 = c.val by omega]
  · simp [hn, show c.val / 384 = 1 by omega, show c.val % 384 = c.val - 384 by omega]

/-- The biased scores of the trip's block. -/
theorem es1_at (a : Fin 384) (c : Fin 768) :
    es1 i x k (ix2 a c) = ((R.s (c.val / 384) (384 * n + c.val % 384) (384 * j + a.val) : ℝ) : EReal) := by
  have h : es1 i x k (ix2 a c) = ∑ b : Fin 128, x.v10 (ix2 a b) * eq1 i x k (ix2 c b) - x.v34 (ix2 a c) := by
    unfold es1 eq1
    pointwise [k0_pay20]
  rw [h]
  simp only [hx.v10, hx.v34, eq1_at hx k n hn hn', ← EReal.coe_mul, coe_sum, ← EReal.coe_sub, Re.s]

variable (hm : IsMk x j) (hij : j = (i 1).val) (hj : j < 11)
include hm hij hj

/-- The masked weights of the trip's block. -/
theorem ep1_at (a : Fin 384) (c : Fin 768) :
    ep1 i x k (ix2 a c) = ((R.p (c.val / 384) (384 * n + c.val % 384) (384 * j + a.val) : ℝ) : EReal) := by
  unfold ep1
  pointwise [k0_pay21]
  simp only [hm.a1, hm.v27, el1_at hx k n hn hn', es1_at hx k n hn hn']
  have ha := a.isLt
  have hc := c.isLt
  have hk : k.val < 11 := by omega
  rw [show (Named.named κ "mask" 4048155338#32 : Ideal .f32) = (⊥ : EReal) from rfl]
  have hjk : 384 * (j + k.val) = 384 * n := by rw [hij, hn]
  have hbit : ∀ r : ℕ, r < 384 → IntOp.andi (IntOp.cmpi CmpIPredicate.sle (BitVec.ofNat 32 (384 * j + a.val))
        (IntOp.addi (Scalar.muli (Scf.iv (BitVec.ofNat 32 j) 1#32 k.val) 384#32) (BitVec.ofNat 32 r)))
      (IntOp.cmpi CmpIPredicate.sge (BitVec.ofNat 32 (384 * j + a.val)) 112#32)
      = BitVec.ofBool (decide (384 * j + a.val ≤ 384 * n + r ∧ 112 ≤ 384 * j + a.val)) := by
    intro r hr
    rw [mask_bit _ _ _ _ (by omega) (by omega), hjk]
  have hval : ∀ r : ℕ, r = c.val % 384 →
      Ideal.exp (Scalar.select (BitVec.ofBool (decide (384 * j + a.val ≤ 384 * n + r ∧ 112 ≤ 384 * j + a.val)))
          ((R.s (c.val / 384) (384 * n + c.val % 384) (384 * j + a.val) : ℝ) : EReal) (⊥ : EReal) - ((R.l (c.val / 384) (384 * n + c.val % 384) : ℝ) : EReal))
        = ((R.p (c.val / 384) (384 * n + c.val % 384) (384 * j + a.val) : ℝ) : EReal) := by
    rintro r rfl
    rw [sel_ofBool, Re.p]
    split
    · rw [← EReal.coe_sub, Ideal.exp_coe]
    · rw [EReal.bot_sub, Ideal.exp_bot]; rfl
  split
  · rw [hbit _ (by omega)]; exact hval _ (by omega)
  · rw [hbit _ (by omega)]; exact hval _ (by omega)

/-- The gradient of the scores of the trip's block. -/
theorem eg1_at (a : Fin 384) (c : Fin 768) :
    eg1 i x k (ix2 a c) = ((R.g (c.val / 384) (384 * n + c.val % 384) (384 * j + a.val) : ℝ) : EReal) := by
  have h : eg1 i x k (ix2 a c) = ep1 i x k (ix2 a c) * (∑ b : Fin 128, x.v12 (ix2 a b) * ed1 i x k (ix2 c b) - er1 i x k (ix2 0 c)) := by
    unfold eg1 ep1
    pointwise [k0_pay22]
  rw [h]
  simp only [hx.v12, ep1_at hx k n hn hn' hm hij hj, ed1_at hx k n hn hn', er1_at hx k n hn hn', ← EReal.coe_mul, coe_sum, ← EReal.coe_sub, Re.g]

end masked

section plain
variable (hx : IsCx x R j) (k : Fin (k0_t3_loop i).trips) (n : ℕ) (hn : (if (i 1).val = 0 then 11 else (i 1).val + 1) + k.val = n) (hn' : n < 11)
include hx hn hn'

/-- The entries of the scaled queries of the trip's block. -/
theorem eq3_at (c : Fin 768) (b : Fin 128) :
    eq3 i x k (ix2 c b) = ((if b.val / 64 = c.val / 384 then R.q (384 * n + c.val % 384) b.val else 0 : ℝ) : EReal) := by
  unfold eq3
  pointwise [k0_pay42]
  simp only [hx.v8, sel_ofBool, hx.q, k0_off9_eq]
  generalize (if (i 1).val = 0 then 11 else (i 1).val + 1) = st at hn ⊢
  have hn2 : 384 * st + 384 * k.val = 384 * n := by omega
  have hb := b.isLt
  have hc := c.isLt
  split
  · have h1 : c.val / 384 = 0 := by omega
    have h2 : c.val % 384 = c.val := by omega
    by_cases h : b.val < 64
    · simp [h, h1, h2, hn2, show b.val / 64 = 0 by omega]
    · simp [h, h1, show b.val / 64 ≠ 0 by omega]
  · have h1 : c.val / 384 = 1 := by omega
    have h2 : c.val % 384 = c.val - 384 := by omega
    by_cases h : b.val < 64
    · simp [h, h1, show b.val / 64 ≠ 1 by omega]
    · simp [h, h1, h2, hn2, show b.val / 64 = 1 by omega]

/-- The entries of the incoming gradient of the trip's block. -/
theorem ed3_at (c : Fin 768) (b : Fin 128) :
    ed3 i x k (ix2 c b) = ((if b.val / 64 = c.val / 384 then R.d (384 * n + c.val % 384) b.val else 0 : ℝ) : EReal) := by
  unfold ed3
  pointwise [k0_pay43]
  simp only [hx.v2, sel_ofBool, hx.d, k0_off9_eq]
  generalize (if (i 1).val = 0 then 11 else (i 1).val + 1) = st at hn ⊢
  have hn2 : 384 * st + 384 * k.val = 384 * n := by omega
  have hb := b.isLt
  have hc := c.isLt
  split
  · have h1 : c.val / 384 = 0 := by omega
    have h2 : c.val % 384 = c.val := by omega
    by_cases h : b.val < 64
    · simp [h, h1, h2, hn2, show b.val / 64 = 0 by omega]
    · simp [h, h1, show b.val / 64 ≠ 0 by omega]
  · have h1 : c.val / 384 = 1 := by omega
    have h2 : c.val % 384 = c.val - 384 := by omega
    by_cases h : b.val < 64
    · simp [h, h1, show b.val / 64 ≠ 1 by omega]
    · simp [h, h1, h2, hn2, show b.val / 64 = 1 by omega]

/-- The row log-sums of the trip's block, one copy per key. -/
theorem el3_at (a : Fin 384) (c : Fin 768) : el3 i x k (ix2 a c) = ((R.l (c.val / 384) (384 * n + c.val % 384) : ℝ) : EReal) := by
  unfold el3
  pointwise [k0_pay46]
  simp only [hx.lse, k0_off10_eq]
  have hc := c.isLt
  split
  · simp [hn, show c.val / 384 = 0 by omega, show c.val % 384 = c.val by omega]
  · simp [hn, show c.val / 384 = 1 by omega, show c.val % 384 = c.val - 384 by omega]

/-- The row products of the trip's block. -/
theorem er3_at (c : Fin 768) : er3 i x k (ix2 0 c) = ((R.e (c.val / 384) (384 * n + c.val % 384) : ℝ) : EReal) := by
  unfold er3
  pointwise [k0_pay44]
  simp only [hx.del, k0_off10_eq]
  have hc := c.isLt
  split
  · simp [hn, show c.val / 384 = 0 by omega, show c.val % 384 = c.val by omega]
  · simp [hn, show c.val / 384 = 1 by omega, show c.val % 384 = c.val - 384 by omega]

/-- The biased scores of the trip's block. -/
theorem es3_at (a : Fin 384) (c : Fin 768) :
    es3 i x k (ix2 a c) = ((R.s (c.val / 384) (384 * n + c.val % 384) (384 * j + a.val) : ℝ) : EReal) := by
  have h : es3 i x k (ix2 a c) = ∑ b : Fin 128, x.v10 (ix2 a b) * eq3 i x k (ix2 c b) - x.v34 (ix2 a c) := by
    unfold es3 eq3
    pointwise [k0_pay45]
  rw [h]
  simp only [hx.v10, hx.v34, eq3_at hx k n hn hn', ← EReal.coe_mul, coe_sum, ← EReal.coe_sub, Re.s]

variable (hij : j = (i 1).val)
include hij

/-- The weights of the trip's block: every key of the point is admitted by every query of a later block. -/
theorem ep3_at (a : Fin 384) (c : Fin 768) :
    k0_pay47 (es3 i x k) (el3 i x k) (ix2 a c) = ((R.p (c.val / 384) (384 * n + c.val % 384) (384 * j + a.val) : ℝ) : EReal) := by
  pointwise [k0_pay47]
  have ha := a.isLt
  have hm : 384 * j + a.val ≤ 384 * n + c.val % 384 ∧ 112 ≤ 384 * j + a.val := by
    split at hn <;> omega
  rw [es3_at hx k n hn hn', el3_at hx k n hn hn', ← EReal.coe_sub, Ideal.exp_coe, Re.p, if_pos hm]

/-- The gradient of the scores of the trip's block. -/
theorem eg3_at (a : Fin 384) (c : Fin 768) :
    k0_pay48 x.v12 (ed3 i x k) (er3 i x k) (es3 i x k) (el3 i x k) (ix2 a c) = ((R.g (c.val / 384) (384 * n + c.val % 384) (384 * j + a.val) : ℝ) : EReal) := by
  have h : k0_pay48 x.v12 (ed3 i x k) (er3 i x k) (es3 i x k) (el3 i x k) (ix2 a c)
      = k0_pay47 (es3 i x k) (el3 i x k) (ix2 a c) * (∑ b : Fin 128, x.v12 (ix2 a b) * ed3 i x k (ix2 c b) - er3 i x k (ix2 0 c)) := by
    pointwise [k0_pay48]
  rw [h]
  simp only [hx.v12, ep3_at hx k n hn hn' hij, ed3_at hx k n hn hn', er3_at hx k n hn hn', ← EReal.coe_mul, coe_sum, ← EReal.coe_sub, Re.g]

end plain

end Cert.KernelIdeal.Hand
-- ==== Proof.IdealSteps.lean ====
/- One trip and one point at the ideal numbers: what the running sums hold, as real numbers. -/
module

public import proofs.«01_k».proof.Proof.IdealTerms

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The kernel's literal for one eighth. -/
theorem eighth : Ideal.ofBits .f32 0x3E000000#32 = (((1 : ℝ) / 8 : ℝ) : EReal) := by
  simp [Ideal.ofBits, Ideal.ieee, -EReal.coe_mul, -EReal.coe_neg]
  norm_num

/-- A product over the two heads' columns with a factor that keeps the lane's own head. -/
theorem dot_head (G : ℕ → ℕ → ℝ) (Q : ℕ → ℝ) (b : ℕ) (hb : b < 128) :
    ∑ c : Fin 768, G (c.val / 384) (c.val % 384) * (if b / 64 = c.val / 384 then Q (c.val % 384) else 0) = ∑ r : Fin 384, G (b / 64) r.val * Q r.val := by
  rw [sum768 fun c => G (c / 384) (c % 384) * (if b / 64 = c / 384 then Q (c % 384) else 0)]
  have h0 : ∀ r : Fin 384, r.val / 384 = 0 := fun r => by omega
  have h1 : ∀ r : Fin 384, (384 + r.val) / 384 = 1 := fun r => by omega
  have h2 : ∀ r : Fin 384, r.val % 384 = r.val := fun r => by omega
  have h3 : ∀ r : Fin 384, (384 + r.val) % 384 = r.val := fun r => by omega
  simp only [h0, h1, h2, h3]
  rcases (show b / 64 = 0 ∨ b / 64 = 1 by omega) with h | h <;> simp [h]

/-- A block of rows put over an array, read at one entry. -/
theorem put_rows (y : Vec Ideal S4224x128 .f32) (off : Fin 2 → ℕ) (o : ℕ) (hoff : off = ![o, 0]) (w : Vec Ideal S384x128 .f32) (t : Fin 4224) (b : Fin 128) :
    VecWindow.put y off S384x128.size w (ix2 t b) = if h : o ≤ t.val ∧ t.val < o + 384 then w (ix2 ⟨t.val - o, by omega⟩ b) else y (ix2 t b) := by
  subst hoff
  unfold VecWindow.put
  pointwise
  split
  · refine congrArg w ?_
    funext a
    fin_cases a <;> exact Fin.ext (by simp)
  · rfl

/-- One head's row of one block put over an array, read at one entry. -/
theorem put_blk (y : Vec Ideal S1x11x2x384 .f32) (off : Fin 4 → ℕ) (n o : ℕ) (hoff : off = ![0, n, o, 0]) (w : Vec Ideal S1x1x1x384 .f32)
    (z : Fin 1) (m : Fin 11) (h : Fin 2) (r : Fin 384) :
    VecWindow.put y off S1x1x1x384.size w (ix4 z m h r) = if m.val = n ∧ h.val = o then w (ix4 0 0 0 r) else y (ix4 z m h r) := by
  subst hoff
  by_cases hc : m.val = n ∧ h.val = o
  · rw [if_pos hc]
    unfold VecWindow.put
    rw [dif_pos (by intro a; fin_cases a <;> simp <;> omega)]
    refine congrArg w ?_
    funext a
    fin_cases a <;> exact Fin.ext (by simp <;> omega)
  · rw [if_neg hc]
    unfold VecWindow.put
    rw [dif_neg (by
      intro H
      have h1 := H 1
      have h2 := H 2
      simp at h1 h2
      omega)]

/-- The real numbers of a running state: the sums of the point's keys (`dk`, `dv` by key and lane, `c` by head and key), and those of
    all query rows (`dq` by row and lane, `dc` by head and row). -/
@[ext] structure Sv where
  dk : ℕ → ℕ → ℝ
  dv : ℕ → ℕ → ℝ
  c : ℕ → ℕ → ℝ
  dq : ℕ → ℕ → ℝ
  dc : ℕ → ℕ → ℝ

/-- The state `s` holds the real numbers `W`. -/
structure IsSt (s : St Ideal) (W : Sv) : Prop where
  dk : ∀ (a : Fin 384) (b : Fin 128), s.1.1 (ix2 a b) = ((W.dk a.val b.val : ℝ) : EReal)
  dv : ∀ (a : Fin 384) (b : Fin 128), s.1.2.1 (ix2 a b) = ((W.dv a.val b.val : ℝ) : EReal)
  c0 : ∀ (a : Fin 384) (z : Fin 1), s.1.2.2.1 (ix2 a z) = ((W.c 0 a.val : ℝ) : EReal)
  c1 : ∀ (a : Fin 384) (z : Fin 1), s.1.2.2.2 (ix2 a z) = ((W.c 1 a.val : ℝ) : EReal)
  dq : ∀ (t : Fin 4224) (b : Fin 128), s.2.1 (ix2 t b) = ((W.dq t.val b.val : ℝ) : EReal)
  dc : ∀ (z : Fin 1) (n : Fin 11) (h : Fin 2) (r : Fin 384), s.2.2 (ix4 z n h r) = ((W.dc h.val (384 * n.val + r.val) : ℝ) : EReal)

/-- What query block `n` adds to a state at key block `j`. -/
def Re.step (R : Re) (j n : ℕ) (W : Sv) : Sv where
  dk a b := W.dk a b + ∑ r : Fin 384, R.g (b / 64) (384 * n + r.val) (384 * j + a) * R.q (384 * n + r.val) b
  dv a b := W.dv a b + ∑ r : Fin 384, R.p (b / 64) (384 * n + r.val) (384 * j + a) * R.d (384 * n + r.val) b
  c h a := W.c h a - ∑ r : Fin 384, R.g h (384 * n + r.val) (384 * j + a)
  dq t b := W.dq t b + if t / 384 = n then (∑ a : Fin 384, R.g (b / 64) t (384 * j + a.val) * R.k (384 * j + a.val) b) * (1 / 8) else 0
  dc h t := W.dc h t + if t / 384 = n then ∑ a : Fin 384, R.g h t (384 * j + a.val) else 0

variable {i : grid0.Coords} {x : Cx Ideal} {R : Re} {j : ℕ}

/-- One trip of the masked loop adds its query block. -/
theorem step1_at (hx : IsCx x R j) (hm : IsMk x j) (k : Fin (k0_t1_loop i).trips) (n : ℕ) (hn : (i 1).val + k.val = n) (hn' : n < 11)
    (hij : j = (i 1).val) (hj : j < 11) {s : St Ideal} {W : Sv} (hs : IsSt s W) : IsSt (step1 i x k s) (R.step j n W) := by
  have hq := eq1_at hx k n hn hn'
  have hd := ed1_at hx k n hn hn'
  have hp := ep1_at hx k n hn hn' hm hij hj
  have hg := eg1_at hx k n hn hn' hm hij hj
  constructor
  · intro a b
    show k0_pay4 s.1.1 (eq1 i x k) (eg1 i x k) (ix2 a b) = _
    pointwise [k0_pay4, k0_pay2]
    simp only [hs.dk, hq, hg, ← EReal.coe_mul, coe_sum, ← EReal.coe_add, Re.step]
    rw [dot_head (fun h r => R.g h (384 * n + r) (384 * j + a.val)) (fun r => R.q (384 * n + r) b.val) b.val b.isLt]
  · intro a b
    show k0_pay3 s.1.2.1 (ed1 i x k) (ep1 i x k) (ix2 a b) = _
    pointwise [k0_pay3]
    simp only [hs.dv, hd, hp, ← EReal.coe_mul, coe_sum, ← EReal.coe_add, Re.step]
    rw [dot_head (fun h r => R.p h (384 * n + r) (384 * j + a.val)) (fun r => R.d (384 * n + r) b.val) b.val b.isLt]
  · intro a z
    have h : (step1 i x k s).1.2.2.1 (ix2 a z) = s.1.2.2.1 (ix2 a z) - ∑ r : Fin 384, eg1 i x k (ix2 a ⟨r.val, by omega⟩) := by
      unfold step1 eg1
      pointwise [k0_pay23]
    rw [h]
    have h0 : ∀ r : Fin 384, r.val / 384 = 0 := fun r => by omega
    have h2 : ∀ r : Fin 384, r.val % 384 = r.val := fun r => by omega
    simp only [hs.c0, hg, coe_sum, ← EReal.coe_sub, Re.step, h0, h2]
  · intro a z
    have h : (step1 i x k s).1.2.2.2 (ix2 a z) = s.1.2.2.2 (ix2 a z) - ∑ r : Fin 384, eg1 i x k (ix2 a ⟨384 + r.val, by omega⟩) := by
      unfold step1 eg1
      pointwise [k0_pay24]
    rw [h]
    have h0 : ∀ r : Fin 384, (384 + r.val) / 384 = 1 := fun r => by omega
    have h2 : ∀ r : Fin 384, (384 + r.val) % 384 = r.val := fun r => by omega
    simp only [hs.c1, hg, coe_sum, ← EReal.coe_sub, Re.step, h0, h2]
  · intro t b
    refine (put_rows s.2.1 (k0_off1 i k) (384 * n) (by rw [k0_off1_eq, hn]) _ t b).trans ?_
    have h0 : ∀ r : Fin 384, r.val / 384 = 0 := fun r => by omega
    have h1 : ∀ r : Fin 384, (384 + r.val) / 384 = 1 := fun r => by omega
    have h2 : ∀ r : Fin 384, r.val % 384 = r.val := fun r => by omega
    have h3 : ∀ r : Fin 384, (384 + r.val) % 384 = r.val := fun r => by omega
    have hb := b.isLt
    split
    · rename_i ht
      pointwise [k0_pay5, k0_pay2]
      have e0 : (t.val - 384 * n) / 384 = 0 := by omega
      have e1 : (384 + (t.val - 384 * n)) / 384 = 1 := by omega
      have e2 : 384 * n + (t.val - 384 * n) % 384 = t.val := by omega
      have e3 : 384 * n + (384 + (t.val - 384 * n)) % 384 = t.val := by omega
      have e4 : 384 * n + (t.val - 384 * n) = t.val := by omega
      have e5 : t.val / 384 = n := by omega
      simp only [hg, hx.v23, hs.dq, eighth, h0, h1, h2, h3, e0, e1, e2, e3, ← EReal.coe_mul, coe_sum, ← EReal.coe_add, Re.step, if_pos e5]
      rw [EReal.coe_eq_coe_iff]
      have hq2 : W.dq (k0_off1 i k 0 + (t.val - 384 * n)) (k0_off1 i k 1 + b.val) = W.dq t.val b.val := by
        rw [k0_off1_eq]
        simp [hn, e4]
      rw [hq2]
      rcases (show b.val / 64 = 0 ∨ b.val / 64 = 1 by omega) with h | h <;> simp [h]
    · have e5 : t.val / 384 ≠ n := by omega
      rw [hs.dq, Re.step]
      simp [e5]
  · intro z m h r
    have h0 : ∀ r : Fin 384, r.val / 384 = 0 := fun r => by omega
    have h1 : ∀ r : Fin 384, (384 + r.val) / 384 = 1 := fun r => by omega
    have h2 : ∀ r : Fin 384, r.val % 384 = r.val := fun r => by omega
    have h3 : ∀ r : Fin 384, (384 + r.val) % 384 = r.val := fun r => by omega
    have hm1 : (384 * m.val + r.val) / 384 = m.val := by omega
    have hw0 : ∀ (y : Vec Ideal S1x1x1x384 .f32), k0_pay26 x.v12 x.v27 (Scf.iv x.a1 1#32 k) (ed1 i x k) (el1 i x k) (er1 i x k) (es1 i x k) 384#32 y (ix4 0 0 0 r)
        = y (ix4 0 0 0 r) + ∑ a : Fin 384, eg1 i x k (ix2 a ⟨r.val, by omega⟩) := by
      intro y
      unfold eg1
      pointwise [k0_pay26, k0_pay25]
    have hw1 : ∀ (y : Vec Ideal S1x1x1x384 .f32), k0_pay1 (k0_pay27 y) (k0_pay28 x.v12 x.v27 (Scf.iv x.a1 1#32 k) (ed1 i x k) (el1 i x k) (er1 i x k) (es1 i x k) 384#32) (ix4 0 0 0 r)
        = y (ix4 0 0 0 r) + ∑ a : Fin 384, eg1 i x k (ix2 a ⟨384 + r.val, by omega⟩) := by
      intro y
      unfold eg1
      pointwise [k0_pay1, k0_pay27, k0_pay28, k0_pay25]
    refine (put_blk _ (k0_off4 i k) n 1 (by rw [k0_off4_eq, hn]) _ z m h r).trans ?_
    rw [put_blk _ (k0_off3 i k) n 0 (by rw [k0_off3_eq, hn]), hw0, hw1]
    pointwise
    simp only [hg, hs.dc, h0, h1, h2, h3, coe_sum, ← EReal.coe_add, Re.step, hm1, k0_off3_eq, k0_off4_eq]
    have hcase : h.val = 0 ∨ h.val = 1 := by omega
    by_cases hmn : m.val = n
    · rcases hcase with hh | hh <;> simp [hh, hmn, hn]
    · rcases hcase with hh | hh <;> simp [hh, hmn]

/-- One trip of the unmasked loop adds its query block. -/
theorem step3_at (hx : IsCx x R j) (k : Fin (k0_t3_loop i).trips) (n : ℕ) (hn : (if (i 1).val = 0 then 11 else (i 1).val + 1) + k.val = n) (hn' : n < 11)
    (hij : j = (i 1).val) (hj : j < 11) {s : St Ideal} {W : Sv} (hs : IsSt s W) : IsSt (step3 i x k s) (R.step j n W) := by
  have hq := eq3_at hx k n hn hn'
  have hd := ed3_at hx k n hn hn'
  have hp := ep3_at hx k n hn hn' hij
  have hg := eg3_at hx k n hn hn' hij
  constructor
  · intro a b
    show k0_pay56 x.v12 s.1.1 (eq3 i x k) (ed3 i x k) (er3 i x k) (es3 i x k) (el3 i x k) (ix2 a b) = _
    pointwise [k0_pay56, k0_pay54]
    simp only [hs.dk, hq, hg, ← EReal.coe_mul, coe_sum, ← EReal.coe_add, Re.step]
    rw [dot_head (fun h r => R.g h (384 * n + r) (384 * j + a.val)) (fun r => R.q (384 * n + r) b.val) b.val b.isLt]
  · intro a b
    show k0_pay55 s.1.2.1 (ed3 i x k) (es3 i x k) (el3 i x k) (ix2 a b) = _
    pointwise [k0_pay55]
    simp only [hs.dv, hd, hp, ← EReal.coe_mul, coe_sum, ← EReal.coe_add, Re.step]
    rw [dot_head (fun h r => R.p h (384 * n + r) (384 * j + a.val)) (fun r => R.d (384 * n + r) b.val) b.val b.isLt]
  · intro a z
    have h : (step3 i x k s).1.2.2.1 (ix2 a z) = s.1.2.2.1 (ix2 a z) - ∑ r : Fin 384, (k0_pay48 x.v12 (ed3 i x k) (er3 i x k) (es3 i x k) (el3 i x k)) (ix2 a ⟨r.val, by omega⟩) := by
      unfold step3
      pointwise [k0_pay49]
    rw [h]
    have h0 : ∀ r : Fin 384, r.val / 384 = 0 := fun r => by omega
    have h2 : ∀ r : Fin 384, r.val % 384 = r.val := fun r => by omega
    simp only [hs.c0, hg, coe_sum, ← EReal.coe_sub, Re.step, h0, h2]
  · intro a z
    have h : (step3 i x k s).1.2.2.2 (ix2 a z) = s.1.2.2.2 (ix2 a z) - ∑ r : Fin 384, (k0_pay48 x.v12 (ed3 i x k) (er3 i x k) (es3 i x k) (el3 i x k)) (ix2 a ⟨384 + r.val, by omega⟩) := by
      unfold step3
      pointwise [k0_pay50]
    rw [h]
    have h0 : ∀ r : Fin 384, (384 + r.val) / 384 = 1 := fun r => by omega
    have h2 : ∀ r : Fin 384, (384 + r.val) % 384 = r.val := fun r => by omega
    simp only [hs.c1, hg, coe_sum, ← EReal.coe_sub, Re.step, h0, h2]
  · intro t b
    refine (put_rows s.2.1 (k0_off9 i k) (384 * n) (by rw [k0_off9_eq, ← hn, Nat.mul_add]) _ t b).trans ?_
    have h0 : ∀ r : Fin 384, r.val / 384 = 0 := fun r => by omega
    have h1 : ∀ r : Fin 384, (384 + r.val) / 384 = 1 := fun r => by omega
    have h2 : ∀ r : Fin 384, r.val % 384 = r.val := fun r => by omega
    have h3 : ∀ r : Fin 384, (384 + r.val) % 384 = r.val := fun r => by omega
    have hb := b.isLt
    split
    · rename_i ht
      pointwise [k0_pay11, k0_pay54]
      have e0 : (t.val - 384 * n) / 384 = 0 := by omega
      have e1 : (384 + (t.val - 384 * n)) / 384 = 1 := by omega
      have e2 : 384 * n + (t.val - 384 * n) % 384 = t.val := by omega
      have e3 : 384 * n + (384 + (t.val - 384 * n)) % 384 = t.val := by omega
      have e4 : 384 * n + (t.val - 384 * n) = t.val := by omega
      have e5 : t.val / 384 = n := by omega
      simp only [hg, hx.v23, hs.dq, eighth, h0, h1, h2, h3, e0, e1, e2, e3, ← EReal.coe_mul, coe_sum, ← EReal.coe_add, Re.step, if_pos e5]
      rw [EReal.coe_eq_coe_iff]
      have hq2 : W.dq (k0_off9 i k 0 + (t.val - 384 * n)) (k0_off9 i k 1 + b.val) = W.dq t.val b.val := by
        rw [k0_off9_eq]
        simp only [Matrix.cons_val_zero, Matrix.cons_val_one, ← Nat.mul_add, hn, e4, Nat.zero_add]
      rw [hq2]
      rcases (show b.val / 64 = 0 ∨ b.val / 64 = 1 by omega) with h | h <;> simp [h]
    · have e5 : t.val / 384 ≠ n := by omega
      rw [hs.dq, Re.step]
      simp [e5]
  · intro z m h r
    have h0 : ∀ r : Fin 384, r.val / 384 = 0 := fun r => by omega
    have h1 : ∀ r : Fin 384, (384 + r.val) / 384 = 1 := fun r => by omega
    have h2 : ∀ r : Fin 384, r.val % 384 = r.val := fun r => by omega
    have h3 : ∀ r : Fin 384, (384 + r.val) % 384 = r.val := fun r => by omega
    have hm1 : (384 * m.val + r.val) / 384 = m.val := by omega
    have hw0 : ∀ (y : Vec Ideal S1x1x1x384 .f32), k0_pay52 x.v12 (ed3 i x k) (er3 i x k) (es3 i x k) (el3 i x k) y (ix4 0 0 0 r)
        = y (ix4 0 0 0 r) + ∑ a : Fin 384, (k0_pay48 x.v12 (ed3 i x k) (er3 i x k) (es3 i x k) (el3 i x k)) (ix2 a ⟨r.val, by omega⟩) := by
      intro y
      pointwise [k0_pay52, k0_pay51]
    have hw1 : ∀ (y : Vec Ideal S1x1x1x384 .f32), k0_pay53 x.v12 (ed3 i x k) (er3 i x k) (es3 i x k) (el3 i x k) y (ix4 0 0 0 r)
        = y (ix4 0 0 0 r) + ∑ a : Fin 384, (k0_pay48 x.v12 (ed3 i x k) (er3 i x k) (es3 i x k) (el3 i x k)) (ix2 a ⟨384 + r.val, by omega⟩) := by
      intro y
      pointwise [k0_pay53, k0_pay51]
    refine (put_blk _ (k0_off12 i k) n 1 (by rw [k0_off12_eq, hn]) _ z m h r).trans ?_
    rw [put_blk _ (k0_off11 i k) n 0 (by rw [k0_off11_eq, hn]), hw0, hw1]
    pointwise
    simp only [hg, hs.dc, h0, h1, h2, h3, coe_sum, ← EReal.coe_add, Re.step, hm1, k0_off11_eq, k0_off12_eq]
    have hcase : h.val = 0 ∨ h.val = 1 := by omega
    by_cases hmn : m.val = n
    · rcases hcase with hh | hh <;> simp [hh, hmn, hn]
    · rcases hcase with hh | hh <;> simp [hh, hmn]

end Cert.KernelIdeal.Hand
-- ==== Proof.IdealSums.lean ====
/- The loops and the points at the ideal numbers: what the results' blocks hold, as sums over rows. -/
module

public import proofs.«01_k».proof.Proof.IdealSteps
public import proofs.«01_k».proof.Proof.IdealRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- A sum over `m` blocks of 384 rows is the sum over the rows. -/
theorem sum_blocks (f : ℕ → ℝ) (m : ℕ) : ∑ n ∈ Finset.range m, ∑ r : Fin 384, f (384 * n + r.val) = ∑ t ∈ Finset.range (384 * m), f t := by
  induction m with
  | zero => simp
  | succ m ih =>
    rw [Finset.sum_range_succ, ih, Nat.mul_succ, Finset.sum_range_add, Finset.sum_range (fun x => f (384 * m + x))]

namespace Re
variable (R : Re)

/-- `T` query blocks from block `n` on, added one after another. -/
def many (j n : ℕ) : ℕ → Sv → Sv
  | 0, W => W
  | T + 1, W => R.step j (n + T) (many j n T W)

theorem many_add (j n T U : ℕ) (W : Sv) : R.many j n (T + U) W = R.many j (n + T) U (R.many j n T W) := by
  induction U with
  | zero => rfl
  | succ U ih =>
    show R.step j (n + (T + U)) (R.many j n (T + U) W) = R.step j (n + T + U) (R.many j (n + T) U (R.many j n T W))
    rw [ih, Nat.add_assoc]

theorem p_zero (h t s : ℕ) (hts : t < s) : R.p h t s = 0 := by
  rw [p, if_neg (by omega)]

theorem g_zero (h t s : ℕ) (hts : t < s) : R.g h t s = 0 := by
  rw [g, p_zero R h t s hts, zero_mul]

/-- A query block before the key block adds nothing. -/
theorem step_of_lt (j n : ℕ) (hn : n < j) (W : Sv) : R.step j n W = W := by
  have hg : ∀ h (r : Fin 384) (a : ℕ), R.g h (384 * n + r.val) (384 * j + a) = 0 := fun h r a => R.g_zero _ _ _ (by omega)
  have hp : ∀ h (r : Fin 384) (a : ℕ), R.p h (384 * n + r.val) (384 * j + a) = 0 := fun h r a => R.p_zero _ _ _ (by omega)
  have hg' : ∀ h t a, t / 384 = n → R.g h t (384 * j + a) = 0 := fun h t a e => R.g_zero _ _ _ (by omega)
  apply Sv.ext
  · funext a b; simp [step, hg]
  · funext a b; simp [step, hp]
  · funext h a; simp [step, hg]
  · funext t b
    show _ + (if _ then _ else _) = _
    split
    · rename_i e; simp [hg' _ t _ e]
    · simp
  · funext h t
    show _ + (if _ then _ else _) = _
    split
    · rename_i e; simp [hg' _ t _ e]
    · simp

theorem many_of_le (j T : ℕ) (hT : T ≤ j) (W : Sv) : R.many j 0 T W = W := by
  induction T with
  | zero => rfl
  | succ T ih =>
    show R.step j (0 + T) (R.many j 0 T W) = W
    rw [ih (by omega), R.step_of_lt j _ (by omega)]

/-- Query blocks in order, as sums over blocks. -/
theorem many_eq (j T : ℕ) (W : Sv) : R.many j 0 T W =
    { dk := fun a b => W.dk a b + ∑ n ∈ Finset.range T, ∑ r : Fin 384, R.g (b / 64) (384 * n + r.val) (384 * j + a) * R.q (384 * n + r.val) b
      dv := fun a b => W.dv a b + ∑ n ∈ Finset.range T, ∑ r : Fin 384, R.p (b / 64) (384 * n + r.val) (384 * j + a) * R.d (384 * n + r.val) b
      c := fun h a => W.c h a - ∑ n ∈ Finset.range T, ∑ r : Fin 384, R.g h (384 * n + r.val) (384 * j + a)
      dq := fun t b => W.dq t b + if t / 384 < T then (∑ a : Fin 384, R.g (b / 64) t (384 * j + a.val) * R.k (384 * j + a.val) b) * (1 / 8) else 0
      dc := fun h t => W.dc h t + if t / 384 < T then ∑ a : Fin 384, R.g h t (384 * j + a.val) else 0 } := by
  induction T with
  | zero => simp [many]
  | succ T ih =>
    show R.step j (0 + T) (R.many j 0 T W) = _
    rw [ih, Nat.zero_add]
    have hc : ∀ t (y : ℝ), (if t / 384 < T then y else 0) + (if t / 384 = T then y else 0) = if t / 384 < T + 1 then y else 0 := by
      intro t y
      rcases Nat.lt_trichotomy (t / 384) T with h | h | h
      · rw [if_pos h, if_neg (by omega), if_pos (by omega), add_zero]
      · rw [if_neg (by omega), if_pos h, if_pos (by omega), zero_add]
      · rw [if_neg (by omega), if_neg (by omega), if_neg (by omega), add_zero]
    apply Sv.ext
    · funext a b; simp only [step, Finset.sum_range_succ]; ring
    · funext a b; simp only [step, Finset.sum_range_succ]; ring
    · funext h a; simp only [step, Finset.sum_range_succ]; ring
    · funext t b; simp only [step]; rw [add_assoc, hc]
    · funext h t; simp only [step]; rw [add_assoc, hc]

/-- What key block `j` adds to row `t`, lane `b` of dq. -/
def dqPart (j t b : ℕ) : ℝ := (∑ a : Fin 384, R.g (b / 64) t (384 * j + a.val) * R.k (384 * j + a.val) b) * (1 / 8)
/-- What key block `j` adds to head `h`, row `t` of dcq. -/
def dcPart (j h t : ℕ) : ℝ := ∑ a : Fin 384, R.g h t (384 * j + a.val)

/-- The state after the point of key block `j`: the sums of its keys over all query rows, and the sums of all query rows over
    the keys so far. -/
def at' (j : ℕ) : Sv where
  dk a b := ∑ t ∈ Finset.range 4224, R.g (b / 64) t (384 * j + a) * R.q t b
  dv a b := ∑ t ∈ Finset.range 4224, R.p (b / 64) t (384 * j + a) * R.d t b
  c h a := - ∑ t ∈ Finset.range 4224, R.g h t (384 * j + a)
  dq t b := ∑ j' ∈ Finset.range (j + 1), R.dqPart j' t b
  dc h t := ∑ j' ∈ Finset.range (j + 1), R.dcPart j' h t

end Re

/-! ## The loops -/

theorem t1_trips : ∀ i : grid0.Coords, (k0_t1_loop i).trips = if (i 1).val = 0 then 11 else 1 := by decide +kernel
theorem t3_trips : ∀ i : grid0.Coords, (k0_t3_loop i).trips = if (i 1).val = 0 then 0 else 10 - (i 1).val := by decide +kernel

variable {i : grid0.Coords} {x : Cx Ideal} {R : Re} {j : ℕ}

theorem run1_at (hx : IsCx x R j) (hm : IsMk x j) (hij : j = (i 1).val) (hj : j < 11) {s : St Ideal} {W : Sv} (hs : IsSt s W) :
    ∀ T, T ≤ (k0_t1_loop i).trips → IsSt (runN (step1 i x) s T) (R.many j j T W)
  | 0, _ => by rw [runN_zero]; exact hs
  | T + 1, hT => by
    have h := run1_at hx hm hij hj hs T (by omega)
    rw [runN_succ (step1 i x) s ⟨T, hT⟩]
    refine step1_at hx hm ⟨T, hT⟩ (j + T) (by rw [hij]) ?_ hij hj h
    rw [t1_trips] at hT
    split at hT <;> omega

theorem run3_at (hx : IsCx x R j) (hij : j = (i 1).val) (hj : j < 11) {s : St Ideal} {W : Sv} (hs : IsSt s W) :
    ∀ T, T ≤ (k0_t3_loop i).trips → IsSt (runN (step3 i x) s T) (R.many j (if (i 1).val = 0 then 11 else (i 1).val + 1) T W)
  | 0, _ => by rw [runN_zero]; exact hs
  | T + 1, hT => by
    have h := run3_at hx hij hj hs T (by omega)
    rw [runN_succ (step3 i x) s ⟨T, hT⟩]
    refine step3_at hx ⟨T, hT⟩ _ rfl ?_ hij hj h
    rw [t3_trips] at hT
    show (if (i 1).val = 0 then 11 else (i 1).val + 1) + T < 11
    split at hT <;> rename_i h0 <;> simp [h0] <;> omega

theorem IsCx.plain (hx : IsCx x R j) : IsCx x.plain R j :=
  ⟨hx.q, hx.d, hx.lse, hx.del, hx.v2, hx.v8, hx.v10, hx.v12, hx.v23, hx.v34⟩

/-- A point takes dq and dcq blocks to the same with every query block's part of this key block added. -/
theorem fin_at (hx : IsCx x R j) (hm : IsMk x j) (hij : j = (i 1).val) (hj : j < 11)
    (y9 : Vec Ideal S4224x128 .f32) (y13 : Vec Ideal S1x11x2x384 .f32) (dq dc : ℕ → ℕ → ℝ)
    (h9 : ∀ (t : Fin 4224) (b : Fin 128), y9 (ix2 t b) = ((dq t.val b.val : ℝ) : EReal))
    (h13 : ∀ (z : Fin 1) (n : Fin 11) (h : Fin 2) (r : Fin 384), y13 (ix4 z n h r) = ((dc h.val (384 * n.val + r.val) : ℝ) : EReal)) :
    IsSt (fin i x y9 y13) (R.many j 0 11 ⟨fun _ _ => 0, fun _ _ => 0, fun _ _ => 0, dq, dc⟩) := by
  have h0 : IsSt ((k0_pay82 (F := Ideal), k0_pay83 (F := Ideal), k0_pay81 (F := Ideal), k0_pay81 (F := Ideal)), y9, y13)
      ⟨fun _ _ => 0, fun _ _ => 0, fun _ _ => 0, dq, dc⟩ := by
    refine ⟨fun a b => ?_, fun a b => ?_, fun a z => ?_, fun a z => ?_, h9, h13⟩
    · show k0_pay82 (F := Ideal) (ix2 a b) = _; pointwise [k0_pay82]; simp
    · show k0_pay83 (F := Ideal) (ix2 a b) = _; pointwise [k0_pay83]; simp
    · show k0_pay81 (F := Ideal) (ix2 a z) = _; pointwise [k0_pay81]; simp
    · show k0_pay81 (F := Ideal) (ix2 a z) = _; pointwise [k0_pay81]; simp
  have h1 := run1_at hx hm hij hj h0 _ (Nat.le_refl _)
  have h3 := run3_at (i := i) hx.plain hij hj h1 _ (Nat.le_refl _)
  unfold fin
  rw [run1_eq, run3_eq]
  convert h3 using 1
  rw [t1_trips, t3_trips, ← hij, show (11 : ℕ) = j + (11 - j) by omega, R.many_add, R.many_of_le j j (Nat.le_refl _), Nat.zero_add]
  by_cases hj0 : j = 0
  · simp [hj0, Re.many]
  · simp only [if_neg hj0]
    rw [show j + 1 = j + 1 from rfl, ← R.many_add, show 1 + (10 - j) = 11 - j by omega]

/-- The state of a point whose dq and dcq blocks held the sums over the key blocks before. -/
theorem fin_at' (hx : IsCx x R j) (hm : IsMk x j) (hij : j = (i 1).val) (hj : j < 11)
    (y9 : Vec Ideal S4224x128 .f32) (y13 : Vec Ideal S1x11x2x384 .f32)
    (h9 : ∀ (t : Fin 4224) (b : Fin 128), y9 (ix2 t b) = ((∑ j' ∈ Finset.range j, R.dqPart j' t.val b.val : ℝ) : EReal))
    (h13 : ∀ (z : Fin 1) (n : Fin 11) (h : Fin 2) (r : Fin 384), y13 (ix4 z n h r) = ((∑ j' ∈ Finset.range j, R.dcPart j' h.val (384 * n.val + r.val) : ℝ) : EReal)) :
    IsSt (fin i x y9 y13) (R.at' j) := by
  have h := fin_at hx hm hij hj y9 y13 (fun t b => ∑ j' ∈ Finset.range j, R.dqPart j' t b) (fun h t => ∑ j' ∈ Finset.range j, R.dcPart j' h t) h9 h13
  rw [Re.many_eq] at h
  refine ⟨fun a b => ?_, fun a b => ?_, fun a z => ?_, fun a z => ?_, fun t b => ?_, fun z n hh r => ?_⟩
  · rw [h.dk]; dsimp only [Re.at']
    rw [sum_blocks (fun t => R.g (b.val / 64) t (384 * j + a.val) * R.q t b.val) 11, zero_add]
  · rw [h.dv]; dsimp only [Re.at']
    rw [sum_blocks (fun t => R.p (b.val / 64) t (384 * j + a.val) * R.d t b.val) 11, zero_add]
  · rw [h.c0]; dsimp only [Re.at']
    rw [sum_blocks (fun t => R.g 0 t (384 * j + a.val)) 11, zero_sub]
  · rw [h.c1]; dsimp only [Re.at']
    rw [sum_blocks (fun t => R.g 1 t (384 * j + a.val)) 11, zero_sub]
  · rw [h.dq]; dsimp only [Re.at']
    rw [Finset.sum_range_succ, if_pos (by omega)]; rfl
  · rw [h.dc]; dsimp only [Re.at']
    rw [Finset.sum_range_succ, if_pos (by omega)]; rfl

/-! ## The points -/

theorem coords_one : ∀ t : Fin cfg0.N, (grid0.coords t 1).val = t.val % 11 := by decide +kernel
theorem coords_zero : ∀ t : Fin cfg0.N, (grid0.coords t 0).val = t.val / 11 := by decide +kernel

variable (m : (ℓ : Loc nD τ sig) → Buf (Elt Ideal) ℓ)

theorem isMk (c : Dev nD) (t : Fin cfg0.N) : IsMk (cxAt m c t) (t.val % 11) := by
  constructor
  · show BitVec.ofNat 32 (grid0.coords t 1).val = _
    rw [coords_one]
  · intro a
    show k0_pay79 (grid0.coords t) (ix2 a 0) = _
    pointwise [k0_pay79]
    rw [coords_one]
    apply BitVec.eq_of_toNat_eq
    show (BitVec.ofNat 32 (t.val % 11) * 384#32 + BitVec.ofNat 32 a.val).toNat = _
    simp [BitVec.toNat_add, BitVec.toNat_mul]
    ring_nf

/-- Every point's state, when every point's fixed values are its pair's real numbers. -/
theorem stateAt_at (c : Dev nD) (P : ℕ → Re) (hP : ∀ t : Fin cfg0.N, IsCx (cxAt m c t) (P (t.val / 11)) (t.val % 11)) :
    ∀ (n : ℕ) (h : n < cfg0.N), IsSt (stateAt m c ⟨n, h⟩) ((P (n / 11)).at' (n % 11)) := by
  intro n
  induction n with
  | zero =>
    intro h
    rw [stateAt_reset m c ⟨0, h⟩ rfl]
    refine fin_at' (hP ⟨0, h⟩) (isMk m c ⟨0, h⟩) (coords_one _).symm (by norm_num) _ _ ?_ ?_
    · intro t b; pointwise [k0_pay73]; simp
    · intro z n h r; pointwise [k0_pay74]; simp
  | succ n ih =>
    intro h
    by_cases h0 : (n + 1) % 11 = 0
    · rw [stateAt_reset m c ⟨n + 1, h⟩ h0]
      refine fin_at' (hP ⟨n + 1, h⟩) (isMk m c ⟨n + 1, h⟩) (coords_one _).symm (Nat.mod_lt _ (by norm_num)) _ _ ?_ ?_
      · intro t b; pointwise [k0_pay73]; simp [h0]
      · intro z n h r; pointwise [k0_pay74]; simp [h0]
    · rw [stateAt_acc m c ⟨n + 1, h⟩ h0]
      have hs := ih (by omega)
      rw [show n / 11 = (n + 1) / 11 by omega] at hs
      have hj : (n + 1) % 11 = n % 11 + 1 := by omega
      refine fin_at' (hP ⟨n + 1, h⟩) (isMk m c ⟨n + 1, h⟩) (coords_one _).symm (Nat.mod_lt _ (by norm_num)) _ _ ?_ ?_
      · intro t b
        dsimp only
        rw [hj]
        exact hs.dq t b
      · intro z k hh r
        dsimp only
        rw [hj]
        exact hs.dc z k hh r

end Cert.KernelIdeal.Hand
-- ==== Proof.Weights.lean ====
module

public import Idealize.ShloMosaic.Lib.Pointwise
public import Idealize.ShloMosaic.PureOps.Ideal

@[expose] public section

noncomputable section

/-! The attention's weights over real arguments, and what does not depend on how they are computed. -/

namespace Cert.Attn

/-- The five arguments as real numbers by row and lane (the fourth by row and head). -/
structure Arr where
  q : ℕ → ℕ → ℝ
  k : ℕ → ℕ → ℝ
  v : ℕ → ℕ → ℝ
  c : ℕ → ℕ → ℝ
  g : ℕ → ℕ → ℝ

/-- Query `t` (row `112 + t`) sees the key rows from 112 up to its own. -/
abbrev Sees (t s : ℕ) : Prop := s ≤ 112 + t ∧ 112 ≤ s

variable (A : Arr)

namespace Arr

/-- The score of key row `s` for query `t` under head `h`, without the query's own share of the bias. -/
def S (h t s : ℕ) : ℝ := (∑ d : Fin 64, A.q (112 + t) (h * 64 + d.val) * A.k s (h * 64 + d.val)) * (1 / 8) - A.c s h

/-- Its exponential, zero where the query does not see the key. -/
def X (h t s : ℕ) : ℝ := if Sees t s then Real.exp (A.S h t s) else 0

/-- The logarithm of a query's sum of exponentials. -/
def L (h t : ℕ) : ℝ := Real.log (∑ s : Fin 4224, A.X h t s.val)

/-- The weight of a key row: its share of that sum. -/
def W (h t s : ℕ) : ℝ := if Sees t s then Real.exp (A.S h t s - A.L h t) else 0

/-- The derivative of the loss in the weight of a key row. -/
def G (h t s : ℕ) : ℝ := ∑ d : Fin 64, A.g t (h * 64 + d.val) * A.v s (h * 64 + d.val)

/-- Its mean over the keys. -/
def D (h t : ℕ) : ℝ := ∑ s : Fin 4224, A.G h t s.val * A.W h t s.val

/-- The derivative of the loss in a score. -/
def DS (h t s : ℕ) : ℝ := A.W h t s * (A.G h t s - A.D h t)

theorem sum_pos (h t : ℕ) (ht : t < 4112) : 0 < ∑ s : Fin 4224, A.X h t s.val := by
  apply Finset.sum_pos'
  · intro s _; unfold X; split_ifs
    · exact (Real.exp_pos _).le
    · exact le_rfl
  · refine ⟨⟨112, by norm_num⟩, Finset.mem_univ _, ?_⟩
    unfold X
    rw [if_pos ⟨by simp, le_rfl⟩]
    exact Real.exp_pos _

theorem W_eq (h t s : ℕ) (ht : t < 4112) : A.W h t s = A.X h t s / ∑ s : Fin 4224, A.X h t s.val := by
  unfold W
  unfold X
  split_ifs with hs
  · rw [Real.exp_sub]
    congr 1
    unfold L
    rw [Real.exp_log (A.sum_pos h t ht)]
    rfl
  · simp

theorem shift (h t s : ℕ) (M : ℝ) : (if Sees t s then Real.exp (A.S h t s - M) else 0) = A.X h t s * Real.exp (-M) := by
  unfold X
  split_ifs
  · rw [sub_eq_add_neg, Real.exp_add]
  · simp

theorem shift_sum (h t : ℕ) (M : ℝ) :
    ∑ s : Fin 4224, (if Sees t s.val then Real.exp (A.S h t s.val - M) else 0) = (∑ s : Fin 4224, A.X h t s.val) * Real.exp (-M) := by
  rw [Finset.sum_mul]
  exact Finset.sum_congr rfl fun s _ => A.shift h t s.val M

theorem shift_pos (h t : ℕ) (M : ℝ) (ht : t < 4112) :
    0 < ∑ s : Fin 4224, (if Sees t s.val then Real.exp (A.S h t s.val - M) else 0) := by
  rw [shift_sum]
  exact mul_pos (A.sum_pos h t ht) (Real.exp_pos _)

/-- The share does not depend on what is subtracted from every score. -/
theorem share (h t s : ℕ) (M : ℝ) (ht : t < 4112) :
    (if Sees t s then Real.exp (A.S h t s - M) else 0) *
      (1 / ∑ s : Fin 4224, (if Sees t s.val then Real.exp (A.S h t s.val - M) else 0)) = A.W h t s := by
  rw [shift_sum, shift, W_eq A h t s ht]
  have h1 := (A.sum_pos h t ht).ne'
  have h2 := (Real.exp_pos (-M)).ne'
  field_simp

/-- Nor does the logarithm of the sum, the subtracted number put back. -/
theorem log_sum (h t : ℕ) (M : ℝ) (ht : t < 4112) :
    M + Real.log (∑ s : Fin 4224, (if Sees t s.val then Real.exp (A.S h t s.val - M) else 0)) = A.L h t := by
  rw [shift_sum, Real.log_mul (A.sum_pos h t ht).ne' (Real.exp_pos _).ne', Real.log_exp]
  unfold L
  ring

/-- The derivative of a quotient, its two terms as they stand before they are put together. -/
theorem DS_eq (h t s : ℕ) (M : ℝ) (ht : t < 4112) :
    (if Sees t s then (A.G h t s * (1 / ∑ s : Fin 4224, (if Sees t s.val then Real.exp (A.S h t s.val - M) else 0)) +
      -∑ s' : Fin 4224, A.G h t s'.val * (1 / ((∑ s : Fin 4224, (if Sees t s.val then Real.exp (A.S h t s.val - M) else 0)) *
        (∑ s : Fin 4224, (if Sees t s.val then Real.exp (A.S h t s.val - M) else 0)))) * (if Sees t s'.val then Real.exp (A.S h t s'.val - M) else 0)) *
      (if Sees t s then Real.exp (A.S h t s - M) else 0) else 0) = A.DS h t s := by
  have hz := A.shift_pos h t M ht
  have hw := fun s => A.share h t s M ht
  unfold DS D
  generalize (∑ s : Fin 4224, (if Sees t s.val then Real.exp (A.S h t s.val - M) else 0)) = Z at hz hw ⊢
  have hs : ∑ s' : Fin 4224, A.G h t s'.val * (1 / (Z * Z)) * (if Sees t s'.val then Real.exp (A.S h t s'.val - M) else 0) =
      (∑ s' : Fin 4224, A.G h t s'.val * A.W h t s'.val) * (1 / Z) := by
    rw [Finset.sum_mul]
    refine Finset.sum_congr rfl fun s' _ => ?_
    rw [← hw s'.val]
    field_simp
  rw [hs, ← hw s]
  by_cases h1 : Sees t s
  · rw [if_pos h1, if_pos h1]
    ring
  · rw [if_neg h1, if_neg h1]
    ring

/-- The mean, summed over lanes first. -/
theorem D_eq (h t : ℕ) :
    ∑ d : Fin 64, A.g t (h * 64 + d.val) * (∑ s : Fin 4224, A.v s.val (h * 64 + d.val) * A.W h t s.val) = A.D h t := by
  unfold D G
  simp only [Finset.mul_sum, Finset.sum_mul]
  rw [Finset.sum_comm]
  refine Finset.sum_congr rfl fun s _ => Finset.sum_congr rfl fun d _ => ?_
  ring

end Arr

/-- A maximum over a finite set whose members are no `+∞`, one of them no `-∞`, is a real number. -/
theorem max_real {ι : Type} (s : Finset ι) (y : ι → EReal) (ht : ∀ i ∈ s, y i ≠ ⊤) (hb : ∃ i ∈ s, y i ≠ ⊥) :
    ∃ M : ℝ, s.fold max (⊥ : EReal) y = (M : EReal) := by
  have h1 : s.fold max (⊥ : EReal) y = s.sup y := rfl
  rw [h1]
  have h2 : s.sup y < ⊤ := (Finset.sup_lt_iff (by simp)).mpr fun i hi => lt_top_iff_ne_top.mpr (ht i hi)
  obtain ⟨i, hi, h3⟩ := hb
  have h4 : s.sup y ≠ ⊥ := fun e => h3 (le_bot_iff.mp (e ▸ Finset.le_sup (f := y) hi))
  exact ⟨(s.sup y).toReal, (EReal.coe_toReal h2.ne h4).symm⟩

end Cert.Attn
-- ==== Proof.IdealHost.lean ====
/- The host operations before the kernel, at the ideal numbers. -/
module

public import proofs.«01_k».proof.Proof.IdealSums
public import proofs.«01_k».proof.Proof.Weights

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic

variable (m : (ℓ : Loc nD τ sig) → Buf (Elt Ideal) ℓ) (c : Dev nD)

/-! The entries of the arguments and of the host's arrays, as extended real numbers. -/

def a0 (t : Fin 4224) (b : Fin 512) : EReal := m (c, Proc.tc.devRef main_arg0) (ix2 t b)
def a1 (t : Fin 4224) (b : Fin 512) : EReal := m (c, Proc.tc.devRef main_arg1) (ix2 t b)
def a2 (t : Fin 4224) (b : Fin 512) : EReal := m (c, Proc.tc.devRef main_arg2) (ix2 t b)
def a3 (t : Fin 4224) (h : Fin 8) : EReal := m (c, Proc.tc.devRef main_arg3) (ix2 t h)
def a4 (t : Fin 4112) (b : Fin 512) : EReal := m (c, Proc.tc.devRef main_arg4) (ix2 t b)
def e9 (h : Fin 8) (t : Fin 4112) (s : Fin 4224) : EReal := V m c main_v9 (ix3 h t s)
def e23 (h : Fin 8) (t : Fin 4112) (s : Fin 4224) : EReal := V m c main_v23 (ix3 h t s)
def e28 (h : Fin 8) (t : Fin 4112) (s : Fin 4224) : EReal := V m c main_v28 (ix3 h t s)
def e32 (h : Fin 8) (t : Fin 4112) (s : Fin 4224) : EReal := V m c main_v32 (ix3 h t s)
def e24 (h : Fin 8) (t : Fin 4112) : EReal := V m c main_v24 (ix2 h t)
def e29 (h : Fin 8) (t : Fin 4112) : EReal := V m c main_v29 (ix2 h t)
def e38 (h : Fin 8) (t : Fin 4112) : EReal := V m c main_v38 (ix2 h t)
def e42 (h : Fin 8) (t : Fin 4112) : EReal := V m c main_v42 (ix2 h t)
def e34 (h : Fin 8) (d : Fin 64) (t : Fin 4112) : EReal := V m c main_v34 (ix3 h d t)
def e45 (t : Fin 4224) (b : Fin 512) : EReal := V m c main_v45 (ix2 t b)
def e46 (t : Fin 4224) (b : Fin 512) : EReal := V m c main_v46 (ix2 t b)
def e47 (t : Fin 4224) (b : Fin 512) : EReal := V m c main_v47 (ix2 t b)
def e50 (t : Fin 4224) (b : Fin 512) : EReal := V m c main_v50 (ix2 t b)
def e52 (t : Fin 4224) (b : Fin 1024) : EReal := V m c main_v52 (ix2 t b)
def e56 (p : Fin 4) (n : Fin 11) (h : Fin 2) (r : Fin 384) : EReal := V m c main_v56 (ix4 p n h r)
def e60 (p : Fin 4) (n : Fin 11) (h : Fin 2) (r : Fin 384) : EReal := V m c main_v60 (ix4 p n h r)

/-- The initial memory holds the arguments `A`. -/
structure IsArr (A : Arr) : Prop where
  q : ∀ (t : Fin 4224) (b : Fin 512), (a0 m c t b) = ((A.q t.val b.val : ℝ) : EReal)
  k : ∀ (t : Fin 4224) (b : Fin 512), (a1 m c t b) = ((A.k t.val b.val : ℝ) : EReal)
  v : ∀ (t : Fin 4224) (b : Fin 512), (a2 m c t b) = ((A.v t.val b.val : ℝ) : EReal)
  g : ∀ (t : Fin 4112) (b : Fin 512), (a4 m c t b) = ((A.g t.val b.val : ℝ) : EReal)
  c : ∀ (t : Fin 4224) (h : Fin 8), (a3 m c t h) = ((A.c t.val h.val : ℝ) : EReal)

theorem minusInf : Ideal.ofBits .f32 0xFF800000#32 = (⊥ : EReal) := by
  simp [Ideal.ofBits, Ideal.ieee]

theorem zero32 : Ideal.ofBits .f32 0x00000000#32 = ((0 : ℝ) : EReal) := by
  simp [Ideal.ofBits, Ideal.ieee]

theorem v9_eq (h : Fin 8) (t : Fin 4112) (s : Fin 4224) : (e9 m c h t s) =
    (∑ x : Fin 64, (a0 m c ⟨112 + t.val, by omega⟩ ⟨h.val * 64 + x.val, by omega⟩) *
      (a1 m c s ⟨h.val * 64 + x.val, by omega⟩)) * Ideal.ofBits .f32 0x3E000000#32 -
      (a3 m c s h) := by
  unfold e9
  simp only [V, hostOps0, hostOps0_1, hostOps0_2, List.flatten_cons, List.flatten_nil, List.append_nil, List.cons_append, List.nil_append]
  entry_read
  pointwise
  first | done | rfl

theorem v22_at (t : Fin 4112) (s : Fin 4224) : (V m c main_v22 : IVec S1x4112x4224 1) (ix3 0 t s) = BitVec.ofBool (decide (Sees t.val s.val)) := by
  have e : (V m c main_v22 : IVec S1x4112x4224 1) (ix3 0 t s) =
      IntOp.andi (IntOp.cmpi .sle (BitVec.ofNat 32 s.val) (BitVec.ofNat 32 (112 + t.val))) (IntOp.cmpi .sge (BitVec.ofNat 32 s.val) 112#32) := by
    simp only [V, hostOps0, hostOps0_1, hostOps0_2, List.flatten_cons, List.flatten_nil, List.append_nil, List.cons_append, List.nil_append]
    entry_read
    pointwise
  rw [e, WordCmp.cmpi_sle_ofNat (by omega) (by omega), WordCmp.cmpi_sge_ofNat (by omega) (by omega), WordCmp.andi_ofBool]
  congr 1
  simp

theorem v23_eq : V m c main_v23 = (select (broadcastInDim S8x4112x4224 ![0, 1, 2] bcast_S1x4112x4224_S8x4112x4224_0_1_2 (V m c main_v22 : IVec S1x4112x4224 1))
    (V m c main_v9 : FVec Ideal S8x4112x4224 .f32) (broadcastInDim S8x4112x4224 ![] bcast_S_S8x4112x4224 (constant S_ .f32 0xFF800000#32 : FVec Ideal S_ .f32)) : FVec Ideal S8x4112x4224 .f32) := by
  simp only [V, hostOps0, hostOps0_1, hostOps0_2, List.flatten_cons, List.flatten_nil, List.append_nil, List.cons_append, List.nil_append]
  entry_read
  rfl

theorem v23_sel (h : Fin 8) (t : Fin 4112) (s : Fin 4224) : (e23 m c h t s) =
    Scalar.select ((V m c main_v22 : IVec S1x4112x4224 1) (ix3 0 t s)) (e9 m c h t s) (Ideal.ofBits .f32 0xFF800000#32) := by
  unfold e23 e9
  rw [v23_eq m c]
  generalize V m c main_v22 = y
  generalize V m c main_v9 = z
  pointwise
  first | done | rfl

theorem v24_eq : V m c main_v24 = (Host.reduce FloatOps.maximumf (V m c main_v23 : FVec Ideal S8x4112x4224 .f32) (constant S_ .f32 0xFF800000#32) reducesTo_S8x4112x4224_S8x4112_d2 h_S_ : FVec Ideal S8x4112 .f32) := by
  simp only [V, hostOps0, hostOps0_1, hostOps0_2, List.flatten_cons, List.flatten_nil, List.append_nil, List.cons_append, List.nil_append]
  entry_read
  rfl

theorem v24_fold (h : Fin 8) (t : Fin 4112) : (e24 m c h t) =
    Finset.fold max (⊥ : EReal) (V m c main_v23 : S8x4112x4224.Idx → EReal) {i | reducesTo_S8x4112x4224_S8x4112_d2.drop i = ix2 h t} := by
  unfold e24
  rw [v24_eq m c]
  generalize V m c main_v23 = y
  pointwise
  rw [minusInf]

theorem v28_eq (h : Fin 8) (t : Fin 4112) (s : Fin 4224) : (e28 m c h t s) =
    Ideal.exp ((e23 m c h t s) - (e24 m c h t)) := by
  unfold e28 e23 e24
  have e : V m c main_v28 = (Host.exp (F := Ideal) (φ := .f32) (subf (V m c main_v23 : FVec Ideal S8x4112x4224 .f32)
      (broadcastInDim S8x4112x4224 ![0, 1, 2] bcast_S8x4112x1_S8x4112x4224_0_1_2 (broadcastInDim S8x4112x1 ![0, 1] bcast_S8x4112_S8x4112x1_0_1 (V m c main_v24 : FVec Ideal S8x4112 .f32)))) : FVec Ideal S8x4112x4224 .f32) := by
    simp only [V, hostOps0, hostOps0_1, hostOps0_2, List.flatten_cons, List.flatten_nil, List.append_nil, List.cons_append, List.nil_append]
    entry_read
    rfl
  rw [e]
  generalize V m c main_v23 = y
  generalize V m c main_v24 = z
  pointwise
  first | done | rfl

theorem v29_eq (h : Fin 8) (t : Fin 4112) : (e29 m c h t) = ∑ s : Fin 4224, (e28 m c h t s) := by
  unfold e29 e28
  have e : V m c main_v29 = (Host.reduceAdd (V m c main_v28 : FVec Ideal S8x4112x4224 .f32) (constant S_ .f32 0x00000000#32) reducesTo_S8x4112x4224_S8x4112_d2 h_S_ : FVec Ideal S8x4112 .f32) := by
    simp only [V, hostOps0, hostOps0_1, hostOps0_2, List.flatten_cons, List.flatten_nil, List.append_nil, List.cons_append, List.nil_append]
    entry_read
    rfl
  rw [e]
  generalize V m c main_v28 = y
  pointwise
  first | done | rfl

theorem v32_eq (h : Fin 8) (t : Fin 4112) (s : Fin 4224) : (e32 m c h t s) = Ideal.div (e28 m c h t s) (e29 m c h t) := by
  unfold e32 e28 e29
  have e : V m c main_v32 = (Host.divf (F := Ideal) (φ := .f32) (V m c main_v28 : FVec Ideal S8x4112x4224 .f32)
      (broadcastInDim S8x4112x4224 ![0, 1, 2] bcast_S8x4112x1_S8x4112x4224_0_1_2 (broadcastInDim S8x4112x1 ![0, 1] bcast_S8x4112_S8x4112x1_0_1 (V m c main_v29 : FVec Ideal S8x4112 .f32))) : FVec Ideal S8x4112x4224 .f32) := by
    simp only [V, hostOps0, hostOps0_1, hostOps0_2, List.flatten_cons, List.flatten_nil, List.append_nil, List.cons_append, List.nil_append]
    entry_read
    rfl
  rw [e]
  generalize V m c main_v28 = y
  generalize V m c main_v29 = z
  pointwise
  first | done | rfl

theorem v34_eq (h : Fin 8) (d : Fin 64) (t : Fin 4112) : (e34 m c h d t) =
    ∑ s : Fin 4224, (a2 m c s ⟨h.val * 64 + d.val, by omega⟩) * (e32 m c h t s) := by
  unfold e34 e32
  have e : V m c main_v34 = (Host.dotGeneral (F := Ideal) (φ₁ := .f32) (φ₂ := .f32) dot_S4224x8x64_S8x4112x4224_S8x64x4112_0_2_2_1_1_0 none (shapeCast S4224x8x64 (m (c, Proc.tc.devRef main_arg2) : FVec Ideal S4224x512 .f32) shapeCasts_S4224x512_S4224x8x64) (V m c main_v32 : FVec Ideal S8x4112x4224 .f32) : FVec Ideal S8x64x4112 .f32) := by
    simp only [V, hostOps0, hostOps0_1, hostOps0_2, List.flatten_cons, List.flatten_nil, List.append_nil, List.cons_append, List.nil_append]
    entry_read
    rfl
  rw [e]
  generalize V m c main_v32 = y
  pointwise
  first | done | rfl

theorem v37_eq : V m c main_v37 = (addf (broadcastInDim S8x4112x1 ![0, 1] bcast_S8x4112_S8x4112x1_0_1 (V m c main_v24 : FVec Ideal S8x4112 .f32)) (Host.log (F := Ideal) (φ := .f32) (broadcastInDim S8x4112x1 ![0, 1] bcast_S8x4112_S8x4112x1_0_1 (V m c main_v29 : FVec Ideal S8x4112 .f32))) : FVec Ideal S8x4112x1 .f32) := by
  simp only [V, hostOps0, hostOps0_1, hostOps0_2, List.flatten_cons, List.flatten_nil, List.append_nil, List.cons_append, List.nil_append]
  entry_read
  rfl

theorem v38_cast : V m c main_v38 = (shapeCast S8x4112 (V m c main_v37 : FVec Ideal S8x4112x1 .f32) shapeCasts_S8x4112x1_S8x4112 : FVec Ideal S8x4112 .f32) := by
  simp only [V, hostOps0, hostOps0_1, hostOps0_2, List.flatten_cons, List.flatten_nil, List.append_nil, List.cons_append, List.nil_append]
  entry_read
  rfl

theorem cast38 (y : FVec Ideal S8x4112x1 .f32) (h : Fin 8) (t : Fin 4112) (w : EReal) (e : y (ix3 h t 0) = w) : shapeCast S8x4112 y shapeCasts_S8x4112x1_S8x4112 (ix2 h t) = w := by
  pointwise
  exact e

theorem add37 (y z : FVec Ideal S8x4112 .f32) (h : Fin 8) (t : Fin 4112) :
    (addf (broadcastInDim S8x4112x1 ![0, 1] bcast_S8x4112_S8x4112x1_0_1 y) (Host.log (F := Ideal) (φ := .f32) (broadcastInDim S8x4112x1 ![0, 1] bcast_S8x4112_S8x4112x1_0_1 z)) : FVec Ideal S8x4112x1 .f32) (ix3 h t 0) =
      (show EReal from y (ix2 h t)) + Ideal.log (z (ix2 h t)) := by
  pointwise

theorem v38_eq (h : Fin 8) (t : Fin 4112) : (e38 m c h t) = (e24 m c h t) + Ideal.log (e29 m c h t) := by
  unfold e38 e24 e29
  refine (congrFun (v38_cast m c) (ix2 h t)).trans (cast38 _ h t _ ?_)
  exact (congrFun (v37_eq m c) (ix3 h t 0)).trans (add37 _ _ h t)

theorem v42_eq (h : Fin 8) (t : Fin 4112) : (e42 m c h t) =
    ∑ d : Fin 64, (a4 m c t ⟨h.val * 64 + d.val, by omega⟩) * (e34 m c h d t) := by
  unfold e42 e34
  have e : V m c main_v42 = (transpose S8x4112 [1, 0] (Host.reduceAdd (mulf (shapeCast S4112x8x64 (m (c, Proc.tc.devRef main_arg4) : FVec Ideal S4112x512 .f32) shapeCasts_S4112x512_S4112x8x64) (transpose S4112x8x64 [2, 0, 1] (V m c main_v34 : FVec Ideal S8x64x4112 .f32) transposes_S8x64x4112_S4112x8x64_2_0_1)) (constant S_ .f32 0x00000000#32) reducesTo_S4112x8x64_S4112x8_d2 h_S_) transposes_S4112x8_S8x4112_1_0 : FVec Ideal S8x4112 .f32) := by
    simp only [V, hostOps0, hostOps0_1, hostOps0_2, List.flatten_cons, List.flatten_nil, List.append_nil, List.cons_append, List.nil_append]
    entry_read
    rfl
  rw [e]
  generalize V m c main_v34 = y
  pointwise
  first | done | rfl

theorem v45_eq (t : Fin 4224) (b : Fin 512) : (e45 m c t b) = (a0 m c t b) * Ideal.ofBits .f32 0x3E000000#32 := by
  unfold e45
  simp only [V, hostOps0, hostOps0_1, hostOps0_2, List.flatten_cons, List.flatten_nil, List.append_nil, List.cons_append, List.nil_append]
  entry_read
  pointwise
  first | done | rfl

theorem v46_eq (t : Fin 4224) (b : Fin 512) : (e46 m c t b) = (a1 m c t b) := by
  unfold e46
  simp only [V, hostOps0, hostOps0_1, hostOps0_2, List.flatten_cons, List.flatten_nil, List.append_nil, List.cons_append, List.nil_append]
  entry_read
  pointwise
  first | done | rfl

theorem v47_eq (t : Fin 4224) (b : Fin 512) : (e47 m c t b) = (a2 m c t b) := by
  unfold e47
  simp only [V, hostOps0, hostOps0_1, hostOps0_2, List.flatten_cons, List.flatten_nil, List.append_nil, List.cons_append, List.nil_append]
  entry_read
  pointwise
  first | done | rfl

theorem v50_eq (t : Fin 4224) (b : Fin 512) : (e50 m c t b) = if h : t.val < 112 then Ideal.ofBits .bf16 0#16 else (a4 m c ⟨t.val - 112, by omega⟩ b) := by
  unfold e50
  simp only [V, hostOps0, hostOps0_1, hostOps0_2, List.flatten_cons, List.flatten_nil, List.append_nil, List.cons_append, List.nil_append]
  entry_read
  pointwise
  first | done | rfl

theorem v52_eq (t : Fin 4224) (b : Fin 1024) : (e52 m c t b) = (a3 m c t ⟨b.val / 128, by omega⟩) := by
  unfold e52
  simp only [V, hostOps0, hostOps0_1, hostOps0_2, List.flatten_cons, List.flatten_nil, List.append_nil, List.cons_append, List.nil_append]
  entry_read
  pointwise
  first | done | rfl

theorem v56_eq (p : Fin 4) (n : Fin 11) (h : Fin 2) (r : Fin 384) : (e56 m c p n h r) =
    if h' : 384 * n.val + r.val < 112 then Ideal.ofBits .f32 0x00000000#32 else (e38 m c ⟨2 * p.val + h.val, by omega⟩ ⟨384 * n.val + r.val - 112, by omega⟩) := by
  unfold e56 e38
  have e : V m c main_v56 = (transpose S4x11x2x384 [0, 2, 1, 3] (shapeCast S4x2x11x384 (concatenate S8x4224 1 [⟨S8x112, broadcastInDim S8x112 ![] bcast_S_S8x112 (constant S_ .f32 0x00000000#32 : FVec Ideal S_ .f32)⟩, ⟨S8x4112, (V m c main_v38 : FVec Ideal S8x4112 .f32)⟩] concatenates_S8x112_S8x4112_S8x4224_d1) shapeCasts_S8x4224_S4x2x11x384) transposes_S4x2x11x384_S4x11x2x384_0_2_1_3 : FVec Ideal S4x11x2x384 .f32) := by
    simp only [V, hostOps0, hostOps0_1, hostOps0_2, List.flatten_cons, List.flatten_nil, List.append_nil, List.cons_append, List.nil_append]
    entry_read
    rfl
  rw [e]
  generalize V m c main_v38 = y
  pointwise
  simp only [Nat.mul_comm p.val 2, Nat.mul_comm n.val 384]

theorem v60_eq (p : Fin 4) (n : Fin 11) (h : Fin 2) (r : Fin 384) : (e60 m c p n h r) =
    if h' : 384 * n.val + r.val < 112 then Ideal.ofBits .f32 0x00000000#32 else (e42 m c ⟨2 * p.val + h.val, by omega⟩ ⟨384 * n.val + r.val - 112, by omega⟩) := by
  unfold e60 e42
  have e : V m c main_v60 = (transpose S4x11x2x384 [0, 2, 1, 3] (shapeCast S4x2x11x384 (concatenate S8x4224 1 [⟨S8x112, broadcastInDim S8x112 ![] bcast_S_S8x112 (constant S_ .f32 0x00000000#32 : FVec Ideal S_ .f32)⟩, ⟨S8x4112, (V m c main_v42 : FVec Ideal S8x4112 .f32)⟩] concatenates_S8x112_S8x4112_S8x4224_d1) shapeCasts_S8x4224_S4x2x11x384) transposes_S4x2x11x384_S4x11x2x384_0_2_1_3 : FVec Ideal S4x11x2x384 .f32) := by
    simp only [V, hostOps0, hostOps0_1, hostOps0_2, List.flatten_cons, List.flatten_nil, List.append_nil, List.cons_append, List.nil_append]
    entry_read
    rfl
  rw [e]
  generalize V m c main_v42 = y
  pointwise
  simp only [Nat.mul_comm p.val 2, Nat.mul_comm n.val 384]

end Cert.KernelIdeal.Hand
-- ==== Proof.IdealBlocks.lean ====
/- The blocks a grid point reads and the values it fixes from them, at the ideal numbers. -/
module

public import proofs.«01_k».proof.Proof.IdealSums
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

theorem idx0 : ∀ t : Fin cfg0.N, (win0_0.index t 0 : ℕ) = 0 ∧ (win0_0.index t 1 : ℕ) = t.val / 11 := by decide +kernel
theorem idx1 : ∀ t : Fin cfg0.N, (win0_1.index t 0 : ℕ) = t.val % 11 ∧ (win0_1.index t 1 : ℕ) = t.val / 11 := by decide +kernel
theorem idx2 : ∀ t : Fin cfg0.N, (win0_2.index t 0 : ℕ) = t.val % 11 ∧ (win0_2.index t 1 : ℕ) = t.val / 11 := by decide +kernel
theorem idx3 : ∀ t : Fin cfg0.N, (win0_3.index t 0 : ℕ) = 0 ∧ (win0_3.index t 1 : ℕ) = t.val / 11 := by decide +kernel
theorem idx4 : ∀ t : Fin cfg0.N, (win0_4.index t 0 : ℕ) = t.val / 11 ∧ (win0_4.index t 1 : ℕ) = 0 ∧ (win0_4.index t 2 : ℕ) = 0 ∧ (win0_4.index t 3 : ℕ) = 0 := by decide +kernel
theorem idx5 : ∀ t : Fin cfg0.N, (win0_5.index t 0 : ℕ) = t.val / 11 ∧ (win0_5.index t 1 : ℕ) = 0 ∧ (win0_5.index t 2 : ℕ) = 0 ∧ (win0_5.index t 3 : ℕ) = 0 := by decide +kernel
theorem idx6 : ∀ t : Fin cfg0.N, (win0_6.index t 0 : ℕ) = t.val % 11 ∧ (win0_6.index t 1 : ℕ) = t.val / 11 := by decide +kernel

theorem lt44 (t : Fin cfg0.N) : t.val < 44 := t.isLt

theorem blk0 (t : Fin cfg0.N) (r : Fin 4224) (b : Fin 128) : iblk m c 0 t (ix2 r b) = V m c main_v45 (ix2 r ⟨128 * (t.val / 11) + b.val, by have := lt44 t; omega⟩) := by
  obtain ⟨h0, h1⟩ := idx0 t
  blk_ext [iblk, h0, h1]

theorem blk1 (t : Fin cfg0.N) (r : Fin 384) (b : Fin 128) : iblk m c 1 t (ix2 r b) = V m c main_v46 (ix2 ⟨384 * (t.val % 11) + r.val, by omega⟩ ⟨128 * (t.val / 11) + b.val, by have := lt44 t; omega⟩) := by
  obtain ⟨h0, h1⟩ := idx1 t
  blk_ext [iblk, h0, h1]

theorem blk2 (t : Fin cfg0.N) (r : Fin 384) (b : Fin 128) : iblk m c 2 t (ix2 r b) = V m c main_v47 (ix2 ⟨384 * (t.val % 11) + r.val, by omega⟩ ⟨128 * (t.val / 11) + b.val, by have := lt44 t; omega⟩) := by
  obtain ⟨h0, h1⟩ := idx2 t
  blk_ext [iblk, h0, h1]

theorem blk3 (t : Fin cfg0.N) (r : Fin 4224) (b : Fin 128) : iblk m c 3 t (ix2 r b) = V m c main_v50 (ix2 r ⟨128 * (t.val / 11) + b.val, by have := lt44 t; omega⟩) := by
  obtain ⟨h0, h1⟩ := idx3 t
  blk_ext [iblk, h0, h1]

theorem blk4 (t : Fin cfg0.N) (z : Fin 1) (n : Fin 11) (h : Fin 2) (r : Fin 384) : iblk m c 4 t (ix4 z n h r) = V m c main_v56 (ix4 ⟨t.val / 11, by have := lt44 t; omega⟩ n h r) := by
  obtain ⟨h0, h1, h2, h3⟩ := idx4 t
  blk_ext [iblk, h0, h1, h2, h3]

theorem blk5 (t : Fin cfg0.N) (z : Fin 1) (n : Fin 11) (h : Fin 2) (r : Fin 384) : iblk m c 5 t (ix4 z n h r) = V m c main_v60 (ix4 ⟨t.val / 11, by have := lt44 t; omega⟩ n h r) := by
  obtain ⟨h0, h1, h2, h3⟩ := idx5 t
  blk_ext [iblk, h0, h1, h2, h3]

theorem blk6 (t : Fin cfg0.N) (r : Fin 384) (b : Fin 256) : iblk m c 6 t (ix2 r b) = V m c main_v52 (ix2 ⟨384 * (t.val % 11) + r.val, by omega⟩ ⟨256 * (t.val / 11) + b.val, by have := lt44 t; omega⟩) := by
  obtain ⟨h0, h1⟩ := idx6 t
  blk_ext [iblk, h0, h1]

theorem v2_at (z : Fin 1) (b : Fin 128) : k0_pay72 (ix2 z b) = BitVec.ofBool (decide (b.val < 64)) := by
  have e : k0_pay72 (ix2 z b) = IntOp.cmpi CmpIPredicate.slt (BitVec.ofNat 32 b.val) 64#32 := by
    pointwise [k0_pay72]
  rw [e, WordCmp.cmpi_slt_ofNat (by omega) (by omega)]

theorem v8_at (z : Fin 1) (b : Fin 128) : k0_pay75 (ix2 z b) = BitVec.ofBool (decide (b.val < 64)) := by
  have e : k0_pay75 (ix2 z b) = IntOp.cmpi CmpIPredicate.slt (BitVec.ofNat 32 b.val) 64#32 := by
    pointwise [k0_pay75]
  rw [e, WordCmp.cmpi_slt_ofNat (by omega) (by omega)]

theorem v10_eq (x : FVec Ideal S384x128 .bf16) (a : Fin 384) (b : Fin 128) : k0_pay76 (F := Ideal) x (ix2 a b) = x (ix2 a b) := by
  pointwise [k0_pay76]

theorem v12_eq (x : FVec Ideal S384x128 .bf16) (a : Fin 384) (b : Fin 128) : k0_pay77 (F := Ideal) x (ix2 a b) = x (ix2 a b) := by
  pointwise [k0_pay77]

theorem v23_pay (x : FVec Ideal S384x128 .bf16) (a : Fin 768) (b : Fin 128) : k0_pay78 (F := Ideal) x (ix2 a b) =
    if h : a.val < 384 then Scalar.select (IntOp.cmpi .slt (BitVec.ofNat 32 b.val) 64#32) (x (ix2 ⟨a.val, h⟩ b)) (0 : EReal)
    else Scalar.select (IntOp.cmpi .slt (BitVec.ofNat 32 b.val) 64#32) (0 : EReal) (x (ix2 ⟨a.val - 384, by omega⟩ b)) := by
  have e : k0_pay78 (F := Ideal) x (ix2 a b) = if h : a.val < 384 then Scalar.select (IntOp.cmpi .slt (BitVec.ofNat 32 b.val) 64#32) (x (ix2 ⟨a.val, h⟩ b)) (((0#32).toInt : ℝ) : EReal)
    else Scalar.select (IntOp.cmpi .slt (BitVec.ofNat 32 b.val) 64#32) (((0#32).toInt : ℝ) : EReal) (x (ix2 ⟨a.val - 384, by omega⟩ b)) := by
    pointwise [k0_pay78, k0_pay76, k0_pay75]
  rw [e]
  simp

theorem v34_pay (x : FVec Ideal S384x256 .f32) (a : Fin 384) (b : Fin 768) : k0_pay80 (F := Ideal) x (ix2 a b) =
    x (ix2 a ⟨128 * (b.val / 384) + b.val % 128, by omega⟩) := by
  pointwise [k0_pay80]
  split_ifs <;> exact congrArg x (congrArg (ix2 a) (Fin.ext (by dsimp only; omega)))

end Cert.KernelIdeal.Hand
-- ==== Proof.IdealValues.lean ====
/- The host's arrays before the kernel as real numbers, and a grid point's fixed values from them. -/
module

public import proofs.«01_k».proof.Proof.IdealHost
public import proofs.«01_k».proof.Proof.IdealBlocks

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic

variable (m : (ℓ : Loc nD τ sig) → Buf (Elt Ideal) ℓ) (c : Dev nD) (A : Arr) (hA : IsArr m c A)

include hA

theorem e9_at (h : Fin 8) (t : Fin 4112) (s : Fin 4224) : e9 m c h t s = ((A.S h.val t.val s.val : ℝ) : EReal) := by
  rw [v9_eq m c, eighth, hA.c]
  simp only [hA.q, hA.k, ← EReal.coe_mul]
  rw [coe_sum, ← EReal.coe_mul, ← EReal.coe_sub]
  rfl

theorem e23_at (h : Fin 8) (t : Fin 4112) (s : Fin 4224) : e23 m c h t s = if Sees t.val s.val then ((A.S h.val t.val s.val : ℝ) : EReal) else ⊥ := by
  rw [v23_sel m c, v22_at, e9_at m c A hA, minusInf, sel_ofBool]

theorem e24_real (h : Fin 8) (t : Fin 4112) : ∃ M : ℝ, e24 m c h t = (M : EReal) := by
  rw [v24_fold m c]
  refine max_real _ _ (fun i _ => ?_) ⟨ix3 h t ⟨112, by norm_num⟩, ?_, ?_⟩
  · obtain ⟨a, b, d, rfl⟩ : ∃ a b d, i = ix3 a b d := ⟨i 0, i 1, i 2, by ext k; fin_cases k <;> rfl⟩
    have e := e23_at m c A hA a b d
    unfold e23 at e
    rw [e]
    split_ifs <;> simp
  · simp only [Finset.mem_filter, Finset.mem_univ, true_and]
    ext k; fin_cases k <;> rfl
  · have e := e23_at m c A hA h t ⟨112, by norm_num⟩
    unfold e23 at e
    rw [e, if_pos ⟨by simp, le_rfl⟩]
    simp

theorem e28_at (h : Fin 8) (t : Fin 4112) (M : ℝ) (hM : e24 m c h t = (M : EReal)) (s : Fin 4224) :
    e28 m c h t s = ((if Sees t.val s.val then Real.exp (A.S h.val t.val s.val - M) else 0 : ℝ) : EReal) := by
  rw [v28_eq m c, hM, e23_at m c A hA]
  split_ifs
  · rw [← EReal.coe_sub, Ideal.exp_coe]
  · simp [Ideal.exp_bot]

theorem e29_at (h : Fin 8) (t : Fin 4112) (M : ℝ) (hM : e24 m c h t = (M : EReal)) :
    e29 m c h t = ((∑ s : Fin 4224, (if Sees t.val s.val then Real.exp (A.S h.val t.val s.val - M) else 0) : ℝ) : EReal) := by
  rw [v29_eq m c]
  simp only [e28_at m c A hA h t M hM]
  rw [coe_sum]

theorem e32_at (h : Fin 8) (t : Fin 4112) (s : Fin 4224) : e32 m c h t s = ((A.W h.val t.val s.val : ℝ) : EReal) := by
  obtain ⟨M, hM⟩ := e24_real m c A hA h t
  rw [v32_eq m c, e28_at m c A hA h t M hM, e29_at m c A hA h t M hM,
    Ideal.div_coe (A.shift_pos h.val t.val M t.isLt).ne', ← EReal.coe_mul, A.share h.val t.val s.val M t.isLt]

theorem e38_at (h : Fin 8) (t : Fin 4112) : e38 m c h t = ((A.L h.val t.val : ℝ) : EReal) := by
  obtain ⟨M, hM⟩ := e24_real m c A hA h t
  have h1 := A.shift_pos h.val t.val M t.isLt
  rw [v38_eq m c, e29_at m c A hA h t M hM, hM, Ideal.log_coe, if_neg (not_le.mpr h1), ← EReal.coe_add, A.log_sum h.val t.val M t.isLt]

theorem e34_at (h : Fin 8) (d : Fin 64) (t : Fin 4112) :
    e34 m c h d t = ((∑ s : Fin 4224, A.v s.val (h.val * 64 + d.val) * A.W h.val t.val s.val : ℝ) : EReal) := by
  rw [v34_eq m c]
  simp only [hA.v, e32_at m c A hA, ← EReal.coe_mul]
  rw [coe_sum]

theorem e42_at (h : Fin 8) (t : Fin 4112) : e42 m c h t = ((A.D h.val t.val : ℝ) : EReal) := by
  rw [v42_eq m c]
  simp only [hA.g, e34_at m c A hA, ← EReal.coe_mul]
  rw [coe_sum, A.D_eq]

omit hA in
/-- The arguments as pair `p` of heads sees them. -/
def pair (p : ℕ) : Re where
  q t b := A.q t (128 * p + b) * (1 / 8)
  d t b := if t < 112 then 0 else A.g (t - 112) (128 * p + b)
  k s b := A.k s (128 * p + b)
  v s b := A.v s (128 * p + b)
  l h t := if t < 112 then 0 else A.L (2 * p + h) (t - 112)
  e h t := if t < 112 then 0 else A.D (2 * p + h) (t - 112)
  c h s := A.c s (2 * p + h)

omit hA in
theorem zero16 : Ideal.ofBits .bf16 0#16 = ((0 : ℝ) : EReal) := by
  simp [Ideal.ofBits, Ideal.ieee]

omit hA in
theorem in0 (t : Fin cfg0.N) (r : Fin 4224) (b : Fin 128) : iblk m c 0 t (ix2 r b) = e45 m c r ⟨128 * (t.val / 11) + b.val, by have := lt44 t; omega⟩ := by
  unfold e45; exact blk0 m c t r b
omit hA in
theorem in1 (t : Fin cfg0.N) (r : Fin 384) (b : Fin 128) : iblk m c 1 t (ix2 r b) = e46 m c ⟨384 * (t.val % 11) + r.val, by omega⟩ ⟨128 * (t.val / 11) + b.val, by have := lt44 t; omega⟩ := by
  unfold e46; exact blk1 m c t r b
omit hA in
theorem in2 (t : Fin cfg0.N) (r : Fin 384) (b : Fin 128) : iblk m c 2 t (ix2 r b) = e47 m c ⟨384 * (t.val % 11) + r.val, by omega⟩ ⟨128 * (t.val / 11) + b.val, by have := lt44 t; omega⟩ := by
  unfold e47; exact blk2 m c t r b
omit hA in
theorem in3 (t : Fin cfg0.N) (r : Fin 4224) (b : Fin 128) : iblk m c 3 t (ix2 r b) = e50 m c r ⟨128 * (t.val / 11) + b.val, by have := lt44 t; omega⟩ := by
  unfold e50; exact blk3 m c t r b
omit hA in
theorem in4 (t : Fin cfg0.N) (z : Fin 1) (n : Fin 11) (h : Fin 2) (r : Fin 384) : iblk m c 4 t (ix4 z n h r) = e56 m c ⟨t.val / 11, by have := lt44 t; omega⟩ n h r := by
  unfold e56; exact blk4 m c t z n h r
omit hA in
theorem in5 (t : Fin cfg0.N) (z : Fin 1) (n : Fin 11) (h : Fin 2) (r : Fin 384) : iblk m c 5 t (ix4 z n h r) = e60 m c ⟨t.val / 11, by have := lt44 t; omega⟩ n h r := by
  unfold e60; exact blk5 m c t z n h r
omit hA in
theorem in6 (t : Fin cfg0.N) (r : Fin 384) (b : Fin 256) : iblk m c 6 t (ix2 r b) = e52 m c ⟨384 * (t.val % 11) + r.val, by omega⟩ ⟨256 * (t.val / 11) + b.val, by have := lt44 t; omega⟩ := by
  unfold e52; exact blk6 m c t r b

theorem e50_at (r : Fin 4224) (b : Fin 512) : e50 m c r b = ((if r.val < 112 then 0 else A.g (r.val - 112) b.val : ℝ) : EReal) := by
  rw [v50_eq m c]
  by_cases h : r.val < 112
  · rw [dif_pos h, if_pos h, zero16]
  · rw [dif_neg h, if_neg h]; exact hA.g _ _

theorem e56_at (p : Fin 4) (n : Fin 11) (h : Fin 2) (r : Fin 384) : e56 m c p n h r =
    ((if 384 * n.val + r.val < 112 then 0 else A.L (2 * p.val + h.val) (384 * n.val + r.val - 112) : ℝ) : EReal) := by
  rw [v56_eq m c]
  by_cases h' : 384 * n.val + r.val < 112
  · rw [dif_pos h', if_pos h', zero32]
  · rw [dif_neg h', if_neg h']; exact e38_at m c A hA _ _

theorem e60_at (p : Fin 4) (n : Fin 11) (h : Fin 2) (r : Fin 384) : e60 m c p n h r =
    ((if 384 * n.val + r.val < 112 then 0 else A.D (2 * p.val + h.val) (384 * n.val + r.val - 112) : ℝ) : EReal) := by
  rw [v60_eq m c]
  by_cases h' : 384 * n.val + r.val < 112
  · rw [dif_pos h', if_pos h', zero32]
  · rw [dif_neg h', if_neg h']; exact e42_at m c A hA _ _

omit hA in
theorem v23_at (x : FVec Ideal S384x128 .bf16) (K : ℕ → ℝ) (a : Fin 768) (b : Fin 128) (hk : ∀ r : Fin 384, x (ix2 r b) = ((K r.val : ℝ) : EReal)) :
    k0_pay78 (F := Ideal) x (ix2 a b) = ((if b.val / 64 = a.val / 384 then K (a.val % 384) else 0 : ℝ) : EReal) := by
  rw [v23_pay, WordCmp.cmpi_slt_ofNat (by omega) (by omega)]
  have ha := a.isLt
  have hb := b.isLt
  by_cases h1 : a.val < 384 <;> by_cases h2 : b.val < 64
  · rw [dif_pos h1, sel_ofBool, if_pos h2, if_pos (by omega : b.val / 64 = a.val / 384), show a.val % 384 = a.val by omega]
    exact hk _
  · rw [dif_pos h1, sel_ofBool, if_neg h2, if_neg (by omega : ¬ b.val / 64 = a.val / 384)]
    rfl
  · rw [dif_neg h1, sel_ofBool, if_pos h2, if_neg (by omega : ¬ b.val / 64 = a.val / 384)]
    rfl
  · rw [dif_neg h1, sel_ofBool, if_neg h2, if_pos (by omega : b.val / 64 = a.val / 384), show a.val % 384 = a.val - 384 by omega]
    exact hk ⟨a.val - 384, by omega⟩

theorem e52_at (t : Fin 4224) (p b : ℕ) (hb : b < 768) (hp : p < 4) :
    e52 m c t ⟨256 * p + (128 * (b / 384) + b % 128), by omega⟩ = ((A.c t.val (2 * p + b / 384) : ℝ) : EReal) := by
  rw [v52_eq m c, hA.c]
  dsimp only
  rw [show (256 * p + (128 * (b / 384) + b % 128)) / 128 = 2 * p + b / 384 by omega]

theorem k_at (t : Fin cfg0.N) (r : Fin 384) (b : Fin 128) :
    iblk m c 1 t (ix2 r b) = ((A.k (384 * (t.val % 11) + r.val) (128 * (t.val / 11) + b.val) : ℝ) : EReal) :=
  (in1 m c t r b).trans ((v46_eq m c _ _).trans (hA.k _ _))

theorem v_at (t : Fin cfg0.N) (r : Fin 384) (b : Fin 128) :
    iblk m c 2 t (ix2 r b) = ((A.v (384 * (t.val % 11) + r.val) (128 * (t.val / 11) + b.val) : ℝ) : EReal) :=
  (in2 m c t r b).trans ((v47_eq m c _ _).trans (hA.v _ _))

theorem c_at (t : Fin cfg0.N) (r : Fin 384) (b : Fin 768) : k0_pay80 (F := Ideal) (iblk m c 6 t) (ix2 r b) =
    ((A.c (384 * (t.val % 11) + r.val) (2 * (t.val / 11) + b.val / 384) : ℝ) : EReal) :=
  (v34_pay _ r b).trans ((in6 m c t r _).trans (e52_at m c A hA _ (t.val / 11) b.val b.isLt (by have := lt44 t; omega)))

set_option maxHeartbeats 1500000 in
theorem isCx (t : Fin cfg0.N) : IsCx (cxAt m c t) (pair A (t.val / 11)) (t.val % 11) where
  q r b := (in0 m c t r b).trans ((v45_eq m c r _).trans (by rw [hA.q, eighth, ← EReal.coe_mul]; rfl))
  d r b := (in3 m c t r b).trans (e50_at m c A hA r _)
  lse z n h r := (in4 m c t z n h r).trans (e56_at m c A hA _ n h r)
  del z n h r := (in5 m c t z n h r).trans (e60_at m c A hA _ n h r)
  v2 b := v2_at 0 b
  v8 b := v8_at 0 b
  v10 a b := (v10_eq _ a b).trans (k_at m c A hA t a b)
  v12 a b := (v12_eq _ a b).trans (v_at m c A hA t a b)
  v23 a b := v23_at _ (fun r => A.k (384 * (t.val % 11) + r) (128 * (t.val / 11) + b.val)) a b fun r => k_at m c A hA t r b
  v34 a b := c_at m c A hA t a b

theorem state_real (t : Fin cfg0.N) : IsSt (stateAt m c t) ((pair A (t.val / 11)).at' (t.val % 11)) :=
  stateAt_at m c (pair A) (isCx m c A hA) t.val t.isLt

end Cert.KernelIdeal.Hand
-- ==== Proof.IdealGrads.lean ====
/- The five gradients as real functions of the arguments, and a point's sums as their entries. -/
module

public import proofs.«01_k».proof.Proof.IdealValues

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic

variable (A : Arr)

/-! ## The gradients -/

/-- The queries' gradient, zero on the rows before the first query. -/
def DQ (t b : ℕ) : ℝ := if t < 112 then 0 else ∑ s : Fin 4224, A.DS (b / 64) (t - 112) s.val * (1 / 8) * A.k s.val b

/-- The keys' gradient. -/
def DK (s b : ℕ) : ℝ := ∑ t : Fin 4112, A.DS (b / 64) t.val s * (1 / 8) * A.q (112 + t.val) b

/-- The values' gradient. -/
def DV (s b : ℕ) : ℝ := ∑ t : Fin 4112, A.g t.val b * A.W (b / 64) t.val s

/-- The keys' share of the bias gradient. -/
def DCK (s b : ℕ) : ℝ := -∑ t : Fin 4112, A.DS (b / 64) t.val s

/-- The queries' share of the bias gradient, zero on the rows before the first query. -/
def DCQ (h t : ℕ) : ℝ := if t < 112 then 0 else ∑ s : Fin 4224, A.DS h (t - 112) s.val

/-! ## A pair's sums -/

theorem half (h : ℕ) (hh : h < 2) (k q : ℕ → ℝ) :
    ∑ b : Fin 128, k b.val * (if b.val / 64 = h then q b.val else 0) = ∑ d : Fin 64, k (64 * h + d.val) * q (64 * h + d.val) := by
  rw [← Finset.sum_range (fun b => k b * (if b / 64 = h then q b else 0)), ← Finset.sum_range (fun d => k (64 * h + d) * q (64 * h + d)),
    show 128 = 64 + 64 from rfl, Finset.sum_range_add]
  obtain rfl | rfl : h = 0 ∨ h = 1 := by omega
  · rw [Finset.sum_eq_zero (s := Finset.range 64) (f := fun x => k (64 + x) * (if (64 + x) / 64 = 0 then q (64 + x) else 0)), add_zero]
    · refine Finset.sum_congr rfl fun d hd => ?_
      have := Finset.mem_range.mp hd
      rw [if_pos (by omega), show 64 * 0 + d = d by omega]
    · intro d hd
      rw [if_neg (by omega), mul_zero]
  · rw [Finset.sum_eq_zero (s := Finset.range 64) (f := fun x => k x * (if x / 64 = 1 then q x else 0)), zero_add]
    · refine Finset.sum_congr rfl fun d hd => ?_
      have := Finset.mem_range.mp hd
      rw [if_pos (by omega)]
    · intro d hd
      have := Finset.mem_range.mp hd
      rw [if_neg (by omega), mul_zero]

theorem sum_rows (f : ℕ → ℝ) (g : ℕ → ℝ) (h0 : ∀ t, t < 112 → f t = 0) (h1 : ∀ t, f (112 + t) = g t) :
    ∑ t ∈ Finset.range 4224, f t = ∑ t : Fin 4112, g t.val := by
  rw [show 4224 = 112 + 4112 from rfl, Finset.sum_range_add, Finset.sum_eq_zero (fun t ht => h0 t (Finset.mem_range.mp ht)), zero_add,
    Finset.sum_range (fun x => f (112 + x))]
  exact Finset.sum_congr rfl fun t _ => h1 t.val

variable (p : ℕ)

theorem pair_s (h t s : ℕ) (hh : h < 2) : (pair A p).s h (112 + t) s = A.S (2 * p + h) t s := by
  unfold Re.s Arr.S pair
  dsimp only
  rw [half h hh (fun b => A.k s (128 * p + b)) (fun b => A.q (112 + t) (128 * p + b) * (1 / 8)), Finset.sum_mul]
  congr 1
  refine Finset.sum_congr rfl fun d _ => ?_
  rw [show 128 * p + (64 * h + d.val) = (2 * p + h) * 64 + d.val by ring]
  ring

theorem pair_p0 (h t s : ℕ) (ht : t < 112) : (pair A p).p h t s = 0 := by
  unfold Re.p
  rw [if_neg (by omega)]

theorem pair_p (h t s : ℕ) (hh : h < 2) : (pair A p).p h (112 + t) s = A.W (2 * p + h) t s := by
  unfold Re.p Arr.W
  rw [pair_s A p h t s hh]
  have e : (pair A p).l h (112 + t) = A.L (2 * p + h) t := by
    show (if 112 + t < 112 then 0 else A.L (2 * p + h) (112 + t - 112)) = _
    rw [if_neg (by omega), Nat.add_sub_cancel_left]
  rw [e]

theorem pair_g0 (h t s : ℕ) (ht : t < 112) : (pair A p).g h t s = 0 := by
  unfold Re.g
  rw [pair_p0 A p h t s ht, zero_mul]

theorem pair_g (h t s : ℕ) (hh : h < 2) : (pair A p).g h (112 + t) s = A.DS (2 * p + h) t s := by
  unfold Re.g Arr.DS
  rw [pair_p A p h t s hh]
  have e : (pair A p).e h (112 + t) = A.D (2 * p + h) t := by
    show (if 112 + t < 112 then 0 else A.D (2 * p + h) (112 + t - 112)) = _
    rw [if_neg (by omega), Nat.add_sub_cancel_left]
  rw [e, half h hh]
  congr 2
  unfold Arr.G
  refine Finset.sum_congr rfl fun d _ => ?_
  show A.v s (128 * p + (64 * h + d.val)) * (if 112 + t < 112 then 0 else A.g (112 + t - 112) (128 * p + (64 * h + d.val))) = _
  rw [if_neg (by omega), Nat.add_sub_cancel_left, show 128 * p + (64 * h + d.val) = (2 * p + h) * 64 + d.val by ring]
  ring

theorem pair_dk (j a b : ℕ) (hb : b < 128) : ((pair A p).at' j).dk a b = DK A (384 * j + a) (128 * p + b) := by
  show ∑ t ∈ Finset.range 4224, (pair A p).g (b / 64) t (384 * j + a) * (A.q t (128 * p + b) * (1 / 8)) = _
  refine sum_rows (fun t => (pair A p).g (b / 64) t (384 * j + a) * (A.q t (128 * p + b) * (1 / 8)))
    (fun t => A.DS ((128 * p + b) / 64) t (384 * j + a) * (1 / 8) * A.q (112 + t) (128 * p + b)) (fun t ht => by
    rw [pair_g0 A p _ t _ ht, zero_mul]) fun t => ?_
  rw [pair_g A p _ t _ (by omega), show (128 * p + b) / 64 = 2 * p + b / 64 by omega]
  ring

theorem pair_dv (j a b : ℕ) (hb : b < 128) : ((pair A p).at' j).dv a b = DV A (384 * j + a) (128 * p + b) := by
  show ∑ t ∈ Finset.range 4224, (pair A p).p (b / 64) t (384 * j + a) * (if t < 112 then 0 else A.g (t - 112) (128 * p + b)) = _
  refine sum_rows (fun t => (pair A p).p (b / 64) t (384 * j + a) * (if t < 112 then 0 else A.g (t - 112) (128 * p + b)))
    (fun t => A.g t (128 * p + b) * A.W ((128 * p + b) / 64) t (384 * j + a)) (fun t ht => by
    rw [if_pos ht, mul_zero]) fun t => ?_
  rw [pair_p A p _ t _ (by omega), if_neg (by omega), Nat.add_sub_cancel_left, show (128 * p + b) / 64 = 2 * p + b / 64 by omega]
  ring

theorem pair_c (j h a b : ℕ) (hb : b < 128) (hh : b / 64 = h) : ((pair A p).at' j).c h a = DCK A (384 * j + a) (128 * p + b) := by
  show -∑ t ∈ Finset.range 4224, (pair A p).g h t (384 * j + a) = -_
  refine congrArg _ (sum_rows (fun t => (pair A p).g h t (384 * j + a)) (fun t => A.DS ((128 * p + b) / 64) t (384 * j + a)) (fun t ht => pair_g0 A p _ t _ ht) fun t => ?_)
  rw [pair_g A p _ t _ (by omega), show (128 * p + b) / 64 = 2 * p + h by omega]

theorem pair_dq (t b : ℕ) (hb : b < 128) : ((pair A p).at' 10).dq t b = DQ A t (128 * p + b) := by
  show ∑ j ∈ Finset.range 11, (∑ a : Fin 384, (pair A p).g (b / 64) t (384 * j + a.val) * A.k (384 * j + a.val) (128 * p + b)) * (1 / 8) = _
  rw [← Finset.sum_mul, sum_blocks (fun s => (pair A p).g (b / 64) t s * A.k s (128 * p + b)), Finset.sum_range]
  unfold DQ
  by_cases ht : t < 112
  · rw [if_pos ht, Finset.sum_eq_zero, zero_mul]
    intro s _
    rw [pair_g0 A p _ t _ ht, zero_mul]
  · obtain ⟨u, rfl⟩ : ∃ u, t = 112 + u := ⟨t - 112, by omega⟩
    rw [if_neg ht, Finset.sum_mul, Nat.add_sub_cancel_left]
    refine Finset.sum_congr rfl fun s _ => ?_
    rw [pair_g A p _ u _ (by omega), show (128 * p + b) / 64 = 2 * p + b / 64 by omega]
    ring

theorem pair_dc (h t : ℕ) (hh : h < 2) : ((pair A p).at' 10).dc h t = DCQ A (2 * p + h) t := by
  show ∑ j ∈ Finset.range 11, ∑ a : Fin 384, (pair A p).g h t (384 * j + a.val) = _
  rw [sum_blocks (fun s => (pair A p).g h t s), Finset.sum_range]
  unfold DCQ
  by_cases ht : t < 112
  · rw [if_pos ht, Finset.sum_eq_zero]
    intro s _
    rw [pair_g0 A p _ t _ ht]
  · obtain ⟨u, rfl⟩ : ∃ u, t = 112 + u := ⟨t - 112, by omega⟩
    rw [if_neg ht, Nat.add_sub_cancel_left]
    exact Finset.sum_congr rfl fun s _ => pair_g A p _ u _ hh

end Cert.KernelIdeal.Hand
-- ==== Proof.IdealArrays.lean ====
/- The five result arrays after the kernel's run, as real numbers. -/
module

public import proofs.«01_k».proof.Proof.IdealGrads
public import Idealize.ShloMosaic.Lib.Pipeline.ValueKit

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD) (A : Arr) (hA : IsArr m c A)

theorem idx7 : ∀ t : Fin cfg0.N, (win0_7.index t 0 : ℕ) = 0 ∧ (win0_7.index t 1 : ℕ) = t.val / 11 := by decide +kernel
theorem idx8 : ∀ t : Fin cfg0.N, (win0_8.index t 0 : ℕ) = t.val % 11 ∧ (win0_8.index t 1 : ℕ) = t.val / 11 := by decide +kernel
theorem idx9 : ∀ t : Fin cfg0.N, (win0_9.index t 0 : ℕ) = t.val % 11 ∧ (win0_9.index t 1 : ℕ) = t.val / 11 := by decide +kernel
theorem idx10 : ∀ t : Fin cfg0.N, (win0_10.index t 0 : ℕ) = t.val % 11 ∧ (win0_10.index t 1 : ℕ) = t.val / 11 := by decide +kernel
theorem idx11 : ∀ t : Fin cfg0.N, (win0_11.index t 0 : ℕ) = t.val / 11 ∧ (win0_11.index t 1 : ℕ) = 0 ∧ (win0_11.index t 2 : ℕ) = 0 ∧ (win0_11.index t 3 : ℕ) = 0 := by decide +kernel

theorem pay13_at (x : FVec Ideal S384x128 .f32) (a : Fin 384) (b : Fin 128) : k0_pay13 (F := Ideal) x (ix2 a b) = x (ix2 a b) := by
  pointwise [k0_pay13]

theorem pay14_at (x : FVec Ideal S384x128 .f32) (a : Fin 384) (b : Fin 128) : k0_pay14 (F := Ideal) x (ix2 a b) = x (ix2 a b) := by
  pointwise [k0_pay14]

theorem pay15_at (x y : FVec Ideal S384x1 .f32) (a : Fin 384) (b : Fin 128) : k0_pay15 (F := Ideal) k0_pay72 x y (ix2 a b) =
    if b.val < 64 then x (ix2 a 0) else y (ix2 a 0) := by
  have e : k0_pay15 (F := Ideal) k0_pay72 x y (ix2 a b) = Scalar.select (k0_pay72 (ix2 0 b)) (x (ix2 a 0)) (y (ix2 a 0)) := by
    generalize k0_pay72 = z
    pointwise [k0_pay15]
  rw [e, v2_at, sel_ofBool]

include hA

/-- The queries' gradient. -/
theorem arr7 : (dats m 0 c).arrAt 7 cfg0.N = fun y => ((DQ A (y 0).val (y 1).val : ℝ) : EReal) := by
  refine (dats m 0 c).arrAt_eq_of_covers 7 _ (by decide +kernel) fun t hf y => ?_
  obtain ⟨a, b, rfl⟩ : ∃ (a : Fin 4224) (b : Fin 128), y = ix2 a b := ⟨y 0, y 1, by ext k; fin_cases k <;> rfl⟩
  have hj := (flush0_7 t).mp hf
  have hs := (state_real m c A hA t).dq a b
  rw [hj, pair_dq A _ _ _ b.isLt] at hs
  obtain ⟨h0, h1⟩ := idx7 t
  blk_simp [h0, h1]
  rw [after0_7]
  rw [hs, Nat.mul_comm 128]

/-- The keys' gradient. -/
theorem arr8 : (dats m 0 c).arrAt 8 cfg0.N = fun y => ((DK A (y 0).val (y 1).val : ℝ) : EReal) := by
  refine (dats m 0 c).arrAt_eq_of_covers 8 _ (by decide +kernel) fun t hf y => ?_
  obtain ⟨a, b, rfl⟩ : ∃ (a : Fin 384) (b : Fin 128), y = ix2 a b := ⟨y 0, y 1, by ext k; fin_cases k <;> rfl⟩
  have hs := (state_real m c A hA t).dk a b
  rw [pair_dk A _ _ _ _ b.isLt] at hs
  obtain ⟨h0, h1⟩ := idx8 t
  blk_simp [h0, h1]
  rw [after0_8, pay13_at, hs, Nat.mul_comm 128, Nat.mul_comm 384]

/-- The values' gradient. -/
theorem arr9 : (dats m 0 c).arrAt 9 cfg0.N = fun y => ((DV A (y 0).val (y 1).val : ℝ) : EReal) := by
  refine (dats m 0 c).arrAt_eq_of_covers 9 _ (by decide +kernel) fun t hf y => ?_
  obtain ⟨a, b, rfl⟩ : ∃ (a : Fin 384) (b : Fin 128), y = ix2 a b := ⟨y 0, y 1, by ext k; fin_cases k <;> rfl⟩
  have hs := (state_real m c A hA t).dv a b
  rw [pair_dv A _ _ _ _ b.isLt] at hs
  obtain ⟨h0, h1⟩ := idx9 t
  blk_simp [h0, h1]
  rw [after0_9, pay14_at, hs, Nat.mul_comm 128, Nat.mul_comm 384]

/-- The keys' share of the bias gradient. -/
theorem arr10 : (dats m 0 c).arrAt 10 cfg0.N = fun y => ((DCK A (y 0).val (y 1).val : ℝ) : EReal) := by
  refine (dats m 0 c).arrAt_eq_of_covers 10 _ (by decide +kernel) fun t hf y => ?_
  obtain ⟨a, b, rfl⟩ : ∃ (a : Fin 384) (b : Fin 128), y = ix2 a b := ⟨y 0, y 1, by ext k; fin_cases k <;> rfl⟩
  have hb := b.isLt
  have h2 := (state_real m c A hA t).c0 a 0
  have h3 := (state_real m c A hA t).c1 a 0
  obtain ⟨h0, h1⟩ := idx10 t
  blk_simp [h0, h1]
  rw [after0_10, pay15_at, h2, h3, Nat.mul_comm _ 128, Nat.mul_comm _ 384]
  by_cases h : b.val < 64
  · rw [if_pos h, pair_c A _ _ _ _ b.val hb (by omega)]
  · rw [if_neg h, pair_c A _ _ _ _ b.val hb (by omega)]

/-- The queries' share of the bias gradient. -/
theorem arr11 : (dats m 0 c).arrAt 11 cfg0.N = fun y => ((DCQ A (2 * (y 0).val + (y 2).val) (384 * (y 1).val + (y 3).val) : ℝ) : EReal) := by
  refine (dats m 0 c).arrAt_eq_of_covers 11 _ (by decide +kernel) fun t hf y => ?_
  obtain ⟨z, n, h, r, rfl⟩ : ∃ (z : Fin 1) (n : Fin 11) (h : Fin 2) (r : Fin 384), y = ix4 z n h r := ⟨y 0, y 1, y 2, y 3, by ext k; fin_cases k <;> rfl⟩
  have hj := (flush0_11 t).mp hf
  have hs := (state_real m c A hA t).dc z n h r
  rw [hj, pair_dc A _ _ _ h.isLt] at hs
  obtain ⟨h0, h1, h2, h3⟩ := idx11 t
  have hz : z = 0 := Subsingleton.elim _ _
  subst hz
  blk_simp [h0, h1, h2, h3]
  rw [after0_11, hs]
  simp

section
variable (r : PUnit × MemSt nD τ sig (Elt Ideal)) (h : Pipeline.FramePost cfgs (dats m) 0 (V m) r)
include h

theorem post7 : r.2.mem ((c.tc : Thread nD τ).loc main_v61_0) = (dats m 0 c).arrAt 7 cfg0.N := (h c).1 7

theorem post8 : r.2.mem ((c.tc : Thread nD τ).loc main_v61_1) = (dats m 0 c).arrAt 8 cfg0.N := (h c).1 8

theorem post9 : r.2.mem ((c.tc : Thread nD τ).loc main_v61_2) = (dats m 0 c).arrAt 9 cfg0.N := (h c).1 9

theorem post10 : r.2.mem ((c.tc : Thread nD τ).loc main_v61_3) = (dats m 0 c).arrAt 10 cfg0.N := (h c).1 10

theorem post11 : r.2.mem ((c.tc : Thread nD τ).loc main_v61_4) = (dats m 0 c).arrAt 11 cfg0.N := (h c).1 11

include hA

/-- After the run the buffer of the queries' gradient holds it. -/
theorem end7 : r.2.mem ((c.tc : Thread nD τ).loc main_v61_0) = fun y => ((DQ A (y 0).val (y 1).val : ℝ) : EReal) :=
  (post7 m c A hA r h).trans (arr7 m c A hA)

/-- After the run the buffer of the keys' gradient holds it. -/
theorem end8 : r.2.mem ((c.tc : Thread nD τ).loc main_v61_1) = fun y => ((DK A (y 0).val (y 1).val : ℝ) : EReal) :=
  (post8 m c A hA r h).trans (arr8 m c A hA)

/-- After the run the buffer of the values' gradient holds it. -/
theorem end9 : r.2.mem ((c.tc : Thread nD τ).loc main_v61_2) = fun y => ((DV A (y 0).val (y 1).val : ℝ) : EReal) :=
  (post9 m c A hA r h).trans (arr9 m c A hA)

/-- After the run the buffer of the gates' gradient by keys holds it. -/
theorem end10 : r.2.mem ((c.tc : Thread nD τ).loc main_v61_3) = fun y => ((DCK A (y 0).val (y 1).val : ℝ) : EReal) :=
  (post10 m c A hA r h).trans (arr10 m c A hA)

/-- After the run the buffer of the gates' gradient by queries holds it. -/
theorem end11 : r.2.mem ((c.tc : Thread nD τ).loc main_v61_4) = fun y => ((DCQ A (2 * (y 0).val + (y 2).val) (384 * (y 1).val + (y 3).val) : ℝ) : EReal) :=
  (post11 m c A hA r h).trans (arr11 m c A hA)

end

end Cert.KernelIdeal.Hand
-- ==== Proof.RefValues.lean ====
/- The reference's arrays at the ideal numbers, as real numbers. -/
module

public import proofs.«01_k».proof.Proof.Gen.ReferenceIdeal.Read
public import Idealize.ShloMosaic.PureOps.Ideal
public import Idealize.ShloMosaic.Lib.WordCmp
public import proofs.«01_k».proof.Proof.Weights

@[expose] public section

set_option maxRecDepth 16384

noncomputable section

namespace Cert.ReferenceIdeal.Hand

open Cert.ReferenceIdeal Cert.ReferenceIdeal.Gen Cert.ReferenceIdeal.Read Cert.Attn
open Idealize.ShloMosaic Idealize.ShloMosaic.TcCoe Idealize.ShloMosaic.Tactic

theorem eighth : Ideal.ofBits .f32 0x3E000000#32 = (((1 : ℝ) / 8 : ℝ) : EReal) := by
  simp [Ideal.ofBits, Ideal.ieee, -EReal.coe_mul, -EReal.coe_neg]
  norm_num

theorem one32 : Ideal.ofBits .f32 0x3F800000#32 = ((1 : ℝ) : EReal) := by
  simp [Ideal.ofBits, Ideal.ieee, -EReal.coe_mul, -EReal.coe_neg]
  norm_num

theorem minusInf : Ideal.ofBits .f32 0xFF800000#32 = (⊥ : EReal) := by
  simp [Ideal.ofBits, Ideal.ieee]

theorem zero32 : Ideal.ofBits .f32 0x00000000#32 = ((0 : ℝ) : EReal) := by
  simp [Ideal.ofBits, Ideal.ieee]

theorem coe_sum {ι : Type} (t : Finset ι) (f : ι → ℝ) : ∑ x ∈ t, ((f x : ℝ) : EReal) = ((∑ x ∈ t, f x : ℝ) : EReal) := by
  classical
  induction t using Finset.induction_on with
  | empty => simp
  | insert a s ha ih => rw [Finset.sum_insert ha, Finset.sum_insert ha, ih, EReal.coe_add]

theorem sel_ofBool {α : Type} (P : Prop) [Decidable P] (x y : α) : Scalar.select (BitVec.ofBool (decide P)) x y = if P then x else y := by
  by_cases h : P <;> simp [Scalar.select, h]

variable (x0 x1 x2 : FVec Ideal S4224x512 .f32) (x3 : FVec Ideal S4224x8 .f32) (x4 : FVec Ideal S4112x512 .f32) (A : Arr)

/-- The five arguments hold the real numbers `A`. -/
structure IsArr : Prop where
  q : ∀ (t : Fin 4224) (b : Fin 512), x0 (ix2 t b) = ((A.q t.val b.val : ℝ) : EReal)
  k : ∀ (t : Fin 4224) (b : Fin 512), x1 (ix2 t b) = ((A.k t.val b.val : ℝ) : EReal)
  v : ∀ (t : Fin 4224) (b : Fin 512), x2 (ix2 t b) = ((A.v t.val b.val : ℝ) : EReal)
  c : ∀ (t : Fin 4224) (h : Fin 8), x3 (ix2 t h) = ((A.c t.val h.val : ℝ) : EReal)
  g : ∀ (t : Fin 4112) (b : Fin 512), x4 (ix2 t b) = ((A.g t.val b.val : ℝ) : EReal)

variable (hA : IsArr x0 x1 x2 x3 x4 A)

theorem mask_at (t : Fin 4112) (s : Fin 4224) : val_main_v26 (F := Ideal) (ix2 t s) = BitVec.ofBool (decide (Sees t.val s.val)) := by
  have e : val_main_v26 (F := Ideal) (ix2 t s) =
      IntOp.andi (IntOp.cmpi .sle (BitVec.ofNat 32 s.val) (BitVec.ofNat 32 (112 + t.val))) (IntOp.cmpi .sge (BitVec.ofNat 32 s.val) 112#32) := by
    pointwise [val_main_v26, val_main_v25, val_main_v24, val_main_v23, val_main_c, val_main_v22, val_main_v21, val_main_v20, val_main_v19, val_main_v18, val_main_v17, val_main_v16, val_main_v15]
  rw [e, WordCmp.cmpi_sle_ofNat (by omega) (by omega), WordCmp.cmpi_sge_ofNat (by omega) (by omega), WordCmp.andi_ofBool]
  congr 1
  simp

theorem mask3_at (h : Fin 8) (t : Fin 4112) (s : Fin 4224) : val_main_v28_1 (F := Ideal) (ix3 h t s) = BitVec.ofBool (decide (Sees t.val s.val)) := by
  refine Eq.trans ?_ (mask_at t s)
  unfold val_main_v28_1 val_main_v27
  generalize val_main_v26 (F := Ideal) = y
  pointwise

include hA

theorem r14_at (h : Fin 8) (t : Fin 4112) (s : Fin 4224) : val_main_v14 (F := Ideal) x0 x1 x3 (ix3 h t s) =
    ((A.S h.val t.val s.val + A.c (112 + t.val) h.val : ℝ) : EReal) := by
  pointwise [val_main_v14, val_main_v13, val_main_v12, val_main_v11, val_main_v10, val_main_v9, val_main_v8, val_main_v7, val_main_v6, val_main_v5, val_main_v4, val_main_cst, val_main_v3, val_main_v2, val_main_v1, val_main_v0]
  simp only [hA.q, hA.k, hA.c, eighth, ← EReal.coe_mul, coe_sum, ← EReal.coe_sub, ← EReal.coe_add]
  congr 1
  unfold Arr.S
  ring

theorem r28_at (h : Fin 8) (t : Fin 4112) (s : Fin 4224) : val_main_v28_0 (F := Ideal) x0 x1 x3 (ix3 h t s) =
    if Sees t.val s.val then ((A.S h.val t.val s.val + A.c (112 + t.val) h.val : ℝ) : EReal) else ⊥ := by
  have e : val_main_v28_0 (F := Ideal) x0 x1 x3 (ix3 h t s) = Scalar.select (val_main_v28_1 (F := Ideal) (ix3 h t s)) (val_main_v14 (F := Ideal) x0 x1 x3 (ix3 h t s)) (Ideal.ofBits .f32 0xFF800000#32) := by
    unfold val_main_v28_0 val_main_call0_v2 val_main_call0_v0 val_main_cst_0
    generalize val_main_v28_1 (F := Ideal) = y
    generalize val_main_v14 (F := Ideal) x0 x1 x3 = z
    pointwise
    rfl
  rw [e, mask3_at, r14_at x0 x1 x2 x3 x4 A hA, minusInf, sel_ofBool]

omit hA in
theorem max_rows (y : FVec Ideal S8x4112x4224 .f32) (h : Fin 8) (t : Fin 4112) :
    (Host.reduce FloatOps.maximumf y (constant S_ .f32 0xFF800000#32 : FVec Ideal S_ .f32) reducesTo_S8x4112x4224_S8x4112_d2 h_S_ : FVec Ideal S8x4112 .f32) (ix2 h t) =
      Finset.fold max (Ideal.ofBits .f32 0xFF800000#32) (fun s : Fin 4224 => (y (ix3 h t s) : EReal)) Finset.univ := by
  pointwise

omit hA in
theorem max_pair (z w : EReal) : FloatOps.maximumf (F := Ideal) (φ := .f32) z w = max z w := rfl

theorem r29_real (h : Fin 8) (t : Fin 4112) : ∃ M : ℝ, val_main_v29 (F := Ideal) x0 x1 x3 (ix2 h t) = (M : EReal) := by
  have e := max_rows (val_main_v28_0 (F := Ideal) x0 x1 x3) h t
  simp only [r28_at x0 x1 x2 x3 x4 A hA, minusInf] at e
  obtain ⟨M, hM⟩ := max_real (Finset.univ : Finset (Fin 4224)) (fun s => if Sees t.val s.val then ((A.S h.val t.val s.val + A.c (112 + t.val) h.val : ℝ) : EReal) else ⊥)
    (fun s _ => by
      by_cases hs : Sees t.val s.val
      · rw [if_pos hs]; exact EReal.coe_ne_top _
      · rw [if_neg hs]; exact bot_ne_top)
    ⟨⟨112, by norm_num⟩, Finset.mem_univ _, by
      rw [if_pos ⟨by simp, le_rfl⟩]
      exact EReal.coe_ne_bot _⟩
  exact ⟨M, e.trans hM⟩

theorem r36_real (h : Fin 8) (t : Fin 4112) : ∃ M : ℝ, val_main_v36 (F := Ideal) x0 x1 x3 (ix2 h t) = ((M + A.c (112 + t.val) h.val : ℝ) : EReal) := by
  obtain ⟨M, hM⟩ := r29_real x0 x1 x2 x3 x4 A hA h t
  refine ⟨M - A.c (112 + t.val) h.val, ?_⟩
  rw [val_main_v36_apply, hM, val_main_v35_apply, val_main_cst_3_apply, max_pair, sub_add_cancel]
  show max (Ideal.ofBits .f32 0xFF800000#32) (M : EReal) = (M : EReal)
  rw [minusInf]
  exact max_eq_right bot_le

theorem r49_at (h : Fin 8) (t : Fin 4112) (M : ℝ) (hM : val_main_v36 (F := Ideal) x0 x1 x3 (ix2 h t) = ((M + A.c (112 + t.val) h.val : ℝ) : EReal)) (s : Fin 4224) : val_main_v49 (F := Ideal) x0 x1 x3 (ix3 h t s) = ((if Sees t.val s.val then Real.exp (A.S h.val t.val s.val - M) else 0 : ℝ) : EReal) := by
  have e : val_main_v49 (F := Ideal) x0 x1 x3 (ix3 h t s) = Ideal.exp (FloatOps.subf (F := Ideal) (φ := .f32) (val_main_v28_0 (F := Ideal) x0 x1 x3 (ix3 h t s)) (val_main_v36 (F := Ideal) x0 x1 x3 (ix2 h t))) := by
    rw [val_main_v49_apply, val_main_v48_apply, val_main_v47_apply, val_main_v46_apply]
    generalize val_main_v28_0 (F := Ideal) x0 x1 x3 = y
    generalize val_main_v36 (F := Ideal) x0 x1 x3 = z
    have e1 : idx_main_v46 (idx_main_v47 (ix3 h t s)) = ix2 h t := by ext k; fin_cases k <;> rfl
    rw [e1]
    rfl
  rw [e, hM, r28_at x0 x1 x2 x3 x4 A hA]
  show Ideal.exp ((_ : EReal) - (_ : EReal)) = _
  by_cases hs : Sees t.val s.val
  · rw [if_pos hs, if_pos hs, ← EReal.coe_sub, Ideal.exp_coe, add_sub_add_right_eq_sub]
  · rw [if_neg hs, if_neg hs, EReal.bot_sub, Ideal.exp_bot]; rfl

end Cert.ReferenceIdeal.Hand
-- ==== Proof.RefGrads.lean ====
/- The reference's gradients at the ideal numbers, as real numbers. -/
module

public import proofs.«01_k».proof.Proof.RefValues

@[expose] public section

set_option maxRecDepth 16384

noncomputable section

namespace Cert.ReferenceIdeal.Hand

open Cert.ReferenceIdeal Cert.ReferenceIdeal.Gen Cert.ReferenceIdeal.Read Cert.Attn
open Idealize.ShloMosaic Idealize.ShloMosaic.TcCoe Idealize.ShloMosaic.Tactic

theorem mul_c (a b : ℝ) : FloatOps.mulf (F := Ideal) (φ := .f32) (a : EReal) (b : EReal) = ((a * b : ℝ) : EReal) := (EReal.coe_mul a b).symm

theorem add_c (a b : ℝ) : FloatOps.addf (F := Ideal) (φ := .f32) (a : EReal) (b : EReal) = ((a + b : ℝ) : EReal) := (EReal.coe_add a b).symm

theorem neg_c (a : ℝ) : FloatOps.hostNegf (F := Ideal) (φ := .f32) (a : EReal) = ((-a : ℝ) : EReal) := (EReal.coe_neg a).symm

theorem div_c (a b : ℝ) (hb : b ≠ 0) : FloatOps.hostDivf (F := Ideal) (φ := .f32) (a : EReal) (b : EReal) = ((a * (1 / b) : ℝ) : EReal) := by
  show Ideal.div _ _ = _
  rw [Ideal.div_coe hb, EReal.coe_mul]

theorem ofz : FloatOps.ofBits (F := Ideal) .f32 0x00000000#32 = ((0 : ℝ) : EReal) := zero32

theorem of8 : FloatOps.ofBits (F := Ideal) .f32 0x3E000000#32 = (((1 : ℝ) / 8 : ℝ) : EReal) := eighth

theorem of1 : FloatOps.ofBits (F := Ideal) .f32 0x3F800000#32 = ((1 : ℝ) : EReal) := one32

/-- A sum from zero of real numbers is their sum. -/
theorem red0 {n : ℕ} (z : EReal) (f : Fin n → EReal) (g : Fin n → ℝ) (hz : z = ((0 : ℝ) : EReal)) (hf : ∀ k, f k = ((g k : ℝ) : EReal)) :
    z + ∑ k : Fin n, f k = ((∑ k : Fin n, g k : ℝ) : EReal) := by
  rw [hz, Finset.sum_congr rfl fun k _ => hf k, coe_sum, ← EReal.coe_add, zero_add]

/-- A sum of products of real numbers. -/
theorem dot0 {n : ℕ} (f g : Fin n → EReal) (F G : Fin n → ℝ) (hf : ∀ k, f k = ((F k : ℝ) : EReal)) (hg : ∀ k, g k = ((G k : ℝ) : EReal)) :
    ∑ k : Fin n, f k * g k = ((∑ k : Fin n, F k * G k : ℝ) : EReal) := by
  rw [Finset.sum_congr rfl fun k _ => by rw [hf k, hg k, ← EReal.coe_mul], coe_sum]

variable (x0 x1 x2 : FVec Ideal S4224x512 .f32) (x3 : FVec Ideal S4224x8 .f32) (x4 : FVec Ideal S4112x512 .f32) (A : Arr)

section
variable (h : Fin 8) (t : Fin 4112) (M : ℝ)

/-- A query's sum of exponentials after its maximum is taken away. -/
def Zs (h t : ℕ) (M : ℝ) : ℝ := ∑ s : Fin 4224, (if Sees t s.val then Real.exp (A.S h t s.val - M) else 0)

variable (hA : IsArr x0 x1 x2 x3 x4 A) (hM : val_main_v36 (F := Ideal) x0 x1 x3 (ix2 h t) = ((M + A.c (112 + t.val) h.val : ℝ) : EReal))
include hA hM

theorem r50_at : val_main_v50 (F := Ideal) x0 x1 x3 (ix2 h t) = ((Zs A h.val t.val M : ℝ) : EReal) := by
  refine (val_main_v50_apply x0 x1 x3 _).trans (red0 _ _ _ ofz fun k => ?_)
  have e : idx_main_v50 (ix2 h t) k = ix3 h t k := by ext a; fin_cases a <;> rfl
  rw [e]
  exact r49_at x0 x1 x2 x3 x4 A hA h t M hM k

theorem r51_at (z : Fin 1) : val_main_v51 (F := Ideal) x0 x1 x3 (ix3 h t z) = ((Zs A h.val t.val M : ℝ) : EReal) := by
  have e : idx_main_v51 (ix3 h t z) = ix2 h t := by ext a; fin_cases a <;> rfl
  rw [val_main_v51_apply, e]
  exact r50_at x0 x1 x2 x3 x4 A h t M hA hM

theorem r56_at (z : Fin 1) : val_main_v56 (F := Ideal) x0 x1 x3 (ix3 h t z) = ((1 / (Zs A h.val t.val M * Zs A h.val t.val M) : ℝ) : EReal) := by
  have hz : Zs A h.val t.val M * Zs A h.val t.val M ≠ 0 := (mul_pos (A.shift_pos h.val t.val M t.isLt) (A.shift_pos h.val t.val M t.isLt)).ne'
  rw [val_main_v56_apply, val_main_v55_apply, val_main_cst_10_apply, of1, val_main_v54_apply, r51_at x0 x1 x2 x3 x4 A h t M hA hM, mul_c, div_c _ _ hz, one_mul]

omit hM in
theorem r57_at (s : Fin 4224) (d : Fin 64) : val_main_v57 (F := Ideal) x2 (ix3 s h d) = ((A.v s.val (h.val * 64 + d.val) : ℝ) : EReal) := by
  have e : idx_main_v57 (ix3 s h d) = ix2 s ⟨h.val * 64 + d.val, by omega⟩ := by
    ext a
    fin_cases a
    · show ((s.val * 8 + h.val) * 64 + d.val) / 512 = s.val; omega
    · show ((s.val * 8 + h.val) * 64 + d.val) % 512 = h.val * 64 + d.val; omega
  rw [val_main_v57_apply, e, hA.v]

omit hM in
theorem r62_at (d : Fin 64) : val_main_v62 (F := Ideal) x4 (ix3 h d t) = ((A.g t.val (h.val * 64 + d.val) : ℝ) : EReal) := by
  have e : idx_main_v61 (idx_main_v62 (ix3 h d t)) = ix2 t ⟨h.val * 64 + d.val, by omega⟩ := by
    ext a
    fin_cases a
    · show ((t.val * 8 + h.val) * 64 + d.val) / 512 = t.val; omega
    · show ((t.val * 8 + h.val) * 64 + d.val) % 512 = h.val * 64 + d.val; omega
  rw [val_main_v62_apply, val_main_v61_apply, e, hA.g]

omit hM in
theorem r63_at (s : Fin 4224) : val_main_v63 (F := Ideal) x2 x4 (ix3 h t s) = ((A.G h.val t.val s.val : ℝ) : EReal) := by
  refine (val_main_v63_apply x2 x4 _).trans (dot0 _ _ _ _ (fun k => ?_) fun k => ?_)
  · have e : lidx_main_v63 (ix3 h t s) k = ix3 h k t := by ext a; fin_cases a <;> rfl
    rw [e]; exact r62_at x0 x1 x2 x3 x4 A h t hA k
  · have e : ridx_main_v63 (ix3 h t s) k = ix3 s h k := by ext a; fin_cases a <;> rfl
    rw [e]; exact r57_at x0 x1 x2 x3 x4 A h hA s k

theorem r53_m (s : Fin 4224) : val_main_v53 (F := Ideal) x0 x1 x3 (ix3 h t s) = ((A.W h.val t.val s.val : ℝ) : EReal) := by
  have e : idx_main_v52 (ix3 h t s) = ix3 h t 0 := by ext a; fin_cases a <;> rfl
  rw [val_main_v53_apply, val_main_v52_apply, e, r51_at x0 x1 x2 x3 x4 A h t M hA hM, r49_at x0 x1 x2 x3 x4 A hA h t M hM,
    div_c _ (Zs A h.val t.val M) (A.shift_pos h.val t.val M t.isLt).ne']
  exact congrArg _ (A.share h.val t.val s.val M t.isLt)

theorem r69_at (s : Fin 4224) : val_main_v69 (F := Ideal) x0 x1 x2 x3 x4 (ix3 h t s) =
    ((A.G h.val t.val s.val * (1 / (Zs A h.val t.val M * Zs A h.val t.val M)) * (if Sees t.val s.val then Real.exp (A.S h.val t.val s.val - M) else 0) : ℝ) : EReal) := by
  have e : idx_main_v67 (ix3 h t s) = ix3 h t 0 := by ext a; fin_cases a <;> rfl
  rw [val_main_v69_apply, val_main_v68_apply, val_main_v67_apply, e, r56_at x0 x1 x2 x3 x4 A h t M hA hM, r49_at x0 x1 x2 x3 x4 A hA h t M hM,
    r63_at x0 x1 x2 x3 x4 A h t hA, mul_c, mul_c]

theorem r75_at : val_main_v75 (F := Ideal) x0 x1 x2 x3 x4 (ix2 h t) =
    ((-∑ s : Fin 4224, A.G h.val t.val s.val * (1 / (Zs A h.val t.val M * Zs A h.val t.val M)) * (if Sees t.val s.val then Real.exp (A.S h.val t.val s.val - M) else 0) : ℝ) : EReal) := by
  refine (val_main_v75_apply x0 x1 x2 x3 x4 _).trans ((red0 _ _ (fun _ => -∑ s : Fin 4224, A.G h.val t.val s.val * (1 / (Zs A h.val t.val M * Zs A h.val t.val M)) * (if Sees t.val s.val then Real.exp (A.S h.val t.val s.val - M) else 0)) ofz fun k => ?_).trans (by simp))
  have e : idx_main_v71 (idx_main_v75 (ix2 h t) k) = ix2 h t := by
    ext a
    fin_cases a
    · show ((h.val * 4112 + t.val) * 1 + k.val) / 4112 = h.val; omega
    · show ((h.val * 4112 + t.val) * 1 + k.val) % 4112 = t.val; omega
  rw [val_main_v72_apply, val_main_v71_apply, e]
  have e1 : val_main_v70 (F := Ideal) x0 x1 x2 x3 x4 (ix2 h t) =
      ((∑ s : Fin 4224, A.G h.val t.val s.val * (1 / (Zs A h.val t.val M * Zs A h.val t.val M)) * (if Sees t.val s.val then Real.exp (A.S h.val t.val s.val - M) else 0) : ℝ) : EReal) := by
    refine (val_main_v70_apply x0 x1 x2 x3 x4 _).trans (red0 _ _ _ ofz fun k => ?_)
    have e : idx_main_v70 (ix2 h t) k = ix3 h t k := by ext a; fin_cases a <;> rfl
    rw [e]
    exact r69_at x0 x1 x2 x3 x4 A h t M hA hM k
  rw [e1, neg_c]

theorem r79_m (s : Fin 4224) : val_main_v79 (F := Ideal) x0 x1 x2 x3 x4 (ix3 h t s) = ((A.DS h.val t.val s.val : ℝ) : EReal) := by
  have e : idx_main_v73 (ix3 h t s) = ix3 h t 0 := by ext a; fin_cases a <;> rfl
  have e1 : idx_main_v76 (ix3 h t s) = ix2 h t := by ext a; fin_cases a <;> rfl
  rw [val_main_v79_apply, mask3_at, sel_ofBool, val_main_v78_apply, val_main_v77_apply, val_main_v74_apply, val_main_v73_apply, e, val_main_v76_apply, e1,
    r75_at x0 x1 x2 x3 x4 A h t M hA hM, r51_at x0 x1 x2 x3 x4 A h t M hA hM, r49_at x0 x1 x2 x3 x4 A hA h t M hM, r63_at x0 x1 x2 x3 x4 A h t hA,
    div_c _ (Zs A h.val t.val M) (A.shift_pos h.val t.val M t.isLt).ne', add_c, mul_c, val_main_call1_v0_apply, val_main_call1_cst_apply, ofz]
  rw [← A.DS_eq h.val t.val s.val M t.isLt]
  by_cases hs : Sees t.val s.val
  · simp only [if_pos hs]; rfl
  · rw [if_neg hs, if_neg hs]

end

variable (hA : IsArr x0 x1 x2 x3 x4 A)
include hA

theorem r53_at (h : Fin 8) (t : Fin 4112) (s : Fin 4224) : val_main_v53 (F := Ideal) x0 x1 x3 (ix3 h t s) = ((A.W h.val t.val s.val : ℝ) : EReal) := by
  obtain ⟨M, hM⟩ := r36_real x0 x1 x2 x3 x4 A hA h t
  exact r53_m x0 x1 x2 x3 x4 A h t M hA hM s

theorem r79_at (h : Fin 8) (t : Fin 4112) (s : Fin 4224) : val_main_v79 (F := Ideal) x0 x1 x2 x3 x4 (ix3 h t s) = ((A.DS h.val t.val s.val : ℝ) : EReal) := by
  obtain ⟨M, hM⟩ := r36_real x0 x1 x2 x3 x4 A hA h t
  exact r79_m x0 x1 x2 x3 x4 A h t M hA hM s

omit hA in
theorem lane (b : Fin 512) : b.val / 64 * 64 + b.val % 64 = b.val := by omega

/-- The head of a lane. -/
def hd (b : Fin 512) : Fin 8 := ⟨b.val / 64, by omega⟩

/-- The place of a lane within its head. -/
def ld (b : Fin 512) : Fin 64 := ⟨b.val % 64, by omega⟩

theorem r64_at (h : Fin 8) (d : Fin 64) (s : Fin 4224) : val_main_v64 (F := Ideal) x0 x1 x3 x4 (ix3 h d s) =
    ((∑ t : Fin 4112, A.g t.val (h.val * 64 + d.val) * A.W h.val t.val s.val : ℝ) : EReal) := by
  refine (val_main_v64_apply x0 x1 x3 x4 _).trans (dot0 _ _ _ _ (fun k => ?_) fun k => ?_)
  · have e : lidx_main_v64 (ix3 h d s) k = ix3 h d k := by ext a; fin_cases a <;> rfl
    rw [e]; exact r62_at x0 x1 x2 x3 x4 A h k hA d
  · have e : ridx_main_v64 (ix3 h d s) k = ix3 h k s := by ext a; fin_cases a <;> rfl
    rw [e]; exact r53_at x0 x1 x2 x3 x4 A hA h k s

/-- The values' gradient. -/
theorem r100_at (s : Fin 4224) (b : Fin 512) : val_main_v100 (F := Ideal) x0 x1 x3 x4 (ix2 s b) =
    ((∑ t : Fin 4112, A.g t.val b.val * A.W (b.val / 64) t.val s.val : ℝ) : EReal) := by
  have e : idx_main_v65 (idx_main_v66 (ix2 s b)) = ix3 (hd b) (ld b) s := by
    ext a
    fin_cases a
    · show (s.val * 512 + b.val) / 64 % 8 = b.val / 64; omega
    · show (s.val * 512 + b.val) % 64 = b.val % 64; omega
    · show (s.val * 512 + b.val) / 512 = s.val; omega
  rw [val_main_v100_apply, val_main_v66_apply, val_main_v65_apply, e, r64_at x0 x1 x2 x3 x4 A hA]
  show ((_ : ℝ) : EReal) = _
  simp only [hd, ld, lane]

theorem r91_at (h : Fin 8) (t : Fin 4112) (s : Fin 4224) : val_main_v91 (F := Ideal) x0 x1 x2 x3 x4 (ix3 h t s) =
    ((A.DS h.val t.val s.val * (1 / 8) : ℝ) : EReal) := by
  rw [val_main_v91_apply, r79_at x0 x1 x2 x3 x4 A hA, val_main_v90_apply, val_main_cst_18_apply, of8, mul_c]

theorem r1_at (t : Fin 4112) (h : Fin 8) (d : Fin 64) : val_main_v1 (F := Ideal) x0 (ix3 t h d) = ((A.q (112 + t.val) (h.val * 64 + d.val) : ℝ) : EReal) := by
  have e : idx_main_v0 (idx_main_v1 (ix3 t h d)) = ix2 ⟨112 + t.val, by omega⟩ ⟨h.val * 64 + d.val, by omega⟩ := by
    ext a
    fin_cases a
    · show (((112 + t.val) * 8 + h.val) * 64 + d.val) / 512 = 112 + t.val; omega
    · show (((112 + t.val) * 8 + h.val) * 64 + d.val) % 512 = h.val * 64 + d.val; omega
  rw [val_main_v1_apply, val_main_v0_apply, e, hA.q]

theorem r2_at (s : Fin 4224) (h : Fin 8) (d : Fin 64) : val_main_v2 (F := Ideal) x1 (ix3 s h d) = ((A.k s.val (h.val * 64 + d.val) : ℝ) : EReal) := by
  have e : idx_main_v2 (ix3 s h d) = ix2 s ⟨h.val * 64 + d.val, by omega⟩ := by
    ext a
    fin_cases a
    · show ((s.val * 8 + h.val) * 64 + d.val) / 512 = s.val; omega
    · show ((s.val * 8 + h.val) * 64 + d.val) % 512 = h.val * 64 + d.val; omega
  rw [val_main_v2_apply, e, hA.k]

theorem r92_at (h : Fin 8) (s : Fin 4224) (d : Fin 64) : val_main_v92 (F := Ideal) x0 x1 x2 x3 x4 (ix3 h s d) =
    ((∑ t : Fin 4112, A.DS h.val t.val s.val * (1 / 8) * A.q (112 + t.val) (h.val * 64 + d.val) : ℝ) : EReal) := by
  refine (val_main_v92_apply x0 x1 x2 x3 x4 _).trans (dot0 _ _ _ _ (fun k => ?_) fun k => ?_)
  · have e : lidx_main_v92 (ix3 h s d) k = ix3 h k s := by ext a; fin_cases a <;> rfl
    rw [e]; exact r91_at x0 x1 x2 x3 x4 A hA h k s
  · have e : ridx_main_v92 (ix3 h s d) k = ix3 k h d := by ext a; fin_cases a <;> rfl
    rw [e]; exact r1_at x0 x1 x2 x3 x4 A hA k h d

/-- The keys' gradient. -/
theorem r99_at (s : Fin 4224) (b : Fin 512) : val_main_v99 (F := Ideal) x0 x1 x2 x3 x4 (ix2 s b) =
    ((∑ t : Fin 4112, A.DS (b.val / 64) t.val s.val * (1 / 8) * A.q (112 + t.val) b.val : ℝ) : EReal) := by
  have e : idx_main_v93 (idx_main_v96 (ix2 s b)) = ix3 (hd b) s (ld b) := by
    ext a
    fin_cases a
    · show (s.val * 512 + b.val) / 64 % 8 = b.val / 64; omega
    · show (s.val * 512 + b.val) / 512 = s.val; omega
    · show (s.val * 512 + b.val) % 64 = b.val % 64; omega
  rw [val_main_v99_apply, val_main_v96_apply, val_main_v93_apply, e, r92_at x0 x1 x2 x3 x4 A hA]
  show ((_ : ℝ) : EReal) = _
  simp only [hd, ld, lane]

theorem r94_at (h : Fin 8) (t : Fin 4112) (d : Fin 64) : val_main_v94 (F := Ideal) x0 x1 x2 x3 x4 (ix3 h t d) =
    ((∑ s : Fin 4224, A.DS h.val t.val s.val * (1 / 8) * A.k s.val (h.val * 64 + d.val) : ℝ) : EReal) := by
  refine (val_main_v94_apply x0 x1 x2 x3 x4 _).trans (dot0 _ _ _ _ (fun k => ?_) fun k => ?_)
  · have e : lidx_main_v94 (ix3 h t d) k = ix3 h t k := by ext a; fin_cases a <;> rfl
    rw [e]; exact r91_at x0 x1 x2 x3 x4 A hA h t k
  · have e : ridx_main_v94 (ix3 h t d) k = ix3 k h d := by ext a; fin_cases a <;> rfl
    rw [e]; exact r2_at x0 x1 x2 x3 x4 A hA k h d

omit hA in
theorem pad97 (y : FVec Ideal S4112x8x64 .f32) (t : Fin 4224) (h : Fin 8) (d : Fin 64) :
    (pad S4224x8x64 ![112, 0, 0] ![0, 0, 0] ![0, 0, 0] y (constant S_ .f32 0x00000000#32 : FVec Ideal S_ .f32) pads_S4112x8x64_S4224x8x64_11200_000_000 h_S_ : FVec Ideal S4224x8x64 .f32) (ix3 t h d) =
      if ht : t.val < 112 then Ideal.ofBits .f32 0x00000000#32 else y (ix3 ⟨t.val - 112, by omega⟩ h d) := by
  pointwise
  by_cases ht : t.val < 112
  · rw [dif_pos ht, dif_neg (by omega)]
  · rw [dif_neg ht, dif_pos (by omega)]

omit hA in
theorem pad88 (y : FVec Ideal S8x4112 .f32) (h : Fin 8) (t : Fin 4224) :
    (pad S8x4224 ![0, 112] ![0, 0] ![0, 0] y (constant S_ .f32 0x00000000#32 : FVec Ideal S_ .f32) pads_S8x4112_S8x4224_000_11200 h_S_ : FVec Ideal S8x4224 .f32) (ix2 h t) =
      if ht : t.val < 112 then Ideal.ofBits .f32 0x00000000#32 else y (ix2 h ⟨t.val - 112, by omega⟩) := by
  pointwise
  by_cases ht : t.val < 112
  · rw [dif_pos ht, dif_neg (by omega)]
  · rw [dif_neg ht, dif_pos (by omega)]

/-- The queries' gradient, zero on the rows before the first query. -/
theorem r98_at (t : Fin 4224) (b : Fin 512) : val_main_v98 (F := Ideal) x0 x1 x2 x3 x4 (ix2 t b) =
    ((if t.val < 112 then 0 else ∑ s : Fin 4224, A.DS (b.val / 64) (t.val - 112) s.val * (1 / 8) * A.k s.val b.val : ℝ) : EReal) := by
  have e : idx_main_v98 (ix2 t b) = ix3 t (hd b) (ld b) := by
    ext a
    fin_cases a
    · show (t.val * 512 + b.val) / 512 = t.val; omega
    · show (t.val * 512 + b.val) / 64 % 8 = b.val / 64; omega
    · show (t.val * 512 + b.val) % 64 = b.val % 64; omega
  rw [val_main_v98_apply, e]
  refine (pad97 (val_main_v95 (F := Ideal) x0 x1 x2 x3 x4) t (hd b) (ld b)).trans ?_
  by_cases ht : t.val < 112
  · rw [dif_pos ht, if_pos ht, zero32]
  · have e1 : idx_main_v95 (ix3 (⟨t.val - 112, by omega⟩ : Fin 4112) (hd b) (ld b)) = ix3 (hd b) ⟨t.val - 112, by omega⟩ (ld b) := by
      ext a; fin_cases a <;> rfl
    rw [dif_neg ht, if_neg ht, val_main_v95_apply, e1, r94_at x0 x1 x2 x3 x4 A hA]
    simp only [hd, ld, lane]

theorem r86_at (s : Fin 4224) (h : Fin 8) : val_main_v86 (F := Ideal) x0 x1 x2 x3 x4 (ix2 s h) =
    ((-∑ t : Fin 4112, A.DS h.val t.val s.val : ℝ) : EReal) := by
  have e : idx_main_v86 (ix2 s h) = ix2 h s := by ext a; fin_cases a <;> rfl
  rw [val_main_v86_apply, e]
  refine (val_main_v85_apply x0 x1 x2 x3 x4 _).trans ((red0 _ _ (fun _ => -∑ t : Fin 4112, A.DS h.val t.val s.val) ofz fun k => ?_).trans (by simp))
  have e : idx_main_v84 (idx_main_v85 (ix2 h s) k) = ix2 h s := by
    ext a
    fin_cases a
    · show ((h.val * 1 + k.val) * 4224 + s.val) / 4224 = h.val; omega
    · show ((h.val * 1 + k.val) * 4224 + s.val) % 4224 = s.val; omega
  rw [val_main_v84_apply, e]
  refine (val_main_v83_apply x0 x1 x2 x3 x4 _).trans ((red0 _ _ (fun t => -A.DS h.val t.val s.val) ofz fun k => ?_).trans (by rw [Finset.sum_neg_distrib]))
  have e : idx_main_v83 (ix2 h s) k = ix3 h k s := by ext a; fin_cases a <;> rfl
  rw [e, val_main_v82_apply, r79_at x0 x1 x2 x3 x4 A hA, neg_c]

/-- The keys' share of the bias gradient, on every lane of its head. -/
theorem r102_at (s : Fin 4224) (b : Fin 512) : val_main_v102 (F := Ideal) x0 x1 x2 x3 x4 (ix2 s b) =
    ((-∑ t : Fin 4112, A.DS (b.val / 64) t.val s.val : ℝ) : EReal) := by
  have e : idx_main_v101 (idx_main_v102 (ix2 s b)) = ix2 s (hd b) := by
    ext a
    fin_cases a
    · show (s.val * 512 + b.val) / 512 = s.val; omega
    · show (s.val * 512 + b.val) / 64 % 8 = b.val / 64; omega
  rw [val_main_v102_apply, val_main_v101_apply, e, r86_at x0 x1 x2 x3 x4 A hA]
  rfl

theorem r87_at (h : Fin 8) (t : Fin 4112) : val_main_v87 (F := Ideal) x0 x1 x2 x3 x4 (ix2 h t) =
    ((∑ s : Fin 4224, A.DS h.val t.val s.val : ℝ) : EReal) := by
  refine (val_main_v87_apply x0 x1 x2 x3 x4 _).trans ((red0 _ _ (fun _ => ∑ s : Fin 4224, A.DS h.val t.val s.val) ofz fun k => ?_).trans (by simp))
  have e : idx_main_v81 (idx_main_v87 (ix2 h t) k) = ix2 h t := by
    ext a
    fin_cases a
    · show ((h.val * 4112 + t.val) * 1 + k.val) / 4112 = h.val; omega
    · show ((h.val * 4112 + t.val) * 1 + k.val) % 4112 = t.val; omega
  rw [val_main_v81_apply, e]
  refine (val_main_v80_apply x0 x1 x2 x3 x4 _).trans (red0 _ _ _ ofz fun k => ?_)
  have e : idx_main_v80 (ix2 h t) k = ix3 h t k := by ext a; fin_cases a <;> rfl
  rw [e, r79_at x0 x1 x2 x3 x4 A hA]

/-- The queries' share of the bias gradient, by pair of heads and block of rows. -/
theorem r105_at (p : Fin 4) (n : Fin 11) (h : Fin 2) (r : Fin 384) : val_main_v105 (F := Ideal) x0 x1 x2 x3 x4 (ix4 p n h r) =
    ((if 384 * n.val + r.val < 112 then 0 else ∑ s : Fin 4224, A.DS (2 * p.val + h.val) (384 * n.val + r.val - 112) s.val : ℝ) : EReal) := by
  have e : idx_main_v89 (idx_main_v103 (idx_main_v104 (idx_main_v105 (ix4 p n h r)))) = ix2 ⟨2 * p.val + h.val, by omega⟩ ⟨384 * n.val + r.val, by omega⟩ := by
    ext a
    fin_cases a
    · show (((p.val * 2 + h.val) * 11 + n.val) * 384 + r.val) / 4224 = 2 * p.val + h.val; omega
    · show (((p.val * 2 + h.val) * 11 + n.val) * 384 + r.val) % 4224 = 384 * n.val + r.val; omega
  rw [val_main_v105_apply, val_main_v104_apply, val_main_v103_apply, val_main_v89_apply, e]
  refine (pad88 (val_main_v87 (F := Ideal) x0 x1 x2 x3 x4) _ _).trans ?_
  by_cases ht : 384 * n.val + r.val < 112
  · rw [dif_pos ht, if_pos ht, zero32]
  · rw [dif_neg ht, if_neg ht, r87_at x0 x1 x2 x3 x4 A hA]

end Cert.ReferenceIdeal.Hand
-- ==== Proof.Finite.lean ====
/- What the precondition says: where `finite` of the five arguments holds, every entry of them is a real number. -/
module

public import proofs.«01_k».proof.Defs
public import proofs.«01_k».proof.Proof.Gen.Pre_finite
public import proofs.«01_k».proof.Proof.Weights
public import proofs.«01_k».proof.Proof.IdealHost
public import proofs.«01_k».proof.Proof.RefValues
public import Idealize.ShloMosaic.Lib.ReduceAll

@[expose] public section

set_option maxRecDepth 16384

noncomputable section

namespace Cert.Finite

open Idealize.ShloMosaic

/-- A number whose absolute value is below plus infinity is a real one. -/
theorem real_of_lt (x : EReal) (h : max x (-x) < ⊤) : x = ((x.toReal : ℝ) : EReal) := by
  refine (EReal.coe_toReal ?_ ?_).symm
  · rintro rfl; simp at h
  · rintro rfl; simp at h

/-- A reduction by `and` of the comparisons `|x| < +∞` that is 1 makes every entry of `x` a real number. -/
theorem real_of_all {s t u : Shape} {axes : List (Fin s.rank)} [Subsingleton t.Idx] (x : FVec Ideal s .f32) (b : FVec Ideal s .f32)
    (hb : ∀ i, b i = (⊤ : EReal)) (init : u.Idx → BitVec 1) (h : s.ReducesTo axes t) (hu : 0 < u.numel) (j : t.Idx)
    (e : Host.reduce IntOp.andi (cmpf .olt (Host.absf x) b) init h hu j = 1#1) (i : s.Idx) :
    x i = (((x i : EReal).toReal : ℝ) : EReal) := by
  have e1 := Host.reduce_andi_all _ init h hu j e i
  refine real_of_lt (x i) ?_
  have e2 : Ideal.cmp .olt (max (x i) (-(x i)) : EReal) (b i) = 1#1 := e1
  rw [hb i] at e2
  exact (Ideal.cmp_olt_eq_one _ _).1 e2

theorem inf_word {s : Shape} (h : Cert.Pre_finite.S_.BroadcastsInDim s (![] : Fin 0 → Fin s.rank)) (i : s.Idx) :
    (broadcastInDim s ![] h (constant (F := Ideal) Cert.Pre_finite.S_ .f32 0x7F800000#32)) i = (⊤ : EReal) := by
  show Ideal.ofBits .f32 0x7F800000#32 = ⊤
  simp [Ideal.ofBits, Ideal.ieee]

instance : Subsingleton (Cert.Pre_finite.S_).Idx := ⟨fun a b => funext fun i => i.elim0⟩

section
variable [Cert.Pre_finite.Facts]
variable (x0 x1 x2 : FVec Ideal Cert.Pre_finite.S4224x512 .f32) (x3 : FVec Ideal Cert.Pre_finite.S4224x8 .f32) (x4 : FVec Ideal Cert.Pre_finite.S4112x512 .f32)

/-- Where the precondition holds of five arrays, all their entries are real numbers. -/
theorem all_real (h : Cert.Pre_finite.fn (F := Ideal) x0 x1 x2 x3 x4 = fun _ => 1#1) :
    (∀ i, x0 i = (((x0 i : EReal).toReal : ℝ) : EReal)) ∧ (∀ i, x1 i = (((x1 i : EReal).toReal : ℝ) : EReal)) ∧
    (∀ i, x2 i = (((x2 i : EReal).toReal : ℝ) : EReal)) ∧ (∀ i, x3 i = (((x3 i : EReal).toReal : ℝ) : EReal)) ∧
    (∀ i, x4 i = (((x4 i : EReal).toReal : ℝ) : EReal)) := by
  have e := congrFun h (fun i => i.elim0)
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨real_of_all x0 _ (inf_word _) _ _ _ _ h0, real_of_all x1 _ (inf_word _) _ _ _ _ h1, real_of_all x2 _ (inf_word _) _ _ _ _ h2,
    real_of_all x3 _ (inf_word _) _ _ _ _ h3, real_of_all x4 _ (inf_word _) _ _ _ _ h4⟩

end

/-- An array's entries as a function of two counters, zero outside. -/
def entries {a b : ℕ} (x : Fin a → Fin b → EReal) (i j : ℕ) : ℝ :=
  if h : i < a ∧ j < b then (x ⟨i, h.1⟩ ⟨j, h.2⟩).toReal else 0

theorem entries_at {a b : ℕ} (x : Fin a → Fin b → EReal) (i : Fin a) (j : Fin b) : entries x i.val j.val = (x i j).toReal := by
  unfold entries; rw [dif_pos ⟨i.isLt, j.isLt⟩]

open Cert.KernelIdeal Cert.KernelIdeal.Hand Idealize.ShloMosaic.TcCoe Idealize.ShloMosaic.Tactic in
/-- The real arguments that a memory of the kernel holds on device `c`. -/
def args (m : (ℓ : Loc nD τ sig) → Buf (Elt Ideal) ℓ) (c : Dev nD) : Cert.Attn.Arr where
  q := entries (a0 m c)
  k := entries (a1 m c)
  v := entries (a2 m c)
  c := entries (a3 m c)
  g := entries (a4 m c)

open Cert.KernelIdeal Cert.KernelIdeal.Hand Idealize.ShloMosaic.TcCoe Idealize.ShloMosaic.Tactic in
/-- Under the precondition the kernel's memory holds exactly these. -/
theorem kernel_args [Cert.Pre_finite.Facts] (m : (ℓ : Loc nD τ sig) → Buf (Elt Ideal) ℓ) (h : Cert.Pre_KernelIdeal_finite m) (c : Dev nD) :
    Cert.KernelIdeal.Hand.IsArr m c (args m c) := by
  obtain ⟨h0, h1, h2, h3, h4⟩ := all_real _ _ _ _ _ (h c)
  exact ⟨fun t b => (h0 (ix2 t b)).trans (congrArg _ (entries_at (a0 m c) t b).symm), fun t b => (h1 (ix2 t b)).trans (congrArg _ (entries_at (a1 m c) t b).symm),
    fun t b => (h2 (ix2 t b)).trans (congrArg _ (entries_at (a2 m c) t b).symm), fun t b => (h4 (ix2 t b)).trans (congrArg _ (entries_at (a4 m c) t b).symm),
    fun t b => (h3 (ix2 t b)).trans (congrArg _ (entries_at (a3 m c) t b).symm)⟩

end Cert.Finite
-- ==== Proof.DwIdeal.lean ====
/- The weights' gradient of the projection: what its kernel leaves, and the reference's. -/
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem out_A (i : grid0.Coords) (a2 : Memref sig .tc .vmem S1408x1024 .bf16) (h2 : a2.IsWhole) (a3 : Memref sig .tc .vmem S1408x1280 .bf16) (h3 : a3.IsWhole)
    (a4 : Memref sig .tc .vmem S1024x1280 .f32) (h4 : a4.IsWhole) (hc0 : cond0_0 i) (hc1 : ¬cond0_1 i)
    (x : Vec Ideal S1408x1024 .bf16) (y : Vec Ideal S1408x1280 .bf16) :
    out0_A_2 c i a2 h2 a3 h3 a4 h4 hc0 hc1 x y = k0_pay1 x y := by
  frame_out

theorem out_B (i : grid0.Coords) (a2 : Memref sig .tc .vmem S1408x1024 .bf16) (h2 : a2.IsWhole) (a3 : Memref sig .tc .vmem S1408x1280 .bf16) (h3 : a3.IsWhole)
    (a4 : Memref sig .tc .vmem S1024x1280 .f32) (h4 : a4.IsWhole) (hc0 : ¬cond0_0 i) (hc1 : cond0_1 i)
    (x : Vec Ideal S1408x1024 .bf16) (y : Vec Ideal S1408x1280 .bf16) (o : Vec Ideal S1024x1280 .f32) :
    out0_B_2 c i a2 h2 a3 h3 a4 h4 hc0 hc1 x y o = k0_pay2 x y o := by
  frame_out

theorem pay1_at (x : Vec Ideal S1408x1024 .bf16) (y : Vec Ideal S1408x1280 .bf16) (a : Fin 1024) (b : Fin 1280) :
    k0_pay1 (F := Ideal) x y (ix2 a b) = ∑ r : Fin 1408, (x (ix2 r a) : EReal) * y (ix2 r b) := by
  pointwise [k0_pay1]
  done

theorem pay2_at (x : Vec Ideal S1408x1024 .bf16) (y : Vec Ideal S1408x1280 .bf16) (o : Vec Ideal S1024x1280 .f32) (a : Fin 1024) (b : Fin 1280) :
    k0_pay2 (F := Ideal) x y o (ix2 a b) = (o (ix2 a b) : EReal) + ∑ r : Fin 1408, (x (ix2 r a) : EReal) * y (ix2 r b) := by
  rw [← pay1_at]
  unfold k0_pay2
  generalize k0_pay1 (F := Ideal) x y = z
  pointwise

theorem idx0 : ∀ t : Fin cfg0.N, (win0_0.index t 0 : ℕ) = t.val % 3 ∧ (win0_0.index t 1 : ℕ) = 0 := by decide +kernel
theorem idx1 : ∀ t : Fin cfg0.N, (win0_1.index t 0 : ℕ) = t.val % 3 ∧ (win0_1.index t 1 : ℕ) = t.val / 3 := by decide +kernel
theorem idx2 : ∀ t : Fin cfg0.N, (win0_2.index t 0 : ℕ) = 0 ∧ (win0_2.index t 1 : ℕ) = t.val / 3 := by decide +kernel

theorem lt18 (t : Fin cfg0.N) : t.val < 18 := t.isLt

def rows (s : Fin 4224) (a : Fin 1024) : EReal := V m c main_v13 (ix2 s a)
def cot (s : Fin 4224) (b : Fin 7680) : EReal := V m c main_v14 (ix2 s b)

/-- A term of the sum over the rows; zero past the last row. -/
def term (a b s : ℕ) : EReal :=
  if h : s < 4224 ∧ a < 1024 ∧ b < 7680 then rows m c ⟨s, h.1⟩ ⟨a, h.2.1⟩ * cot m c ⟨s, h.1⟩ ⟨b, h.2.2⟩ else 0

/-- The two blocks a grid point reads. -/
def inX (t : Fin cfg0.N) (r : Fin 1408) (a : Fin 1024) : EReal := iblk m c 0 t (ix2 r a)
def inY (t : Fin cfg0.N) (r : Fin 1408) (b : Fin 1280) : EReal := iblk m c 1 t (ix2 r b)

theorem blk0 (t : Fin cfg0.N) (r : Fin 1408) (a : Fin 1024) : inX m c t r a = rows m c ⟨1408 * (t.val % 3) + r.val, by omega⟩ a := by
  obtain ⟨h0, h1⟩ := idx0 t
  unfold inX rows
  blk_ext [iblk, h0, h1]

theorem blk1 (t : Fin cfg0.N) (r : Fin 1408) (b : Fin 1280) : inY m c t r b =
    cot m c ⟨1408 * (t.val % 3) + r.val, by omega⟩ ⟨1280 * (t.val / 3) + b.val, by have := lt18 t; omega⟩ := by
  obtain ⟨h0, h1⟩ := idx1 t
  unfold inY cot
  blk_ext [iblk, h0, h1]

/-- The product of the two blocks a grid point reads. -/
theorem block_sum (t : Fin cfg0.N) (a : Fin 1024) (b : Fin 1280) :
    (∑ r : Fin 1408, inX m c t r a * inY m c t r b) =
      ∑ r ∈ Finset.range 1408, term m c a.val (1280 * (t.val / 3) + b.val) (1408 * (t.val % 3) + r) := by
  rw [Finset.sum_range]
  refine Finset.sum_congr rfl fun r _ => ?_
  rw [blk0, blk1, term, dif_pos ⟨by omega, by omega, by have := lt18 t; omega⟩]

/-- What the output's buffer holds after a grid point: the sum over the rows read so far. -/
theorem outs_at (n : ℕ) : ∀ (hn : n < cfg0.N) (a : Fin 1024) (b : Fin 1280), (outsAt0 m c n hn (ix2 a b) : EReal) =
    ∑ s ∈ Finset.range (1408 * (n % 3 + 1)), term m c a.val (1280 * (n / 3) + b.val) s := by
  induction n with
  | zero =>
    intro hn a b
    have e := outsAt0_A m c ⟨0, hn⟩ rfl (by show ¬1 ≤ 0 % 3; omega)
    rw [out_A] at e
    refine (congrFun e _).trans ?_
    refine (pay1_at _ _ _ _).trans ((block_sum m c _ a b).trans ?_)
    simp
  | succ n ih =>
    intro hn a b
    by_cases h0 : (n + 1) % 3 = 0
    · have e := outsAt0_A m c ⟨n + 1, hn⟩ h0 (by show ¬1 ≤ (n + 1) % 3; omega)
      rw [out_A] at e
      refine (congrFun e _).trans ?_
      refine (pay1_at _ _ _ _).trans ((block_sum m c _ a b).trans ?_)
      simp [h0]
    · have e := outsAt0_B m c ⟨n + 1, hn⟩ h0 (by show 1 ≤ (n + 1) % 3; omega)
      rw [out_B] at e
      refine (congrFun e _).trans ?_
      refine (pay2_at _ _ _ _ _).trans ((congrArg (_ + ·) (block_sum m c _ a b)).trans ?_)
      have h1 : n / 3 = (n + 1) / 3 := by omega
      have h2 : n % 3 + 1 = (n + 1) % 3 := by omega
      have i := ih (Nat.lt_of_succ_lt hn) a b
      rw [h1, h2] at i
      refine (congrArg (· + _) i).trans ?_
      rw [show 1408 * ((n + 1) % 3 + 1) = 1408 * ((n + 1) % 3) + 1408 from by ring, Finset.sum_range_add]

/-- The weights' gradient, as the kernel leaves it. -/
theorem arr2 : (dats m 0 c).arrAt 2 cfg0.N = fun y => ∑ s ∈ Finset.range 4224, term m c (y 0).val (y 1).val s := by
  refine (dats m 0 c).arrAt_eq_of_covers 2 _ (by decide +kernel) fun t hf y => ?_
  obtain ⟨a, b, rfl⟩ : ∃ (a : Fin 1024) (b : Fin 1280), y = ix2 a b := ⟨y 0, y 1, by ext k; fin_cases k <;> rfl⟩
  have hj := (flush0_2 t).mp hf
  have hs := outs_at m c t.val t.isLt a b
  obtain ⟨h0, h1⟩ := idx2 t
  blk_simp [h0, h1]
  rw [after0_2]
  rw [hs, hj]
  simp only [Nat.mul_comm 1280]

/-- … as a sum over the rows. -/
theorem arr2_at (a : Fin 1024) (b : Fin 7680) : ((dats m 0 c).arrAt 2 cfg0.N (ix2 a b) : EReal) = ∑ s : Fin 4224, rows m c s a * cot m c s b := by
  refine (congrFun (arr2 m c) (ix2 a b)).trans ?_
  show ∑ s ∈ Finset.range 4224, term m c a.val b.val s = _
  rw [Finset.sum_range]
  refine Finset.sum_congr rfl fun s _ => ?_
  rw [term, dif_pos ⟨s.isLt, a.isLt, b.isLt⟩]

theorem v13_eq : V m c main_v13 = Cert.Reference2Ideal.Read.val_main_v12 (F := Ideal) (m (c, Proc.tc.devRef main_arg0)) (m (c, Proc.tc.devRef main_arg1)) := by
  simp only [V, hostOps0, List.flatten_cons, List.flatten_nil, List.append_nil, List.cons_append, List.nil_append]
  entry_read
  rfl

theorem v14_eq : V m c main_v14 = m (c, Proc.tc.devRef main_arg3) := by
  simp only [V, hostOps0, List.flatten_cons, List.flatten_nil, List.append_nil, List.cons_append, List.nil_append]
  entry_read
  rfl

/-- The kernel's array is the reference's. -/
theorem arr2_ref : (dats m 0 c).arrAt 2 cfg0.N = Cert.Reference2Ideal.Read.val_main_v15 (F := Ideal) (m (c, Proc.tc.devRef main_arg0)) (m (c, Proc.tc.devRef main_arg1)) (m (c, Proc.tc.devRef main_arg3)) := by
  funext y
  obtain ⟨a, b, rfl⟩ : ∃ (a : Fin 1024) (b : Fin 7680), y = ix2 a b := ⟨y 0, y 1, by ext k; fin_cases k <;> rfl⟩
  refine (arr2_at m c a b).trans (Eq.symm ((Cert.Reference2Ideal.Read.val_main_v15_apply ..).trans ((Cert.Reference2Ideal.Read.val_main_v14_apply ..).trans ?_)))
  refine Finset.sum_congr rfl fun s _ => ?_
  unfold rows cot
  rw [v13_eq, v14_eq, ]
  refine (mul_comm _ _).trans ?_
  generalize Cert.Reference2Ideal.Read.val_main_v12 (F := Ideal) _ _ = z
  generalize m (c, Proc.tc.devRef main_arg3) = w
  exact congrArg₂ (fun p q : EReal => p * q) (congrArg z (funext fun k => by fin_cases k <;> rfl)) (congrArg w (funext fun k => by fin_cases k <;> rfl))

end Cert.Kernel2Ideal.Hand

end
-- ==== Proof.DxIdeal.lean ====
/- The gradient that leaves a layer through its input projection: what its kernel leaves. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.WritesUnit

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

section body

variable (i : grid0.Coords) (a1 : Memref sig .tc .vmem S384x7680 .bf16) (h1 : a1.IsWhole) (a3 : Memref sig .tc .vmem S384x1024 .f32) (h3 : a3.IsWhole)
  (a4 : Memref sig .tc .vmem S1x1024 .f32) (h4 : a4.IsWhole) (a5 : Memref sig .tc .vmem S384x1024 .f32) (h5 : a5.IsWhole)
  (a6 : Memref sig .tc .vmem S384x1024 .f32) (h6 : a6.IsWhole) (a7 : Memref sig .tc .vmem S8x1024 .f32) (h7 : a7.IsWhole)
  (a8 : Memref sig .tc .vmem S1024x7680 .bf16) (h8 : a8.IsWhole)
  (x0 : Vec Ideal S384x7680 .bf16) (x1 : Vec Ideal S384x1024 .f32) (x2 : Vec Ideal S1x1024 .f32) (x3 : Vec Ideal S384x1024 .f32)
  (xo : Vec Ideal S8x1024 .f32) (xs : Vec Ideal S1024x7680 .bf16) (fh : Vec Ideal S1024x7680 .bf16)

theorem canon_whole {S : Shape} {e : EltTy} (w : Vec Ideal S e) : View.canon (Val := Elt Ideal) [⟨Rect.whole S, w⟩] = w := by
  funext y
  have h := View.canon_cons_emb (Val := Elt Ideal) (Rect.whole S) w [] y
  rwa [Rect.emb_whole_apply] at h

theorem read_back {e : EltTy} (w : Vec Ideal S1024x7680 e) (v : View sig .tc .vmem S1024x7680 e) :
    v.readCov (Val := Elt Ideal) [⟨Rect.whole S1024x7680, w⟩] (Rect.unit (s := S1024x7680) ![0, 0] ![1024, 7680] inb_S1024x7680_S1024x7680_0_0).toLoadRect = w := by
  have h := View.readCov_eq_canon' (Val := Elt Ideal) v [⟨Rect.whole S1024x7680, w⟩]
    (Rect.unit (s := S1024x7680) ![0, 0] ![1024, 7680] inb_S1024x7680_S1024x7680_0_0).toLoadRect
  rw [canon_whole] at h
  exact h.trans (View.ld_unit_lit (S := S1024x7680) inb_S1024x7680_S1024x7680_0_0 w (by decide))

theorem out_A4 (hc : cond0_0 i) : out0_A_4 c i a1 h1 a3 h3 a4 h4 a5 h5 a6 h6 a7 h7 a8 h8 hc x0 x1 x2 x3 fh = k0_pay7 x1 x0 fh x2 x3 := by
  frame_out
  rw [read_back]
  rfl

theorem sout_A (hc : cond0_0 i) : sout0_A_0 c i a1 h1 a3 h3 a4 h4 a5 h5 a6 h6 a7 h7 a8 h8 hc x0 x1 x2 x3 fh = fh := by
  frame_out
  rw [canon_whole]
  rfl

theorem out_B4 (hc : ¬cond0_0 i) : out0_B_4 c i a1 h1 a3 h3 a4 h4 a5 h5 a6 h6 a7 h7 a8 h8 hc x0 x1 x2 x3 xo xs fh = k0_pay7 x1 x0 xs x2 x3 := by
  frame_out

theorem pay1_at (u v : FVec Ideal S1x1024 .f32) (b : Fin 1024) : k0_pay1 (F := Ideal) u v (ix2 0 b) = (v (ix2 0 b) : EReal) + u (ix2 0 b) := by
  pointwise [k0_pay1]

theorem pay2_at (p : Fin 8) (b : Fin 1024) : (k0_pay2 (F := Ideal) (ix2 p b) : EReal) = 0 := by
  pointwise [k0_pay2]

theorem ld_row (X : Vec Ideal S8x1024 .f32) (b : Fin 1024) :
    View.ld (Val := Elt Ideal) X (Rect.unit (s := S8x1024) ![0, 0] ![1, 1024] inb_S8x1024_S1x1024_0_0) (ix2 0 b) = X (ix2 0 b) :=
  View.ld_unit_apply_of (S := S8x1024) X ![0, 0] ![1, 1024] inb_S8x1024_S1x1024_0_0 (ix2 0 b) (ix2 0 b) (by
    intro a; fin_cases a <;> simp)

theorem ix2_inj (p : Fin 8) (hp : p.val = 0) (b : Fin 1024) : (ix2 p b : S8x1024.Idx) = ix2 0 b := by
  have : p = 0 := Fin.ext hp
  rw [this]

theorem out_A5 (hc : cond0_0 i) (p : Fin 8) (b : Fin 1024) : (out0_A_5 c i a1 h1 a3 h3 a4 h4 a5 h5 a6 h6 a7 h7 a8 h8 hc x0 x1 x2 x3 fh) (ix2 p b) =
    if p.val = 0 then (k0_pay6 (F := Ideal) x1 x0 fh (ix2 0 b) : EReal) else 0 := by
  frame_out
  rw [read_back]
  rw [← View.read_writes_junk_apply_eq_canon a7.view]
  by_cases hp : p.val = 0
  · rw [if_pos hp, ix2_inj p hp]
    rw [View.read_writes_cons_unit_of_mem (s := S8x1024) _ _ (off' := ![0, 0]) inb_S8x1024_S1x1024_0_0 _ _ (ix2 0 b) (ix2 0 b) rfl (by intro a; fin_cases a <;> simp)]
    refine (pay1_at _ _ b).trans ?_
    refine (congrArg (fun z : EReal => z + k0_pay6 (F := Ideal) x1 x0 fh (ix2 0 b)) ?_).trans (zero_add _)
    rw [View.readCov_eq_canon']
    have e := View.canon_cons_unit_lit (S := S8x1024) (e := .f32) (Val := Elt Ideal) inb_S8x1024_S8x1024_0_0 (k0_pay2 (F := Ideal)) [] (by decide)
    refine (congrFun e _).trans ?_
    refine (congrArg (k0_pay2 (F := Ideal)) ?_).trans (pay2_at 0 b)
    funext a
    refine Fin.ext ?_
    fin_cases a <;> simp
  · rw [if_neg hp]
    rw [View.read_writes_cons_unit_of_not_mem (s := S8x1024) _ _ (off' := ![0, 0]) inb_S8x1024_S1x1024_0_0 _ _ (ix2 p b) rfl 0 (Or.inr (by show 0 + 1 ≤ p.val; omega))]
    rw [View.read_writes_cons_unit_of_mem (s := S8x1024) _ _ (off' := ![0, 0]) inb_S8x1024_S8x1024_0_0 _ _ (ix2 p b) (ix2 p b) rfl (by intro a; fin_cases a <;> simp)]
    exact pay2_at p b

theorem out_B5 (hc : ¬cond0_0 i) (p : Fin 8) (b : Fin 1024) : (out0_B_5 c i a1 h1 a3 h3 a4 h4 a5 h5 a6 h6 a7 h7 a8 h8 hc x0 x1 x2 x3 xo xs fh) (ix2 p b) =
    if p.val = 0 then (xo (ix2 p b) : EReal) + k0_pay6 (F := Ideal) x1 x0 xs (ix2 0 b) else xo (ix2 p b) := by
  frame_out
  by_cases hp : p.val = 0
  · rw [if_pos hp, ix2_inj p hp]
    rw [View.read_writes_cons_unit_of_mem (s := S8x1024) _ _ (off' := ![0, 0]) inb_S8x1024_S1x1024_0_0 _ _ (ix2 0 b) (ix2 0 b) rfl (by intro a; fin_cases a <;> simp)]
    exact (pay1_at _ _ b).trans (congrArg (fun z : EReal => z + k0_pay6 (F := Ideal) x1 x0 xs (ix2 0 b)) (ld_row xo b))
  · rw [if_neg hp]
    rw [View.read_writes_cons_unit_of_not_mem (s := S8x1024) _ _ (off' := ![0, 0]) inb_S8x1024_S1x1024_0_0 _ _ (ix2 p b) rfl 0 (Or.inr (by show 0 + 1 ≤ p.val; omega))]
    rw [View.writes_nil, Memref.IsWhole.read_unread]

theorem pay5_at (x : FVec Ideal S384x7680 .bf16) (w : FVec Ideal S1024x7680 .bf16) (a : Fin 384) (b : Fin 1024) : (k0_pay5 (F := Ideal) x w (ix2 a b) : EReal) =
    ∑ j : Fin 7680, (x (ix2 a j) : EReal) * w (ix2 b j) := by
  pointwise [k0_pay5]

theorem pay3_at (x : FVec Ideal S384x1024 .f32) (a : Fin 384) : (k0_pay3 (F := Ideal) x (ix2 a 0) : EReal) =
    Ideal.rsqrt (Ideal.div (∑ k : Fin 1024, (x (ix2 a k) : EReal) * x (ix2 a k)) (Ideal.ofBits .f32 0x44800000#32) + Ideal.ofBits .f32 0x358637BD#32) := by
  pointwise [k0_pay3]

theorem pay4_at (x : FVec Ideal S384x1024 .f32) (a : Fin 384) (b : Fin 1024) : (k0_pay4 (F := Ideal) x (ix2 a b) : EReal) =
    (x (ix2 a b) : EReal) * k0_pay3 (F := Ideal) x (ix2 a 0) := by
  pointwise [k0_pay4]

theorem pay6_at (x : FVec Ideal S384x1024 .f32) (d : FVec Ideal S384x7680 .bf16) (w : FVec Ideal S1024x7680 .bf16) (b : Fin 1024) : (k0_pay6 (F := Ideal) x d w (ix2 0 b) : EReal) =
    ∑ a : Fin 384, (k0_pay5 (F := Ideal) d w (ix2 a b) : EReal) * k0_pay4 (F := Ideal) x (ix2 a b) := by
  pointwise [k0_pay6]

theorem pay7_at (x : FVec Ideal S384x1024 .f32) (d : FVec Ideal S384x7680 .bf16) (w : FVec Ideal S1024x7680 .bf16) (g : FVec Ideal S1x1024 .f32) (dh : FVec Ideal S384x1024 .f32)
    (a : Fin 384) (b : Fin 1024) : (k0_pay7 (F := Ideal) x d w g dh (ix2 a b) : EReal) =
    (dh (ix2 a b) : EReal) + k0_pay3 (F := Ideal) x (ix2 a 0) * ((k0_pay5 (F := Ideal) d w (ix2 a b) : EReal) * g (ix2 0 b)
      - k0_pay4 (F := Ideal) x (ix2 a b) * Ideal.div (∑ k : Fin 1024, (k0_pay5 (F := Ideal) d w (ix2 a k) : EReal) * g (ix2 0 k) * k0_pay4 (F := Ideal) x (ix2 a k)) (Ideal.ofBits .f32 0x44800000#32)) := by
  pointwise [k0_pay7]

end body

theorem idx0 : ∀ t : Fin cfg0.N, (win0_0.index t 0 : ℕ) = t.val ∧ (win0_0.index t 1 : ℕ) = 0 := by decide +kernel
theorem idx1 : ∀ t : Fin cfg0.N, (win0_1.index t 0 : ℕ) = t.val ∧ (win0_1.index t 1 : ℕ) = 0 := by decide +kernel
theorem idx2 : ∀ t : Fin cfg0.N, (win0_2.index t 0 : ℕ) = 0 ∧ (win0_2.index t 1 : ℕ) = 0 := by decide +kernel
theorem idx3 : ∀ t : Fin cfg0.N, (win0_3.index t 0 : ℕ) = t.val ∧ (win0_3.index t 1 : ℕ) = 0 := by decide +kernel
theorem idx4 : ∀ t : Fin cfg0.N, (win0_4.index t 0 : ℕ) = t.val ∧ (win0_4.index t 1 : ℕ) = 0 := by decide +kernel
theorem idx5 : ∀ t : Fin cfg0.N, (win0_5.index t 0 : ℕ) = 0 ∧ (win0_5.index t 1 : ℕ) = 0 := by decide +kernel

theorem lt11 (t : Fin cfg0.N) : t.val < 11 := t.isLt

/-- The row of the arrays that row `a` of point `t`'s blocks is. -/
def row (t : Fin cfg0.N) (a : Fin 384) : Fin 4224 := ⟨384 * t.val + a.val, by have := lt11 t; omega⟩

/-- The five arrays the kernel reads. -/
def inX (n : Fin 4224) (k : Fin 1024) : EReal := V m c main_arg0 (ix2 n k)
def inG (k : Fin 1024) : EReal := V m c main_v2 (ix2 0 k)
def inW (k : Fin 1024) (j : Fin 7680) : EReal := V m c main_v1 (ix2 k j)
def inD (n : Fin 4224) (j : Fin 7680) : EReal := V m c main_v0 (ix2 n j)
def inH (n : Fin 4224) (k : Fin 1024) : EReal := V m c main_arg4 (ix2 n k)

/-- Their blocks at a grid point. -/
def blkD (t : Fin cfg0.N) (a : Fin 384) (j : Fin 7680) : EReal := iblk m c 0 t (ix2 a j)
def blkX (t : Fin cfg0.N) (a : Fin 384) (k : Fin 1024) : EReal := iblk m c 1 t (ix2 a k)
def blkG (t : Fin cfg0.N) (k : Fin 1024) : EReal := iblk m c 2 t (ix2 0 k)
def blkH (t : Fin cfg0.N) (a : Fin 384) (k : Fin 1024) : EReal := iblk m c 3 t (ix2 a k)

theorem blkD_eq (t : Fin cfg0.N) (a : Fin 384) (j : Fin 7680) : blkD m c t a j = inD m c (row t a) j := by
  obtain ⟨h0, h1⟩ := idx0 t
  unfold blkD inD row
  blk_ext [iblk, h0, h1]

theorem blkX_eq (t : Fin cfg0.N) (a : Fin 384) (k : Fin 1024) : blkX m c t a k = inX m c (row t a) k := by
  obtain ⟨h0, h1⟩ := idx1 t
  unfold blkX inX row
  blk_ext [iblk, h0, h1]

theorem blkG_eq (t : Fin cfg0.N) (k : Fin 1024) : blkG m c t k = inG m c k := by
  obtain ⟨h0, h1⟩ := idx2 t
  unfold blkG inG
  blk_ext [iblk, h0, h1]

theorem blkH_eq (t : Fin cfg0.N) (a : Fin 384) (k : Fin 1024) : blkH m c t a k = inH m c (row t a) k := by
  obtain ⟨h0, h1⟩ := idx3 t
  unfold blkH inH row
  blk_ext [iblk, h0, h1]

/-- The reciprocal root of a row's mean square. -/
def rt (n : Fin 4224) : EReal :=
  Ideal.rsqrt (Ideal.div (∑ k : Fin 1024, inX m c n k * inX m c n k) (Ideal.ofBits .f32 0x44800000#32) + Ideal.ofBits .f32 0x358637BD#32)

/-- The gradient at the normalised activations. -/
def dy (n : Fin 4224) (b : Fin 1024) : EReal := ∑ j : Fin 7680, inD m c n j * inW m c b j

/-- The normalised activations before the gain. -/
def xh (n : Fin 4224) (b : Fin 1024) : EReal := inX m c n b * rt m c n

/-- The gradient at the layer's input. -/
def dx (n : Fin 4224) (b : Fin 1024) : EReal :=
  inH m c n b + rt m c n * (dy m c n b * inG m c b
    - xh m c n b * Ideal.div (∑ k : Fin 1024, dy m c n k * inG m c k * xh m c n k) (Ideal.ofBits .f32 0x44800000#32))

/-- A row's part of the gain's gradient; zero past the last row. -/
def dg (b : Fin 1024) (s : ℕ) : EReal := if h : s < 4224 then dy m c ⟨s, h⟩ b * xh m c ⟨s, h⟩ b else 0

theorem pay5_blk (t : Fin cfg0.N) (a : Fin 384) (b : Fin 1024) :
    (k0_pay5 (F := Ideal) (iblk m c 0 t) (V m c main_v1) (ix2 a b) : EReal) = dy m c (row t a) b := by
  refine (pay5_at _ _ a b).trans ?_
  refine Finset.sum_congr rfl fun j _ => ?_
  exact congrArg (fun z : EReal => z * inW m c b j) (blkD_eq m c t a j)

theorem pay3_blk (t : Fin cfg0.N) (a : Fin 384) : (k0_pay3 (F := Ideal) (iblk m c 1 t) (ix2 a 0) : EReal) = rt m c (row t a) := by
  refine (pay3_at _ a).trans ?_
  unfold rt
  have e : (∑ k : Fin 1024, blkX m c t a k * blkX m c t a k) = ∑ k : Fin 1024, inX m c (row t a) k * inX m c (row t a) k :=
    Finset.sum_congr rfl fun k _ => by rw [blkX_eq]
  rw [← e]
  rfl

theorem pay4_blk (t : Fin cfg0.N) (a : Fin 384) (b : Fin 1024) : (k0_pay4 (F := Ideal) (iblk m c 1 t) (ix2 a b) : EReal) = xh m c (row t a) b := by
  refine (pay4_at _ a b).trans ?_
  exact congrArg₂ (fun u v : EReal => u * v) (blkX_eq m c t a b) (pay3_blk m c t a)

theorem pay6_blk (t : Fin cfg0.N) (b : Fin 1024) : (k0_pay6 (F := Ideal) (iblk m c 1 t) (iblk m c 0 t) (V m c main_v1) (ix2 0 b) : EReal) =
    ∑ s ∈ Finset.range 384, dg m c b (384 * t.val + s) := by
  refine (pay6_at _ _ _ b).trans ?_
  rw [Finset.sum_range]
  refine Finset.sum_congr rfl fun a _ => ?_
  refine (congrArg₂ (fun u v : EReal => u * v) (pay5_blk m c t a b) (pay4_blk m c t a b)).trans ?_
  unfold dg
  rw [dif_pos (by have := lt11 t; omega)]
  rfl

theorem pay7_blk (t : Fin cfg0.N) (a : Fin 384) (b : Fin 1024) :
    (k0_pay7 (F := Ideal) (iblk m c 1 t) (iblk m c 0 t) (V m c main_v1) (iblk m c 2 t) (iblk m c 3 t) (ix2 a b) : EReal) = dx m c (row t a) b := by
  refine (pay7_at _ _ _ _ _ a b).trans ?_
  unfold dx
  have e : (∑ k : Fin 1024, (k0_pay5 (F := Ideal) (iblk m c 0 t) (V m c main_v1) (ix2 a k) : EReal) * blkG m c t k * k0_pay4 (F := Ideal) (iblk m c 1 t) (ix2 a k))
      = ∑ k : Fin 1024, dy m c (row t a) k * inG m c k * xh m c (row t a) k :=
    Finset.sum_congr rfl fun k _ => by
      rw [blkG_eq]
      exact congrArg₂ (fun u v : EReal => u * inG m c k * v) (pay5_blk m c t a k) (pay4_blk m c t a k)
  rw [← e, ← blkG_eq m c t b, ← blkH_eq m c t a b, ← pay3_blk m c t a, ← pay4_blk m c t a b, ← pay5_blk m c t a b]
  rfl

/-- The scratch holds the weights after every point. -/
theorem scratch (n : ℕ) : ∀ hn : n < cfg0.N, (outsAt0 m c n hn).2.2 = V m c main_v1 := by
  induction n with
  | zero =>
    intro hn
    have e := congrArg (fun z => z.2.2) (outsAt0_A m c ⟨0, hn⟩ rfl)
    dsimp only at e
    rwa [sout_A] at e
  | succ n ih =>
    intro hn
    by_cases h0 : (n + 1) % 11 = 0
    · have e := congrArg (fun z => z.2.2) (outsAt0_A m c ⟨n + 1, hn⟩ h0)
      dsimp only at e
      rwa [sout_A] at e
    · have e := congrArg (fun z => z.2.2) (outsAt0_B m c ⟨n + 1, hn⟩ h0)
      dsimp only at e
      exact e.trans (ih (Nat.lt_of_succ_lt hn))

/-- The block of the input's gradient a point writes. -/
theorem outs4 (t : Fin cfg0.N) (a : Fin 384) (b : Fin 1024) : ((outsAt0 m c t.val t.isLt).1 (ix2 a b) : EReal) = dx m c (row t a) b := by
  by_cases h0 : t.val % 11 = 0
  · have e := congrArg (fun z => z.1) (outsAt0_A m c t h0)
    dsimp only at e
    rw [out_A4] at e
    exact (congrFun e _).trans (pay7_blk m c t a b)
  · have e := congrArg (fun z => z.1) (outsAt0_B m c t h0)
    dsimp only at e
    rw [out_B4, scratch] at e
    exact (congrFun e _).trans (pay7_blk m c t a b)

/-- The gain's gradient after a point: the sum over the rows read so far, in the first of eight rows. -/
theorem outs5 (n : ℕ) : ∀ (hn : n < cfg0.N) (p : Fin 8) (b : Fin 1024), ((outsAt0 m c n hn).2.1 (ix2 p b) : EReal) =
    if p.val = 0 then ∑ s ∈ Finset.range (384 * (n + 1)), dg m c b s else 0 := by
  induction n with
  | zero =>
    intro hn p b
    have e := congrArg (fun z => z.2.1) (outsAt0_A m c ⟨0, hn⟩ rfl)
    dsimp only at e
    refine (congrFun e _).trans ((out_A5 ..).trans ?_)
    refine if_congr Iff.rfl ?_ rfl
    refine (pay6_blk m c _ b).trans ?_
    simp
  | succ n ih =>
    intro hn p b
    have h11 : n + 1 < 11 := hn
    have h0 : ¬(n + 1) % 11 = 0 := by omega
    have e := congrArg (fun z => z.2.1) (outsAt0_B m c ⟨n + 1, hn⟩ h0)
    dsimp only at e
    refine (congrFun e _).trans ((out_B5 ..).trans ?_)
    have i := ih (Nat.lt_of_succ_lt hn) p b
    by_cases hp : p.val = 0
    · rw [if_pos hp] at i ⊢
      rw [if_pos hp]
      refine (congrArg (fun z : EReal => z + _) i).trans ?_
      have q := pay6_blk m c ⟨n + 1, hn⟩ b
      rw [show 384 * (n + 1 + 1) = 384 * (n + 1) + 384 from by ring, Finset.sum_range_add]
      refine congrArg (_ + ·) (Eq.trans ?_ q)
      exact congrArg (fun w => (k0_pay6 (F := Ideal) (iblk m c 1 ⟨n + 1, hn⟩) (iblk m c 0 ⟨n + 1, hn⟩) w (ix2 0 b) : EReal)) (scratch m c n (Nat.lt_of_succ_lt hn))
    · rw [if_neg hp] at i ⊢
      rw [if_neg hp]
      exact i

/-- The input's gradient, as the kernel leaves it. -/
theorem arr4 : (dats m 0 c).arrAt 4 cfg0.N = fun y => dx m c (y 0) (y 1) := by
  refine (dats m 0 c).arrAt_eq_of_covers 4 _ (by decide +kernel) fun t hf y => ?_
  obtain ⟨a, b, rfl⟩ : ∃ (a : Fin 384) (b : Fin 1024), y = ix2 a b := ⟨y 0, y 1, by ext k; fin_cases k <;> rfl⟩
  have hs := outs4 m c t a b
  obtain ⟨h0, h1⟩ := idx4 t
  rw [after0_4]
  refine Eq.trans hs ?_
  refine congrArg₂ (dx m c) ?_ ?_
  · refine Fin.ext ?_
    show 384 * t.val + a.val = _
    blk_simp [h0, h1]
    ring
  · refine Fin.ext ?_
    blk_simp [h0, h1]

/-- The gain's gradient, as the kernel leaves it. -/
theorem arr5 : (dats m 0 c).arrAt 5 cfg0.N = fun y => if (y 0).val = 0 then ∑ s ∈ Finset.range 4224, dg m c (y 1) s else 0 := by
  refine (dats m 0 c).arrAt_eq_of_covers 5 _ (by decide +kernel) fun t hf y => ?_
  obtain ⟨a, b, rfl⟩ : ∃ (a : Fin 8) (b : Fin 1024), y = ix2 a b := ⟨y 0, y 1, by ext k; fin_cases k <;> rfl⟩
  have hj := (flush0_5 t).mp hf
  have hs := outs5 m c t.val t.isLt a b
  have ht : t.val = 10 := by have := lt11 t; omega
  obtain ⟨h0, h1⟩ := idx5 t
  rw [after0_5]
  refine Eq.trans hs ?_
  rw [ht]
  have e0 : ((((cfg0.win 5).blk t).view.emb (ix2 a b)) 0 : ℕ) = a.val := by blk_simp [h0, h1]
  have e1 : (((cfg0.win 5).blk t).view.emb (ix2 a b)) 1 = b := Fin.ext (by blk_simp [h0, h1])
  exact if_congr (by rw [e0]) (by rw [e1]) rfl

end Cert.Kernel3Ideal.Hand

end
-- ==== Proof.RmsBack.lean ====
/- The gradient through a root-mean-square normalisation, written in two ways over the extended reals. -/
module

public import Idealize.ShloMosaic.Lib.Pointwise
public import Idealize.ShloMosaic.PureOps.Ideal

@[expose] public section

noncomputable section

namespace Cert.Rms

open Idealize.ShloMosaic

theorem width : Ideal.ofBits .f32 0x44800000#32 = ((1024 : ℝ) : EReal) := by
  simp [Ideal.ofBits, Ideal.ieee, -EReal.coe_mul, -EReal.coe_neg]
  norm_num

theorem minusHalf : Ideal.ofBits .f32 0xBF000000#32 = ((-(1 / 2) : ℝ) : EReal) := by
  simp [Ideal.ofBits, Ideal.ieee, -EReal.coe_mul, -EReal.coe_neg]
  norm_num

theorem eps : ∃ e : ℝ, 0 < e ∧ Ideal.ofBits .f32 0x358637BD#32 = (e : EReal) := by
  refine ⟨_, ?_, by simp [Ideal.ofBits, Ideal.ieee, -EReal.coe_mul, -EReal.coe_neg]; rfl⟩
  positivity

theorem zero32 : Ideal.ofBits .f32 0x00000000#32 = 0 := by
  simp [Ideal.ofBits, Ideal.ieee]

variable {N : ℕ}

/-- A real factor that is not negative moves into a sum. -/
theorem mul_sum (R : ℝ) (hR : 0 ≤ R) (f : Fin N → EReal) : (∑ k, f k) * (R : EReal) = ∑ k, f k * (R : EReal) := by
  have h (s : Finset (Fin N)) : (∑ k ∈ s, f k) * (R : EReal) = ∑ k ∈ s, f k * (R : EReal) := by
    induction s using Finset.induction_on with
    | empty => simp
    | insert a s ha ih =>
      rw [Finset.sum_insert ha, Finset.sum_insert ha, EReal.right_distrib_of_nonneg_of_ne_top (by exact_mod_cast hR) (EReal.coe_ne_top R), ih]
  exact h Finset.univ

theorem sq_nonneg (x : EReal) : 0 ≤ x * x := by
  induction x with
  | bot => simp
  | top => simp
  | coe r => exact_mod_cast mul_self_nonneg r

/-- A value and itself are twice the value. -/
theorem halves (z : EReal) : ((1 / 2 : ℝ) : EReal) * z + ((1 / 2 : ℝ) : EReal) * z = z := by
  rw [← EReal.right_distrib_of_nonneg (by exact_mod_cast (by norm_num : (0 : ℝ) ≤ 1 / 2)) (by exact_mod_cast (by norm_num : (0 : ℝ) ≤ 1 / 2)), ← EReal.coe_add]
  norm_num

/-- The mean square of a row, and a little. -/
def ms (x : Fin N → EReal) : EReal := Ideal.div (∑ k, x k * x k) (Ideal.ofBits .f32 0x44800000#32) + Ideal.ofBits .f32 0x358637BD#32

/-- It is ⊤, or a positive real number and the row is of real numbers. -/
theorem ms_cases (x : Fin N → EReal) : ms x = ⊤ ∨ ∃ (V : ℝ) (X : Fin N → ℝ), 0 < V ∧ ms x = (V : EReal) ∧ ∀ k, x k = (X k : EReal) := by
  obtain ⟨e, he, hE⟩ := eps
  unfold ms
  rw [hE, width, Ideal.div_coe (by norm_num)]
  by_cases hq : (∑ k, x k * x k) = ⊤
  · left
    rw [hq, EReal.top_mul_coe_of_pos (by norm_num), EReal.top_add_coe]
  · right
    have h0 : 0 ≤ ∑ k, x k * x k := Finset.sum_nonneg fun k _ => sq_nonneg (x k)
    have hx : ∀ k, ∃ r : ℝ, x k = (r : EReal) := fun k => by
      have hk : x k * x k ≤ ∑ k, x k * x k := Finset.single_le_sum (f := fun k => x k * x k) (fun k _ => sq_nonneg (x k)) (Finset.mem_univ k)
      have hk' : x k * x k ≠ ⊤ := fun h => hq (top_le_iff.mp (h ▸ hk))
      revert hk'
      generalize x k = y
      induction y with
      | bot => simp
      | top => simp
      | coe r => exact fun _ => ⟨r, rfl⟩
    choose X hX using hx
    lift (∑ k, x k * x k) to ℝ using ⟨hq, fun h => by rw [h] at h0; simp at h0⟩ with q hqq
    refine ⟨q * (1 / 1024) + e, X, ?_, by rw [EReal.coe_add, EReal.coe_mul], hX⟩
    have : (0 : ℝ) ≤ q := by exact_mod_cast h0
    positivity

/-- The kernel's way: the reciprocal root taken out of the whole. -/
def one (x a : Fin N → EReal) (h : EReal) (b : Fin N) : EReal :=
  h + Ideal.rsqrt (ms x) * (a b - x b * Ideal.rsqrt (ms x) * Ideal.div (∑ k, a k * (x k * Ideal.rsqrt (ms x))) (Ideal.ofBits .f32 0x44800000#32))

/-- The slope in the mean square, spread over the row. -/
def slope (x a : Fin N → EReal) : EReal :=
  Ideal.div ((∑ k, x k * a k) * (Ideal.ofBits .f32 0xBF000000#32 * Ideal.div (Ideal.rsqrt (ms x)) (ms x))) (Ideal.ofBits .f32 0x44800000#32)

/-- The chain rule's way. -/
def two (x a : Fin N → EReal) (h : EReal) (b : Fin N) : EReal :=
  h + a b * Ideal.rsqrt (ms x) + x b * slope x a + slope x a * x b

theorem one_eq_two (x a : Fin N → EReal) (h : EReal) (b : Fin N) : one x a h b = two x a h b := by
  unfold one two slope
  rcases ms_cases x with hT | ⟨V, X, hV, hm, hX⟩
  · rw [hT, Ideal.rsqrt_top, width, minusHalf]
    have d0 : Ideal.div 0 ⊤ = 0 := by simp [Ideal.div]
    have d1 : Ideal.div 0 ((1024 : ℝ) : EReal) = 0 := by rw [Ideal.div_coe (by norm_num), zero_mul]
    rw [d0]
    simp only [mul_zero, d1, zero_mul, add_zero]
  · rw [hm, Ideal.rsqrt_coe, if_neg hV.not_gt, if_neg hV.ne', width, minusHalf, Ideal.div_coe hV.ne', Ideal.div_coe (by norm_num), Ideal.div_coe (by norm_num)]
    set R : ℝ := (Real.sqrt V)⁻¹ with hR
    have hRp : 0 < R := inv_pos.mpr (Real.sqrt_pos.mpr hV)
    have hRV : R * R * V = 1 := by
      have := Real.mul_self_sqrt hV.le
      rw [hR, ← mul_inv, this, inv_mul_cancel₀ hV.ne']
    have s1 : (∑ k, a k * (x k * (R : EReal))) = (∑ k, x k * a k) * (R : EReal) := by
      rw [mul_sum R hRp.le]
      exact Finset.sum_congr rfl fun k _ => by rw [mul_left_comm, mul_comm (a k), mul_assoc, mul_comm _ (R : EReal), mul_left_comm]
    rw [s1, hX b]
    generalize (∑ k, x k * a k) = S
    rw [sub_eq_add_neg, EReal.left_distrib_of_nonneg_of_ne_top (by exact_mod_cast hRp.le) (EReal.coe_ne_top R)]
    have k1 : (R : EReal) * -((X b : EReal) * (R : EReal) * (S * (R : EReal) * ((1 / 1024 : ℝ) : EReal))) = ((-(X b * R * R * R * (1 / 1024)) : ℝ) : EReal) * S := by
      rw [mul_neg, EReal.coe_neg, neg_mul]
      simp only [EReal.coe_mul]
      ac_rfl
    have k2 : S * (((-(1 / 2) : ℝ) : EReal) * ((R : EReal) * ((1 / V : ℝ) : EReal))) * ((1 / 1024 : ℝ) : EReal) = ((-(1 / 2) * R * (1 / V) * (1 / 1024) : ℝ) : EReal) * S := by
      simp only [EReal.coe_mul]
      ac_rfl
    rw [k1, k2, mul_comm (R : EReal) (a b)]
    have k3 : (X b : EReal) * (((-(1 / 2) * R * (1 / V) * (1 / 1024) : ℝ) : EReal) * S) = ((1 / 2 : ℝ) : EReal) * (((-(X b * R * R * R * (1 / 1024)) : ℝ) : EReal) * S) := by
      rw [← mul_assoc, ← mul_assoc, ← EReal.coe_mul, ← EReal.coe_mul]
      congr 2
      have : 1 / V = R * R := by rw [eq_comm, eq_div_iff hV.ne', hRV]
      rw [this]
      ring
    rw [mul_comm _ (X b : EReal), k3]
    rw [add_assoc, halves, add_assoc]

end Cert.Rms

end
-- ==== Proof.DxRef.lean ====
/- The reference of the gradient that leaves a layer through its input projection, element by element. -/
module

public import proofs.«01_k».proof.Proof.Gen.Reference3Ideal.Read
public import proofs.«01_k».proof.Proof.RmsBack
public import Idealize.ShloMosaic.Lib.Pipeline.ValueKit

@[expose] public section

set_option maxRecDepth 16384

noncomputable section

namespace Cert.Reference3Ideal.Hand

open Cert.Reference3Ideal Cert.Reference3Ideal.Gen Cert.Reference3Ideal.Read Cert.Rms
open Idealize.ShloMosaic Idealize.ShloMosaic.TcCoe Idealize.ShloMosaic.Tactic

variable (x0 : FVec Ideal S4224x1024 .f32) (x1 : FVec Ideal S1024 .f32) (x2 : FVec Ideal S1024x7680 .f32) (x3 : FVec Ideal S4224x7680 .f32) (x4 : FVec Ideal S4224x1024 .f32)

/-- The arguments' elements. -/
def eX (n : Fin 4224) (k : Fin 1024) : EReal := x0 (ix2 n k)
def eG (k : Fin 1024) : EReal := x1 (ix1 k)
def eW (k : Fin 1024) (j : Fin 7680) : EReal := x2 (ix2 k j)
def eD (n : Fin 4224) (j : Fin 7680) : EReal := x3 (ix2 n j)
def eH (n : Fin 4224) (k : Fin 1024) : EReal := x4 (ix2 n k)

/-- The gradient at the normalised activations, and times the gain. -/
def eY (n : Fin 4224) (b : Fin 1024) : EReal := ∑ j : Fin 7680, eD x3 n j * eW x2 b j
def eA (n : Fin 4224) (b : Fin 1024) : EReal := eY x2 x3 n b * eG x1 b

/-- A sum from the printed zero. -/
theorem from0 {n : ℕ} (z : EReal) (f g : Fin n → EReal) (hz : z = 0) (hf : ∀ k, f k = g k) : z + ∑ k, f k = ∑ k, g k := by
  rw [hz, zero_add]
  exact Finset.sum_congr rfl fun k _ => hf k

theorem v6_at (n : Fin 4224) (z : Fin 1) : (val_main_v6 (F := Ideal) x0 (ix2 n z) : EReal) = ms (eX x0 n) := by
  have e1 : idx_main_v2 (ix2 n z) = ix1 n := by ext a; fin_cases a <;> rfl
  have e2 : (val_main_v1 (F := Ideal) x0 (ix1 n) : EReal) = ∑ k, eX x0 n k * eX x0 n k := by
    refine (val_main_v1_apply x0 _).trans (from0 _ _ _ zero32 fun k => ?_)
    have e : idx_main_v1 (ix1 n) k = ix2 n k := by ext a; fin_cases a <;> rfl
    rw [e]
    rfl
  rw [val_main_v6_apply, val_main_v4_apply, val_main_v2_apply, e1, val_main_v3_apply, val_main_v5_apply]
  unfold ms
  rw [← e2]
  rfl

theorem v7_at (n : Fin 4224) (z : Fin 1) : (val_main_v7 (F := Ideal) x0 (ix2 n z) : EReal) = Ideal.rsqrt (ms (eX x0 n)) := by
  rw [← v6_at x0 n z, val_main_v7_apply]
  rfl

theorem v10_at (n : Fin 4224) (z : Fin 1) : (val_main_v10 (F := Ideal) x0 (ix2 n z) : EReal) =
    Ideal.ofBits .f32 0xBF000000#32 * Ideal.div (Ideal.rsqrt (ms (eX x0 n))) (ms (eX x0 n)) := by
  rw [← v7_at x0 n z, ← v6_at x0 n z, val_main_v10_apply, val_main_v9_apply, val_main_v8_apply]
  rfl

theorem v12_at (n : Fin 4224) (k : Fin 1024) : (val_main_v12 (F := Ideal) x0 (ix2 n k) : EReal) = eX x0 n k * Ideal.rsqrt (ms (eX x0 n)) := by
  have e : idx_main_v11 (ix2 n k) = ix2 n 0 := by ext a; fin_cases a <;> rfl
  rw [val_main_v12_apply, val_main_v11_apply, e, ← v7_at x0 n 0]
  rfl

theorem v17_at (n : Fin 4224) (b : Fin 1024) : (val_main_v17 (F := Ideal) x2 x3 (ix2 n b) : EReal) = eY x2 x3 n b := by
  refine (val_main_v17_apply x2 x3 _).trans (Finset.sum_congr rfl fun k _ => ?_)
  have e1 : lidx_main_v17 (ix2 n b) k = ix2 n k := by ext a; fin_cases a <;> rfl
  have e2 : ridx_main_v17 (ix2 n b) k = ix2 b k := by ext a; fin_cases a <;> rfl
  rw [e1, e2]
  rfl

theorem v22_at (n : Fin 4224) (b : Fin 1024) : (val_main_v22 (F := Ideal) x1 x2 x3 (ix2 n b) : EReal) = eA x1 x2 x3 n b := by
  have e1 : idx_main_v13 (idx_main_v21 (ix2 n b)) = ix1 b := by ext a; fin_cases a <;> rfl
  rw [val_main_v22_apply, val_main_v21_apply, val_main_v13_apply, e1]
  unfold eA
  rw [← v17_at x2 x3 n b]
  rfl

theorem v26_at (n : Fin 4224) (z : Fin 1) : (val_main_v26 (F := Ideal) x0 x1 x2 x3 (ix2 n z) : EReal) = ∑ k, eX x0 n k * eA x1 x2 x3 n k := by
  have e1 : idx_main_v26 (ix2 n z) = ix1 n := by ext a; fin_cases a; show n.val * 1 + z.val = n.val; omega
  rw [val_main_v26_apply, e1]
  refine (val_main_v25_apply x0 x1 x2 x3 _).trans (from0 _ _ _ zero32 fun k => ?_)
  have e : idx_main_v25 (ix1 n) k = ix2 n k := by ext a; fin_cases a <;> rfl
  rw [e, val_main_v24_apply, ← v22_at x1 x2 x3 n k]
  rfl

theorem v32_at (n : Fin 4224) (z : Fin 1) : (val_main_v32 (F := Ideal) x0 x1 x2 x3 (ix2 n z) : EReal) = Rms.slope (eX x0 n) (eA x1 x2 x3 n) := by
  unfold Rms.slope
  rw [val_main_v32_apply, val_main_v30_apply, val_main_v31_apply, ← v26_at x0 x1 x2 x3 n z, ← v10_at x0 n z]
  rfl

theorem v34_at (n : Fin 4224) (b : Fin 1024) : (val_main_v34 (F := Ideal) x0 x1 x2 x3 (ix2 n b) : EReal) = Rms.slope (eX x0 n) (eA x1 x2 x3 n) := by
  have e1 : idx_main_v34 (ix2 n b) = ix1 n := by ext a; fin_cases a <;> rfl
  rw [val_main_v34_apply, e1]
  refine (val_main_v33_apply x0 x1 x2 x3 _).trans ((from0 _ _ (fun _ => Rms.slope (eX x0 n) (eA x1 x2 x3 n)) zero32 fun k => ?_).trans (by simp))
  have e : idx_main_v33 (ix1 n) k = ix2 n k := by ext a; fin_cases a <;> rfl
  rw [e]
  exact v32_at x0 x1 x2 x3 n k

/-- The gradient at the layer's input. -/
theorem v38_at (n : Fin 4224) (b : Fin 1024) : (val_main_v38 (F := Ideal) x0 x1 x2 x3 x4 (ix2 n b) : EReal) =
    two (eX x0 n) (eA x1 x2 x3 n) (eH x4 n b) b := by
  have e : idx_main_v27 (ix2 n b) = ix2 n 0 := by ext a; fin_cases a <;> rfl
  unfold two
  rw [val_main_v38_apply, val_main_v36_apply, val_main_v37_apply, val_main_v35_apply, val_main_v29_apply, val_main_v28_apply, val_main_v27_apply, e,
    ← v34_at x0 x1 x2 x3 n b, ← v22_at x1 x2 x3 n b, ← v7_at x0 n 0]
  rfl

/-- The gain's gradient. -/
theorem v23_at (b : Fin 1024) : (val_main_v23 (F := Ideal) x0 x2 x3 (ix1 b) : EReal) = ∑ n, eX x0 n b * Ideal.rsqrt (ms (eX x0 n)) * eY x2 x3 n b := by
  refine (val_main_v23_apply x0 x2 x3 _).trans ((from0 _ _ (fun _ => ∑ n, eX x0 n b * Ideal.rsqrt (ms (eX x0 n)) * eY x2 x3 n b) zero32 fun z => ?_).trans (by simp))
  have e : idx_main_v20 (idx_main_v23 (ix1 b) z) = ix1 b := by ext a; fin_cases a; show z.val * 1024 + b.val = b.val; omega
  rw [val_main_v20_apply, e]
  refine (val_main_v19_apply x0 x2 x3 _).trans (from0 _ _ _ zero32 fun n => ?_)
  have e : idx_main_v19 (ix1 b) n = ix2 n b := by ext a; fin_cases a <;> rfl
  rw [e, val_main_v18_apply, ← v12_at x0 n b, ← v17_at x2 x3 n b]
  rfl

theorem cat (y : FVec Ideal S1x1024 .f32) (z : FVec Ideal S7x1024 .f32) (p : Fin 8) (b : Fin 1024) :
    (concatenate S8x1024 0 [⟨S1x1024, y⟩, ⟨S7x1024, z⟩] concatenates_S1x1024_S7x1024_S8x1024_d0 : FVec Ideal S8x1024 .f32) (ix2 p b) =
      if h : p.val = 0 then y (ix2 0 b) else z (ix2 ⟨p.val - 1, by omega⟩ b) := by
  by_cases hp : p.val = 0
  · rw [dif_pos hp]
    refine concatenate_pair_apply_left (t := S8x1024) (s₁ := S1x1024) (s₂ := S7x1024) (0 : Fin 2) y z _ _ rfl (ix2 0 b) ?_
    intro a
    fin_cases a
    · exact hp.symm
    · rfl
  · rw [dif_neg hp]
    refine concatenate_pair_apply_right (t := S8x1024) (s₁ := S1x1024) (s₂ := S7x1024) (0 : Fin 2) y z _ _ rfl rfl (ix2 ⟨p.val - 1, by omega⟩ b) ?_ ?_
    · intro a ha
      fin_cases a
      · exact absurd rfl ha
      · rfl
    · show p.val - 1 + 1 = p.val
      omega

theorem v41_at (p : Fin 8) (b : Fin 1024) : (val_main_v41 (F := Ideal) x0 x2 x3 (ix2 p b) : EReal) =
    if p.val = 0 then ∑ n, eX x0 n b * Ideal.rsqrt (ms (eX x0 n)) * eY x2 x3 n b else 0 := by
  unfold val_main_v41
  refine (cat _ _ p b).trans ?_
  by_cases hp : p.val = 0
  · rw [dif_pos hp, if_pos hp]
    have e : idx_main_v39 (ix2 (0 : Fin 1) b) = ix1 b := by ext a; fin_cases a <;> rfl
    rw [val_main_v39_apply, e]
    exact v23_at x0 x2 x3 b
  · rw [dif_neg hp, if_neg hp, val_main_v40_apply]
    exact zero32

end Cert.Reference3Ideal.Hand

end
-- ==== Proof.DxTie.lean ====
/- The gradient that leaves a layer through its input projection: the kernel's arrays are the reference's. -/
module

public import proofs.«01_k».proof.Proof.DxIdeal
public import proofs.«01_k».proof.Proof.DxRef

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic

variable (m : (ℓ : Loc nD τ sig) → Buf (Elt Ideal) ℓ) (c : Dev nD)

theorem inX_eq (n : Fin 4224) (k : Fin 1024) : inX m c n k = Cert.Reference3Ideal.Hand.eX (m (c, Proc.tc.devRef main_arg0)) n k := by
  unfold inX Cert.Reference3Ideal.Hand.eX
  simp only [V, hostOps0, List.flatten_cons, List.flatten_nil, List.append_nil, List.cons_append, List.nil_append]
  entry_read
  rfl

theorem inH_eq (n : Fin 4224) (k : Fin 1024) : inH m c n k = Cert.Reference3Ideal.Hand.eH (m (c, Proc.tc.devRef main_arg4)) n k := by
  unfold inH Cert.Reference3Ideal.Hand.eH
  simp only [V, hostOps0, List.flatten_cons, List.flatten_nil, List.append_nil, List.cons_append, List.nil_append]
  entry_read
  rfl

theorem inW_eq (k : Fin 1024) (j : Fin 7680) : inW m c k j = Cert.Reference3Ideal.Hand.eW (m (c, Proc.tc.devRef main_arg2)) k j := by
  unfold inW Cert.Reference3Ideal.Hand.eW
  simp only [V, hostOps0, List.flatten_cons, List.flatten_nil, List.append_nil, List.cons_append, List.nil_append]
  entry_read
  rfl

theorem inD_eq (n : Fin 4224) (j : Fin 7680) : inD m c n j = Cert.Reference3Ideal.Hand.eD (m (c, Proc.tc.devRef main_arg3)) n j := by
  unfold inD Cert.Reference3Ideal.Hand.eD
  simp only [V, hostOps0, List.flatten_cons, List.flatten_nil, List.append_nil, List.cons_append, List.nil_append]
  entry_read
  rfl

theorem inG_eq (k : Fin 1024) : inG m c k = Cert.Reference3Ideal.Hand.eG (m (c, Proc.tc.devRef main_arg1)) k := by
  unfold inG Cert.Reference3Ideal.Hand.eG
  simp only [V, hostOps0, List.flatten_cons, List.flatten_nil, List.append_nil, List.cons_append, List.nil_append]
  entry_read
  pointwise

theorem rt_eq (n : Fin 4224) : rt m c n = Ideal.rsqrt (Cert.Rms.ms (Cert.Reference3Ideal.Hand.eX (m (c, Proc.tc.devRef main_arg0)) n)) := by
  unfold rt Cert.Rms.ms
  simp only [inX_eq]

theorem dy_eq (n : Fin 4224) (b : Fin 1024) : dy m c n b = Cert.Reference3Ideal.Hand.eY (m (c, Proc.tc.devRef main_arg2)) (m (c, Proc.tc.devRef main_arg3)) n b := by
  unfold dy Cert.Reference3Ideal.Hand.eY
  simp only [inD_eq, inW_eq]

theorem dx_eq (n : Fin 4224) (b : Fin 1024) : dx m c n b =
    Cert.Rms.one (Cert.Reference3Ideal.Hand.eX (m (c, Proc.tc.devRef main_arg0)) n) (Cert.Reference3Ideal.Hand.eA (m (c, Proc.tc.devRef main_arg1)) (m (c, Proc.tc.devRef main_arg2)) (m (c, Proc.tc.devRef main_arg3)) n) (Cert.Reference3Ideal.Hand.eH (m (c, Proc.tc.devRef main_arg4)) n b) b := by
  unfold dx xh Cert.Rms.one Cert.Reference3Ideal.Hand.eA
  simp only [inX_eq, inH_eq, inG_eq, dy_eq, rt_eq]

theorem dg_sum (b : Fin 1024) : (∑ s ∈ Finset.range 4224, dg m c b s) =
    ∑ n, Cert.Reference3Ideal.Hand.eX (m (c, Proc.tc.devRef main_arg0)) n b * Ideal.rsqrt (Cert.Rms.ms (Cert.Reference3Ideal.Hand.eX (m (c, Proc.tc.devRef main_arg0)) n)) * Cert.Reference3Ideal.Hand.eY (m (c, Proc.tc.devRef main_arg2)) (m (c, Proc.tc.devRef main_arg3)) n b := by
  rw [Finset.sum_range]
  refine Finset.sum_congr rfl fun n _ => ?_
  unfold dg xh
  rw [dif_pos n.isLt, dy_eq, inX_eq, rt_eq, mul_comm]

/-- The input's gradient is the reference's. -/
theorem arr4_ref : (dats m 0 c).arrAt 4 cfg0.N = Cert.Reference3Ideal.Read.val_main_v38 (F := Ideal) (m (c, Proc.tc.devRef main_arg0)) (m (c, Proc.tc.devRef main_arg1)) (m (c, Proc.tc.devRef main_arg2)) (m (c, Proc.tc.devRef main_arg3)) (m (c, Proc.tc.devRef main_arg4)) := by
  funext y
  obtain ⟨a, b, rfl⟩ : ∃ (a : Fin 4224) (b : Fin 1024), y = ix2 a b := ⟨y 0, y 1, by ext k; fin_cases k <;> rfl⟩
  refine (congrFun (arr4 m c) (ix2 a b)).trans ?_
  exact (dx_eq m c a b).trans ((Cert.Rms.one_eq_two ..).trans (Cert.Reference3Ideal.Hand.v38_at (m (c, Proc.tc.devRef main_arg0)) (m (c, Proc.tc.devRef main_arg1)) (m (c, Proc.tc.devRef main_arg2)) (m (c, Proc.tc.devRef main_arg3)) (m (c, Proc.tc.devRef main_arg4)) a b).symm)

/-- The gain's gradient is the reference's. -/
theorem arr5_ref : (dats m 0 c).arrAt 5 cfg0.N = Cert.Reference3Ideal.Read.val_main_v41 (F := Ideal) (m (c, Proc.tc.devRef main_arg0)) (m (c, Proc.tc.devRef main_arg2)) (m (c, Proc.tc.devRef main_arg3)) := by
  funext y
  obtain ⟨a, b, rfl⟩ : ∃ (a : Fin 8) (b : Fin 1024), y = ix2 a b := ⟨y 0, y 1, by ext k; fin_cases k <;> rfl⟩
  refine (congrFun (arr5 m c) (ix2 a b)).trans ?_
  refine Eq.trans ?_ (Cert.Reference3Ideal.Hand.v41_at (m (c, Proc.tc.devRef main_arg0)) (m (c, Proc.tc.devRef main_arg2)) (m (c, Proc.tc.devRef main_arg3)) a b).symm
  exact if_congr Iff.rfl (dg_sum m c b) rfl

end Cert.Kernel3Ideal.Hand

end
-- ==== Proof.MergeBack.lean ====
/- The maths of a gated merge of three branches, run forwards and backwards, over the extended reals. -/
module

public import Idealize.ShloMosaic.Lib.Pipeline.ValueKit

@[expose] public section

noncomputable section

namespace Cert.MergeBack

open Idealize.ShloMosaic

/-- One, as both programs write it. -/
def one : EReal := Ideal.ofBits .f32 0x3F800000#32

/-- The sigmoid. -/
def sg (z : EReal) : EReal := Ideal.div one (one + Ideal.exp (0 - z))

/-- What the merge and its gradient read: the layer's rows or the gradient at the output, the branches, their two gates and the two sets of weights. -/
structure In where
  H : Fin 4224 → Fin 1024 → EReal
  Y : Fin 3 → Fin 4224 → Fin 512 → EReal
  Z : Fin 3 → Fin 4224 → Fin 512 → EReal
  G : Fin 3 → Fin 4224 → Fin 1024 → EReal
  B : Fin 3 → Fin 512 → Fin 1024 → EReal
  O : Fin 1024 → Fin 1024 → EReal

variable (A : In)

/-- A branch behind its inner gate. -/
def br (s : Fin 3) (n : Fin 4224) (w : Fin 512) : EReal := A.Y s n w * (A.Z s n w * sg (A.Z s n w))

/-- A branch projected to the model's width. -/
def pb (s : Fin 3) (n : Fin 4224) (d : Fin 1024) : EReal := ∑ w : Fin 512, br A s n w * A.B s w d

/-- The outer gate. -/
def gt (s : Fin 3) (n : Fin 4224) (d : Fin 1024) : EReal := sg (A.G s n d)

/-- The merged branches. -/
def mg (n : Fin 4224) (d : Fin 1024) : EReal := gt A 0 n d * pb A 0 n d + gt A 1 n d * pb A 1 n d + gt A 2 n d * pb A 2 n d

/-- The merge run forwards, added to the layer's rows, where `H` holds those rows. -/
def mo (n : Fin 4224) (j : Fin 1024) : EReal := A.H n j + ∑ k : Fin 1024, mg A n k * A.O k j

/-- The gradient at the merged branches. -/
def dm (n : Fin 4224) (d : Fin 1024) : EReal := ∑ j : Fin 1024, A.H n j * A.O d j

/-- The gradient at a projected branch. -/
def dpb (s : Fin 3) (n : Fin 4224) (d : Fin 1024) : EReal := dm A n d * gt A s n d

/-- The gradient at the outer gate. -/
def dgt (s : Fin 3) (n : Fin 4224) (d : Fin 1024) : EReal := dm A n d * pb A s n d * gt A s n d * (one - gt A s n d)

/-- The gradient at a branch behind its inner gate. -/
def dbr (s : Fin 3) (n : Fin 4224) (w : Fin 512) : EReal := ∑ d : Fin 1024, dpb A s n d * A.B s w d

/-- The gradient at a branch. -/
def dy (s : Fin 3) (n : Fin 4224) (w : Fin 512) : EReal := dbr A s n w * (A.Z s n w * sg (A.Z s n w))

/-- The gradient at the inner gate. -/
def dz (s : Fin 3) (n : Fin 4224) (w : Fin 512) : EReal :=
  dbr A s n w * A.Y s n w * (sg (A.Z s n w) * (one + A.Z s n w * (one - sg (A.Z s n w))))

/-- The same as the derivative of a product gives it, in two parts. -/
def dz2 (s : Fin 3) (n : Fin 4224) (w : Fin 512) : EReal :=
  A.Y s n w * dbr A s n w * sg (A.Z s n w) + A.Z s n w * (A.Y s n w * dbr A s n w) * (sg (A.Z s n w) * (one - sg (A.Z s n w)))

/-- A row's part of the gradient at the branches' weights; zero past the last row. -/
def wB (s : Fin 3) (w : Fin 512) (d : Fin 1024) (n : ℕ) : EReal := if h : n < 4224 then br A s ⟨n, h⟩ w * dpb A s ⟨n, h⟩ d else 0

/-- A row's part of the gradient at the output's weights; zero past the last row. -/
def wO (k j : Fin 1024) (n : ℕ) : EReal := if h : n < 4224 then mg A ⟨n, h⟩ k * A.H ⟨n, h⟩ j else 0

/-- Where every element read is a real number. -/
structure IsReal : Prop where
  H : ∀ n k, ∃ r : ℝ, A.H n k = r
  Y : ∀ s n w, ∃ r : ℝ, A.Y s n w = r
  Z : ∀ s n w, ∃ r : ℝ, A.Z s n w = r
  G : ∀ s n d, ∃ r : ℝ, A.G s n d = r
  B : ∀ s w d, ∃ r : ℝ, A.B s w d = r
  O : ∀ k j, ∃ r : ℝ, A.O k j = r

theorem one_real : one = ((1 : ℝ) : EReal) := by
  unfold one
  simp [Ideal.ofBits, Ideal.ieee]
  rw [← EReal.coe_mul]
  norm_num

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem sum_real {n : ℕ} (f : Fin n → EReal) (h : ∀ i, ∃ r : ℝ, f i = r) : ∃ r : ℝ, ∑ i, f i = r := by
  choose g hg using h
  refine ⟨∑ i, g i, ?_⟩
  rw [Finset.sum_congr rfl fun i _ => hg i]
  exact (map_sum (⟨⟨fun r : ℝ => (r : EReal), EReal.coe_zero⟩, EReal.coe_add⟩ : ℝ →+ EReal) g Finset.univ).symm

theorem sg_real {z : EReal} (h : ∃ r : ℝ, z = r) : ∃ r : ℝ, sg z = r := by
  obtain ⟨a, rfl⟩ := h
  refine ⟨1 / (1 + Real.exp (-a)), ?_⟩
  unfold sg
  rw [one_real, zero_sub, ← EReal.coe_neg]
  have hp : (1 : ℝ) + Real.exp (-a) ≠ 0 := by positivity
  rw [Ideal.exp_coe, ← EReal.coe_add, Ideal.div_coe hp, ← EReal.coe_mul, one_mul]

variable {A}

theorem IsReal.dbr (h : IsReal A) (s : Fin 3) (n : Fin 4224) (w : Fin 512) : ∃ r : ℝ, dbr A s n w = r :=
  sum_real _ fun d => mul_real (mul_real (sum_real _ fun j => mul_real (h.H n j) (h.O d j)) (sg_real (h.G s n d))) (h.B s w d)

/-- The kernel's one product and the two parts of the derivative of a product are the same number. -/
theorem IsReal.dz (h : IsReal A) (s : Fin 3) (n : Fin 4224) (w : Fin 512) : dz A s n w = dz2 A s n w := by
  obtain ⟨d, hd⟩ := h.dbr s n w
  obtain ⟨y, hy⟩ := h.Y s n w
  obtain ⟨z, hz⟩ := h.Z s n w
  obtain ⟨g, hg⟩ := sg_real (h.Z s n w)
  unfold MergeBack.dz dz2
  rw [hd, hy, hg, hz, one_real]
  norm_cast
  ring

end Cert.MergeBack

end
-- ==== Proof.MbPay.lean ====
/- The gradient of the gated merge of three branches: what its kernel computes from a block of rows. -/
module

public import proofs.«01_k».proof.Proof.Gen.Kernel5Ideal.Value
public import proofs.«01_k».proof.Proof.MergeBack
public import Idealize.ShloMosaic.Lib.Pipeline.ValueKit
public import Idealize.ShloMosaic.Lib.WritesUnit

@[expose] public section

set_option maxRecDepth 16384

noncomputable section

namespace Cert.Kernel5Ideal.Hand

open Cert.Kernel5Ideal Cert.Kernel5Ideal.Gen Cert.MergeBack
open Idealize.ShloMosaic Idealize.ShloMosaic.TcCoe Idealize.ShloMosaic.Tactic
open Idealize.ShloMosaic.Pipeline (Dat Cfg Window)

theorem pay2_at  (s : Fin 3) (w : Fin 512) (d : Fin 1024) : (k0_pay2 (F := Ideal)  (ix3 s w d) : EReal) =
    0 := by
  pointwise [k0_pay2]

theorem pay3_at  (k : Fin 1024) (j : Fin 1024) : (k0_pay3 (F := Ideal)  (ix2 k j) : EReal) =
    0 := by
  pointwise [k0_pay3]

theorem pay4_at (z : FVec Ideal S192x512 .f32) (y : FVec Ideal S192x512 .f32) (a : Fin 192) (w : Fin 512) : (k0_pay4 (F := Ideal) z y (ix2 a w) : EReal) =
    (y (ix2 a w) : EReal) * (z (ix2 a w) * sg (z (ix2 a w))) := by
  pointwise [k0_pay4, sg, one]

theorem pay5_at (z : FVec Ideal S192x512 .f32) (y : FVec Ideal S192x512 .f32) (v : FVec Ideal S1x512x1024 .bf16) (a : Fin 192) (d : Fin 1024) : (k0_pay5 (F := Ideal) z y v (ix2 a d) : EReal) =
    ∑ w : Fin 512, (k0_pay4 (F := Ideal) z y (ix2 a w) : EReal) * v (ix3 0 w d) := by
  pointwise [k0_pay5]

theorem pay6_at (g : FVec Ideal S192x1024 .f32) (a : Fin 192) (d : Fin 1024) : (k0_pay6 (F := Ideal) g (ix2 a d) : EReal) =
    sg (g (ix2 a d)) := by
  pointwise [k0_pay6, sg, one]

theorem pay7_at (z : FVec Ideal S192x512 .f32) (y : FVec Ideal S192x512 .f32) (v : FVec Ideal S1x512x1024 .bf16) (g : FVec Ideal S192x1024 .f32) (a : Fin 192) (d : Fin 1024) : (k0_pay7 (F := Ideal) z y v g (ix2 a d) : EReal) =
    (k0_pay6 (F := Ideal) g (ix2 a d) : EReal) * k0_pay5 (F := Ideal) z y v (ix2 a d) := by
  pointwise [k0_pay7]

theorem pay9_at (z : FVec Ideal S192x512 .f32) (y : FVec Ideal S192x512 .f32) (a : Fin 192) (w : Fin 512) : (k0_pay9 (F := Ideal) z y (k0_pay8 (F := Ideal) z) (ix2 a w) : EReal) =
    (y (ix2 a w) : EReal) * (z (ix2 a w) * sg (z (ix2 a w))) := by
  pointwise [k0_pay9, sg, one, k0_pay8]

theorem pay10_at (z : FVec Ideal S192x512 .f32) (y : FVec Ideal S192x512 .f32) (e : FVec Ideal S192x512 .f32) (v : FVec Ideal S1x512x1024 .bf16) (a : Fin 192) (d : Fin 1024) : (k0_pay10 (F := Ideal) z y e v (ix2 a d) : EReal) =
    ∑ w : Fin 512, (k0_pay9 (F := Ideal) z y e (ix2 a w) : EReal) * v (ix3 0 w d) := by
  pointwise [k0_pay10]

theorem pay11_at (g : FVec Ideal S192x1024 .f32) (a : Fin 192) (d : Fin 1024) : (k0_pay11 (F := Ideal) g (ix2 a d) : EReal) =
    sg (g (ix2 a d)) := by
  pointwise [k0_pay11, sg, one]

theorem pay12_at (p : FVec Ideal S192x1024 .f32) (z : FVec Ideal S192x512 .f32) (y : FVec Ideal S192x512 .f32) (e : FVec Ideal S192x512 .f32) (v : FVec Ideal S1x512x1024 .bf16) (g : FVec Ideal S192x1024 .f32) (a : Fin 192) (d : Fin 1024) : (k0_pay12 (F := Ideal) p z y e v g (ix2 a d) : EReal) =
    (p (ix2 a d) : EReal) + k0_pay11 (F := Ideal) g (ix2 a d) * k0_pay10 (F := Ideal) z y e v (ix2 a d) := by
  pointwise [k0_pay12]

theorem pay13_at (z : FVec Ideal S192x512 .f32) (y : FVec Ideal S192x512 .f32) (a : Fin 192) (w : Fin 512) : (k0_pay13 (F := Ideal) z y (ix2 a w) : EReal) =
    (y (ix2 a w) : EReal) * (z (ix2 a w) * sg (z (ix2 a w))) := by
  pointwise [k0_pay13, sg, one]

theorem pay14_at (z : FVec Ideal S192x512 .f32) (y : FVec Ideal S192x512 .f32) (v : FVec Ideal S1x512x1024 .bf16) (a : Fin 192) (d : Fin 1024) : (k0_pay14 (F := Ideal) z y v (ix2 a d) : EReal) =
    ∑ w : Fin 512, (k0_pay13 (F := Ideal) z y (ix2 a w) : EReal) * v (ix3 0 w d) := by
  pointwise [k0_pay14]

theorem pay16_at (g : FVec Ideal S192x1024 .f32) (a : Fin 192) (d : Fin 1024) : (k0_pay16 (F := Ideal) (k0_pay15 (F := Ideal) g) (ix2 a d) : EReal) =
    sg (g (ix2 a d)) := by
  pointwise [k0_pay16, sg, one, k0_pay15]

theorem pay18_at (h : FVec Ideal S192x1024 .f32) (o : FVec Ideal S1024x1024 .bf16) (a : Fin 192) (d : Fin 1024) : (k0_pay18 (F := Ideal) h o (ix2 a d) : EReal) =
    ∑ j : Fin 1024, (h (ix2 a j) : EReal) * o (ix2 d j) := by
  pointwise [k0_pay18, k0_pay17]

theorem pay19_at (p : FVec Ideal S192x1024 .f32) (q : FVec Ideal S192x1024 .f32) (g : FVec Ideal S192x1024 .f32) (h : FVec Ideal S192x1024 .f32) (acc : FVec Ideal S1024x1024 .f32) (k : Fin 1024) (j : Fin 1024) : (k0_pay19 (F := Ideal) p q g h acc (ix2 k j) : EReal) =
    (acc (ix2 k j) : EReal) + ∑ a : Fin 192, ((p (ix2 a k) : EReal) + k0_pay16 (F := Ideal) g (ix2 a k) * q (ix2 a k)) * h (ix2 a j) := by
  pointwise [k0_pay19, k0_pay17]

theorem pay20_at (g : FVec Ideal S192x1024 .f32) (h : FVec Ideal S192x1024 .f32) (o : FVec Ideal S1024x1024 .bf16) (a : Fin 192) (d : Fin 1024) : (k0_pay20 (F := Ideal) g h o (ix2 a d) : EReal) =
    (k0_pay18 (F := Ideal) h o (ix2 a d) : EReal) * g (ix2 a d) := by
  pointwise [k0_pay20]

theorem pay21_at (p : FVec Ideal S192x1024 .f32) (g : FVec Ideal S192x1024 .f32) (h : FVec Ideal S192x1024 .f32) (o : FVec Ideal S1024x1024 .bf16) (a : Fin 192) (d : Fin 1024) : (k0_pay21 (F := Ideal) p g h o (ix2 a d) : EReal) =
    (k0_pay18 (F := Ideal) h o (ix2 a d) : EReal) * p (ix2 a d) * g (ix2 a d) * (one - g (ix2 a d)) := by
  pointwise [k0_pay21, one]

theorem pay22_at (g : FVec Ideal S192x1024 .f32) (h : FVec Ideal S192x1024 .f32) (o : FVec Ideal S1024x1024 .bf16) (v : FVec Ideal S1x512x1024 .bf16) (a : Fin 192) (w : Fin 512) : (k0_pay22 (F := Ideal) g h o v (ix2 a w) : EReal) =
    ∑ d : Fin 1024, (k0_pay20 (F := Ideal) g h o (ix2 a d) : EReal) * v (ix3 0 w d) := by
  pointwise [k0_pay22]

theorem pay23_at (b : FVec Ideal S192x512 .bf16) (g : FVec Ideal S192x1024 .f32) (h : FVec Ideal S192x1024 .f32) (o : FVec Ideal S1024x1024 .bf16) (acc : FVec Ideal S1x512x1024 .f32) (w : Fin 512) (d : Fin 1024) : (k0_pay23 (F := Ideal) b g h o acc (ix2 w d) : EReal) =
    (acc (ix3 0 w d) : EReal) + ∑ a : Fin 192, (b (ix2 a w) : EReal) * k0_pay20 (F := Ideal) g h o (ix2 a d) := by
  pointwise [k0_pay23]

theorem pay24_at (u : FVec Ideal S512x1024 .f32) (w : Fin 512) (d : Fin 1024) : (k0_pay24 (F := Ideal) u (ix3 0 w d) : EReal) =
    (u (ix2 w d) : EReal) := by
  pointwise [k0_pay24]

theorem pay26_at (r : FVec Ideal S192x512 .f32) (z : FVec Ideal S192x512 .f32) (a : Fin 192) (w : Fin 512) : (k0_pay26 (F := Ideal) r z (ix2 a w) : EReal) =
    (r (ix2 a w) : EReal) * (z (ix2 a w) * sg (z (ix2 a w))) := by
  pointwise [k0_pay26, sg, one, k0_pay25]

theorem pay27_at (r : FVec Ideal S192x512 .f32) (z : FVec Ideal S192x512 .f32) (y : FVec Ideal S192x512 .f32) (a : Fin 192) (w : Fin 512) : (k0_pay27 (F := Ideal) r z y (ix2 a w) : EReal) =
    (r (ix2 a w) : EReal) * y (ix2 a w) * (sg (z (ix2 a w)) * (one + z (ix2 a w) * (one - sg (z (ix2 a w))))) := by
  pointwise [k0_pay27, sg, one, k0_pay25]

theorem pay28_at (g : FVec Ideal S192x1024 .f32) (u : FVec Ideal S192x1024 .f32) (a : Fin 192) (d : Fin 1024) : (k0_pay28 (F := Ideal) g u (ix2 a d) : EReal) =
    (u (ix2 a d) : EReal) * g (ix2 a d) := by
  pointwise [k0_pay28]

theorem pay29_at (p : FVec Ideal S192x1024 .f32) (g : FVec Ideal S192x1024 .f32) (u : FVec Ideal S192x1024 .f32) (a : Fin 192) (d : Fin 1024) : (k0_pay29 (F := Ideal) p g u (ix2 a d) : EReal) =
    (u (ix2 a d) : EReal) * p (ix2 a d) * g (ix2 a d) * (one - g (ix2 a d)) := by
  pointwise [k0_pay29, one]

theorem pay30_at (u : FVec Ideal S192x1024 .bf16) (v : FVec Ideal S1x512x1024 .bf16) (a : Fin 192) (w : Fin 512) : (k0_pay30 (F := Ideal) u v (ix2 a w) : EReal) =
    ∑ d : Fin 1024, (u (ix2 a d) : EReal) * v (ix3 0 w d) := by
  pointwise [k0_pay30]

theorem pay31_at (b : FVec Ideal S192x512 .bf16) (u : FVec Ideal S192x1024 .bf16) (acc : FVec Ideal S1x512x1024 .f32) (w : Fin 512) (d : Fin 1024) : (k0_pay31 (F := Ideal) b u acc (ix3 0 w d) : EReal) =
    (acc (ix3 0 w d) : EReal) + ∑ a : Fin 192, (b (ix2 a w) : EReal) * u (ix2 a d) := by
  pointwise [k0_pay31]

theorem pay33_at (u : FVec Ideal S192x1024 .bf16) (v : FVec Ideal S1x512x1024 .bf16) (z : FVec Ideal S192x512 .f32) (a : Fin 192) (w : Fin 512) : (k0_pay33 (F := Ideal) u v z (ix2 a w) : EReal) =
    (k0_pay30 (F := Ideal) u v (ix2 a w) : EReal) * (z (ix2 a w) * sg (z (ix2 a w))) := by
  pointwise [k0_pay33, sg, one, k0_pay32]

theorem pay34_at (u : FVec Ideal S192x1024 .bf16) (v : FVec Ideal S1x512x1024 .bf16) (z : FVec Ideal S192x512 .f32) (y : FVec Ideal S192x512 .f32) (a : Fin 192) (w : Fin 512) : (k0_pay34 (F := Ideal) u v z y (ix2 a w) : EReal) =
    (k0_pay30 (F := Ideal) u v (ix2 a w) : EReal) * y (ix2 a w) * (sg (z (ix2 a w)) * (one + z (ix2 a w) * (one - sg (z (ix2 a w))))) := by
  pointwise [k0_pay34, sg, one, k0_pay32]

theorem pay35_at (g : FVec Ideal S192x1024 .f32) (u : FVec Ideal S192x1024 .f32) (a : Fin 192) (d : Fin 1024) : (k0_pay35 (F := Ideal) g u (ix2 a d) : EReal) =
    (u (ix2 a d) : EReal) * g (ix2 a d) := by
  pointwise [k0_pay35]

theorem pay36_at (p : FVec Ideal S192x1024 .f32) (g : FVec Ideal S192x1024 .f32) (u : FVec Ideal S192x1024 .f32) (a : Fin 192) (d : Fin 1024) : (k0_pay36 (F := Ideal) p g u (ix2 a d) : EReal) =
    (u (ix2 a d) : EReal) * p (ix2 a d) * g (ix2 a d) * (one - g (ix2 a d)) := by
  pointwise [k0_pay36, one]

theorem pay37_at (u : FVec Ideal S192x1024 .bf16) (v : FVec Ideal S1x512x1024 .bf16) (a : Fin 192) (w : Fin 512) : (k0_pay37 (F := Ideal) u v (ix2 a w) : EReal) =
    ∑ d : Fin 1024, (u (ix2 a d) : EReal) * v (ix3 0 w d) := by
  pointwise [k0_pay37]

theorem pay38_at (b : FVec Ideal S192x512 .bf16) (u : FVec Ideal S192x1024 .bf16) (acc : FVec Ideal S1x512x1024 .f32) (w : Fin 512) (d : Fin 1024) : (k0_pay38 (F := Ideal) b u acc (ix3 0 w d) : EReal) =
    (acc (ix3 0 w d) : EReal) + ∑ a : Fin 192, (b (ix2 a w) : EReal) * u (ix2 a d) := by
  pointwise [k0_pay38]

theorem pay40_at (u : FVec Ideal S192x1024 .bf16) (v : FVec Ideal S1x512x1024 .bf16) (z : FVec Ideal S192x512 .f32) (a : Fin 192) (w : Fin 512) : (k0_pay40 (F := Ideal) u v z (ix2 a w) : EReal) =
    (k0_pay37 (F := Ideal) u v (ix2 a w) : EReal) * (z (ix2 a w) * sg (z (ix2 a w))) := by
  pointwise [k0_pay40, sg, one, k0_pay39]

theorem pay1_at (u : FVec Ideal S192x1024 .bf16) (v : FVec Ideal S1x512x1024 .bf16) (z : FVec Ideal S192x512 .f32) (y : FVec Ideal S192x512 .f32) (a : Fin 192) (w : Fin 512) : (k0_pay1 (F := Ideal) z (k0_pay39 (F := Ideal) z) (k0_pay41 (F := Ideal) u v y) (k0_pay42 (F := Ideal) z) (ix2 a w) : EReal) =
    (k0_pay37 (F := Ideal) u v (ix2 a w) : EReal) * y (ix2 a w) * (sg (z (ix2 a w)) * (one + z (ix2 a w) * (one - sg (z (ix2 a w))))) := by
  pointwise [k0_pay1, sg, one, k0_pay39, k0_pay41, k0_pay42]

section sem

variable (I : In) (r : Fin 192 → Fin 4224)

/-- The gradients at the outer gates lie side by side in 3072 columns. -/
def dgAt (n : Fin 4224) (q : Fin 3072) : EReal := dgt I ⟨q.val / 1024, by omega⟩ n ⟨q.val % 1024, by omega⟩

variable (x0 : FVec Ideal S192x1024 .f32) (x1 x2 x3 x4 x5 x6 : FVec Ideal S192x512 .f32) (x7 x8 x9 : FVec Ideal S192x1024 .f32)
  (x10 : FVec Ideal S3x512x1024 .bf16) (x11 : FVec Ideal S1024x1024 .bf16)

/-- The twelve blocks a point reads hold the rows `r` of the arrays. -/
structure Reads : Prop where
  h0 : ∀ a k, (x0 (ix2 a k) : EReal) = I.H (r a) k
  h1 : ∀ a w, (x1 (ix2 a w) : EReal) = I.Y 0 (r a) w
  h2 : ∀ a w, (x2 (ix2 a w) : EReal) = I.Y 1 (r a) w
  h3 : ∀ a w, (x3 (ix2 a w) : EReal) = I.Y 2 (r a) w
  h4 : ∀ a w, (x4 (ix2 a w) : EReal) = I.Z 0 (r a) w
  h5 : ∀ a w, (x5 (ix2 a w) : EReal) = I.Z 1 (r a) w
  h6 : ∀ a w, (x6 (ix2 a w) : EReal) = I.Z 2 (r a) w
  h7 : ∀ a d, (x7 (ix2 a d) : EReal) = I.G 0 (r a) d
  h8 : ∀ a d, (x8 (ix2 a d) : EReal) = I.G 1 (r a) d
  h9 : ∀ a d, (x9 (ix2 a d) : EReal) = I.G 2 (r a) d
  h10 : ∀ s w d, (x10 (ix3 s w d) : EReal) = I.B s w d
  h11 : ∀ k j, (x11 (ix2 k j) : EReal) = I.O k j

variable {I r x0 x1 x2 x3 x4 x5 x6 x7 x8 x9 x10 x11} (R : Reads I r x0 x1 x2 x3 x4 x5 x6 x7 x8 x9 x10 x11)
include R

theorem part0 (w : Fin 512) (d : Fin 1024) : (View.ld (Val := Elt Ideal) (e' := .bf16) x10 (Rect.unit (s := S3x512x1024) ![0, 0, 0] ![1, 512, 1024] inb_S3x512x1024_S1x512x1024_0_0_0) (ix3 0 w d) : EReal) = I.B 0 w d :=
  (View.ld_unit_apply_of (Val := Elt Ideal) (e := .bf16) (S := S3x512x1024) x10 ![0, 0, 0] ![1, 512, 1024] inb_S3x512x1024_S1x512x1024_0_0_0 (ix3 0 w d) (ix3 0 w d) (by
    intro a; fin_cases a <;> simp)).trans (R.h10 0 w d)

theorem part1 (w : Fin 512) (d : Fin 1024) : (View.ld (Val := Elt Ideal) (e' := .bf16) x10 (Rect.unit (s := S3x512x1024) ![1, 0, 0] ![1, 512, 1024] inb_S3x512x1024_S1x512x1024_1_0_0) (ix3 0 w d) : EReal) = I.B 1 w d :=
  (View.ld_unit_apply_of (Val := Elt Ideal) (e := .bf16) (S := S3x512x1024) x10 ![1, 0, 0] ![1, 512, 1024] inb_S3x512x1024_S1x512x1024_1_0_0 (ix3 0 w d) (ix3 1 w d) (by
    intro a; fin_cases a <;> simp)).trans (R.h10 1 w d)

theorem part2 (w : Fin 512) (d : Fin 1024) : (View.ld (Val := Elt Ideal) (e' := .bf16) x10 (Rect.unit (s := S3x512x1024) ![2, 0, 0] ![1, 512, 1024] inb_S3x512x1024_S1x512x1024_2_0_0) (ix3 0 w d) : EReal) = I.B 2 w d :=
  (View.ld_unit_apply_of (Val := Elt Ideal) (e := .bf16) (S := S3x512x1024) x10 ![2, 0, 0] ![1, 512, 1024] inb_S3x512x1024_S1x512x1024_2_0_0 (ix3 0 w d) (ix3 2 w d) (by
    intro a; fin_cases a <;> simp)).trans (R.h10 2 w d)

theorem dm_at (a : Fin 192) (d : Fin 1024) : (k0_pay18 (F := Ideal) x0 x11 (ix2 a d) : EReal) = dm I (r a) d := by
  refine (pay18_at ..).trans (Finset.sum_congr rfl fun j _ => ?_)
  rw [R.h0, R.h11]

theorem br0 (a : Fin 192) (w : Fin 512) : ((k0_pay4 (F := Ideal) x4 x1) (ix2 a w) : EReal) = br I 0 (r a) w := by
  refine (pay4_at ..).trans ?_
  unfold br
  rw [R.h4, R.h1]

theorem pb0 (a : Fin 192) (d : Fin 1024) : ((k0_pay5 (F := Ideal) x4 x1 (View.ld (Val := Elt Ideal) (e' := .bf16) x10 (Rect.unit (s := S3x512x1024) ![0, 0, 0] ![1, 512, 1024] inb_S3x512x1024_S1x512x1024_0_0_0))) (ix2 a d) : EReal) = pb I 0 (r a) d := by
  refine (pay5_at ..).trans (Finset.sum_congr rfl fun w _ => ?_)
  exact congrArg₂ (fun u v : EReal => u * v) (br0 R a w) (part0 R w d)

theorem gt0 (a : Fin 192) (d : Fin 1024) : ((k0_pay6 (F := Ideal) x7) (ix2 a d) : EReal) = gt I 0 (r a) d := by
  refine (pay6_at ..).trans ?_
  unfold gt
  rw [R.h7]

theorem dpb0 (a : Fin 192) (d : Fin 1024) : ((k0_pay20 (F := Ideal) (k0_pay6 (F := Ideal) x7) x0 x11) (ix2 a d) : EReal) = dpb I 0 (r a) d :=
  (pay20_at ..).trans (congrArg₂ (fun u v : EReal => u * v) (dm_at R a d) (gt0 R a d))

theorem dg0 (a : Fin 192) (d : Fin 1024) : ((k0_pay21 (F := Ideal) (k0_pay5 (F := Ideal) x4 x1 (View.ld (Val := Elt Ideal) (e' := .bf16) x10 (Rect.unit (s := S3x512x1024) ![0, 0, 0] ![1, 512, 1024] inb_S3x512x1024_S1x512x1024_0_0_0))) (k0_pay6 (F := Ideal) x7) x0 x11) (ix2 a d) : EReal) = dgt I 0 (r a) d := by
  refine (pay21_at ..).trans ?_
  unfold dgt
  rw [← dm_at R a d, ← pb0 R a d, ← gt0 R a d]

theorem db0 (a : Fin 192) (w : Fin 512) : ((k0_pay22 (F := Ideal) (k0_pay6 (F := Ideal) x7) x0 x11 (View.ld (Val := Elt Ideal) (e' := .bf16) x10 (Rect.unit (s := S3x512x1024) ![0, 0, 0] ![1, 512, 1024] inb_S3x512x1024_S1x512x1024_0_0_0))) (ix2 a w) : EReal) = dbr I 0 (r a) w := by
  refine (pay22_at ..).trans (Finset.sum_congr rfl fun d _ => ?_)
  exact congrArg₂ (fun u v : EReal => u * v) (dpb0 R a d) (part0 R w d)

theorem dy0 (a : Fin 192) (w : Fin 512) : ((k0_pay26 (F := Ideal) (k0_pay22 (F := Ideal) (k0_pay6 (F := Ideal) x7) x0 x11 (View.ld (Val := Elt Ideal) (e' := .bf16) x10 (Rect.unit (s := S3x512x1024) ![0, 0, 0] ![1, 512, 1024] inb_S3x512x1024_S1x512x1024_0_0_0))) x4) (ix2 a w) : EReal) = dy I 0 (r a) w := by
  refine (pay26_at ..).trans ?_
  unfold dy
  rw [← db0 R a w, ← R.h4]

theorem dz0 (a : Fin 192) (w : Fin 512) : ((k0_pay27 (F := Ideal) (k0_pay22 (F := Ideal) (k0_pay6 (F := Ideal) x7) x0 x11 (View.ld (Val := Elt Ideal) (e' := .bf16) x10 (Rect.unit (s := S3x512x1024) ![0, 0, 0] ![1, 512, 1024] inb_S3x512x1024_S1x512x1024_0_0_0))) x4 x1) (ix2 a w) : EReal) = dz I 0 (r a) w := by
  refine (pay27_at ..).trans ?_
  unfold dz
  rw [← db0 R a w, ← R.h4, ← R.h1]

theorem br1 (a : Fin 192) (w : Fin 512) : ((k0_pay9 (F := Ideal) x5 x2 (k0_pay8 (F := Ideal) x5)) (ix2 a w) : EReal) = br I 1 (r a) w := by
  refine (pay9_at ..).trans ?_
  unfold br
  rw [R.h5, R.h2]

theorem pb1 (a : Fin 192) (d : Fin 1024) : ((k0_pay10 (F := Ideal) x5 x2 (k0_pay8 (F := Ideal) x5) (View.ld (Val := Elt Ideal) (e' := .bf16) x10 (Rect.unit (s := S3x512x1024) ![1, 0, 0] ![1, 512, 1024] inb_S3x512x1024_S1x512x1024_1_0_0))) (ix2 a d) : EReal) = pb I 1 (r a) d := by
  refine (pay10_at ..).trans (Finset.sum_congr rfl fun w _ => ?_)
  exact congrArg₂ (fun u v : EReal => u * v) (br1 R a w) (part1 R w d)

theorem gt1 (a : Fin 192) (d : Fin 1024) : ((k0_pay11 (F := Ideal) x8) (ix2 a d) : EReal) = gt I 1 (r a) d := by
  refine (pay11_at ..).trans ?_
  unfold gt
  rw [R.h8]

theorem dpb1 (a : Fin 192) (d : Fin 1024) : ((k0_pay28 (F := Ideal) (k0_pay11 (F := Ideal) x8) (k0_pay18 (F := Ideal) x0 x11)) (ix2 a d) : EReal) = dpb I 1 (r a) d :=
  (pay28_at ..).trans (congrArg₂ (fun u v : EReal => u * v) (dm_at R a d) (gt1 R a d))

theorem dg1 (a : Fin 192) (d : Fin 1024) : ((k0_pay29 (F := Ideal) (k0_pay10 (F := Ideal) x5 x2 (k0_pay8 (F := Ideal) x5) (View.ld (Val := Elt Ideal) (e' := .bf16) x10 (Rect.unit (s := S3x512x1024) ![1, 0, 0] ![1, 512, 1024] inb_S3x512x1024_S1x512x1024_1_0_0))) (k0_pay11 (F := Ideal) x8) (k0_pay18 (F := Ideal) x0 x11)) (ix2 a d) : EReal) = dgt I 1 (r a) d := by
  refine (pay29_at ..).trans ?_
  unfold dgt
  rw [← dm_at R a d, ← pb1 R a d, ← gt1 R a d]

theorem db1 (a : Fin 192) (w : Fin 512) : ((k0_pay30 (F := Ideal) (k0_pay28 (F := Ideal) (k0_pay11 (F := Ideal) x8) (k0_pay18 (F := Ideal) x0 x11)) (View.ld (Val := Elt Ideal) (e' := .bf16) x10 (Rect.unit (s := S3x512x1024) ![1, 0, 0] ![1, 512, 1024] inb_S3x512x1024_S1x512x1024_1_0_0))) (ix2 a w) : EReal) = dbr I 1 (r a) w := by
  refine (pay30_at ..).trans (Finset.sum_congr rfl fun d _ => ?_)
  exact congrArg₂ (fun u v : EReal => u * v) (dpb1 R a d) (part1 R w d)

theorem dy1 (a : Fin 192) (w : Fin 512) : ((k0_pay33 (F := Ideal) (k0_pay28 (F := Ideal) (k0_pay11 (F := Ideal) x8) (k0_pay18 (F := Ideal) x0 x11)) (View.ld (Val := Elt Ideal) (e' := .bf16) x10 (Rect.unit (s := S3x512x1024) ![1, 0, 0] ![1, 512, 1024] inb_S3x512x1024_S1x512x1024_1_0_0)) x5) (ix2 a w) : EReal) = dy I 1 (r a) w := by
  refine (pay33_at ..).trans ?_
  unfold dy
  rw [← db1 R a w, ← R.h5]

theorem dz1 (a : Fin 192) (w : Fin 512) : ((k0_pay34 (F := Ideal) (k0_pay28 (F := Ideal) (k0_pay11 (F := Ideal) x8) (k0_pay18 (F := Ideal) x0 x11)) (View.ld (Val := Elt Ideal) (e' := .bf16) x10 (Rect.unit (s := S3x512x1024) ![1, 0, 0] ![1, 512, 1024] inb_S3x512x1024_S1x512x1024_1_0_0)) x5 x2) (ix2 a w) : EReal) = dz I 1 (r a) w := by
  refine (pay34_at ..).trans ?_
  unfold dz
  rw [← db1 R a w, ← R.h5, ← R.h2]

theorem br2 (a : Fin 192) (w : Fin 512) : ((k0_pay13 (F := Ideal) x6 x3) (ix2 a w) : EReal) = br I 2 (r a) w := by
  refine (pay13_at ..).trans ?_
  unfold br
  rw [R.h6, R.h3]

theorem pb2 (a : Fin 192) (d : Fin 1024) : ((k0_pay14 (F := Ideal) x6 x3 (View.ld (Val := Elt Ideal) (e' := .bf16) x10 (Rect.unit (s := S3x512x1024) ![2, 0, 0] ![1, 512, 1024] inb_S3x512x1024_S1x512x1024_2_0_0))) (ix2 a d) : EReal) = pb I 2 (r a) d := by
  refine (pay14_at ..).trans (Finset.sum_congr rfl fun w _ => ?_)
  exact congrArg₂ (fun u v : EReal => u * v) (br2 R a w) (part2 R w d)

theorem gt2 (a : Fin 192) (d : Fin 1024) : ((k0_pay16 (F := Ideal) (k0_pay15 (F := Ideal) x9)) (ix2 a d) : EReal) = gt I 2 (r a) d := by
  refine (pay16_at ..).trans ?_
  unfold gt
  rw [R.h9]

theorem dpb2 (a : Fin 192) (d : Fin 1024) : ((k0_pay35 (F := Ideal) (k0_pay16 (F := Ideal) (k0_pay15 (F := Ideal) x9)) (k0_pay18 (F := Ideal) x0 x11)) (ix2 a d) : EReal) = dpb I 2 (r a) d :=
  (pay35_at ..).trans (congrArg₂ (fun u v : EReal => u * v) (dm_at R a d) (gt2 R a d))

theorem dg2 (a : Fin 192) (d : Fin 1024) : ((k0_pay36 (F := Ideal) (k0_pay14 (F := Ideal) x6 x3 (View.ld (Val := Elt Ideal) (e' := .bf16) x10 (Rect.unit (s := S3x512x1024) ![2, 0, 0] ![1, 512, 1024] inb_S3x512x1024_S1x512x1024_2_0_0))) (k0_pay16 (F := Ideal) (k0_pay15 (F := Ideal) x9)) (k0_pay18 (F := Ideal) x0 x11)) (ix2 a d) : EReal) = dgt I 2 (r a) d := by
  refine (pay36_at ..).trans ?_
  unfold dgt
  rw [← dm_at R a d, ← pb2 R a d, ← gt2 R a d]

theorem db2 (a : Fin 192) (w : Fin 512) : ((k0_pay37 (F := Ideal) (k0_pay35 (F := Ideal) (k0_pay16 (F := Ideal) (k0_pay15 (F := Ideal) x9)) (k0_pay18 (F := Ideal) x0 x11)) (View.ld (Val := Elt Ideal) (e' := .bf16) x10 (Rect.unit (s := S3x512x1024) ![2, 0, 0] ![1, 512, 1024] inb_S3x512x1024_S1x512x1024_2_0_0))) (ix2 a w) : EReal) = dbr I 2 (r a) w := by
  refine (pay37_at ..).trans (Finset.sum_congr rfl fun d _ => ?_)
  exact congrArg₂ (fun u v : EReal => u * v) (dpb2 R a d) (part2 R w d)

theorem dy2 (a : Fin 192) (w : Fin 512) : ((k0_pay40 (F := Ideal) (k0_pay35 (F := Ideal) (k0_pay16 (F := Ideal) (k0_pay15 (F := Ideal) x9)) (k0_pay18 (F := Ideal) x0 x11)) (View.ld (Val := Elt Ideal) (e' := .bf16) x10 (Rect.unit (s := S3x512x1024) ![2, 0, 0] ![1, 512, 1024] inb_S3x512x1024_S1x512x1024_2_0_0)) x6) (ix2 a w) : EReal) = dy I 2 (r a) w := by
  refine (pay40_at ..).trans ?_
  unfold dy
  rw [← db2 R a w, ← R.h6]

theorem dz2 (a : Fin 192) (w : Fin 512) : ((k0_pay1 (F := Ideal) x6 (k0_pay39 (F := Ideal) x6) (k0_pay41 (F := Ideal) (k0_pay35 (F := Ideal) (k0_pay16 (F := Ideal) (k0_pay15 (F := Ideal) x9)) (k0_pay18 (F := Ideal) x0 x11)) (View.ld (Val := Elt Ideal) (e' := .bf16) x10 (Rect.unit (s := S3x512x1024) ![2, 0, 0] ![1, 512, 1024] inb_S3x512x1024_S1x512x1024_2_0_0)) x3) (k0_pay42 (F := Ideal) x6)) (ix2 a w) : EReal) = dz I 2 (r a) w := by
  refine (pay1_at ..).trans ?_
  unfold dz
  rw [← db2 R a w, ← R.h6, ← R.h3]

theorem wB0 (acc : FVec Ideal S1x512x1024 .f32) (w : Fin 512) (d : Fin 1024) : ((k0_pay24 (F := Ideal) (k0_pay23 (F := Ideal) (k0_pay4 (F := Ideal) x4 x1) (k0_pay6 (F := Ideal) x7) x0 x11 acc)) (ix3 0 w d) : EReal) =
    (acc (ix3 0 w d) : EReal) + ∑ a : Fin 192, br I 0 (r a) w * dpb I 0 (r a) d := by
  refine (pay24_at ..).trans ((pay23_at ..).trans (congrArg (fun u : EReal => (acc (ix3 0 w d) : EReal) + u) (Finset.sum_congr rfl fun a _ => ?_)))
  exact congrArg₂ (fun u v : EReal => u * v) (br0 R a w) (dpb0 R a d)

theorem wB1 (acc : FVec Ideal S1x512x1024 .f32) (w : Fin 512) (d : Fin 1024) : ((k0_pay31 (F := Ideal) (k0_pay9 (F := Ideal) x5 x2 (k0_pay8 (F := Ideal) x5)) (k0_pay28 (F := Ideal) (k0_pay11 (F := Ideal) x8) (k0_pay18 (F := Ideal) x0 x11)) acc) (ix3 0 w d) : EReal) =
    (acc (ix3 0 w d) : EReal) + ∑ a : Fin 192, br I 1 (r a) w * dpb I 1 (r a) d := by
  refine (pay31_at ..).trans ( (congrArg (fun u : EReal => (acc (ix3 0 w d) : EReal) + u) (Finset.sum_congr rfl fun a _ => ?_)))
  exact congrArg₂ (fun u v : EReal => u * v) (br1 R a w) (dpb1 R a d)

theorem wB2 (acc : FVec Ideal S1x512x1024 .f32) (w : Fin 512) (d : Fin 1024) : ((k0_pay38 (F := Ideal) (k0_pay13 (F := Ideal) x6 x3) (k0_pay35 (F := Ideal) (k0_pay16 (F := Ideal) (k0_pay15 (F := Ideal) x9)) (k0_pay18 (F := Ideal) x0 x11)) acc) (ix3 0 w d) : EReal) =
    (acc (ix3 0 w d) : EReal) + ∑ a : Fin 192, br I 2 (r a) w * dpb I 2 (r a) d := by
  refine (pay38_at ..).trans ( (congrArg (fun u : EReal => (acc (ix3 0 w d) : EReal) + u) (Finset.sum_congr rfl fun a _ => ?_)))
  exact congrArg₂ (fun u v : EReal => u * v) (br2 R a w) (dpb2 R a d)

theorem m01 (a : Fin 192) (d : Fin 1024) : ((k0_pay12 (F := Ideal) (k0_pay7 (F := Ideal) x4 x1 (View.ld (Val := Elt Ideal) (e' := .bf16) x10 (Rect.unit (s := S3x512x1024) ![0, 0, 0] ![1, 512, 1024] inb_S3x512x1024_S1x512x1024_0_0_0)) x7) x5 x2 (k0_pay8 (F := Ideal) x5) (View.ld (Val := Elt Ideal) (e' := .bf16) x10 (Rect.unit (s := S3x512x1024) ![1, 0, 0] ![1, 512, 1024] inb_S3x512x1024_S1x512x1024_1_0_0)) x8) (ix2 a d) : EReal) = gt I 0 (r a) d * pb I 0 (r a) d + gt I 1 (r a) d * pb I 1 (r a) d := by
  refine (pay12_at ..).trans ?_
  refine congrArg₂ (fun u v : EReal => u + v) ((pay7_at ..).trans ?_) ?_
  · exact congrArg₂ (fun u v : EReal => u * v) (gt0 R a d) (pb0 R a d)
  · exact congrArg₂ (fun u v : EReal => u * v) (gt1 R a d) (pb1 R a d)

theorem wO_at (acc : FVec Ideal S1024x1024 .f32) (k j : Fin 1024) : ((k0_pay19 (F := Ideal) (k0_pay12 (F := Ideal) (k0_pay7 (F := Ideal) x4 x1 (View.ld (Val := Elt Ideal) (e' := .bf16) x10 (Rect.unit (s := S3x512x1024) ![0, 0, 0] ![1, 512, 1024] inb_S3x512x1024_S1x512x1024_0_0_0)) x7) x5 x2 (k0_pay8 (F := Ideal) x5) (View.ld (Val := Elt Ideal) (e' := .bf16) x10 (Rect.unit (s := S3x512x1024) ![1, 0, 0] ![1, 512, 1024] inb_S3x512x1024_S1x512x1024_1_0_0)) x8) (k0_pay14 (F := Ideal) x6 x3 (View.ld (Val := Elt Ideal) (e' := .bf16) x10 (Rect.unit (s := S3x512x1024) ![2, 0, 0] ![1, 512, 1024] inb_S3x512x1024_S1x512x1024_2_0_0))) (k0_pay15 (F := Ideal) x9) x0 acc) (ix2 k j) : EReal) =
    (acc (ix2 k j) : EReal) + ∑ a : Fin 192, mg I (r a) k * I.H (r a) j := by
  refine (pay19_at ..).trans (congrArg (fun u : EReal => (acc (ix2 k j) : EReal) + u) (Finset.sum_congr rfl fun a _ => ?_))
  refine congrArg₂ (fun u v : EReal => u * v) ?_ (R.h0 a j)
  exact congrArg₂ (fun u v : EReal => u + v) (m01 R a k) (congrArg₂ (fun u v : EReal => u * v) (gt2 R a k) (pb2 R a k))

end sem

end Cert.Kernel5Ideal.Hand

end
-- ==== Proof.MbCase.lean ====
/- The gradient of the gated merge of three branches: what its kernel leaves. -/
module

public import proofs.«01_k».proof.Proof.Gen.Kernel5Ideal.Value
public import proofs.«01_k».proof.Proof.MbPay
public import Idealize.ShloMosaic.Lib.Pipeline.ValueKit
public import Idealize.ShloMosaic.Lib.WritesUnit

@[expose] public section

set_option maxRecDepth 16384

noncomputable section

namespace Cert.Kernel5Ideal.Hand

open Cert.Kernel5Ideal Cert.Kernel5Ideal.Gen Cert.MergeBack
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

section body

variable (i : grid0.Coords) (arg1 : Memref sig .tc .vmem S192x1024 .f32) (harg1 : arg1.IsWhole) (arg2 : Memref sig .tc .vmem S192x512 .f32) (harg2 : arg2.IsWhole) (arg3 : Memref sig .tc .vmem S192x512 .f32) (harg3 : arg3.IsWhole) (arg4 : Memref sig .tc .vmem S192x512 .f32) (harg4 : arg4.IsWhole) (arg5 : Memref sig .tc .vmem S192x512 .f32) (harg5 : arg5.IsWhole) (arg6 : Memref sig .tc .vmem S192x512 .f32) (harg6 : arg6.IsWhole) (arg7 : Memref sig .tc .vmem S192x512 .f32) (harg7 : arg7.IsWhole) (arg8 : Memref sig .tc .vmem S192x1024 .f32) (harg8 : arg8.IsWhole) (arg9 : Memref sig .tc .vmem S192x1024 .f32) (harg9 : arg9.IsWhole) (arg10 : Memref sig .tc .vmem S192x1024 .f32) (harg10 : arg10.IsWhole) (arg11 : Memref sig .tc .vmem S3x512x1024 .bf16) (harg11 : arg11.IsWhole) (arg12 : Memref sig .tc .vmem S1024x1024 .bf16) (harg12 : arg12.IsWhole) (arg13 : Memref sig .tc .vmem S192x512 .bf16) (harg13 : arg13.IsWhole) (arg14 : Memref sig .tc .vmem S192x512 .bf16) (harg14 : arg14.IsWhole) (arg15 : Memref sig .tc .vmem S192x512 .bf16) (harg15 : arg15.IsWhole) (arg16 : Memref sig .tc .vmem S192x512 .bf16) (harg16 : arg16.IsWhole) (arg17 : Memref sig .tc .vmem S192x512 .bf16) (harg17 : arg17.IsWhole) (arg18 : Memref sig .tc .vmem S192x512 .bf16) (harg18 : arg18.IsWhole) (arg19 : Memref sig .tc .vmem S192x3072 .bf16) (harg19 : arg19.IsWhole) (arg22 : Memref sig .tc .vmem S3x512x1024 .f32) (harg22 : arg22.IsWhole) (arg23 : Memref sig .tc .vmem S1024x1024 .f32) (harg23 : arg23.IsWhole)
  (x0 : Vec Ideal S192x1024 .f32) (x1 : Vec Ideal S192x512 .f32) (x2 : Vec Ideal S192x512 .f32) (x3 : Vec Ideal S192x512 .f32) (x4 : Vec Ideal S192x512 .f32) (x5 : Vec Ideal S192x512 .f32) (x6 : Vec Ideal S192x512 .f32) (x7 : Vec Ideal S192x1024 .f32) (x8 : Vec Ideal S192x1024 .f32) (x9 : Vec Ideal S192x1024 .f32) (x10 : Vec Ideal S3x512x1024 .bf16) (x11 : Vec Ideal S1024x1024 .bf16) (xs0 : Vec Ideal S3x512x1024 .f32) (xs1 : Vec Ideal S1024x1024 .f32)
  (fw0 : HbBuf0 (F := Ideal) c hbM0_0) (fw1 : HbBuf0 (F := Ideal) c hbM0_1)

variable {I : In} {r : Fin 192 → Fin 4224} (R : Reads I r x0 x1 x2 x3 x4 x5 x6 x7 x8 x9 x10 x11)

theorem read3 (v : View sig .tc .vmem S3x512x1024 .f32) (f : v.ty.Contents (Elt Ideal)) (p2 p1 p0 : FVec Ideal S1x512x1024 .f32) (L : List (View.Piece (Elt Ideal) S3x512x1024 .f32)) (s : Fin 3) (w : Fin 512) (d : Fin 1024) :
    v.read (Elt Ideal) (v.writes (Elt Ideal) f (⟨(Rect.unit (s := S3x512x1024) ![2, 0, 0] ![1, 512, 1024] inb_S3x512x1024_S1x512x1024_2_0_0), p2⟩ :: ⟨(Rect.unit (s := S3x512x1024) ![1, 0, 0] ![1, 512, 1024] inb_S3x512x1024_S1x512x1024_1_0_0), p1⟩ :: ⟨(Rect.unit (s := S3x512x1024) ![0, 0, 0] ![1, 512, 1024] inb_S3x512x1024_S1x512x1024_0_0_0), p0⟩ :: L)) (ix3 s w d) = (![p0, p1, p2] s) (ix3 0 w d) := by
  fin_cases s
  · rw [View.read_writes_cons_unit_of_not_mem (s := S3x512x1024) _ _ (off' := ![2, 0, 0]) inb_S3x512x1024_S1x512x1024_2_0_0 _ _ _ rfl 0 (Or.inl (by simp)),
      View.read_writes_cons_unit_of_not_mem (s := S3x512x1024) _ _ (off' := ![1, 0, 0]) inb_S3x512x1024_S1x512x1024_1_0_0 _ _ _ rfl 0 (Or.inl (by simp)),
      View.read_writes_cons_unit_of_mem (s := S3x512x1024) _ _ (off' := ![0, 0, 0]) inb_S3x512x1024_S1x512x1024_0_0_0 _ _ _ (ix3 0 w d) rfl (by intro a; fin_cases a <;> simp)]
    rfl
  · rw [View.read_writes_cons_unit_of_not_mem (s := S3x512x1024) _ _ (off' := ![2, 0, 0]) inb_S3x512x1024_S1x512x1024_2_0_0 _ _ _ rfl 0 (Or.inl (by simp)),
      View.read_writes_cons_unit_of_mem (s := S3x512x1024) _ _ (off' := ![1, 0, 0]) inb_S3x512x1024_S1x512x1024_1_0_0 _ _ _ (ix3 0 w d) rfl (by intro a; fin_cases a <;> simp)]
    rfl
  · rw [View.read_writes_cons_unit_of_mem (s := S3x512x1024) _ _ (off' := ![2, 0, 0]) inb_S3x512x1024_S1x512x1024_2_0_0 _ _ _ (ix3 0 w d) rfl (by intro a; fin_cases a <;> simp)]
    rfl

theorem canon3 (p2 p1 p0 : FVec Ideal S1x512x1024 .f32) (L : List (View.Piece (Elt Ideal) S3x512x1024 .f32)) (s : Fin 3) (w : Fin 512) (d : Fin 1024) :
    View.canon (Val := Elt Ideal) (⟨(Rect.unit (s := S3x512x1024) ![2, 0, 0] ![1, 512, 1024] inb_S3x512x1024_S1x512x1024_2_0_0), p2⟩ :: ⟨(Rect.unit (s := S3x512x1024) ![1, 0, 0] ![1, 512, 1024] inb_S3x512x1024_S1x512x1024_1_0_0), p1⟩ :: ⟨(Rect.unit (s := S3x512x1024) ![0, 0, 0] ![1, 512, 1024] inb_S3x512x1024_S1x512x1024_0_0_0), p0⟩ :: L) (ix3 s w d) = (![p0, p1, p2] s) (ix3 0 w d) := by
  rw [← View.read_writes_junk_apply_eq_canon VS0_0]
  exact read3 VS0_0 _ p2 p1 p0 L s w d

theorem canonZ (s : Fin 3) (w : Fin 512) (d : Fin 1024) :
    (View.canon (Val := Elt Ideal) (e := .f32) [⟨(Rect.unit (s := S3x512x1024) ![0, 0, 0] ![3, 512, 1024] inb_S3x512x1024_S3x512x1024_0_0_0), k0_pay2 (F := Ideal)⟩] (ix3 s w d) : EReal) = 0 := by
  rw [← View.read_writes_junk_apply_eq_canon VS0_0]
  rw [View.read_writes_cons_unit_of_mem (s := S3x512x1024) _ _ (off' := ![0, 0, 0]) inb_S3x512x1024_S3x512x1024_0_0_0 _ _ _ (ix3 s w d) rfl (by intro a; fin_cases a <;> simp)]
  exact pay2_at s w d

theorem ld3_0 (Y : Vec Ideal S3x512x1024 .f32) (w : Fin 512) (d : Fin 1024) : View.ld (Val := Elt Ideal) Y (Rect.unit (s := S3x512x1024) ![0, 0, 0] ![1, 512, 1024] inb_S3x512x1024_S1x512x1024_0_0_0) (ix3 0 w d) = Y (ix3 0 w d) :=
  View.ld_unit_apply_of (S := S3x512x1024) Y ![0, 0, 0] ![1, 512, 1024] inb_S3x512x1024_S1x512x1024_0_0_0 (ix3 0 w d) (ix3 0 w d) (by intro a; fin_cases a <;> simp)

theorem ld3_1 (Y : Vec Ideal S3x512x1024 .f32) (w : Fin 512) (d : Fin 1024) : View.ld (Val := Elt Ideal) Y (Rect.unit (s := S3x512x1024) ![1, 0, 0] ![1, 512, 1024] inb_S3x512x1024_S1x512x1024_1_0_0) (ix3 0 w d) = Y (ix3 1 w d) :=
  View.ld_unit_apply_of (S := S3x512x1024) Y ![1, 0, 0] ![1, 512, 1024] inb_S3x512x1024_S1x512x1024_1_0_0 (ix3 0 w d) (ix3 1 w d) (by intro a; fin_cases a <;> simp)

theorem ld3_2 (Y : Vec Ideal S3x512x1024 .f32) (w : Fin 512) (d : Fin 1024) : View.ld (Val := Elt Ideal) Y (Rect.unit (s := S3x512x1024) ![2, 0, 0] ![1, 512, 1024] inb_S3x512x1024_S1x512x1024_2_0_0) (ix3 0 w d) = Y (ix3 2 w d) :=
  View.ld_unit_apply_of (S := S3x512x1024) Y ![2, 0, 0] ![1, 512, 1024] inb_S3x512x1024_S1x512x1024_2_0_0 (ix3 0 w d) (ix3 2 w d) (by intro a; fin_cases a <;> simp)

theorem acc0 (v : View sig .tc .vmem S3x512x1024 .f32) (w : Fin 512) (d : Fin 1024) :
    (v.readCov (Val := Elt Ideal) [⟨(Rect.unit (s := S3x512x1024) ![0, 0, 0] ![3, 512, 1024] inb_S3x512x1024_S3x512x1024_0_0_0), k0_pay2 (F := Ideal)⟩] (Rect.unit (s := S3x512x1024) ![0, 0, 0] ![1, 512, 1024] inb_S3x512x1024_S1x512x1024_0_0_0).toLoadRect (ix3 0 w d) : EReal) = 0 := by
  rw [View.readCov_eq_canon']
  exact (ld3_0 _ w d).trans (canonZ 0 w d)

theorem acc1 (v : View sig .tc .vmem S3x512x1024 .f32) (p0 : FVec Ideal S1x512x1024 .f32) (w : Fin 512) (d : Fin 1024) :
    (v.readCov (Val := Elt Ideal) [⟨(Rect.unit (s := S3x512x1024) ![0, 0, 0] ![1, 512, 1024] inb_S3x512x1024_S1x512x1024_0_0_0), p0⟩, ⟨(Rect.unit (s := S3x512x1024) ![0, 0, 0] ![3, 512, 1024] inb_S3x512x1024_S3x512x1024_0_0_0), k0_pay2 (F := Ideal)⟩] (Rect.unit (s := S3x512x1024) ![1, 0, 0] ![1, 512, 1024] inb_S3x512x1024_S1x512x1024_1_0_0).toLoadRect (ix3 0 w d) : EReal) = 0 := by
  rw [View.readCov_eq_canon']
  refine (ld3_1 _ w d).trans (Eq.trans ?_ (canonZ 1 w d))
  rw [← View.read_writes_junk_apply_eq_canon VS0_0, ← View.read_writes_junk_apply_eq_canon VS0_0]
  exact View.read_writes_cons_unit_of_not_mem (s := S3x512x1024) _ _ (off' := ![0, 0, 0]) inb_S3x512x1024_S1x512x1024_0_0_0 _ _ _ rfl 0 (Or.inr (by simp))

theorem acc2 (v : View sig .tc .vmem S3x512x1024 .f32) (p1 p0 : FVec Ideal S1x512x1024 .f32) (w : Fin 512) (d : Fin 1024) :
    (v.readCov (Val := Elt Ideal) [⟨(Rect.unit (s := S3x512x1024) ![1, 0, 0] ![1, 512, 1024] inb_S3x512x1024_S1x512x1024_1_0_0), p1⟩, ⟨(Rect.unit (s := S3x512x1024) ![0, 0, 0] ![1, 512, 1024] inb_S3x512x1024_S1x512x1024_0_0_0), p0⟩, ⟨(Rect.unit (s := S3x512x1024) ![0, 0, 0] ![3, 512, 1024] inb_S3x512x1024_S3x512x1024_0_0_0), k0_pay2 (F := Ideal)⟩] (Rect.unit (s := S3x512x1024) ![2, 0, 0] ![1, 512, 1024] inb_S3x512x1024_S1x512x1024_2_0_0).toLoadRect (ix3 0 w d) : EReal) = 0 := by
  rw [View.readCov_eq_canon']
  refine (ld3_2 _ w d).trans (Eq.trans ?_ (canonZ 2 w d))
  rw [← View.read_writes_junk_apply_eq_canon VS0_0, ← View.read_writes_junk_apply_eq_canon VS0_0]
  refine (View.read_writes_cons_unit_of_not_mem (s := S3x512x1024) _ _ (off' := ![1, 0, 0]) inb_S3x512x1024_S1x512x1024_1_0_0 _ _ _ rfl 0 (Or.inr (by simp))).trans ?_
  exact View.read_writes_cons_unit_of_not_mem (s := S3x512x1024) _ _ (off' := ![0, 0, 0]) inb_S3x512x1024_S1x512x1024_0_0_0 _ _ _ rfl 0 (Or.inr (by simp))

/-- One point's part of the gradient at the branches' weights. -/
def ptB (I : In) (r : Fin 192 → Fin 4224) (s : Fin 3) (w : Fin 512) (d : Fin 1024) : EReal := ∑ a : Fin 192, br I s (r a) w * dpb I s (r a) d

/-- One point's part of the gradient at the output's weights. -/
def ptO (I : In) (r : Fin 192 → Fin 4224) (k j : Fin 1024) : EReal := ∑ a : Fin 192, mg I (r a) k * I.H (r a) j

theorem canonG (v : View sig .tc .vmem S192x3072 .bf16) (p2 p1 p0 : FVec Ideal S192x1024 .bf16) (a : Fin 192) (q : Fin 3072) :
    View.canon (Val := Elt Ideal) (e := .bf16) [⟨Rect.unit (s := S192x3072) ![0, 2048] ![192, 1024] inb_S192x3072_S192x1024_0_2048, p2⟩,
      ⟨Rect.unit (s := S192x3072) ![0, 1024] ![192, 1024] inb_S192x3072_S192x1024_0_1024, p1⟩,
      ⟨Rect.unit (s := S192x3072) ![0, 0] ![192, 1024] inb_S192x3072_S192x1024_0_0, p0⟩] (ix2 a q) =
    (![p0, p1, p2] ⟨q.val / 1024, by omega⟩) (ix2 a ⟨q.val % 1024, by omega⟩) := by
  rw [← View.read_writes_junk_apply_eq_canon v]
  by_cases h2 : 2048 ≤ q.val
  · have e : (⟨q.val / 1024, by omega⟩ : Fin 3) = 2 := Fin.ext (by show q.val / 1024 = 2; omega)
    rw [e]
    rw [View.read_writes_cons_unit_of_mem (s := S192x3072) _ _ (off' := ![0, 2048]) inb_S192x3072_S192x1024_0_2048 _ _ _ (ix2 a ⟨q.val % 1024, by omega⟩) rfl (by
      intro b; fin_cases b
      · simp
      · show q.val = 2048 + q.val % 1024; omega)]
    rfl
  · rw [View.read_writes_cons_unit_of_not_mem (s := S192x3072) _ _ (off' := ![0, 2048]) inb_S192x3072_S192x1024_0_2048 _ _ _ rfl 1 (Or.inl (by show q.val < 2048; omega))]
    by_cases h1 : 1024 ≤ q.val
    · have e : (⟨q.val / 1024, by omega⟩ : Fin 3) = 1 := Fin.ext (by show q.val / 1024 = 1; omega)
      rw [e]
      rw [View.read_writes_cons_unit_of_mem (s := S192x3072) _ _ (off' := ![0, 1024]) inb_S192x3072_S192x1024_0_1024 _ _ _ (ix2 a ⟨q.val % 1024, by omega⟩) rfl (by
        intro b; fin_cases b
        · simp
        · show q.val = 1024 + q.val % 1024; omega)]
      rfl
    · have e : (⟨q.val / 1024, by omega⟩ : Fin 3) = 0 := Fin.ext (by show q.val / 1024 = 0; omega)
      rw [e]
      rw [View.read_writes_cons_unit_of_not_mem (s := S192x3072) _ _ (off' := ![0, 1024]) inb_S192x3072_S192x1024_0_1024 _ _ _ rfl 1 (Or.inl (by show q.val < 1024; omega))]
      rw [View.read_writes_cons_unit_of_mem (s := S192x3072) _ _ (off' := ![0, 0]) inb_S192x3072_S192x1024_0_0 _ _ _ (ix2 a ⟨q.val % 1024, by omega⟩) rfl (by
        intro b; fin_cases b
        · simp
        · show q.val = 0 + q.val % 1024; omega)]
      rfl

theorem dg_pick {p0 p1 p2 : FVec Ideal S192x1024 .bf16} (a : Fin 192) (e0 : ∀ d, (p0 (ix2 a d) : EReal) = dgt I 0 (r a) d)
    (e1 : ∀ d, (p1 (ix2 a d) : EReal) = dgt I 1 (r a) d) (e2 : ∀ d, (p2 (ix2 a d) : EReal) = dgt I 2 (r a) d) (s : Fin 3) (d : Fin 1024) :
    ((![p0, p1, p2] s) (ix2 a d) : EReal) = dgt I s (r a) d := by
  fin_cases s
  · exact e0 d
  · exact e1 d
  · exact e2 d

theorem wB_pick {p0 p1 p2 : FVec Ideal S1x512x1024 .f32} (w : Fin 512) (d : Fin 1024) (b : Fin 3 → EReal) (e0 : (p0 (ix3 0 w d) : EReal) = b 0 + ptB I r 0 w d)
    (e1 : (p1 (ix3 0 w d) : EReal) = b 1 + ptB I r 1 w d) (e2 : (p2 (ix3 0 w d) : EReal) = b 2 + ptB I r 2 w d) (s : Fin 3) :
    ((![p0, p1, p2] s) (ix3 0 w d) : EReal) = b s + ptB I r s w d := by
  fin_cases s
  · exact e0
  · exact e1
  · exact e2

include R in
theorem out_A12 (hc0 : cond0_0 i) (hc1 : ¬cond0_1 i) (a : Fin 192) (w : Fin 512) : ((out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 fw0 fw1) (ix2 a w) : EReal) = dy I 0 (r a) w := by
  frame_out
  exact dy0 R a w

include R in
theorem out_A13 (hc0 : cond0_0 i) (hc1 : ¬cond0_1 i) (a : Fin 192) (w : Fin 512) : ((out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 fw0 fw1) (ix2 a w) : EReal) = dy I 1 (r a) w := by
  frame_out
  exact dy1 R a w

include R in
theorem out_A14 (hc0 : cond0_0 i) (hc1 : ¬cond0_1 i) (a : Fin 192) (w : Fin 512) : ((out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 fw0 fw1) (ix2 a w) : EReal) = dy I 2 (r a) w := by
  frame_out
  exact dy2 R a w

include R in
theorem out_A15 (hc0 : cond0_0 i) (hc1 : ¬cond0_1 i) (a : Fin 192) (w : Fin 512) : ((out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 fw0 fw1) (ix2 a w) : EReal) = dz I 0 (r a) w := by
  frame_out
  exact dz0 R a w

include R in
theorem out_A16 (hc0 : cond0_0 i) (hc1 : ¬cond0_1 i) (a : Fin 192) (w : Fin 512) : ((out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 fw0 fw1) (ix2 a w) : EReal) = dz I 1 (r a) w := by
  frame_out
  exact dz1 R a w

include R in
theorem out_A17 (hc0 : cond0_0 i) (hc1 : ¬cond0_1 i) (a : Fin 192) (w : Fin 512) : ((out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 fw0 fw1) (ix2 a w) : EReal) = dz I 2 (r a) w := by
  frame_out
  exact dz2 R a w

include R in
theorem out_A18 (hc0 : cond0_0 i) (hc1 : ¬cond0_1 i) (a : Fin 192) (q : Fin 3072) : ((out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 fw0 fw1) (ix2 a q) : EReal) = dgAt I (r a) q := by
  frame_out
  exact (canonG arg19.view _ _ _ a q).trans (dg_pick a (fun d => dg0 R a d) (fun d => dg1 R a d) (fun d => dg2 R a d) _ _)

include R in
theorem sout_A0 (hc0 : cond0_0 i) (hc1 : ¬cond0_1 i) (s : Fin 3) (w : Fin 512) (d : Fin 1024) : ((sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 fw0 fw1) (ix3 s w d) : EReal) = ptB I r s w d := by
  frame_out
  refine (canon3 _ _ _ _ s w d).trans (Eq.trans (wB_pick (I := I) (r := r) w d (fun _ => 0) ?_ ?_ ?_ s) (zero_add _))
  · exact (wB0 R _ w d).trans (congrArg (fun u : EReal => u + ptB I r 0 w d) (acc0 _ w d))
  · exact (wB1 R _ w d).trans (congrArg (fun u : EReal => u + ptB I r 1 w d) (acc1 _ _ w d))
  · exact (wB2 R _ w d).trans (congrArg (fun u : EReal => u + ptB I r 2 w d) (acc2 _ _ _ w d))

include R in
theorem sout_A1 (hc0 : cond0_0 i) (hc1 : ¬cond0_1 i) (k j : Fin 1024) : ((sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 fw0 fw1) (ix2 k j) : EReal) = ptO I r k j := by
  frame_out
  exact (wO_at R _ k j).trans ((congrArg (fun u : EReal => u + ptO I r k j) (pay3_at k j)).trans (zero_add _))

include R in
theorem out_B12 (hc0 : ¬cond0_0 i) (hc1 : ¬cond0_1 i) (a : Fin 192) (w : Fin 512) : ((out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 a w) : EReal) = dy I 0 (r a) w := by
  frame_out
  exact dy0 R a w

include R in
theorem out_B13 (hc0 : ¬cond0_0 i) (hc1 : ¬cond0_1 i) (a : Fin 192) (w : Fin 512) : ((out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 a w) : EReal) = dy I 1 (r a) w := by
  frame_out
  exact dy1 R a w

include R in
theorem out_B14 (hc0 : ¬cond0_0 i) (hc1 : ¬cond0_1 i) (a : Fin 192) (w : Fin 512) : ((out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 a w) : EReal) = dy I 2 (r a) w := by
  frame_out
  exact dy2 R a w

include R in
theorem out_B15 (hc0 : ¬cond0_0 i) (hc1 : ¬cond0_1 i) (a : Fin 192) (w : Fin 512) : ((out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 a w) : EReal) = dz I 0 (r a) w := by
  frame_out
  exact dz0 R a w

include R in
theorem out_B16 (hc0 : ¬cond0_0 i) (hc1 : ¬cond0_1 i) (a : Fin 192) (w : Fin 512) : ((out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 a w) : EReal) = dz I 1 (r a) w := by
  frame_out
  exact dz1 R a w

include R in
theorem out_B17 (hc0 : ¬cond0_0 i) (hc1 : ¬cond0_1 i) (a : Fin 192) (w : Fin 512) : ((out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 a w) : EReal) = dz I 2 (r a) w := by
  frame_out
  exact dz2 R a w

include R in
theorem out_B18 (hc0 : ¬cond0_0 i) (hc1 : ¬cond0_1 i) (a : Fin 192) (q : Fin 3072) : ((out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 a q) : EReal) = dgAt I (r a) q := by
  frame_out
  exact (canonG arg19.view _ _ _ a q).trans (dg_pick a (fun d => dg0 R a d) (fun d => dg1 R a d) (fun d => dg2 R a d) _ _)

include R in
theorem sout_B0 (hc0 : ¬cond0_0 i) (hc1 : ¬cond0_1 i) (s : Fin 3) (w : Fin 512) (d : Fin 1024) : ((sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix3 s w d) : EReal) = (xs0 (ix3 s w d) : EReal) + ptB I r s w d := by
  frame_out
  refine (canon3 _ _ _ _ s w d).trans (wB_pick (I := I) (r := r) w d (fun s => xs0 (ix3 s w d)) ?_ ?_ ?_ s)
  · exact (wB0 R _ w d).trans (congrArg (fun u : EReal => u + ptB I r 0 w d) (ld3_0 xs0 w d))
  · exact (wB1 R _ w d).trans (congrArg (fun u : EReal => u + ptB I r 1 w d) (ld3_1 xs0 w d))
  · exact (wB2 R _ w d).trans (congrArg (fun u : EReal => u + ptB I r 2 w d) (ld3_2 xs0 w d))

include R in
theorem sout_B1 (hc0 : ¬cond0_0 i) (hc1 : ¬cond0_1 i) (k j : Fin 1024) : ((sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 k j) : EReal) = (xs1 (ix2 k j) : EReal) + ptO I r k j := by
  frame_out
  exact wO_at R _ k j

include R in
theorem out_C12 (hc0 : ¬cond0_0 i) (hc1 : cond0_1 i) (a : Fin 192) (w : Fin 512) : ((out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 a w) : EReal) = dy I 0 (r a) w := by
  frame_out
  exact dy0 R a w

include R in
theorem out_C13 (hc0 : ¬cond0_0 i) (hc1 : cond0_1 i) (a : Fin 192) (w : Fin 512) : ((out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 a w) : EReal) = dy I 1 (r a) w := by
  frame_out
  exact dy1 R a w

include R in
theorem out_C14 (hc0 : ¬cond0_0 i) (hc1 : cond0_1 i) (a : Fin 192) (w : Fin 512) : ((out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 a w) : EReal) = dy I 2 (r a) w := by
  frame_out
  exact dy2 R a w

include R in
theorem out_C15 (hc0 : ¬cond0_0 i) (hc1 : cond0_1 i) (a : Fin 192) (w : Fin 512) : ((out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 a w) : EReal) = dz I 0 (r a) w := by
  frame_out
  exact dz0 R a w

include R in
theorem out_C16 (hc0 : ¬cond0_0 i) (hc1 : cond0_1 i) (a : Fin 192) (w : Fin 512) : ((out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 a w) : EReal) = dz I 1 (r a) w := by
  frame_out
  exact dz1 R a w

include R in
theorem out_C17 (hc0 : ¬cond0_0 i) (hc1 : cond0_1 i) (a : Fin 192) (w : Fin 512) : ((out0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 a w) : EReal) = dz I 2 (r a) w := by
  frame_out
  exact dz2 R a w

include R in
theorem out_C18 (hc0 : ¬cond0_0 i) (hc1 : cond0_1 i) (a : Fin 192) (q : Fin 3072) : ((out0_C_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 a q) : EReal) = dgAt I (r a) q := by
  frame_out
  exact (canonG arg19.view _ _ _ a q).trans (dg_pick a (fun d => dg0 R a d) (fun d => dg1 R a d) (fun d => dg2 R a d) _ _)

include R in
theorem sout_C0 (hc0 : ¬cond0_0 i) (hc1 : cond0_1 i) (s : Fin 3) (w : Fin 512) (d : Fin 1024) : ((sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix3 s w d) : EReal) = (xs0 (ix3 s w d) : EReal) + ptB I r s w d := by
  frame_out
  refine (canon3 _ _ _ _ s w d).trans (wB_pick (I := I) (r := r) w d (fun s => xs0 (ix3 s w d)) ?_ ?_ ?_ s)
  · exact (wB0 R _ w d).trans (congrArg (fun u : EReal => u + ptB I r 0 w d) (ld3_0 xs0 w d))
  · exact (wB1 R _ w d).trans (congrArg (fun u : EReal => u + ptB I r 1 w d) (ld3_1 xs0 w d))
  · exact (wB2 R _ w d).trans (congrArg (fun u : EReal => u + ptB I r 2 w d) (ld3_2 xs0 w d))

include R in
theorem sout_C1 (hc0 : ¬cond0_0 i) (hc1 : cond0_1 i) (k j : Fin 1024) : ((sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 k j) : EReal) = (xs1 (ix2 k j) : EReal) + ptO I r k j := by
  frame_out
  exact wO_at R _ k j

include R in
theorem hbw_C0 (hc0 : ¬cond0_0 i) (hc1 : cond0_1 i) (s : Fin 3) (w : Fin 512) (d : Fin 1024) : ((hbw0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix3 s w d) : EReal) = (xs0 (ix3 s w d) : EReal) + ptB I r s w d := by
  unfold hbw0_C_0 kernelRun0_C
  dsimp only
  rw [View.write_whole_univ]
  frame_out
  refine (read3 arg22.view _ _ _ _ _ s w d).trans (wB_pick (I := I) (r := r) w d (fun s => xs0 (ix3 s w d)) ?_ ?_ ?_ s)
  · exact (wB0 R _ w d).trans (congrArg (fun u : EReal => u + ptB I r 0 w d) (ld3_0 xs0 w d))
  · exact (wB1 R _ w d).trans (congrArg (fun u : EReal => u + ptB I r 1 w d) (ld3_1 xs0 w d))
  · exact (wB2 R _ w d).trans (congrArg (fun u : EReal => u + ptB I r 2 w d) (ld3_2 xs0 w d))

include R in
theorem hbw_C1 (hc0 : ¬cond0_0 i) (hc1 : cond0_1 i) (k j : Fin 1024) : ((hbw0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 harg22 arg23 harg23 hc0 hc1 x0 x1 x2 x3 x4 x5 x6 x7 x8 x9 x10 x11 xs0 xs1 fw0 fw1) (ix2 k j) : EReal) = (xs1 (ix2 k j) : EReal) + ptO I r k j := by
  unfold hbw0_C_1 kernelRun0_C
  dsimp only
  rw [View.write_whole_univ]
  frame_out
  refine Eq.trans (View.read_writes_cons_unit_of_mem (s := S1024x1024) arg23.view _ (off' := ![0, 0]) inb_S1024x1024_S1024x1024_0_0 _ _ (ix2 k j) (ix2 k j) rfl (by intro a; fin_cases a <;> simp)) ?_
  exact wO_at R _ k j

end body

end Cert.Kernel5Ideal.Hand

end
-- ==== Proof.MbIdeal.lean ====
/- The gradient of the gated merge of three branches: the arrays its kernel leaves. -/
module

public import proofs.«01_k».proof.Proof.Gen.Kernel5Ideal.Value
public import proofs.«01_k».proof.Proof.MbCase
public import Idealize.ShloMosaic.Lib.Pipeline.ValueKit
public import Idealize.ShloMosaic.Lib.WritesUnit

@[expose] public section

set_option maxRecDepth 16384

noncomputable section

namespace Cert.Kernel5Ideal.Hand

open Cert.Kernel5Ideal Cert.Kernel5Ideal.Gen Cert.MergeBack
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem idx0 : ∀ t : Fin cfg0.N, (win0_0.index t 0 : ℕ) = t.val ∧ (win0_0.index t 1 : ℕ) = 0 := by decide +kernel
theorem idx1 : ∀ t : Fin cfg0.N, (win0_1.index t 0 : ℕ) = t.val ∧ (win0_1.index t 1 : ℕ) = 0 := by decide +kernel
theorem idx2 : ∀ t : Fin cfg0.N, (win0_2.index t 0 : ℕ) = t.val ∧ (win0_2.index t 1 : ℕ) = 0 := by decide +kernel
theorem idx3 : ∀ t : Fin cfg0.N, (win0_3.index t 0 : ℕ) = t.val ∧ (win0_3.index t 1 : ℕ) = 0 := by decide +kernel
theorem idx4 : ∀ t : Fin cfg0.N, (win0_4.index t 0 : ℕ) = t.val ∧ (win0_4.index t 1 : ℕ) = 3 := by decide +kernel
theorem idx5 : ∀ t : Fin cfg0.N, (win0_5.index t 0 : ℕ) = t.val ∧ (win0_5.index t 1 : ℕ) = 4 := by decide +kernel
theorem idx6 : ∀ t : Fin cfg0.N, (win0_6.index t 0 : ℕ) = t.val ∧ (win0_6.index t 1 : ℕ) = 6 := by decide +kernel
theorem idx7 : ∀ t : Fin cfg0.N, (win0_7.index t 0 : ℕ) = t.val ∧ (win0_7.index t 1 : ℕ) = 4 := by decide +kernel
theorem idx8 : ∀ t : Fin cfg0.N, (win0_8.index t 0 : ℕ) = t.val ∧ (win0_8.index t 1 : ℕ) = 5 := by decide +kernel
theorem idx9 : ∀ t : Fin cfg0.N, (win0_9.index t 0 : ℕ) = t.val ∧ (win0_9.index t 1 : ℕ) = 6 := by decide +kernel
theorem idx11 : ∀ t : Fin cfg0.N, (win0_11.index t 0 : ℕ) = 0 ∧ (win0_11.index t 1 : ℕ) = 0 := by decide +kernel
theorem idx12 : ∀ t : Fin cfg0.N, (win0_12.index t 0 : ℕ) = t.val ∧ (win0_12.index t 1 : ℕ) = 0 := by decide +kernel
theorem idx13 : ∀ t : Fin cfg0.N, (win0_13.index t 0 : ℕ) = t.val ∧ (win0_13.index t 1 : ℕ) = 0 := by decide +kernel
theorem idx14 : ∀ t : Fin cfg0.N, (win0_14.index t 0 : ℕ) = t.val ∧ (win0_14.index t 1 : ℕ) = 0 := by decide +kernel
theorem idx15 : ∀ t : Fin cfg0.N, (win0_15.index t 0 : ℕ) = t.val ∧ (win0_15.index t 1 : ℕ) = 0 := by decide +kernel
theorem idx16 : ∀ t : Fin cfg0.N, (win0_16.index t 0 : ℕ) = t.val ∧ (win0_16.index t 1 : ℕ) = 0 := by decide +kernel
theorem idx17 : ∀ t : Fin cfg0.N, (win0_17.index t 0 : ℕ) = t.val ∧ (win0_17.index t 1 : ℕ) = 0 := by decide +kernel
theorem idx18 : ∀ t : Fin cfg0.N, (win0_18.index t 0 : ℕ) = t.val ∧ (win0_18.index t 1 : ℕ) = 0 := by decide +kernel
theorem idx10 : ∀ t : Fin cfg0.N, (win0_10.index t 0 : ℕ) = 0 ∧ (win0_10.index t 1 : ℕ) = 0 ∧ (win0_10.index t 2 : ℕ) = 0 := by decide +kernel

theorem lt22 (t : Fin cfg0.N) : t.val < 22 := t.isLt

/-- The row of the arrays that row `a` of point `t`'s blocks is. -/
def row (t : Fin cfg0.N) (a : Fin 192) : Fin 4224 := ⟨192 * t.val + a.val, by have := lt22 t; omega⟩

/-- What the kernel reads. -/
def kIn : In where
  H := fun n k => V m c main_arg0 (ix2 n k)
  Y := ![fun n w => V m c main_arg1 (ix2 n w), fun n w => V m c main_arg2 (ix2 n w), fun n w => V m c main_arg3 (ix2 n w)]
  Z := ![fun n w => V m c main_arg4 (ix2 n ⟨1536 + w.val, by omega⟩), fun n w => V m c main_arg4 (ix2 n ⟨2048 + w.val, by omega⟩),
    fun n w => V m c main_arg4 (ix2 n ⟨3072 + w.val, by omega⟩)]
  G := fun s n d => V m c main_arg4 (ix2 n ⟨4096 + (1024 * s.val + d.val), by omega⟩)
  B := fun s w d => V m c main_v0 (ix3 s w d)
  O := fun k j => V m c main_v1 (ix2 k j)

def blk0 (t : Fin cfg0.N) (a : Fin 192) (b : Fin 1024) : EReal := iblk m c 0 t (ix2 a b)

theorem blk0_eq (t : Fin cfg0.N) (a : Fin 192) (b : Fin 1024) : blk0 m c t a b = (kIn m c).H (row t a) b := by
  obtain ⟨h0, h1⟩ := idx0 t
  show _ = (V m c main_arg0 (ix2 _ _) : EReal)
  unfold blk0 row
  blk_ext [iblk, h0, h1]

def blk1 (t : Fin cfg0.N) (a : Fin 192) (b : Fin 512) : EReal := iblk m c 1 t (ix2 a b)

theorem blk1_eq (t : Fin cfg0.N) (a : Fin 192) (b : Fin 512) : blk1 m c t a b = (kIn m c).Y 0 (row t a) b := by
  obtain ⟨h0, h1⟩ := idx1 t
  show _ = (V m c main_arg1 (ix2 _ _) : EReal)
  unfold blk1 row
  blk_ext [iblk, h0, h1]

def blk2 (t : Fin cfg0.N) (a : Fin 192) (b : Fin 512) : EReal := iblk m c 2 t (ix2 a b)

theorem blk2_eq (t : Fin cfg0.N) (a : Fin 192) (b : Fin 512) : blk2 m c t a b = (kIn m c).Y 1 (row t a) b := by
  obtain ⟨h0, h1⟩ := idx2 t
  show _ = (V m c main_arg2 (ix2 _ _) : EReal)
  unfold blk2 row
  blk_ext [iblk, h0, h1]

def blk3 (t : Fin cfg0.N) (a : Fin 192) (b : Fin 512) : EReal := iblk m c 3 t (ix2 a b)

theorem blk3_eq (t : Fin cfg0.N) (a : Fin 192) (b : Fin 512) : blk3 m c t a b = (kIn m c).Y 2 (row t a) b := by
  obtain ⟨h0, h1⟩ := idx3 t
  show _ = (V m c main_arg3 (ix2 _ _) : EReal)
  unfold blk3 row
  blk_ext [iblk, h0, h1]

def blk4 (t : Fin cfg0.N) (a : Fin 192) (b : Fin 512) : EReal := iblk m c 4 t (ix2 a b)

theorem blk4_eq (t : Fin cfg0.N) (a : Fin 192) (b : Fin 512) : blk4 m c t a b = (kIn m c).Z 0 (row t a) b := by
  obtain ⟨h0, h1⟩ := idx4 t
  show _ = (V m c main_arg4 (ix2 _ _) : EReal)
  unfold blk4 row
  blk_ext [iblk, h0, h1]

def blk5 (t : Fin cfg0.N) (a : Fin 192) (b : Fin 512) : EReal := iblk m c 5 t (ix2 a b)

theorem blk5_eq (t : Fin cfg0.N) (a : Fin 192) (b : Fin 512) : blk5 m c t a b = (kIn m c).Z 1 (row t a) b := by
  obtain ⟨h0, h1⟩ := idx5 t
  show _ = (V m c main_arg4 (ix2 _ _) : EReal)
  unfold blk5 row
  blk_ext [iblk, h0, h1]

def blk6 (t : Fin cfg0.N) (a : Fin 192) (b : Fin 512) : EReal := iblk m c 6 t (ix2 a b)

theorem blk6_eq (t : Fin cfg0.N) (a : Fin 192) (b : Fin 512) : blk6 m c t a b = (kIn m c).Z 2 (row t a) b := by
  obtain ⟨h0, h1⟩ := idx6 t
  show _ = (V m c main_arg4 (ix2 _ _) : EReal)
  unfold blk6 row
  blk_ext [iblk, h0, h1]

def blk7 (t : Fin cfg0.N) (a : Fin 192) (b : Fin 1024) : EReal := X0_7 m c t (ix2 a b)

theorem blk7_eq (t : Fin cfg0.N) (a : Fin 192) (b : Fin 1024) : blk7 m c t a b = (kIn m c).G 0 (row t a) b := by
  obtain ⟨h0, h1⟩ := idx7 t
  show _ = (V m c main_arg4 (ix2 _ _) : EReal)
  unfold blk7 row X0_7 Pipeline.Window.fill
  rw [dif_pos (moved0_7 t _)]
  blk_ext [iblk, h0, h1]

def blk8 (t : Fin cfg0.N) (a : Fin 192) (b : Fin 1024) : EReal := X0_8 m c t (ix2 a b)

theorem blk8_eq (t : Fin cfg0.N) (a : Fin 192) (b : Fin 1024) : blk8 m c t a b = (kIn m c).G 1 (row t a) b := by
  obtain ⟨h0, h1⟩ := idx8 t
  show _ = (V m c main_arg4 (ix2 _ _) : EReal)
  unfold blk8 row X0_8 Pipeline.Window.fill
  rw [dif_pos (moved0_8 t _)]
  blk_ext [iblk, h0, h1]

def blk9 (t : Fin cfg0.N) (a : Fin 192) (b : Fin 1024) : EReal := X0_9 m c t (ix2 a b)

theorem blk9_eq (t : Fin cfg0.N) (a : Fin 192) (b : Fin 1024) : blk9 m c t a b = (kIn m c).G 2 (row t a) b := by
  obtain ⟨h0, h1⟩ := idx9 t
  show _ = (V m c main_arg4 (ix2 _ _) : EReal)
  unfold blk9 row X0_9 Pipeline.Window.fill
  rw [dif_pos (moved0_9 t _)]
  blk_ext [iblk, h0, h1]

def blk10 (t : Fin cfg0.N) (s : Fin 3) (w : Fin 512) (d : Fin 1024) : EReal := iblk m c 10 t (ix3 s w d)

theorem blk10_eq (t : Fin cfg0.N) (s : Fin 3) (w : Fin 512) (d : Fin 1024) : blk10 m c t s w d = (kIn m c).B s w d := by
  obtain ⟨h0, h1, h2⟩ := idx10 t
  show _ = (V m c main_v0 (ix3 _ _ _) : EReal)
  unfold blk10
  blk_ext [iblk, h0, h1, h2]

def blk11 (t : Fin cfg0.N) (a b : Fin 1024) : EReal := iblk m c 11 t (ix2 a b)

theorem blk11_eq (t : Fin cfg0.N) (a b : Fin 1024) : blk11 m c t a b = (kIn m c).O a b := by
  obtain ⟨h0, h1⟩ := idx11 t
  show _ = (V m c main_v1 (ix2 _ _) : EReal)
  unfold blk11
  blk_ext [iblk, h0, h1]

theorem reads (t : Fin cfg0.N) : Reads (kIn m c) (row t) (iblk m c 0 t) (iblk m c 1 t) (iblk m c 2 t) (iblk m c 3 t) (iblk m c 4 t) (iblk m c 5 t) (iblk m c 6 t)
    (X0_7 m c t) (X0_8 m c t) (X0_9 m c t) (iblk m c 10 t) (iblk m c 11 t) where
  h0 := blk0_eq m c t
  h1 := blk1_eq m c t
  h2 := blk2_eq m c t
  h3 := blk3_eq m c t
  h4 := blk4_eq m c t
  h5 := blk5_eq m c t
  h6 := blk6_eq m c t
  h7 := blk7_eq m c t
  h8 := blk8_eq m c t
  h9 := blk9_eq m c t
  h10 := blk10_eq m c t
  h11 := blk11_eq m c t

theorem outs12 (t : Fin cfg0.N) (a : Fin 192) (b : Fin 512) : ((outsAt0 m c t.val t.isLt).1 (ix2 a b) : EReal) = dy (kIn m c) 0 (row t a) b := by
  by_cases h0 : t.val % 22 = 0
  · have e := congrArg (fun z => z.1) (outsAt0_A m c t h0 (by omega))
    dsimp only at e
    exact (congrFun e _).trans (out_A12 (R := reads m c t) ..)
  · by_cases h1 : t.val % 22 = 21
    · have e := congrArg (fun z => z.1) (outsAt0_C m c t h0 h1)
      dsimp only at e
      exact (congrFun e _).trans (out_C12 (R := reads m c t) ..)
    · have e := congrArg (fun z => z.1) (outsAt0_B m c t h0 h1)
      dsimp only at e
      exact (congrFun e _).trans (out_B12 (R := reads m c t) ..)

theorem arr12 : (dats m 0 c).arrAt 12 cfg0.N = fun y => dy (kIn m c) 0 (y 0) (y 1) := by
  refine (dats m 0 c).arrAt_eq_of_covers 12 _ (by decide +kernel) fun t hf y => ?_
  obtain ⟨a, b, rfl⟩ : ∃ (a : Fin 192) (b : Fin 512), y = ix2 a b := ⟨y 0, y 1, by ext k; fin_cases k <;> rfl⟩
  have hs := outs12 m c t a b
  obtain ⟨h0, h1⟩ := idx12 t
  rw [after0_12]
  refine Eq.trans hs ?_
  refine congrArg₂ (dy (kIn m c) 0) ?_ ?_
  · refine Fin.ext ?_
    show 192 * t.val + a.val = _
    blk_simp [h0, h1]
    ring
  · refine Fin.ext ?_
    blk_simp [h0, h1]

theorem outs13 (t : Fin cfg0.N) (a : Fin 192) (b : Fin 512) : ((outsAt0 m c t.val t.isLt).2.1 (ix2 a b) : EReal) = dy (kIn m c) 1 (row t a) b := by
  by_cases h0 : t.val % 22 = 0
  · have e := congrArg (fun z => z.2.1) (outsAt0_A m c t h0 (by omega))
    dsimp only at e
    exact (congrFun e _).trans (out_A13 (R := reads m c t) ..)
  · by_cases h1 : t.val % 22 = 21
    · have e := congrArg (fun z => z.2.1) (outsAt0_C m c t h0 h1)
      dsimp only at e
      exact (congrFun e _).trans (out_C13 (R := reads m c t) ..)
    · have e := congrArg (fun z => z.2.1) (outsAt0_B m c t h0 h1)
      dsimp only at e
      exact (congrFun e _).trans (out_B13 (R := reads m c t) ..)

theorem arr13 : (dats m 0 c).arrAt 13 cfg0.N = fun y => dy (kIn m c) 1 (y 0) (y 1) := by
  refine (dats m 0 c).arrAt_eq_of_covers 13 _ (by decide +kernel) fun t hf y => ?_
  obtain ⟨a, b, rfl⟩ : ∃ (a : Fin 192) (b : Fin 512), y = ix2 a b := ⟨y 0, y 1, by ext k; fin_cases k <;> rfl⟩
  have hs := outs13 m c t a b
  obtain ⟨h0, h1⟩ := idx13 t
  rw [after0_13]
  refine Eq.trans hs ?_
  refine congrArg₂ (dy (kIn m c) 1) ?_ ?_
  · refine Fin.ext ?_
    show 192 * t.val + a.val = _
    blk_simp [h0, h1]
    ring
  · refine Fin.ext ?_
    blk_simp [h0, h1]

theorem outs14 (t : Fin cfg0.N) (a : Fin 192) (b : Fin 512) : ((outsAt0 m c t.val t.isLt).2.2.1 (ix2 a b) : EReal) = dy (kIn m c) 2 (row t a) b := by
  by_cases h0 : t.val % 22 = 0
  · have e := congrArg (fun z => z.2.2.1) (outsAt0_A m c t h0 (by omega))
    dsimp only at e
    exact (congrFun e _).trans (out_A14 (R := reads m c t) ..)
  · by_cases h1 : t.val % 22 = 21
    · have e := congrArg (fun z => z.2.2.1) (outsAt0_C m c t h0 h1)
      dsimp only at e
      exact (congrFun e _).trans (out_C14 (R := reads m c t) ..)
    · have e := congrArg (fun z => z.2.2.1) (outsAt0_B m c t h0 h1)
      dsimp only at e
      exact (congrFun e _).trans (out_B14 (R := reads m c t) ..)

theorem arr14 : (dats m 0 c).arrAt 14 cfg0.N = fun y => dy (kIn m c) 2 (y 0) (y 1) := by
  refine (dats m 0 c).arrAt_eq_of_covers 14 _ (by decide +kernel) fun t hf y => ?_
  obtain ⟨a, b, rfl⟩ : ∃ (a : Fin 192) (b : Fin 512), y = ix2 a b := ⟨y 0, y 1, by ext k; fin_cases k <;> rfl⟩
  have hs := outs14 m c t a b
  obtain ⟨h0, h1⟩ := idx14 t
  rw [after0_14]
  refine Eq.trans hs ?_
  refine congrArg₂ (dy (kIn m c) 2) ?_ ?_
  · refine Fin.ext ?_
    show 192 * t.val + a.val = _
    blk_simp [h0, h1]
    ring
  · refine Fin.ext ?_
    blk_simp [h0, h1]

theorem outs15 (t : Fin cfg0.N) (a : Fin 192) (b : Fin 512) : ((outsAt0 m c t.val t.isLt).2.2.2.1 (ix2 a b) : EReal) = dz (kIn m c) 0 (row t a) b := by
  by_cases h0 : t.val % 22 = 0
  · have e := congrArg (fun z => z.2.2.2.1) (outsAt0_A m c t h0 (by omega))
    dsimp only at e
    exact (congrFun e _).trans (out_A15 (R := reads m c t) ..)
  · by_cases h1 : t.val % 22 = 21
    · have e := congrArg (fun z => z.2.2.2.1) (outsAt0_C m c t h0 h1)
      dsimp only at e
      exact (congrFun e _).trans (out_C15 (R := reads m c t) ..)
    · have e := congrArg (fun z => z.2.2.2.1) (outsAt0_B m c t h0 h1)
      dsimp only at e
      exact (congrFun e _).trans (out_B15 (R := reads m c t) ..)

theorem arr15 : (dats m 0 c).arrAt 15 cfg0.N = fun y => dz (kIn m c) 0 (y 0) (y 1) := by
  refine (dats m 0 c).arrAt_eq_of_covers 15 _ (by decide +kernel) fun t hf y => ?_
  obtain ⟨a, b, rfl⟩ : ∃ (a : Fin 192) (b : Fin 512), y = ix2 a b := ⟨y 0, y 1, by ext k; fin_cases k <;> rfl⟩
  have hs := outs15 m c t a b
  obtain ⟨h0, h1⟩ := idx15 t
  rw [after0_15]
  refine Eq.trans hs ?_
  refine congrArg₂ (dz (kIn m c) 0) ?_ ?_
  · refine Fin.ext ?_
    show 192 * t.val + a.val = _
    blk_simp [h0, h1]
    ring
  · refine Fin.ext ?_
    blk_simp [h0, h1]

theorem outs16 (t : Fin cfg0.N) (a : Fin 192) (b : Fin 512) : ((outsAt0 m c t.val t.isLt).2.2.2.2.1 (ix2 a b) : EReal) = dz (kIn m c) 1 (row t a) b := by
  by_cases h0 : t.val % 22 = 0
  · have e := congrArg (fun z => z.2.2.2.2.1) (outsAt0_A m c t h0 (by omega))
    dsimp only at e
    exact (congrFun e _).trans (out_A16 (R := reads m c t) ..)
  · by_cases h1 : t.val % 22 = 21
    · have e := congrArg (fun z => z.2.2.2.2.1) (outsAt0_C m c t h0 h1)
      dsimp only at e
      exact (congrFun e _).trans (out_C16 (R := reads m c t) ..)
    · have e := congrArg (fun z => z.2.2.2.2.1) (outsAt0_B m c t h0 h1)
      dsimp only at e
      exact (congrFun e _).trans (out_B16 (R := reads m c t) ..)

theorem arr16 : (dats m 0 c).arrAt 16 cfg0.N = fun y => dz (kIn m c) 1 (y 0) (y 1) := by
  refine (dats m 0 c).arrAt_eq_of_covers 16 _ (by decide +kernel) fun t hf y => ?_
  obtain ⟨a, b, rfl⟩ : ∃ (a : Fin 192) (b : Fin 512), y = ix2 a b := ⟨y 0, y 1, by ext k; fin_cases k <;> rfl⟩
  have hs := outs16 m c t a b
  obtain ⟨h0, h1⟩ := idx16 t
  rw [after0_16]
  refine Eq.trans hs ?_
  refine congrArg₂ (dz (kIn m c) 1) ?_ ?_
  · refine Fin.ext ?_
    show 192 * t.val + a.val = _
    blk_simp [h0, h1]
    ring
  · refine Fin.ext ?_
    blk_simp [h0, h1]

theorem outs17 (t : Fin cfg0.N) (a : Fin 192) (b : Fin 512) : ((outsAt0 m c t.val t.isLt).2.2.2.2.2.1 (ix2 a b) : EReal) = dz (kIn m c) 2 (row t a) b := by
  by_cases h0 : t.val % 22 = 0
  · have e := congrArg (fun z => z.2.2.2.2.2.1) (outsAt0_A m c t h0 (by omega))
    dsimp only at e
    exact (congrFun e _).trans (out_A17 (R := reads m c t) ..)
  · by_cases h1 : t.val % 22 = 21
    · have e := congrArg (fun z => z.2.2.2.2.2.1) (outsAt0_C m c t h0 h1)
      dsimp only at e
      exact (congrFun e _).trans (out_C17 (R := reads m c t) ..)
    · have e := congrArg (fun z => z.2.2.2.2.2.1) (outsAt0_B m c t h0 h1)
      dsimp only at e
      exact (congrFun e _).trans (out_B17 (R := reads m c t) ..)

theorem arr17 : (dats m 0 c).arrAt 17 cfg0.N = fun y => dz (kIn m c) 2 (y 0) (y 1) := by
  refine (dats m 0 c).arrAt_eq_of_covers 17 _ (by decide +kernel) fun t hf y => ?_
  obtain ⟨a, b, rfl⟩ : ∃ (a : Fin 192) (b : Fin 512), y = ix2 a b := ⟨y 0, y 1, by ext k; fin_cases k <;> rfl⟩
  have hs := outs17 m c t a b
  obtain ⟨h0, h1⟩ := idx17 t
  rw [after0_17]
  refine Eq.trans hs ?_
  refine congrArg₂ (dz (kIn m c) 2) ?_ ?_
  · refine Fin.ext ?_
    show 192 * t.val + a.val = _
    blk_simp [h0, h1]
    ring
  · refine Fin.ext ?_
    blk_simp [h0, h1]

theorem outs18 (t : Fin cfg0.N) (a : Fin 192) (b : Fin 3072) : ((outsAt0 m c t.val t.isLt).2.2.2.2.2.2.1 (ix2 a b) : EReal) = dgAt (kIn m c) (row t a) b := by
  by_cases h0 : t.val % 22 = 0
  · have e := congrArg (fun z => z.2.2.2.2.2.2.1) (outsAt0_A m c t h0 (by omega))
    dsimp only at e
    exact (congrFun e _).trans (out_A18 (R := reads m c t) ..)
  · by_cases h1 : t.val % 22 = 21
    · have e := congrArg (fun z => z.2.2.2.2.2.2.1) (outsAt0_C m c t h0 h1)
      dsimp only at e
      exact (congrFun e _).trans (out_C18 (R := reads m c t) ..)
    · have e := congrArg (fun z => z.2.2.2.2.2.2.1) (outsAt0_B m c t h0 h1)
      dsimp only at e
      exact (congrFun e _).trans (out_B18 (R := reads m c t) ..)

theorem arr18 : (dats m 0 c).arrAt 18 cfg0.N = fun y => dgAt (kIn m c) (y 0) (y 1) := by
  refine (dats m 0 c).arrAt_eq_of_covers 18 _ (by decide +kernel) fun t hf y => ?_
  obtain ⟨a, b, rfl⟩ : ∃ (a : Fin 192) (b : Fin 3072), y = ix2 a b := ⟨y 0, y 1, by ext k; fin_cases k <;> rfl⟩
  have hs := outs18 m c t a b
  obtain ⟨h0, h1⟩ := idx18 t
  rw [after0_18]
  refine Eq.trans hs ?_
  refine congrArg₂ (dgAt (kIn m c)) ?_ ?_
  · refine Fin.ext ?_
    show 192 * t.val + a.val = _
    blk_simp [h0, h1]
    ring
  · refine Fin.ext ?_
    blk_simp [h0, h1]

theorem ptB_eq (t : Fin cfg0.N) (s : Fin 3) (w : Fin 512) (d : Fin 1024) :
    ptB (kIn m c) (row t) s w d = ∑ i ∈ Finset.range 192, wB (kIn m c) s w d (192 * t.val + i) := by
  rw [Finset.sum_range]
  refine Finset.sum_congr rfl fun a _ => ?_
  unfold wB
  rw [dif_pos (by have := lt22 t; omega)]
  rfl

theorem ptO_eq (t : Fin cfg0.N) (k j : Fin 1024) :
    ptO (kIn m c) (row t) k j = ∑ i ∈ Finset.range 192, wO (kIn m c) k j (192 * t.val + i) := by
  rw [Finset.sum_range]
  refine Finset.sum_congr rfl fun a _ => ?_
  unfold wO
  rw [dif_pos (by have := lt22 t; omega)]
  rfl

/-- A scratch buffer after a point: the sum over the rows read so far. -/
theorem scr0 (n : ℕ) : ∀ (hn : n < cfg0.N) (s : Fin 3) (w : Fin 512) (d : Fin 1024), ((outsAt0 m c n hn).2.2.2.2.2.2.2.1 (ix3 s w d) : EReal) = ∑ i ∈ Finset.range (192 * (n + 1)), wB (kIn m c) s w d i := by
  induction n with
  | zero =>
    intro hn s w d
    have e := congrArg (fun z => z.2.2.2.2.2.2.2.1) (outsAt0_A m c ⟨0, hn⟩ rfl (show ¬0 % 22 = 21 by decide))
    dsimp only at e
    refine (congrFun e _).trans ((sout_A0 (R := reads m c ⟨0, hn⟩) ..).trans ((ptB_eq m c ⟨0, hn⟩ s w d).trans ?_))
    simp
  | succ n ih =>
    intro hn s w d
    have h22 : n + 1 < 22 := hn
    have h0 : ¬(n + 1) % 22 = 0 := by omega
    have i := ih (Nat.lt_of_succ_lt hn) s w d
    have q := ptB_eq m c ⟨n + 1, hn⟩ s w d
    rw [show 192 * (n + 1 + 1) = 192 * (n + 1) + 192 from by ring, Finset.sum_range_add]
    by_cases h1 : (n + 1) % 22 = 21
    · have e := congrArg (fun z => z.2.2.2.2.2.2.2.1) (outsAt0_C m c ⟨n + 1, hn⟩ h0 h1)
      dsimp only at e
      exact (congrFun e _).trans ((sout_C0 (R := reads m c ⟨n + 1, hn⟩) ..).trans (congrArg₂ (fun u v : EReal => u + v) i q))
    · have e := congrArg (fun z => z.2.2.2.2.2.2.2.1) (outsAt0_B m c ⟨n + 1, hn⟩ h0 h1)
      dsimp only at e
      exact (congrFun e _).trans ((sout_B0 (R := reads m c ⟨n + 1, hn⟩) ..).trans (congrArg₂ (fun u v : EReal => u + v) i q))

/-- What the last point copies out of it: the sum over all the rows. -/
theorem last0 (n : ℕ) (hn : n + 1 < cfg0.N) (h1 : (n + 1) % 22 = 21) (s : Fin 3) (w : Fin 512) (d : Fin 1024) :
    ((outsAt0 m c (n + 1) hn).2.2.2.2.2.2.2.2.2.1 (ix3 s w d) : EReal) = ∑ i ∈ Finset.range (192 * (n + 1 + 1)), wB (kIn m c) s w d i := by
  have i := scr0 m c n (Nat.lt_of_succ_lt hn) s w d
  have q := ptB_eq m c ⟨n + 1, hn⟩ s w d
  have e := congrArg (fun z => z.2.2.2.2.2.2.2.2.2.1) (outsAt0_C m c ⟨n + 1, hn⟩ (show ¬(n + 1) % 22 = 0 by omega) h1)
  dsimp only at e
  rw [show 192 * (n + 1 + 1) = 192 * (n + 1) + 192 from by ring, Finset.sum_range_add]
  exact (congrFun e _).trans ((hbw_C0 (R := reads m c ⟨n + 1, hn⟩) ..).trans (congrArg₂ (fun u v : EReal => u + v) i q))

theorem held0 (hn : 21 < cfg0.N) (s : Fin 3) (w : Fin 512) (d : Fin 1024) : ((outsAt0 m c 21 hn).2.2.2.2.2.2.2.2.2.1 (ix3 s w d) : EReal) = ∑ i ∈ Finset.range 4224, wB (kIn m c) s w d i :=
  last0 m c 20 hn rfl s w d

/-- A scratch buffer after a point: the sum over the rows read so far. -/
theorem scr1 (n : ℕ) : ∀ (hn : n < cfg0.N) (k j : Fin 1024), ((outsAt0 m c n hn).2.2.2.2.2.2.2.2.1 (ix2 k j) : EReal) = ∑ i ∈ Finset.range (192 * (n + 1)), wO (kIn m c) k j i := by
  induction n with
  | zero =>
    intro hn k j
    have e := congrArg (fun z => z.2.2.2.2.2.2.2.2.1) (outsAt0_A m c ⟨0, hn⟩ rfl (show ¬0 % 22 = 21 by decide))
    dsimp only at e
    refine (congrFun e _).trans ((sout_A1 (R := reads m c ⟨0, hn⟩) ..).trans ((ptO_eq m c ⟨0, hn⟩ k j).trans ?_))
    simp
  | succ n ih =>
    intro hn k j
    have h22 : n + 1 < 22 := hn
    have h0 : ¬(n + 1) % 22 = 0 := by omega
    have i := ih (Nat.lt_of_succ_lt hn) k j
    have q := ptO_eq m c ⟨n + 1, hn⟩ k j
    rw [show 192 * (n + 1 + 1) = 192 * (n + 1) + 192 from by ring, Finset.sum_range_add]
    by_cases h1 : (n + 1) % 22 = 21
    · have e := congrArg (fun z => z.2.2.2.2.2.2.2.2.1) (outsAt0_C m c ⟨n + 1, hn⟩ h0 h1)
      dsimp only at e
      exact (congrFun e _).trans ((sout_C1 (R := reads m c ⟨n + 1, hn⟩) ..).trans (congrArg₂ (fun u v : EReal => u + v) i q))
    · have e := congrArg (fun z => z.2.2.2.2.2.2.2.2.1) (outsAt0_B m c ⟨n + 1, hn⟩ h0 h1)
      dsimp only at e
      exact (congrFun e _).trans ((sout_B1 (R := reads m c ⟨n + 1, hn⟩) ..).trans (congrArg₂ (fun u v : EReal => u + v) i q))

/-- What the last point copies out of it: the sum over all the rows. -/
theorem last1 (n : ℕ) (hn : n + 1 < cfg0.N) (h1 : (n + 1) % 22 = 21) (k j : Fin 1024) :
    ((outsAt0 m c (n + 1) hn).2.2.2.2.2.2.2.2.2.2 (ix2 k j) : EReal) = ∑ i ∈ Finset.range (192 * (n + 1 + 1)), wO (kIn m c) k j i := by
  have i := scr1 m c n (Nat.lt_of_succ_lt hn) k j
  have q := ptO_eq m c ⟨n + 1, hn⟩ k j
  have e := congrArg (fun z => z.2.2.2.2.2.2.2.2.2.2) (outsAt0_C m c ⟨n + 1, hn⟩ (show ¬(n + 1) % 22 = 0 by omega) h1)
  dsimp only at e
  rw [show 192 * (n + 1 + 1) = 192 * (n + 1) + 192 from by ring, Finset.sum_range_add]
  exact (congrFun e _).trans ((hbw_C1 (R := reads m c ⟨n + 1, hn⟩) ..).trans (congrArg₂ (fun u v : EReal => u + v) i q))

theorem held1 (hn : 21 < cfg0.N) (k j : Fin 1024) : ((outsAt0 m c 21 hn).2.2.2.2.2.2.2.2.2.2 (ix2 k j) : EReal) = ∑ i ∈ Finset.range 4224, wO (kIn m c) k j i :=
  last1 m c 20 hn rfl k j

end Cert.Kernel5Ideal.Hand

end
-- ==== Proof.MbRef.lean ====
/- The reference of the gradient of the gated merge of three branches, element by element. -/
module

public import proofs.«01_k».proof.Proof.Gen.Reference5Ideal.Read
public import proofs.«01_k».proof.Proof.MergeBack

@[expose] public section

set_option maxRecDepth 16384

noncomputable section

namespace Cert.Reference5Ideal.Hand

open Cert.Reference5Ideal Cert.Reference5Ideal.Gen Cert.Reference5Ideal.Read Cert.MergeBack
open Idealize.ShloMosaic Idealize.ShloMosaic.TcCoe Idealize.ShloMosaic.Tactic

variable (x0 : FVec Ideal S4224x1024 .f32) (x1 x2 x3 : FVec Ideal S4224x512 .f32) (x4 : FVec Ideal S4224x7680 .f32) (x5 : FVec Ideal S3x512x1024 .f32) (x6 : FVec Ideal S1024x1024 .f32)

/-- The arguments' elements. -/
def rIn : In where
  H := fun n k => x0 (ix2 n k)
  Y := ![fun n w => x1 (ix2 n w), fun n w => x2 (ix2 n w), fun n w => x3 (ix2 n w)]
  Z := ![fun n w => x4 (ix2 n ⟨1536 + w.val, by omega⟩), fun n w => x4 (ix2 n ⟨2048 + w.val, by omega⟩), fun n w => x4 (ix2 n ⟨3072 + w.val, by omega⟩)]
  G := fun s n d => x4 (ix2 n ⟨4096 + (1024 * s.val + d.val), by omega⟩)
  B := fun s w d => x5 (ix3 s w d)
  O := fun k j => x6 (ix2 k j)

theorem zero32 : Ideal.ofBits .f32 0x00000000#32 = 0 := by simp [Ideal.ofBits, Ideal.ieee]

theorem v0_at (n : Fin 4224) (w : Fin 512) : (val_main_v0 (F := Ideal) x4 (ix2 n w) : EReal) = (rIn x0 x1 x2 x3 x4 x5 x6).Z 0 n w := by
  have e : idx_main_v0 (ix2 n w) = ix2 n ⟨1536 + w.val, by omega⟩ := by ext a; fin_cases a <;> rfl
  rw [val_main_v0_apply, e]
  rfl

theorem v4_2_at (n : Fin 4224) (w : Fin 512) : (val_main_v4_2 (F := Ideal) x4 (ix2 n w) : EReal) = sg ((rIn x0 x1 x2 x3 x4 x5 x6).Z 0 n w) := by
  rw [← v0_at x0 x1 x2 x3 x4 x5 x6]
  unfold sg one
  rw [zero_sub, val_main_v4_2_apply, val_main_call0_v4_apply, val_main_call0_v3_apply, val_main_call0_v2_apply, val_main_call0_v1_apply, val_main_call0_v0_apply]
  rfl

theorem v4_1_at (n : Fin 4224) (w : Fin 512) : (val_main_v4_1 (F := Ideal) x4 (ix2 n w) : EReal) = sg ((rIn x0 x1 x2 x3 x4 x5 x6).Z 0 n w) * (one - sg ((rIn x0 x1 x2 x3 x4 x5 x6).Z 0 n w)) := by
  rw [← v4_2_at x0 x1 x2 x3 x4 x5 x6, val_main_v4_1_apply, val_main_call0_v7_apply, val_main_call0_v6_apply]
  rfl

theorem v4_0_at (n : Fin 4224) (w : Fin 512) : (val_main_v4_0 (F := Ideal) x4 (ix2 n w) : EReal) = (rIn x0 x1 x2 x3 x4 x5 x6).Z 0 n w * sg ((rIn x0 x1 x2 x3 x4 x5 x6).Z 0 n w) := by
  rw [← v4_2_at x0 x1 x2 x3 x4 x5 x6, ← v0_at x0 x1 x2 x3 x4 x5 x6, val_main_v4_0_apply]
  rfl

theorem v5_at (n : Fin 4224) (w : Fin 512) : (val_main_v5 (F := Ideal) x1 x4 (ix2 n w) : EReal) = br (rIn x0 x1 x2 x3 x4 x5 x6) 0 n w := by
  unfold br
  rw [← v4_0_at x0 x1 x2 x3 x4 x5 x6, val_main_v5_apply]
  rfl

theorem v10_at (n : Fin 4224) (z : Fin 1) (w : Fin 512) : (val_main_v10 (F := Ideal) x1 x4 (ix3 n z w) : EReal) = br (rIn x0 x1 x2 x3 x4 x5 x6) 0 n w := by
  have e : idx_main_v10 (ix3 n z w) = ix2 n w := by ext a; fin_cases a <;> rfl
  rw [← v5_at x0 x1 x2 x3 x4 x5 x6, val_main_v10_apply, e]

theorem v13_0 (n : Fin 4224) (w : Fin 512) : (val_main_v13 (F := Ideal) x1 x2 x3 x4 (ix3 n 0 w) : EReal) = br (rIn x0 x1 x2 x3 x4 x5 x6) 0 n w := by
  rw [← v10_at x0 x1 x2 x3 x4 x5 x6 n 0]
  unfold val_main_v13
  refine concatenate_apply_piece (t := S4224x3x512) 1 _ _ (ix3 n 0 w) 0 (by simp) S4224x1x512 (val_main_v10 (F := Ideal) x1 x4) rfl rfl 0 rfl (ix3 n 0 w) ?_ ?_
  · intro b hb
    fin_cases b
    · rfl
    · exact absurd rfl hb
    · rfl
  · rfl

theorem v1_at (n : Fin 4224) (w : Fin 512) : (val_main_v1 (F := Ideal) x4 (ix2 n w) : EReal) = (rIn x0 x1 x2 x3 x4 x5 x6).Z 1 n w := by
  have e : idx_main_v1 (ix2 n w) = ix2 n ⟨2048 + w.val, by omega⟩ := by ext a; fin_cases a <;> rfl
  rw [val_main_v1_apply, e]
  rfl

theorem v6_2_at (n : Fin 4224) (w : Fin 512) : (val_main_v6_2 (F := Ideal) x4 (ix2 n w) : EReal) = sg ((rIn x0 x1 x2 x3 x4 x5 x6).Z 1 n w) := by
  rw [← v1_at x0 x1 x2 x3 x4 x5 x6]
  unfold sg one
  rw [zero_sub, val_main_v6_2_apply, val_main_call1_v4_apply, val_main_call1_v3_apply, val_main_call1_v2_apply, val_main_call1_v1_apply, val_main_call1_v0_apply]
  rfl

theorem v6_1_at (n : Fin 4224) (w : Fin 512) : (val_main_v6_1 (F := Ideal) x4 (ix2 n w) : EReal) = sg ((rIn x0 x1 x2 x3 x4 x5 x6).Z 1 n w) * (one - sg ((rIn x0 x1 x2 x3 x4 x5 x6).Z 1 n w)) := by
  rw [← v6_2_at x0 x1 x2 x3 x4 x5 x6, val_main_v6_1_apply, val_main_call1_v7_apply, val_main_call1_v6_apply]
  rfl

theorem v6_0_at (n : Fin 4224) (w : Fin 512) : (val_main_v6_0 (F := Ideal) x4 (ix2 n w) : EReal) = (rIn x0 x1 x2 x3 x4 x5 x6).Z 1 n w * sg ((rIn x0 x1 x2 x3 x4 x5 x6).Z 1 n w) := by
  rw [← v6_2_at x0 x1 x2 x3 x4 x5 x6, ← v1_at x0 x1 x2 x3 x4 x5 x6, val_main_v6_0_apply]
  rfl

theorem v7_at (n : Fin 4224) (w : Fin 512) : (val_main_v7 (F := Ideal) x2 x4 (ix2 n w) : EReal) = br (rIn x0 x1 x2 x3 x4 x5 x6) 1 n w := by
  unfold br
  rw [← v6_0_at x0 x1 x2 x3 x4 x5 x6, val_main_v7_apply]
  rfl

theorem v11_at (n : Fin 4224) (z : Fin 1) (w : Fin 512) : (val_main_v11 (F := Ideal) x2 x4 (ix3 n z w) : EReal) = br (rIn x0 x1 x2 x3 x4 x5 x6) 1 n w := by
  have e : idx_main_v11 (ix3 n z w) = ix2 n w := by ext a; fin_cases a <;> rfl
  rw [← v7_at x0 x1 x2 x3 x4 x5 x6, val_main_v11_apply, e]

theorem v13_1 (n : Fin 4224) (w : Fin 512) : (val_main_v13 (F := Ideal) x1 x2 x3 x4 (ix3 n 1 w) : EReal) = br (rIn x0 x1 x2 x3 x4 x5 x6) 1 n w := by
  rw [← v11_at x0 x1 x2 x3 x4 x5 x6 n 0]
  unfold val_main_v13
  refine concatenate_apply_piece (t := S4224x3x512) 1 _ _ (ix3 n 1 w) 1 (by simp) S4224x1x512 (val_main_v11 (F := Ideal) x2 x4) rfl rfl 1 rfl (ix3 n 0 w) ?_ ?_
  · intro b hb
    fin_cases b
    · rfl
    · exact absurd rfl hb
    · rfl
  · rfl

theorem v2_at (n : Fin 4224) (w : Fin 512) : (val_main_v2 (F := Ideal) x4 (ix2 n w) : EReal) = (rIn x0 x1 x2 x3 x4 x5 x6).Z 2 n w := by
  have e : idx_main_v2 (ix2 n w) = ix2 n ⟨3072 + w.val, by omega⟩ := by ext a; fin_cases a <;> rfl
  rw [val_main_v2_apply, e]
  rfl

theorem v8_2_at (n : Fin 4224) (w : Fin 512) : (val_main_v8_2 (F := Ideal) x4 (ix2 n w) : EReal) = sg ((rIn x0 x1 x2 x3 x4 x5 x6).Z 2 n w) := by
  rw [← v2_at x0 x1 x2 x3 x4 x5 x6]
  unfold sg one
  rw [zero_sub, val_main_v8_2_apply, val_main_call2_v4_apply, val_main_call2_v3_apply, val_main_call2_v2_apply, val_main_call2_v1_apply, val_main_call2_v0_apply]
  rfl

theorem v8_1_at (n : Fin 4224) (w : Fin 512) : (val_main_v8_1 (F := Ideal) x4 (ix2 n w) : EReal) = sg ((rIn x0 x1 x2 x3 x4 x5 x6).Z 2 n w) * (one - sg ((rIn x0 x1 x2 x3 x4 x5 x6).Z 2 n w)) := by
  rw [← v8_2_at x0 x1 x2 x3 x4 x5 x6, val_main_v8_1_apply, val_main_call2_v7_apply, val_main_call2_v6_apply]
  rfl

theorem v8_0_at (n : Fin 4224) (w : Fin 512) : (val_main_v8_0 (F := Ideal) x4 (ix2 n w) : EReal) = (rIn x0 x1 x2 x3 x4 x5 x6).Z 2 n w * sg ((rIn x0 x1 x2 x3 x4 x5 x6).Z 2 n w) := by
  rw [← v8_2_at x0 x1 x2 x3 x4 x5 x6, ← v2_at x0 x1 x2 x3 x4 x5 x6, val_main_v8_0_apply]
  rfl

theorem v9_at (n : Fin 4224) (w : Fin 512) : (val_main_v9 (F := Ideal) x3 x4 (ix2 n w) : EReal) = br (rIn x0 x1 x2 x3 x4 x5 x6) 2 n w := by
  unfold br
  rw [← v8_0_at x0 x1 x2 x3 x4 x5 x6, val_main_v9_apply]
  rfl

theorem v12_at (n : Fin 4224) (z : Fin 1) (w : Fin 512) : (val_main_v12 (F := Ideal) x3 x4 (ix3 n z w) : EReal) = br (rIn x0 x1 x2 x3 x4 x5 x6) 2 n w := by
  have e : idx_main_v12 (ix3 n z w) = ix2 n w := by ext a; fin_cases a <;> rfl
  rw [← v9_at x0 x1 x2 x3 x4 x5 x6, val_main_v12_apply, e]

theorem v13_2 (n : Fin 4224) (w : Fin 512) : (val_main_v13 (F := Ideal) x1 x2 x3 x4 (ix3 n 2 w) : EReal) = br (rIn x0 x1 x2 x3 x4 x5 x6) 2 n w := by
  rw [← v12_at x0 x1 x2 x3 x4 x5 x6 n 0]
  unfold val_main_v13
  refine concatenate_apply_piece (t := S4224x3x512) 1 _ _ (ix3 n 2 w) 2 (by simp) S4224x1x512 (val_main_v12 (F := Ideal) x3 x4) rfl rfl 2 rfl (ix3 n 0 w) ?_ ?_
  · intro b hb
    fin_cases b
    · rfl
    · exact absurd rfl hb
    · rfl
  · rfl

theorem v13_at (n : Fin 4224) (s : Fin 3) (w : Fin 512) : (val_main_v13 (F := Ideal) x1 x2 x3 x4 (ix3 n s w) : EReal) = br (rIn x0 x1 x2 x3 x4 x5 x6) s n w :=
  match s with
  | 0 => v13_0 x0 x1 x2 x3 x4 x5 x6 n w
  | 1 => v13_1 x0 x1 x2 x3 x4 x5 x6 n w
  | 2 => v13_2 x0 x1 x2 x3 x4 x5 x6 n w

theorem v15_at (n : Fin 4224) (s : Fin 3) (d : Fin 1024) : (val_main_v15 (F := Ideal) x1 x2 x3 x4 x5 (ix3 n s d) : EReal) = pb (rIn x0 x1 x2 x3 x4 x5 x6) s n d := by
  have e : idx_main_v15 (ix3 n s d) = ix3 s d n := by ext a; fin_cases a <;> rfl
  rw [val_main_v15_apply, e]
  unfold pb
  refine (val_main_v14_apply x1 x2 x3 x4 x5 _).trans (Finset.sum_congr rfl fun k _ => ?_)
  have e1 : lidx_main_v14 (ix3 s d n) k = ix3 s k d := by ext a; fin_cases a <;> rfl
  have e2 : ridx_main_v14 (ix3 s d n) k = ix3 n s k := by ext a; fin_cases a <;> rfl
  rw [e1, e2]
  exact (mul_comm (x5 (ix3 s k d) : EReal) _).trans (congrArg (fun u : EReal => u * x5 (ix3 s k d)) (v13_at x0 x1 x2 x3 x4 x5 x6 n s k))

theorem v16_at (n : Fin 4224) (s : Fin 3) (d : Fin 1024) : (val_main_v16 (F := Ideal) x4 (ix3 n s d) : EReal) = (rIn x0 x1 x2 x3 x4 x5 x6).G s n d := by
  have e : idx_main_v16 (ix3 n s d) = ix2 n ⟨1024 * s.val + d.val, by omega⟩ := by
    ext a
    fin_cases a
    · show ((n.val * 3 + s.val) * 1024 + d.val) / 3072 = n.val
      omega
    · show ((n.val * 3 + s.val) * 1024 + d.val) % 3072 = 1024 * s.val + d.val
      omega
  have e' : idx_main_v3 (ix2 n ⟨1024 * s.val + d.val, by omega⟩) = ix2 n ⟨4096 + (1024 * s.val + d.val), by omega⟩ := by ext a; fin_cases a <;> rfl
  rw [val_main_v16_apply, e, val_main_v3_apply, e']
  rfl

theorem v22_at (n : Fin 4224) (s : Fin 3) (d : Fin 1024) : (val_main_v22 (F := Ideal) x4 (ix3 n s d) : EReal) = gt (rIn x0 x1 x2 x3 x4 x5 x6) s n d := by
  unfold gt sg one
  rw [← v16_at x0 x1 x2 x3 x4 x5 x6, zero_sub, val_main_v22_apply, val_main_v21_apply, val_main_v20_apply, val_main_v19_apply, val_main_v18_apply, val_main_v17_apply]
  rfl

theorem v25_at (n : Fin 4224) (s : Fin 3) (d : Fin 1024) : (val_main_v25 (F := Ideal) x4 (ix3 n s d) : EReal) = gt (rIn x0 x1 x2 x3 x4 x5 x6) s n d * (one - gt (rIn x0 x1 x2 x3 x4 x5 x6) s n d) := by
  unfold one
  rw [← v22_at x0 x1 x2 x3 x4 x5 x6, val_main_v25_apply, val_main_v24_apply, val_main_v23_apply]
  rfl

theorem v26_at (n : Fin 4224) (s : Fin 3) (d : Fin 1024) : (val_main_v26 (F := Ideal) x1 x2 x3 x4 x5 (ix3 n s d) : EReal) = gt (rIn x0 x1 x2 x3 x4 x5 x6) s n d * pb (rIn x0 x1 x2 x3 x4 x5 x6) s n d := by
  rw [← v22_at x0 x1 x2 x3 x4 x5 x6, ← v15_at x0 x1 x2 x3 x4 x5 x6, val_main_v26_apply]
  rfl

/-- A sum of three from the printed zero. -/
theorem from0 (z : EReal) (f g : Fin 3 → EReal) (hz : z = 0) (hf : ∀ k, f k = g k) : z + ∑ k, f k = g 0 + g 1 + g 2 := by
  rw [hz, zero_add, Fin.sum_univ_three, hf, hf, hf]

theorem v27_at (n : Fin 4224) (d : Fin 1024) : (val_main_v27 (F := Ideal) x1 x2 x3 x4 x5 (ix2 n d) : EReal) = mg (rIn x0 x1 x2 x3 x4 x5 x6) n d := by
  unfold mg
  refine (val_main_v27_apply x1 x2 x3 x4 x5 _).trans (from0 _ _ (fun s => gt (rIn x0 x1 x2 x3 x4 x5 x6) s n d * pb (rIn x0 x1 x2 x3 x4 x5 x6) s n d) zero32 fun s => ?_)
  have e : idx_main_v27 (ix2 n d) s = ix3 n s d := by ext a; fin_cases a <;> rfl
  rw [e]
  exact v26_at x0 x1 x2 x3 x4 x5 x6 n s d

/-- The gradient at the output's weights. -/
theorem v30_at (k j : Fin 1024) : (val_main_v30 (F := Ideal) x0 x1 x2 x3 x4 x5 (ix2 k j) : EReal) = ∑ i ∈ Finset.range 4224, wO (rIn x0 x1 x2 x3 x4 x5 x6) k j i := by
  have e : idx_main_v30 (ix2 k j) = ix2 j k := by ext a; fin_cases a <;> rfl
  rw [val_main_v30_apply, e, Finset.sum_range]
  refine (val_main_v29_apply x0 x1 x2 x3 x4 x5 _).trans (Finset.sum_congr rfl fun n _ => ?_)
  have e1 : lidx_main_v29 (ix2 j k) n = ix2 n j := by ext a; fin_cases a <;> rfl
  have e2 : ridx_main_v29 (ix2 j k) n = ix2 n k := by ext a; fin_cases a <;> rfl
  unfold wO
  rw [e1, e2, dif_pos n.isLt]
  exact (mul_comm (x0 (ix2 n j) : EReal) _).trans (congrArg (fun u : EReal => u * x0 (ix2 n j)) (v27_at x0 x1 x2 x3 x4 x5 x6 n k))

theorem v32_at (n : Fin 4224) (s : Fin 3) (d : Fin 1024) : (val_main_v32 (F := Ideal) x0 x6 (ix3 n s d) : EReal) = dm (rIn x0 x1 x2 x3 x4 x5 x6) n d := by
  have e : idx_main_v32 (ix3 n s d) = ix2 n d := by ext a; fin_cases a <;> rfl
  rw [val_main_v32_apply, e]
  unfold dm
  refine (val_main_v31_apply x0 x6 _).trans (Finset.sum_congr rfl fun j _ => ?_)
  have e1 : lidx_main_v31 (ix2 n d) j = ix2 n j := by ext a; fin_cases a <;> rfl
  have e2 : ridx_main_v31 (ix2 n d) j = ix2 d j := by ext a; fin_cases a <;> rfl
  rw [e1, e2]
  rfl

theorem v33_at (n : Fin 4224) (s : Fin 3) (d : Fin 1024) : (val_main_v33 (F := Ideal) x0 x4 x6 (ix3 n s d) : EReal) = dpb (rIn x0 x1 x2 x3 x4 x5 x6) s n d := by
  unfold dpb
  rw [mul_comm, ← v22_at x0 x1 x2 x3 x4 x5 x6, ← v32_at x0 x1 x2 x3 x4 x5 x6 n s d, val_main_v33_apply]
  rfl

theorem v35_at (n : Fin 4224) (s : Fin 3) (d : Fin 1024) : (val_main_v35 (F := Ideal) x0 x1 x2 x3 x4 x5 x6 (ix3 n s d) : EReal) = dgt (rIn x0 x1 x2 x3 x4 x5 x6) s n d := by
  unfold dgt
  rw [mul_assoc, ← v25_at x0 x1 x2 x3 x4 x5 x6, ← v15_at x0 x1 x2 x3 x4 x5 x6, ← v32_at x0 x1 x2 x3 x4 x5 x6 n s d, val_main_v35_apply, val_main_v34_apply]
  rfl

/-- The gradient at the outer gates. -/
theorem v63_at (n : Fin 4224) (q : Fin 3072) : (val_main_v63 (F := Ideal) x0 x1 x2 x3 x4 x5 x6 (ix2 n q) : EReal) = dgt (rIn x0 x1 x2 x3 x4 x5 x6) ⟨q.val / 1024, by omega⟩ n ⟨q.val % 1024, by omega⟩ := by
  have e : idx_main_v36 (ix2 n q) = ix3 n ⟨q.val / 1024, by omega⟩ ⟨q.val % 1024, by omega⟩ := by
    ext a
    fin_cases a
    · show (n.val * 3072 + q.val) / 3072 = n.val
      omega
    · show (n.val * 3072 + q.val) / 1024 % 3 = q.val / 1024
      omega
    · show (n.val * 3072 + q.val) % 1024 = q.val % 1024
      omega
  rw [← v35_at x0 x1 x2 x3 x4 x5 x6, ← e, ← val_main_v36_apply]
  rfl

theorem v37_at (s : Fin 3) (d : Fin 1024) (n : Fin 4224) : (val_main_v37 (F := Ideal) x0 x4 x6 (ix3 s d n) : EReal) = dpb (rIn x0 x1 x2 x3 x4 x5 x6) s n d := by
  have e : idx_main_v37 (ix3 s d n) = ix3 n s d := by ext a; fin_cases a <;> rfl
  rw [val_main_v37_apply, e]
  exact v33_at x0 x1 x2 x3 x4 x5 x6 n s d

theorem v39_at (n : Fin 4224) (s : Fin 3) (w : Fin 512) : (val_main_v39 (F := Ideal) x0 x4 x5 x6 (ix3 n s w) : EReal) = dbr (rIn x0 x1 x2 x3 x4 x5 x6) s n w := by
  have e : idx_main_v39 (ix3 n s w) = ix3 s n w := by ext a; fin_cases a <;> rfl
  rw [val_main_v39_apply, e]
  unfold dbr
  refine (val_main_v38_apply x0 x4 x5 x6 _).trans (Finset.sum_congr rfl fun d _ => ?_)
  have e1 : lidx_main_v38 (ix3 s n w) d = ix3 s d n := by ext a; fin_cases a <;> rfl
  have e2 : ridx_main_v38 (ix3 s n w) d = ix3 s w d := by ext a; fin_cases a <;> rfl
  rw [e1, e2, ← v37_at x0 x1 x2 x3 x4 x5 x6]
  rfl

/-- The gradient at the branches' weights. -/
theorem v41_at (s : Fin 3) (w : Fin 512) (d : Fin 1024) : (val_main_v41 (F := Ideal) x0 x1 x2 x3 x4 x6 (ix3 s w d) : EReal) = ∑ i ∈ Finset.range 4224, wB (rIn x0 x1 x2 x3 x4 x5 x6) s w d i := by
  have e : idx_main_v41 (ix3 s w d) = ix3 s d w := by ext a; fin_cases a <;> rfl
  rw [val_main_v41_apply, e, Finset.sum_range]
  refine (val_main_v40_apply x0 x1 x2 x3 x4 x6 _).trans (Finset.sum_congr rfl fun n _ => ?_)
  have e1 : lidx_main_v40 (ix3 s d w) n = ix3 s d n := by ext a; fin_cases a <;> rfl
  have e2 : ridx_main_v40 (ix3 s d w) n = ix3 n s w := by ext a; fin_cases a <;> rfl
  unfold wB
  rw [e1, e2, dif_pos n.isLt, mul_comm]
  exact congrArg₂ (fun u v : EReal => u * v) (v13_at x0 x1 x2 x3 x4 x5 x6 n s w) (v37_at x0 x1 x2 x3 x4 x5 x6 s d n)

theorem v43_at (n : Fin 4224) (w : Fin 512) : (val_main_v43 (F := Ideal) x0 x4 x5 x6 (ix2 n w) : EReal) = dbr (rIn x0 x1 x2 x3 x4 x5 x6) 0 n w := by
  have e : idx_main_v43 (ix2 n w) = ix3 n 0 w := by
    ext a
    fin_cases a
    · show (n.val * 512 + w.val) / 512 = n.val
      omega
    · rfl
    · show (n.val * 512 + w.val) % 512 = w.val
      omega
  have e' : idx_main_v42 (ix3 n 0 w) = ix3 n 0 w := by ext a; fin_cases a <;> rfl
  rw [val_main_v43_apply, e, val_main_v42_apply, e']
  exact v39_at x0 x1 x2 x3 x4 x5 x6 n 0 w

/-- The gradient at branch 0. -/
theorem v57_at (n : Fin 4224) (w : Fin 512) : (val_main_v57 (F := Ideal) x0 x4 x5 x6 (ix2 n w) : EReal) = dy (rIn x0 x1 x2 x3 x4 x5 x6) 0 n w := by
  unfold dy
  rw [← v43_at x0 x1 x2 x3 x4 x5 x6, ← v4_0_at x0 x1 x2 x3 x4 x5 x6, val_main_v57_apply, val_main_v55_apply]
  rfl

/-- The gradient at inner gate 0, as the derivative of a product. -/
theorem v60_at (n : Fin 4224) (w : Fin 512) : (val_main_v60 (F := Ideal) x0 x1 x4 x5 x6 (ix2 n w) : EReal) = dz2 (rIn x0 x1 x2 x3 x4 x5 x6) 0 n w := by
  unfold dz2
  rw [← v43_at x0 x1 x2 x3 x4 x5 x6, ← v4_1_at x0 x1 x2 x3 x4 x5 x6, ← v4_2_at x0 x1 x2 x3 x4 x5 x6, ← v0_at x0 x1 x2 x3 x4 x5 x6,
    val_main_v60_apply, val_main_v56_apply, val_main_call5_v1_apply, val_main_call5_v2_apply, val_main_call5_v0_apply, val_main_v54_apply]
  rfl

theorem v45_at (n : Fin 4224) (w : Fin 512) : (val_main_v45 (F := Ideal) x0 x4 x5 x6 (ix2 n w) : EReal) = dbr (rIn x0 x1 x2 x3 x4 x5 x6) 1 n w := by
  have e : idx_main_v45 (ix2 n w) = ix3 n 0 w := by
    ext a
    fin_cases a
    · show (n.val * 512 + w.val) / 512 = n.val
      omega
    · rfl
    · show (n.val * 512 + w.val) % 512 = w.val
      omega
  have e' : idx_main_v44 (ix3 n 0 w) = ix3 n 1 w := by ext a; fin_cases a <;> rfl
  rw [val_main_v45_apply, e, val_main_v44_apply, e']
  exact v39_at x0 x1 x2 x3 x4 x5 x6 n 1 w

/-- The gradient at branch 1. -/
theorem v58_at (n : Fin 4224) (w : Fin 512) : (val_main_v58 (F := Ideal) x0 x4 x5 x6 (ix2 n w) : EReal) = dy (rIn x0 x1 x2 x3 x4 x5 x6) 1 n w := by
  unfold dy
  rw [← v45_at x0 x1 x2 x3 x4 x5 x6, ← v6_0_at x0 x1 x2 x3 x4 x5 x6, val_main_v58_apply, val_main_v52_apply]
  rfl

/-- The gradient at inner gate 1, as the derivative of a product. -/
theorem v61_at (n : Fin 4224) (w : Fin 512) : (val_main_v61 (F := Ideal) x0 x2 x4 x5 x6 (ix2 n w) : EReal) = dz2 (rIn x0 x1 x2 x3 x4 x5 x6) 1 n w := by
  unfold dz2
  rw [← v45_at x0 x1 x2 x3 x4 x5 x6, ← v6_1_at x0 x1 x2 x3 x4 x5 x6, ← v6_2_at x0 x1 x2 x3 x4 x5 x6, ← v1_at x0 x1 x2 x3 x4 x5 x6,
    val_main_v61_apply, val_main_v53_apply, val_main_call4_v1_apply, val_main_call4_v2_apply, val_main_call4_v0_apply, val_main_v51_apply]
  rfl

theorem v47_at (n : Fin 4224) (w : Fin 512) : (val_main_v47 (F := Ideal) x0 x4 x5 x6 (ix2 n w) : EReal) = dbr (rIn x0 x1 x2 x3 x4 x5 x6) 2 n w := by
  have e : idx_main_v47 (ix2 n w) = ix3 n 0 w := by
    ext a
    fin_cases a
    · show (n.val * 512 + w.val) / 512 = n.val
      omega
    · rfl
    · show (n.val * 512 + w.val) % 512 = w.val
      omega
  have e' : idx_main_v46 (ix3 n 0 w) = ix3 n 2 w := by ext a; fin_cases a <;> rfl
  rw [val_main_v47_apply, e, val_main_v46_apply, e']
  exact v39_at x0 x1 x2 x3 x4 x5 x6 n 2 w

/-- The gradient at branch 2. -/
theorem v59_at (n : Fin 4224) (w : Fin 512) : (val_main_v59 (F := Ideal) x0 x4 x5 x6 (ix2 n w) : EReal) = dy (rIn x0 x1 x2 x3 x4 x5 x6) 2 n w := by
  unfold dy
  rw [← v47_at x0 x1 x2 x3 x4 x5 x6, ← v8_0_at x0 x1 x2 x3 x4 x5 x6, val_main_v59_apply, val_main_v49_apply]
  rfl

/-- The gradient at inner gate 2, as the derivative of a product. -/
theorem v62_at (n : Fin 4224) (w : Fin 512) : (val_main_v62 (F := Ideal) x0 x3 x4 x5 x6 (ix2 n w) : EReal) = dz2 (rIn x0 x1 x2 x3 x4 x5 x6) 2 n w := by
  unfold dz2
  rw [← v47_at x0 x1 x2 x3 x4 x5 x6, ← v8_1_at x0 x1 x2 x3 x4 x5 x6, ← v8_2_at x0 x1 x2 x3 x4 x5 x6, ← v2_at x0 x1 x2 x3 x4 x5 x6,
    val_main_v62_apply, val_main_v50_apply, val_main_call3_v1_apply, val_main_call3_v2_apply, val_main_call3_v0_apply, val_main_v48_apply]
  rfl

end Cert.Reference5Ideal.Hand

end
-- ==== Proof.MbTie.lean ====
/- The gradient of the gated merge of three branches: from finite arguments the kernel's arrays are the reference's. -/
module

public import proofs.«01_k».proof.Proof.MbIdeal
public import proofs.«01_k».proof.Proof.MbRef
public import proofs.«01_k».proof.Proof.Finite
public import proofs.«01_k».proof.Proof.Gen.Pre_finite5

@[expose] public section

set_option maxRecDepth 16384

noncomputable section

namespace Cert.Finite5

open Idealize.ShloMosaic

theorem inf_word {s : Shape} (h : Cert.Pre_finite5.S_.BroadcastsInDim s (![] : Fin 0 → Fin s.rank)) (i : s.Idx) :
    (broadcastInDim s ![] h (constant (F := Ideal) Cert.Pre_finite5.S_ .f32 0x7F800000#32)) i = (⊤ : EReal) := by
  show Ideal.ofBits .f32 0x7F800000#32 = ⊤
  simp [Ideal.ofBits, Ideal.ieee]

instance : Subsingleton (Cert.Pre_finite5.S_).Idx := ⟨fun a b => funext fun i => i.elim0⟩

variable [Cert.Pre_finite5.Facts]
variable (x0 : FVec Ideal Cert.Pre_finite5.S4224x1024 .f32) (x1 x2 x3 : FVec Ideal Cert.Pre_finite5.S4224x512 .f32) (x4 : FVec Ideal Cert.Pre_finite5.S4224x7680 .f32)
  (x5 : FVec Ideal Cert.Pre_finite5.S3x512x1024 .f32) (x6 : FVec Ideal Cert.Pre_finite5.S1024x1024 .f32)

/-- Where the precondition holds of seven arrays, all their entries are real numbers. -/
theorem all_real (h : Cert.Pre_finite5.fn (F := Ideal) x0 x1 x2 x3 x4 x5 x6 = fun _ => 1#1) :
    (∀ i, x0 i = (((x0 i : EReal).toReal : ℝ) : EReal)) ∧ (∀ i, x1 i = (((x1 i : EReal).toReal : ℝ) : EReal)) ∧
    (∀ i, x2 i = (((x2 i : EReal).toReal : ℝ) : EReal)) ∧ (∀ i, x3 i = (((x3 i : EReal).toReal : ℝ) : EReal)) ∧
    (∀ i, x4 i = (((x4 i : EReal).toReal : ℝ) : EReal)) ∧ (∀ i, x5 i = (((x5 i : EReal).toReal : ℝ) : EReal)) ∧
    (∀ i, x6 i = (((x6 i : EReal).toReal : ℝ) : EReal)) := by
  have e := congrFun h (fun i => i.elim0)
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨Cert.Finite.real_of_all x0 _ (inf_word _) _ _ _ _ h0, Cert.Finite.real_of_all x1 _ (inf_word _) _ _ _ _ h1,
    Cert.Finite.real_of_all x2 _ (inf_word _) _ _ _ _ h2, Cert.Finite.real_of_all x3 _ (inf_word _) _ _ _ _ h3,
    Cert.Finite.real_of_all x4 _ (inf_word _) _ _ _ _ h4, Cert.Finite.real_of_all x5 _ (inf_word _) _ _ _ _ h5,
    Cert.Finite.real_of_all x6 _ (inf_word _) _ _ _ _ h6⟩

end Cert.Finite5

namespace Cert.Kernel5Ideal.Hand

open Cert.Kernel5Ideal Cert.Kernel5Ideal.Gen Cert.MergeBack
open Idealize.ShloMosaic Idealize.ShloMosaic.TcCoe Idealize.ShloMosaic.Tactic

variable (m : (ℓ : Loc nD τ sig) → Buf (Elt Ideal) ℓ) (c : Dev nD)

/-- The reference's arguments in the kernel's memory. -/
def rArgs : In :=
  Cert.Reference5Ideal.Hand.rIn (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6))

def vH (n : Fin 4224) (k : Fin 1024) : EReal := V m c main_arg0 (ix2 n k)
def vY0 (n : Fin 4224) (w : Fin 512) : EReal := V m c main_arg1 (ix2 n w)
def vY1 (n : Fin 4224) (w : Fin 512) : EReal := V m c main_arg2 (ix2 n w)
def vY2 (n : Fin 4224) (w : Fin 512) : EReal := V m c main_arg3 (ix2 n w)
def vP (n : Fin 4224) (w : Fin 7680) : EReal := V m c main_arg4 (ix2 n w)
def vB (s : Fin 3) (w : Fin 512) (d : Fin 1024) : EReal := V m c main_v0 (ix3 s w d)
def vO (k j : Fin 1024) : EReal := V m c main_v1 (ix2 k j)

theorem vH_eq : vH m c = (rArgs m c).H := by
  funext n k
  show _ = m (c, Proc.tc.devRef main_arg0) (ix2 n k)
  unfold vH
  simp only [V, hostOps0, List.flatten_cons, List.flatten_nil, List.append_nil, List.cons_append, List.nil_append]
  entry_read
  try rfl

theorem vY0_eq : vY0 m c = (rArgs m c).Y 0 := by
  funext n k
  show _ = m (c, Proc.tc.devRef main_arg1) (ix2 n k)
  unfold vY0
  simp only [V, hostOps0, List.flatten_cons, List.flatten_nil, List.append_nil, List.cons_append, List.nil_append]
  entry_read
  try rfl

theorem vY1_eq : vY1 m c = (rArgs m c).Y 1 := by
  funext n k
  show _ = m (c, Proc.tc.devRef main_arg2) (ix2 n k)
  unfold vY1
  simp only [V, hostOps0, List.flatten_cons, List.flatten_nil, List.append_nil, List.cons_append, List.nil_append]
  entry_read
  try rfl

theorem vY2_eq : vY2 m c = (rArgs m c).Y 2 := by
  funext n k
  show _ = m (c, Proc.tc.devRef main_arg3) (ix2 n k)
  unfold vY2
  simp only [V, hostOps0, List.flatten_cons, List.flatten_nil, List.append_nil, List.cons_append, List.nil_append]
  entry_read
  try rfl

theorem vP_eq (n : Fin 4224) (k : Fin 7680) : vP m c n k = m (c, Proc.tc.devRef main_arg4) (ix2 n k) := by
  unfold vP
  simp only [V, hostOps0, List.flatten_cons, List.flatten_nil, List.append_nil, List.cons_append, List.nil_append]
  entry_read
  try rfl

theorem vB_eq : vB m c = (rArgs m c).B := by
  funext s w d
  show _ = m (c, Proc.tc.devRef main_arg5) (ix3 s w d)
  unfold vB
  simp only [V, hostOps0, List.flatten_cons, List.flatten_nil, List.append_nil, List.cons_append, List.nil_append]
  entry_read
  try pointwise

theorem vO_eq : vO m c = (rArgs m c).O := by
  funext k j
  show _ = m (c, Proc.tc.devRef main_arg6) (ix2 k j)
  unfold vO
  simp only [V, hostOps0, List.flatten_cons, List.flatten_nil, List.append_nil, List.cons_append, List.nil_append]
  entry_read
  try pointwise

/-- What the kernel reads is the reference's arguments. -/
theorem kIn_eq : kIn m c = rArgs m c := by
  have hY : (kIn m c).Y = (rArgs m c).Y := by
    funext s
    match s with
    | 0 => exact vY0_eq m c
    | 1 => exact vY1_eq m c
    | 2 => exact vY2_eq m c
  have hZ : (kIn m c).Z = (rArgs m c).Z := by
    funext s n w
    match s with
    | 0 => exact vP_eq m c n _
    | 1 => exact vP_eq m c n _
    | 2 => exact vP_eq m c n _
  have hG : (kIn m c).G = (rArgs m c).G := by
    funext s n d
    exact vP_eq m c n _
  have hH : (kIn m c).H = (rArgs m c).H := vH_eq m c
  have hB : (kIn m c).B = (rArgs m c).B := vB_eq m c
  have hO : (kIn m c).O = (rArgs m c).O := vO_eq m c
  revert hH hY hZ hG hB hO
  generalize kIn m c = A
  generalize rArgs m c = A'
  intro hH hY hZ hG hB hO
  cases A
  cases A'
  dsimp only at hH hY hZ hG hB hO
  subst hH hY hZ hG hB hO
  rfl

/-- Under the precondition every argument is real. -/
theorem real (h : Cert.Pre_Kernel5Ideal_finite5 m) : IsReal (rArgs m c) := by
  obtain ⟨h0, h1, h2, h3, h4, h5, h6⟩ := Cert.Finite5.all_real _ _ _ _ _ _ _ (h c)
  refine ⟨fun n k => ⟨_, h0 (ix2 n k)⟩, fun s n w => ?_, fun s n w => ?_, fun s n d => ⟨_, h4 (ix2 n _)⟩, fun s w d => ⟨_, h5 (ix3 s w d)⟩, fun k j => ⟨_, h6 (ix2 k j)⟩⟩
  · match s with
    | 0 => exact ⟨_, h1 (ix2 n w)⟩
    | 1 => exact ⟨_, h2 (ix2 n w)⟩
    | 2 => exact ⟨_, h3 (ix2 n w)⟩
  · match s with
    | 0 => exact ⟨_, h4 (ix2 n _)⟩
    | 1 => exact ⟨_, h4 (ix2 n _)⟩
    | 2 => exact ⟨_, h4 (ix2 n _)⟩

theorem arr12_ref : (dats m 0 c).arrAt 12 cfg0.N = Cert.Reference5Ideal.Read.val_main_v57 (F := Ideal) (m (c, Proc.tc.devRef main_arg0)) (m (c, Proc.tc.devRef main_arg4)) (m (c, Proc.tc.devRef main_arg5)) (m (c, Proc.tc.devRef main_arg6)) := by
  funext y
  obtain ⟨a, b, rfl⟩ : ∃ (a : Fin 4224) (b : Fin 512), y = ix2 a b := ⟨y 0, y 1, by ext k; fin_cases k <;> rfl⟩
  refine (congrFun (arr12 m c) (ix2 a b)).trans ?_
  rw [kIn_eq]
  exact (Cert.Reference5Ideal.Hand.v57_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) a b).symm

theorem arr13_ref : (dats m 0 c).arrAt 13 cfg0.N = Cert.Reference5Ideal.Read.val_main_v58 (F := Ideal) (m (c, Proc.tc.devRef main_arg0)) (m (c, Proc.tc.devRef main_arg4)) (m (c, Proc.tc.devRef main_arg5)) (m (c, Proc.tc.devRef main_arg6)) := by
  funext y
  obtain ⟨a, b, rfl⟩ : ∃ (a : Fin 4224) (b : Fin 512), y = ix2 a b := ⟨y 0, y 1, by ext k; fin_cases k <;> rfl⟩
  refine (congrFun (arr13 m c) (ix2 a b)).trans ?_
  rw [kIn_eq]
  exact (Cert.Reference5Ideal.Hand.v58_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) a b).symm

theorem arr14_ref : (dats m 0 c).arrAt 14 cfg0.N = Cert.Reference5Ideal.Read.val_main_v59 (F := Ideal) (m (c, Proc.tc.devRef main_arg0)) (m (c, Proc.tc.devRef main_arg4)) (m (c, Proc.tc.devRef main_arg5)) (m (c, Proc.tc.devRef main_arg6)) := by
  funext y
  obtain ⟨a, b, rfl⟩ : ∃ (a : Fin 4224) (b : Fin 512), y = ix2 a b := ⟨y 0, y 1, by ext k; fin_cases k <;> rfl⟩
  refine (congrFun (arr14 m c) (ix2 a b)).trans ?_
  rw [kIn_eq]
  exact (Cert.Reference5Ideal.Hand.v59_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) a b).symm

theorem arr15_ref (h : Cert.Pre_Kernel5Ideal_finite5 m) : (dats m 0 c).arrAt 15 cfg0.N = Cert.Reference5Ideal.Read.val_main_v60 (F := Ideal) (m (c, Proc.tc.devRef main_arg0)) (m (c, Proc.tc.devRef main_arg1)) (m (c, Proc.tc.devRef main_arg4)) (m (c, Proc.tc.devRef main_arg5)) (m (c, Proc.tc.devRef main_arg6)) := by
  funext y
  obtain ⟨a, b, rfl⟩ : ∃ (a : Fin 4224) (b : Fin 512), y = ix2 a b := ⟨y 0, y 1, by ext k; fin_cases k <;> rfl⟩
  refine (congrFun (arr15 m c) (ix2 a b)).trans ?_
  rw [kIn_eq]
  exact ((real m c h).dz 0 a b).trans (Cert.Reference5Ideal.Hand.v60_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) a b).symm

theorem arr16_ref (h : Cert.Pre_Kernel5Ideal_finite5 m) : (dats m 0 c).arrAt 16 cfg0.N = Cert.Reference5Ideal.Read.val_main_v61 (F := Ideal) (m (c, Proc.tc.devRef main_arg0)) (m (c, Proc.tc.devRef main_arg2)) (m (c, Proc.tc.devRef main_arg4)) (m (c, Proc.tc.devRef main_arg5)) (m (c, Proc.tc.devRef main_arg6)) := by
  funext y
  obtain ⟨a, b, rfl⟩ : ∃ (a : Fin 4224) (b : Fin 512), y = ix2 a b := ⟨y 0, y 1, by ext k; fin_cases k <;> rfl⟩
  refine (congrFun (arr16 m c) (ix2 a b)).trans ?_
  rw [kIn_eq]
  exact ((real m c h).dz 1 a b).trans (Cert.Reference5Ideal.Hand.v61_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) a b).symm

theorem arr17_ref (h : Cert.Pre_Kernel5Ideal_finite5 m) : (dats m 0 c).arrAt 17 cfg0.N = Cert.Reference5Ideal.Read.val_main_v62 (F := Ideal) (m (c, Proc.tc.devRef main_arg0)) (m (c, Proc.tc.devRef main_arg3)) (m (c, Proc.tc.devRef main_arg4)) (m (c, Proc.tc.devRef main_arg5)) (m (c, Proc.tc.devRef main_arg6)) := by
  funext y
  obtain ⟨a, b, rfl⟩ : ∃ (a : Fin 4224) (b : Fin 512), y = ix2 a b := ⟨y 0, y 1, by ext k; fin_cases k <;> rfl⟩
  refine (congrFun (arr17 m c) (ix2 a b)).trans ?_
  rw [kIn_eq]
  exact ((real m c h).dz 2 a b).trans (Cert.Reference5Ideal.Hand.v62_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) a b).symm

theorem arr18_ref : (dats m 0 c).arrAt 18 cfg0.N = Cert.Reference5Ideal.Read.val_main_v63 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) := by
  funext y
  obtain ⟨a, b, rfl⟩ : ∃ (a : Fin 4224) (b : Fin 3072), y = ix2 a b := ⟨y 0, y 1, by ext k; fin_cases k <;> rfl⟩
  refine (congrFun (arr18 m c) (ix2 a b)).trans ?_
  rw [kIn_eq]
  exact (Cert.Reference5Ideal.Hand.v63_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) a b).symm

theorem held0_ref (p : ℕ) (hn : p < cfg0.N) (hp : p = 21) : (outsAt0 m c p hn).2.2.2.2.2.2.2.2.2.1 = Cert.Reference5Ideal.Read.val_main_v41 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg6)) := by
  subst hp
  funext y
  obtain ⟨s, w, d, rfl⟩ : ∃ (s : Fin 3) (w : Fin 512) (d : Fin 1024), y = ix3 s w d := ⟨y 0, y 1, y 2, by ext k; fin_cases k <;> rfl⟩
  refine (held0 m c hn s w d).trans ?_
  rw [kIn_eq]
  exact (Cert.Reference5Ideal.Hand.v41_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) s w d).symm

theorem held1_ref (p : ℕ) (hn : p < cfg0.N) (hp : p = 21) : (outsAt0 m c p hn).2.2.2.2.2.2.2.2.2.2 = Cert.Reference5Ideal.Read.val_main_v30 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) := by
  subst hp
  funext y
  obtain ⟨k, j, rfl⟩ : ∃ (k j : Fin 1024), y = ix2 k j := ⟨y 0, y 1, by ext k; fin_cases k <;> rfl⟩
  refine (held1 m c hn k j).trans ?_
  rw [kIn_eq]
  exact (Cert.Reference5Ideal.Hand.v30_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) k j).symm

end Cert.Kernel5Ideal.Hand

end
-- ==== Proof.LossHead.lean ====
/- The loss after the final norm, and its gradients. -/
module

public import proofs.«01_k».proof.Proof.RmsBack

@[expose] public section

set_option maxRecDepth 16384

noncomputable section

namespace Cert.Loss

open Idealize.ShloMosaic Cert.Rms

theorem half : Ideal.ofBits .f32 0x3F000000#32 = ((1 / 2 : ℝ) : EReal) := by
  simp [Ideal.ofBits, Ideal.ieee, -EReal.coe_mul, -EReal.coe_neg]
  norm_num

theorem unit : Ideal.ofBits .f32 0x3F800000#32 = ((1 : ℝ) : EReal) := by
  simp [Ideal.ofBits, Ideal.ieee, -EReal.coe_mul, -EReal.coe_neg]
  norm_num

theorem twice : Ideal.ofBits .f32 0x40000000#32 = ((2 : ℝ) : EReal) := by
  simp [Ideal.ofBits, Ideal.ieee, -EReal.coe_mul, -EReal.coe_neg]
  norm_num

theorem tiny : Ideal.ofBits .f32 0x3A800000#32 = ((1 / 1024 : ℝ) : EReal) := by
  simp [Ideal.ofBits, Ideal.ieee, -EReal.coe_mul, -EReal.coe_neg]
  norm_num

/-- Half the derivative of a square, over the width. -/
theorem scale (e : EReal) : Ideal.div (Ideal.ofBits .f32 0x3F000000#32 * Ideal.ofBits .f32 0x3F800000#32) (Ideal.ofBits .f32 0x44800000#32) * (Ideal.ofBits .f32 0x40000000#32 * e)
    = e * Ideal.ofBits .f32 0x3A800000#32 := by
  rw [half, unit, twice, tiny, width, Ideal.div_coe (by norm_num), ← mul_assoc, ← EReal.coe_mul, ← EReal.coe_mul, ← EReal.coe_mul, mul_comm e]
  congr 2
  norm_num

/-- Half a sum is the sum of the halves. -/
theorem half_sum {N : ℕ} (f : Fin N → EReal) : Ideal.ofBits .f32 0x3F000000#32 * ∑ k, f k = ∑ k, Ideal.ofBits .f32 0x3F000000#32 * f k := by
  rw [half, mul_comm, mul_sum _ (by norm_num)]
  exact Finset.sum_congr rfl fun k _ => mul_comm _ _

variable (X : Fin 4224 → Fin 1024 → EReal) (G : Fin 1024 → EReal) (T : Fin 4096 → Fin 1024 → EReal)

/-- The row of the activations that the target's row is for. -/
def up (s : Fin 4096) : Fin 4224 := ⟨128 + s.val, by omega⟩

/-- The reciprocal root of a row's mean square. -/
def rt (n : Fin 4224) : EReal := Ideal.rsqrt (ms (X n))

/-- The error. -/
def er (s : Fin 4096) (k : Fin 1024) : EReal := X (up s) k * rt X (up s) * G k - T s k

/-- A row's mean square error. -/
def rowLoss (s : Fin 4096) : EReal := Ideal.div (∑ k, er X G T s k * er X G T s k) (Ideal.ofBits .f32 0x44800000#32)

/-- The loss. -/
def total : EReal := Ideal.ofBits .f32 0x3F000000#32 * ∑ s, rowLoss X G T s

/-- The gradient at the normalised activations: nothing at the first 128 rows. -/
def dy (n : Fin 4224) (k : Fin 1024) : EReal :=
  if h : n.val < 128 then 0 else er X G T ⟨n.val - 128, by omega⟩ k * Ideal.ofBits .f32 0x3A800000#32

/-- The gain's gradient. -/
def gain (b : Fin 1024) : EReal := ∑ n, X n b * rt X n * dy X G T n b

/-- The activations' gradient. -/
def rows (n : Fin 4224) (b : Fin 1024) : EReal := two (X n) (fun k => dy X G T n k * G k) 0 b

theorem dy_low (n : Fin 4224) (h : n.val < 128) (k : Fin 1024) : dy X G T n k = 0 := by
  unfold dy
  rw [dif_pos h]

theorem dy_up (s : Fin 4096) (k : Fin 1024) : dy X G T (up s) k = er X G T s k * Ideal.ofBits .f32 0x3A800000#32 := by
  unfold dy
  rw [dif_neg (by show ¬(128 + s.val < 128); omega)]
  have e : (⟨(up s).val - 128, by have := (up s).isLt; omega⟩ : Fin 4096) = s := Fin.ext (by show 128 + s.val - 128 = s.val; omega)
  rw [e]

theorem rows_low (n : Fin 4224) (h : n.val < 128) (b : Fin 1024) : rows X G T n b = 0 := by
  have e : (fun k => dy X G T n k * G k) = fun _ => 0 := funext fun k => by rw [dy_low X G T n h k, zero_mul]
  have s0 : Rms.slope (X n) (fun _ => 0) = 0 := by
    unfold Rms.slope
    rw [width, Ideal.div_coe (by norm_num)]
    simp
  unfold rows
  rw [e]
  unfold two
  rw [s0]
  simp

/-- The gain's gradient over the target's rows. -/
theorem gain_eq (b : Fin 1024) : gain X G T b = ∑ s, X (up s) b * rt X (up s) * dy X G T (up s) b := by
  unfold gain
  refine (Fin.sum_univ_add (M := EReal) (a := 128) (b := 4096) (fun n : Fin (128 + 4096) => X n b * rt X n * dy X G T n b)).trans ?_
  have z : (∑ i : Fin 128, (fun n : Fin (128 + 4096) => X n b * rt X n * dy X G T n b) (Fin.castAdd 4096 i)) = 0 :=
    Finset.sum_eq_zero fun i _ => by
      show X _ b * rt X _ * dy X G T (Fin.castAdd 4096 i) b = 0
      rw [dy_low X G T (Fin.castAdd 4096 i) i.isLt b, mul_zero]
  rw [z, zero_add]
  rfl

end Cert.Loss

end
-- ==== Proof.LossIdeal.lean ====
/- The loss and its gradients: what the kernel leaves. -/
module

public import proofs.«01_k».proof.Proof.Gen.Kernel7Ideal.Value
public import proofs.«01_k».proof.Proof.LossHead
public import Idealize.ShloMosaic.Lib.Pipeline.ValueKit
public import Idealize.ShloMosaic.Lib.WritesUnit

@[expose] public section

set_option maxRecDepth 16384

noncomputable section

namespace Cert.Kernel7Ideal.Hand

open Cert.Kernel7Ideal Cert.Kernel7Ideal.Gen Cert.Loss
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

section body

variable (i : grid0.Coords) (a1 : Memref sig .tc .vmem S128x1024 .f32) (h1 : a1.IsWhole) (a2 : Memref sig .tc .vmem S1x1024 .f32) (h2 : a2.IsWhole)
  (a3 : Memref sig .tc .vmem S128x1024 .f32) (h3 : a3.IsWhole) (a4 : Memref sig .tc .vmem S128x1024 .f32) (h4 : a4.IsWhole)
  (a5 : Memref sig .tc .vmem S8x128 .f32) (h5 : a5.IsWhole) (a6 : Memref sig .tc .vmem S8x1024 .f32) (h6 : a6.IsWhole)
  (x0 : Vec Ideal S128x1024 .f32) (x1 : Vec Ideal S1x1024 .f32) (x2 : Vec Ideal S128x1024 .f32) (xo4 : Vec Ideal S8x128 .f32) (xo5 : Vec Ideal S8x1024 .f32)

theorem pay1_at (a : Fin 128) (b : Fin 1024) : (k0_pay1 (F := Ideal) (ix2 a b) : EReal) = 0 := by
  pointwise [k0_pay1]

theorem pay2_at (p : Fin 8) (q : Fin 128) : (k0_pay2 (F := Ideal) (ix2 p q) : EReal) = 0 := by
  pointwise [k0_pay2]

theorem pay3_at (p : Fin 8) (b : Fin 1024) : (k0_pay3 (F := Ideal) (ix2 p b) : EReal) = 0 := by
  pointwise [k0_pay3]

theorem pay7_at (a : Fin 128) : (k0_pay7 (F := Ideal) x0 (ix2 a 0) : EReal) =
    Ideal.rsqrt (Ideal.div (∑ k : Fin 1024, (x0 (ix2 a k) : EReal) * x0 (ix2 a k)) (Ideal.ofBits .f32 0x44800000#32) + Ideal.ofBits .f32 0x358637BD#32) := by
  pointwise [k0_pay7]

theorem pay8_at (a : Fin 128) (b : Fin 1024) : (k0_pay8 (F := Ideal) x0 (ix2 a b) : EReal) = (x0 (ix2 a b) : EReal) * k0_pay7 (F := Ideal) x0 (ix2 a 0) := by
  pointwise [k0_pay8]

theorem pay9_at (a : Fin 128) (b : Fin 1024) : (k0_pay9 (F := Ideal) x1 x0 x2 (ix2 a b) : EReal) =
    (k0_pay8 (F := Ideal) x0 (ix2 a b) : EReal) * x1 (ix2 0 b) - x2 (ix2 a b) := by
  pointwise [k0_pay9, k0_pay6]

theorem pay10_at (p : Fin 8) (q : Fin 128) : (k0_pay10 (F := Ideal) x1 x0 x2 xo4 (ix2 p q) : EReal) =
    (xo4 (ix2 p q) : EReal) + Ideal.ofBits .f32 0x3F000000#32 * ∑ a : Fin 128, Ideal.div (∑ k : Fin 1024, (k0_pay9 (F := Ideal) x1 x0 x2 (ix2 a k) : EReal) * k0_pay9 (F := Ideal) x1 x0 x2 (ix2 a k)) (Ideal.ofBits .f32 0x44800000#32) := by
  pointwise [k0_pay10]

theorem pay11_at (a : Fin 128) (b : Fin 1024) : (k0_pay11 (F := Ideal) x1 x0 x2 (ix2 a b) : EReal) =
    (k0_pay9 (F := Ideal) x1 x0 x2 (ix2 a b) : EReal) * Ideal.ofBits .f32 0x3A800000#32 := by
  pointwise [k0_pay11]

theorem pay12_at (a : Fin 128) (b : Fin 1024) : (k0_pay12 (F := Ideal) x1 x0 x2 (ix2 a b) : EReal) =
    (k0_pay11 (F := Ideal) x1 x0 x2 (ix2 a b) : EReal) * x1 (ix2 0 b) := by
  pointwise [k0_pay12, k0_pay6]

theorem pay13_at (a : Fin 128) : (k0_pay13 (F := Ideal) x1 x0 x2 (ix2 a 0) : EReal) =
    ∑ k : Fin 1024, (k0_pay12 (F := Ideal) x1 x0 x2 (ix2 a k) : EReal) * k0_pay8 (F := Ideal) x0 (ix2 a k) := by
  pointwise [k0_pay13]

theorem pay14_at (a : Fin 128) : (k0_pay14 (F := Ideal) (ix2 a 0) : EReal) = Ideal.ofBits .f32 0x44800000#32 := by
  pointwise [k0_pay14]

theorem pay4_at (r : FVec Ideal S128x1 .f32) (y d : FVec Ideal S128x1024 .f32) (s w : FVec Ideal S128x1 .f32) (a : Fin 128) (b : Fin 1024) :
    (k0_pay4 (F := Ideal) r y d s w (ix2 a b) : EReal) = (r (ix2 a 0) : EReal) * (d (ix2 a b) - y (ix2 a b) * Ideal.div (s (ix2 a 0)) (w (ix2 a 0))) := by
  pointwise [k0_pay4]

theorem pay5_at (y d : FVec Ideal S128x1024 .f32) (o : FVec Ideal S1x1024 .f32) (b : Fin 1024) :
    (k0_pay5 (F := Ideal) y d o (ix2 0 b) : EReal) = (o (ix2 0 b) : EReal) + ∑ a : Fin 128, (d (ix2 a b) : EReal) * y (ix2 a b) := by
  pointwise [k0_pay5]

/-- What a point after the first writes over its rows. -/
def rowsOf : FVec Ideal S128x1024 .f32 := k0_pay4 (k0_pay7 x0) (k0_pay8 x0) (k0_pay12 x1 x0 x2) (k0_pay13 x1 x0 x2) k0_pay14

theorem out_A3 (hc0 : cond0_0 i) (hc1 : ¬cond0_1 i) : out0_A_3 c i a1 h1 a2 h2 a3 h3 a4 h4 a5 h5 a6 h6 hc0 hc1 x0 x1 x2 = k0_pay1 (F := Ideal) := by
  frame_out

theorem out_A4 (hc0 : cond0_0 i) (hc1 : ¬cond0_1 i) : out0_A_4 c i a1 h1 a2 h2 a3 h3 a4 h4 a5 h5 a6 h6 hc0 hc1 x0 x1 x2 = k0_pay2 (F := Ideal) := by
  frame_out

theorem out_A5 (hc0 : cond0_0 i) (hc1 : ¬cond0_1 i) : out0_A_5 c i a1 h1 a2 h2 a3 h3 a4 h4 a5 h5 a6 h6 hc0 hc1 x0 x1 x2 = k0_pay3 (F := Ideal) := by
  frame_out

theorem out_B3 (hc0 : ¬cond0_0 i) (hc1 : cond0_1 i) : out0_B_3 c i a1 h1 a2 h2 a3 h3 a4 h4 a5 h5 a6 h6 hc0 hc1 x0 x1 x2 xo4 xo5 = rowsOf x0 x1 x2 := by
  unfold rowsOf
  frame_out

theorem out_B4 (hc0 : ¬cond0_0 i) (hc1 : cond0_1 i) : out0_B_4 c i a1 h1 a2 h2 a3 h3 a4 h4 a5 h5 a6 h6 hc0 hc1 x0 x1 x2 xo4 xo5 = k0_pay10 (F := Ideal) x1 x0 x2 xo4 := by
  frame_out

theorem ld_row (Y : Vec Ideal S8x1024 .f32) (b : Fin 1024) :
    View.ld (Val := Elt Ideal) Y (Rect.unit (s := S8x1024) ![0, 0] ![1, 1024] inb_S8x1024_S1x1024_0_0) (ix2 0 b) = Y (ix2 0 b) :=
  View.ld_unit_apply_of (S := S8x1024) Y ![0, 0] ![1, 1024] inb_S8x1024_S1x1024_0_0 (ix2 0 b) (ix2 0 b) (by
    intro a; fin_cases a <;> simp)

theorem ix2_inj (p : Fin 8) (hp : p.val = 0) (b : Fin 1024) : (ix2 p b : S8x1024.Idx) = ix2 0 b := by
  have : p = 0 := Fin.ext hp
  rw [this]

theorem out_B5 (hc0 : ¬cond0_0 i) (hc1 : cond0_1 i) (p : Fin 8) (b : Fin 1024) : (out0_B_5 c i a1 h1 a2 h2 a3 h3 a4 h4 a5 h5 a6 h6 hc0 hc1 x0 x1 x2 xo4 xo5) (ix2 p b) =
    if p.val = 0 then (xo5 (ix2 p b) : EReal) + ∑ a : Fin 128, (k0_pay11 (F := Ideal) x1 x0 x2 (ix2 a b) : EReal) * k0_pay8 (F := Ideal) x0 (ix2 a b) else xo5 (ix2 p b) := by
  frame_out
  by_cases hp : p.val = 0
  · rw [if_pos hp, ix2_inj p hp]
    rw [View.read_writes_cons_unit_of_mem (s := S8x1024) _ _ (off' := ![0, 0]) inb_S8x1024_S1x1024_0_0 _ _ (ix2 0 b) (ix2 0 b) rfl (by intro a; fin_cases a <;> simp)]
    exact (pay5_at _ _ _ b).trans (congrArg (fun z : EReal => z + ∑ a : Fin 128, (k0_pay11 (F := Ideal) x1 x0 x2 (ix2 a b) : EReal) * k0_pay8 (F := Ideal) x0 (ix2 a b)) (ld_row xo5 b))
  · rw [if_neg hp]
    rw [View.read_writes_cons_unit_of_not_mem (s := S8x1024) _ _ (off' := ![0, 0]) inb_S8x1024_S1x1024_0_0 _ _ (ix2 p b) rfl 0 (Or.inr (by show 0 + 1 ≤ p.val; omega))]
    rw [View.writes_nil, Memref.IsWhole.read_unread]

section reads

variable (X : Fin 4224 → Fin 1024 → EReal) (G : Fin 1024 → EReal) (T : Fin 4096 → Fin 1024 → EReal) (s : Fin 128 → Fin 4096)

/-- The blocks of a point after the first are rows of the arrays. -/
structure Reads : Prop where
  x : ∀ a k, (x0 (ix2 a k) : EReal) = X (up (s a)) k
  g : ∀ k, (x1 (ix2 0 k) : EReal) = G k
  t : ∀ a k, (x2 (ix2 a k) : EReal) = T (s a) k

variable {x0 x1 x2 X G T s} (R : Reads x0 x1 x2 X G T s)
include R

theorem r_at (a : Fin 128) : (k0_pay7 (F := Ideal) x0 (ix2 a 0) : EReal) = rt X (up (s a)) := by
  refine (pay7_at x0 a).trans ?_
  unfold rt Cert.Rms.ms
  simp only [R.x]

theorem y_at (a : Fin 128) (b : Fin 1024) : (k0_pay8 (F := Ideal) x0 (ix2 a b) : EReal) = X (up (s a)) b * rt X (up (s a)) :=
  (pay8_at x0 a b).trans (congrArg₂ (fun u v : EReal => u * v) (R.x a b) (r_at R a))

theorem e_at (a : Fin 128) (b : Fin 1024) : (k0_pay9 (F := Ideal) x1 x0 x2 (ix2 a b) : EReal) = er X G T (s a) b := by
  refine (pay9_at x0 x1 x2 a b).trans ?_
  unfold er
  rw [y_at R a b, R.g b, R.t a b]

theorem d_at (a : Fin 128) (b : Fin 1024) : (k0_pay11 (F := Ideal) x1 x0 x2 (ix2 a b) : EReal) = dy X G T (up (s a)) b := by
  refine (pay11_at x0 x1 x2 a b).trans ?_
  rw [dy_up, e_at R a b]

theorem a_at (a : Fin 128) (b : Fin 1024) : (k0_pay12 (F := Ideal) x1 x0 x2 (ix2 a b) : EReal) = dy X G T (up (s a)) b * G b := by
  refine (pay12_at x0 x1 x2 a b).trans ?_
  rw [d_at R a b, R.g b]

theorem rows_at (a : Fin 128) (b : Fin 1024) : (rowsOf x0 x1 x2 (ix2 a b) : EReal) = rows X G T (up (s a)) b := by
  unfold rows
  rw [← Cert.Rms.one_eq_two]
  unfold rowsOf Cert.Rms.one
  rw [zero_add]
  refine (pay4_at _ _ _ _ _ a b).trans ?_
  rw [r_at R a, y_at R a b, a_at R a b, pay13_at, pay14_at]
  simp only [a_at R, y_at R]
  rfl

theorem loss_at (p : Fin 8) (q : Fin 128) : (k0_pay10 (F := Ideal) x1 x0 x2 xo4 (ix2 p q) : EReal) =
    (xo4 (ix2 p q) : EReal) + ∑ a, Ideal.ofBits .f32 0x3F000000#32 * rowLoss X G T (s a) := by
  refine (pay10_at x0 x1 x2 xo4 p q).trans ?_
  rw [half_sum]
  unfold rowLoss
  simp only [e_at R]

theorem gain_at (b : Fin 1024) : (∑ a : Fin 128, (k0_pay11 (F := Ideal) x1 x0 x2 (ix2 a b) : EReal) * k0_pay8 (F := Ideal) x0 (ix2 a b)) =
    ∑ a, X (up (s a)) b * rt X (up (s a)) * dy X G T (up (s a)) b :=
  Finset.sum_congr rfl fun a _ => by rw [d_at R, y_at R, mul_comm]

end reads

end body

theorem idx0 : ∀ t : Fin cfg0.N, (win0_0.index t 0 : ℕ) = t.val ∧ (win0_0.index t 1 : ℕ) = 0 := by decide +kernel
theorem idx1 : ∀ t : Fin cfg0.N, (win0_1.index t 0 : ℕ) = 0 ∧ (win0_1.index t 1 : ℕ) = 0 := by decide +kernel
theorem idx2 : ∀ t : Fin cfg0.N, (win0_2.index t 0 : ℕ) = t.val - 1 ∧ (win0_2.index t 1 : ℕ) = 0 := by decide +kernel
theorem idx3 : ∀ t : Fin cfg0.N, (win0_3.index t 0 : ℕ) = t.val ∧ (win0_3.index t 1 : ℕ) = 0 := by decide +kernel
theorem idx4 : ∀ t : Fin cfg0.N, (win0_4.index t 0 : ℕ) = 0 ∧ (win0_4.index t 1 : ℕ) = 0 := by decide +kernel
theorem idx5 : ∀ t : Fin cfg0.N, (win0_5.index t 0 : ℕ) = 0 ∧ (win0_5.index t 1 : ℕ) = 0 := by decide +kernel

theorem lt33 (t : Fin cfg0.N) : t.val < 33 := t.isLt

/-- The three arrays the kernel reads. -/
def inX (n : Fin 4224) (k : Fin 1024) : EReal := V m c main_arg0 (ix2 n k)
def inG (k : Fin 1024) : EReal := V m c main_v0 (ix2 0 k)
def inT (s : Fin 4096) (k : Fin 1024) : EReal := V m c main_arg2 (ix2 s k)

def blkX (t : Fin cfg0.N) (a : Fin 128) (k : Fin 1024) : EReal := iblk m c 0 t (ix2 a k)
def blkG (t : Fin cfg0.N) (k : Fin 1024) : EReal := iblk m c 1 t (ix2 0 k)
def blkT (t : Fin cfg0.N) (a : Fin 128) (k : Fin 1024) : EReal := iblk m c 2 t (ix2 a k)

/-- The target's row of row `a` of a point's blocks. -/
def row (n : ℕ) (hn : n + 1 < cfg0.N) (a : Fin 128) : Fin 4096 := ⟨128 * n + a.val, by have h33 : n + 1 < 33 := hn; omega⟩

theorem blkX_eq (n : ℕ) (hn : n + 1 < cfg0.N) (a : Fin 128) (k : Fin 1024) : blkX m c ⟨n + 1, hn⟩ a k = inX m c (up (row n hn a)) k := by
  obtain ⟨h0, h1⟩ := idx0 ⟨n + 1, hn⟩
  unfold blkX inX row up
  blk_ext [iblk, h0, h1]

theorem blkG_eq (t : Fin cfg0.N) (k : Fin 1024) : blkG m c t k = inG m c k := by
  obtain ⟨h0, h1⟩ := idx1 t
  unfold blkG inG
  blk_ext [iblk, h0, h1]

theorem blkT_eq (n : ℕ) (hn : n + 1 < cfg0.N) (a : Fin 128) (k : Fin 1024) : blkT m c ⟨n + 1, hn⟩ a k = inT m c (row n hn a) k := by
  obtain ⟨h0, h1⟩ := idx2 ⟨n + 1, hn⟩
  unfold blkT inT row
  blk_ext [iblk, h0, h1]

theorem reads (n : ℕ) (hn : n + 1 < cfg0.N) : Reads (iblk m c 0 ⟨n + 1, hn⟩) (iblk m c 1 ⟨n + 1, hn⟩) (iblk m c 2 ⟨n + 1, hn⟩) (inX m c) (inG m c) (inT m c) (row n hn) where
  x := blkX_eq m c n hn
  g := blkG_eq m c ⟨n + 1, hn⟩
  t := blkT_eq m c n hn

/-- A row's part of the loss and of the gain's gradient; zero past the last row. -/
def ls (s : ℕ) : EReal := if h : s < 4096 then Ideal.ofBits .f32 0x3F000000#32 * rowLoss (inX m c) (inG m c) (inT m c) ⟨s, h⟩ else 0
def dg (b : Fin 1024) (s : ℕ) : EReal := if h : s < 4096 then inX m c (up ⟨s, h⟩) b * rt (inX m c) (up ⟨s, h⟩) * dy (inX m c) (inG m c) (inT m c) (up ⟨s, h⟩) b else 0

/-- The rows a point writes. -/
theorem outs3 (t : Fin cfg0.N) (a : Fin 128) (b : Fin 1024) : ((outsAt0 m c t.val t.isLt).1 (ix2 a b) : EReal) =
    rows (inX m c) (inG m c) (inT m c) ⟨128 * t.val + a.val, by have := lt33 t; omega⟩ b := by
  obtain ⟨n, hn⟩ := t
  cases n with
  | zero =>
    have e := congrArg (fun z => z.1) (outsAt0_A m c ⟨0, hn⟩ rfl (by show ¬(1 ≤ 0); omega))
    dsimp only at e
    rw [out_A3] at e
    refine (congrFun e _).trans ((pay1_at a b).trans ?_)
    exact (rows_low (inX m c) (inG m c) (inT m c) _ (by show 128 * 0 + a.val < 128; omega) b).symm
  | succ n =>
    have h33 : n + 1 < 33 := hn
    have e := congrArg (fun z => z.1) (outsAt0_B m c ⟨n + 1, hn⟩ (by show ¬(n + 1) % 33 = 0; omega) (by show 1 ≤ n + 1; omega))
    dsimp only at e
    rw [out_B3] at e
    refine (congrFun e _).trans ((rows_at (reads m c n hn) a b).trans ?_)
    refine congrArg (fun z => rows (inX m c) (inG m c) (inT m c) z b) (Fin.ext ?_)
    show 128 + (128 * n + a.val) = 128 * (n + 1) + a.val
    omega

/-- The loss after a point: the sum over the rows read so far, in every place. -/
theorem outs4 (n : ℕ) : ∀ (hn : n < cfg0.N) (p : Fin 8) (q : Fin 128), ((outsAt0 m c n hn).2.1 (ix2 p q) : EReal) = ∑ s ∈ Finset.range (128 * n), ls m c s := by
  induction n with
  | zero =>
    intro hn p q
    have e := congrArg (fun z => z.2.1) (outsAt0_A m c ⟨0, hn⟩ rfl (by show ¬(1 ≤ 0); omega))
    dsimp only at e
    rw [out_A4] at e
    exact (congrFun e _).trans ((pay2_at p q).trans (by simp))
  | succ n ih =>
    intro hn p q
    have h33 : n + 1 < 33 := hn
    have e := congrArg (fun z => z.2.1) (outsAt0_B m c ⟨n + 1, hn⟩ (by show ¬(n + 1) % 33 = 0; omega) (by show 1 ≤ n + 1; omega))
    dsimp only at e
    rw [out_B4] at e
    refine (congrFun e _).trans ((loss_at _ (reads m c n hn) p q).trans ?_)
    rw [show 128 * (n + 1) = 128 * n + 128 from by ring, Finset.sum_range_add]
    refine congrArg₂ (fun u v : EReal => u + v) (ih (Nat.lt_of_succ_lt hn) p q) ?_
    rw [Finset.sum_range]
    refine Finset.sum_congr rfl fun a _ => ?_
    unfold ls
    rw [dif_pos (by omega)]
    rfl

/-- The gain's gradient after a point: the sum over the rows read so far, in the first of eight rows. -/
theorem outs5 (n : ℕ) : ∀ (hn : n < cfg0.N) (p : Fin 8) (b : Fin 1024), ((outsAt0 m c n hn).2.2 (ix2 p b) : EReal) =
    if p.val = 0 then ∑ s ∈ Finset.range (128 * n), dg m c b s else 0 := by
  induction n with
  | zero =>
    intro hn p b
    have e := congrArg (fun z => z.2.2) (outsAt0_A m c ⟨0, hn⟩ rfl (by show ¬(1 ≤ 0); omega))
    dsimp only at e
    rw [out_A5] at e
    exact (congrFun e _).trans ((pay3_at p b).trans (by simp))
  | succ n ih =>
    intro hn p b
    have h33 : n + 1 < 33 := hn
    have e := congrArg (fun z => z.2.2) (outsAt0_B m c ⟨n + 1, hn⟩ (by show ¬(n + 1) % 33 = 0; omega) (by show 1 ≤ n + 1; omega))
    dsimp only at e
    refine (congrFun e _).trans ((out_B5 ..).trans ?_)
    have i := ih (Nat.lt_of_succ_lt hn) p b
    by_cases hp : p.val = 0
    · rw [if_pos hp] at i ⊢
      rw [if_pos hp]
      rw [show 128 * (n + 1) = 128 * n + 128 from by ring, Finset.sum_range_add]
      refine congrArg₂ (fun u v : EReal => u + v) i ((gain_at (reads m c n hn) b).trans ?_)
      rw [Finset.sum_range]
      refine Finset.sum_congr rfl fun a _ => ?_
      unfold dg
      rw [dif_pos (by omega)]
      rfl
    · rw [if_neg hp] at i ⊢
      rw [if_neg hp]
      exact i

theorem ls_sum : (∑ s ∈ Finset.range 4096, ls m c s) = total (inX m c) (inG m c) (inT m c) := by
  unfold total
  rw [half_sum, Finset.sum_range]
  refine Finset.sum_congr rfl fun s _ => ?_
  unfold ls
  rw [dif_pos s.isLt]

theorem dg_sum (b : Fin 1024) : (∑ s ∈ Finset.range 4096, dg m c b s) = gain (inX m c) (inG m c) (inT m c) b := by
  rw [gain_eq, Finset.sum_range]
  refine Finset.sum_congr rfl fun s _ => ?_
  unfold dg
  rw [dif_pos s.isLt]

set_option maxHeartbeats 4000000 in
/-- The activations' gradient, as the kernel leaves it. -/
theorem arr3 : (dats m 0 c).arrAt 3 cfg0.N = fun y => rows (inX m c) (inG m c) (inT m c) (y 0) (y 1) := by
  refine (dats m 0 c).arrAt_eq_of_covers 3 _ (by decide +kernel) fun t hf y => ?_
  obtain ⟨a, b, rfl⟩ : ∃ (a : Fin 128) (b : Fin 1024), y = ix2 a b := ⟨y 0, y 1, by ext k; fin_cases k <;> rfl⟩
  have hs := outs3 m c t a b
  obtain ⟨h0, h1⟩ := idx3 t
  rw [after0_3]
  refine Eq.trans hs ?_
  refine congrArg₂ (rows (inX m c) (inG m c) (inT m c)) ?_ ?_
  · refine Fin.ext ?_
    show 128 * t.val + a.val = _
    blk_simp [h0, h1]
    ring
  · refine Fin.ext ?_
    blk_simp [h0, h1]

set_option maxHeartbeats 4000000 in
/-- The loss, as the kernel leaves it. -/
theorem arr4 : (dats m 0 c).arrAt 4 cfg0.N = fun y => total (inX m c) (inG m c) (inT m c) := by
  refine (dats m 0 c).arrAt_eq_of_covers 4 _ (by decide +kernel) fun t hf y => ?_
  obtain ⟨a, b, rfl⟩ : ∃ (a : Fin 8) (b : Fin 128), y = ix2 a b := ⟨y 0, y 1, by ext k; fin_cases k <;> rfl⟩
  have hj := (flush0_4 t).mp hf
  have hs := outs4 m c t.val t.isLt a b
  have ht : t.val = 32 := by have := lt33 t; omega
  rw [after0_4]
  refine Eq.trans hs ?_
  rw [ht]
  exact ls_sum m c

set_option maxHeartbeats 4000000 in
/-- The gain's gradient, as the kernel leaves it. -/
theorem arr5 : (dats m 0 c).arrAt 5 cfg0.N = fun y => if (y 0).val = 0 then gain (inX m c) (inG m c) (inT m c) (y 1) else 0 := by
  refine (dats m 0 c).arrAt_eq_of_covers 5 _ (by decide +kernel) fun t hf y => ?_
  obtain ⟨a, b, rfl⟩ : ∃ (a : Fin 8) (b : Fin 1024), y = ix2 a b := ⟨y 0, y 1, by ext k; fin_cases k <;> rfl⟩
  have hj := (flush0_5 t).mp hf
  have hs := outs5 m c t.val t.isLt a b
  have ht : t.val = 32 := by have := lt33 t; omega
  obtain ⟨h0, h1⟩ := idx5 t
  rw [after0_5]
  refine Eq.trans hs ?_
  rw [ht]
  have e0 : ((((cfg0.win 5).blk t).view.emb (ix2 a b)) 0 : ℕ) = a.val := by blk_simp [h0, h1]
  have e1 : (((cfg0.win 5).blk t).view.emb (ix2 a b)) 1 = b := Fin.ext (by blk_simp [h0, h1])
  exact if_congr (by rw [e0]) (by rw [e1]; exact dg_sum m c b) rfl

end Cert.Kernel7Ideal.Hand

end
-- ==== Proof.LossRef.lean ====
/- The reference of the loss and its gradients, element by element. -/
module

public import proofs.«01_k».proof.Proof.Gen.Reference7Ideal.Read
public import proofs.«01_k».proof.Proof.LossHead
public import Idealize.ShloMosaic.Lib.Pipeline.ValueKit
public import Idealize.ShloMosaic.Lib.KernelVsHost

@[expose] public section

set_option maxRecDepth 16384

noncomputable section

namespace Cert.Reference7Ideal.Hand

open Cert.Reference7Ideal Cert.Reference7Ideal.Gen Cert.Reference7Ideal.Read Cert.Rms Cert.Loss
open Idealize.ShloMosaic Idealize.ShloMosaic.TcCoe Idealize.ShloMosaic.Tactic

variable (x0 : FVec Ideal S4224x1024 .f32) (x1 : FVec Ideal S1024 .f32) (x2 : FVec Ideal S4096x1024 .f32)

/-- The arguments' elements. -/
def eX (n : Fin 4224) (k : Fin 1024) : EReal := x0 (ix2 n k)
def eG (k : Fin 1024) : EReal := x1 (ix1 k)
def eT (s : Fin 4096) (k : Fin 1024) : EReal := x2 (ix2 s k)

/-- A sum from the printed zero. -/
theorem from0 {n : ℕ} (z : EReal) (f g : Fin n → EReal) (hz : z = 0) (hf : ∀ k, f k = g k) : z + ∑ k, f k = ∑ k, g k := by
  rw [hz, zero_add]
  exact Finset.sum_congr rfl fun k _ => hf k

theorem v6_at (n : Fin 4224) (z : Fin 1) : (val_main_v6 (F := Ideal) x0 (ix2 n z) : EReal) = ms (eX x0 n) := by
  have e1 : idx_main_v2 (ix2 n z) = ix1 n := by ext a; fin_cases a <;> rfl
  have e2 : (val_main_v1 (F := Ideal) x0 (ix1 n) : EReal) = ∑ k, eX x0 n k * eX x0 n k := by
    refine (val_main_v1_apply x0 _).trans (from0 _ _ _ zero32 fun k => ?_)
    have e : idx_main_v1 (ix1 n) k = ix2 n k := by ext a; fin_cases a <;> rfl
    rw [e]
    rfl
  rw [val_main_v6_apply, val_main_v4_apply, val_main_v2_apply, e1, val_main_v3_apply, val_main_v5_apply]
  unfold ms
  rw [← e2]
  rfl

theorem v7_at (n : Fin 4224) (z : Fin 1) : (val_main_v7 (F := Ideal) x0 (ix2 n z) : EReal) = Ideal.rsqrt (ms (eX x0 n)) := by
  rw [← v6_at x0 n z, val_main_v7_apply]
  rfl

theorem v10_at (n : Fin 4224) (z : Fin 1) : (val_main_v10 (F := Ideal) x0 (ix2 n z) : EReal) =
    Ideal.ofBits .f32 0xBF000000#32 * Ideal.div (Ideal.rsqrt (ms (eX x0 n))) (ms (eX x0 n)) := by
  rw [← v7_at x0 n z, ← v6_at x0 n z, val_main_v10_apply, val_main_v9_apply, val_main_v8_apply]
  rfl

theorem v12_at (n : Fin 4224) (k : Fin 1024) : (val_main_v12 (F := Ideal) x0 (ix2 n k) : EReal) = eX x0 n k * Ideal.rsqrt (ms (eX x0 n)) := by
  have e : idx_main_v11 (ix2 n k) = ix2 n 0 := by ext a; fin_cases a <;> rfl
  rw [val_main_v12_apply, val_main_v11_apply, e, ← v7_at x0 n 0]
  rfl

theorem v17_at (s : Fin 4096) (k : Fin 1024) : (val_main_v17 (F := Ideal) x0 x1 x2 (ix2 s k) : EReal) = er (eX x0) (eG x1) (eT x2) s k := by
  have e1 : idx_main_v16 (ix2 s k) = ix2 (up s) k := by ext a; fin_cases a <;> rfl
  have e2 : idx_main_v13 (idx_main_v14 (ix2 (up s) k)) = ix1 k := by ext a; fin_cases a <;> rfl
  rw [val_main_v17_apply, val_main_v16_apply, e1, val_main_v15_apply, val_main_v14_apply, val_main_v13_apply, e2]
  unfold er rt
  rw [← v12_at x0 (up s) k]
  rfl

theorem v23_at (s : Fin 4096) : (val_main_v23 (F := Ideal) x0 x1 x2 (ix1 s) : EReal) = rowLoss (eX x0) (eG x1) (eT x2) s := by
  have e2 : (val_main_v21 (F := Ideal) x0 x1 x2 (ix1 s) : EReal) = ∑ k, er (eX x0) (eG x1) (eT x2) s k * er (eX x0) (eG x1) (eT x2) s k := by
    refine (val_main_v21_apply x0 x1 x2 _).trans (from0 _ _ _ zero32 fun k => ?_)
    have e : idx_main_v21 (ix1 s) k = ix2 s k := by ext a; fin_cases a <;> rfl
    rw [e, ← v17_at x0 x1 x2 s k]
    rfl
  rw [val_main_v23_apply, val_main_v22_apply]
  unfold rowLoss
  rw [← e2]
  rfl

/-- The loss. -/
theorem v53_at (p : Fin 8) (q : Fin 128) : (val_main_v53 (F := Ideal) x0 x1 x2 (ix2 p q) : EReal) = total (eX x0) (eG x1) (eT x2) := by
  have e2 (i : S_.Idx) : (val_main_v24 (F := Ideal) x0 x1 x2 i : EReal) = ∑ s, rowLoss (eX x0) (eG x1) (eT x2) s := by
    refine (val_main_v24_apply x0 x1 x2 i).trans ?_
    refine (congrArg (fun z : EReal => z + ∑ j : S4096.Idx, (val_main_v23 (F := Ideal) x0 x1 x2 j : EReal)) zero32).trans ((zero_add _).trans ?_)
    refine Fintype.sum_equiv ⟨fun j : S4096.Idx => (j 0 : Fin 4096), fun s : Fin 4096 => ix1 s, fun j => by ext a; fin_cases a; rfl, fun s => rfl⟩ _ _ fun j => ?_
    refine Eq.trans (congrArg (val_main_v23 (F := Ideal) x0 x1 x2) ?_) (v23_at x0 x1 x2 (j 0))
    ext a; fin_cases a; rfl
  rw [val_main_v53_apply, val_main_v25_apply]
  unfold total
  rw [← e2 (idx_main_v53 (ix2 p q))]
  rfl

theorem v31_at (s : Fin 4096) (k : Fin 1024) : (val_main_v31 (F := Ideal) x0 x1 x2 (ix2 s k) : EReal) = er (eX x0) (eG x1) (eT x2) s k * Ideal.ofBits .f32 0x3A800000#32 := by
  rw [← scale, ← v17_at x0 x1 x2 s k, val_main_v31_apply, val_main_v30_apply, val_main_v29_apply, val_main_v27_apply, val_main_v26_apply, val_main_v28_apply, val_main_v20_apply, val_main_v19_apply]
  rfl

/-- The gradient at the normalised activations. -/
theorem v32_at (n : Fin 4224) (k : Fin 1024) : (val_main_v32 (F := Ideal) x0 x1 x2 (ix2 n k) : EReal) = dy (eX x0) (eG x1) (eT x2) n k := by
  unfold val_main_v32 dy
  by_cases h : n.val < 128
  · rw [dif_pos h]
    refine (pad_apply_of_not_inside _ _ _ _ _ _ _ (ix2 n k) (0 : Fin 2) ?_).trans zero32
    intro hh
    have h1 : 128 ≤ n.val := hh.1
    omega
  · rw [dif_neg h, ← v31_at]
    refine pad_apply_of_inside _ _ _ _ _ _ _ (ix2 n k) (ix2 ⟨n.val - 128, by omega⟩ k) ?_
    intro a
    fin_cases a
    · show n.val = 128 + (n.val - 128) * (0 + 1)
      omega
    · show k.val = 0 + k.val * (0 + 1)
      omega

theorem v37_at (n : Fin 4224) (b : Fin 1024) : (val_main_v37 (F := Ideal) x0 x1 x2 (ix2 n b) : EReal) = dy (eX x0) (eG x1) (eT x2) n b * eG x1 b := by
  have e1 : idx_main_v13 (idx_main_v36 (ix2 n b)) = ix1 b := by ext a; fin_cases a <;> rfl
  rw [val_main_v37_apply, val_main_v36_apply, val_main_v13_apply, e1, ← v32_at x0 x1 x2 n b]
  rfl

theorem v41_at (n : Fin 4224) (z : Fin 1) : (val_main_v41 (F := Ideal) x0 x1 x2 (ix2 n z) : EReal) = ∑ k, eX x0 n k * (dy (eX x0) (eG x1) (eT x2) n k * eG x1 k) := by
  have e1 : idx_main_v41 (ix2 n z) = ix1 n := by ext a; fin_cases a; show n.val * 1 + z.val = n.val; omega
  rw [val_main_v41_apply, e1]
  refine (val_main_v40_apply x0 x1 x2 _).trans (from0 _ _ _ zero32 fun k => ?_)
  have e : idx_main_v40 (ix1 n) k = ix2 n k := by ext a; fin_cases a <;> rfl
  rw [e, val_main_v39_apply, ← v37_at x0 x1 x2 n k]
  rfl

theorem v46_at (n : Fin 4224) (z : Fin 1) : (val_main_v46 (F := Ideal) x0 x1 x2 (ix2 n z) : EReal) = Rms.slope (eX x0 n) (fun k => dy (eX x0) (eG x1) (eT x2) n k * eG x1 k) := by
  unfold Rms.slope
  rw [val_main_v46_apply, val_main_v44_apply, val_main_v45_apply, ← v41_at x0 x1 x2 n z, ← v10_at x0 n z]
  rfl

theorem v48_at (n : Fin 4224) (b : Fin 1024) : (val_main_v48 (F := Ideal) x0 x1 x2 (ix2 n b) : EReal) = Rms.slope (eX x0 n) (fun k => dy (eX x0) (eG x1) (eT x2) n k * eG x1 k) := by
  have e1 : idx_main_v48 (ix2 n b) = ix1 n := by ext a; fin_cases a <;> rfl
  rw [val_main_v48_apply, e1]
  refine (val_main_v47_apply x0 x1 x2 _).trans ((from0 _ _ (fun _ => Rms.slope (eX x0 n) (fun k => dy (eX x0) (eG x1) (eT x2) n k * eG x1 k)) zero32 fun k => ?_).trans (by simp))
  have e : idx_main_v47 (ix1 n) k = ix2 n k := by ext a; fin_cases a <;> rfl
  rw [e]
  exact v46_at x0 x1 x2 n k

/-- The activations' gradient. -/
theorem v52_at (n : Fin 4224) (b : Fin 1024) : (val_main_v52 (F := Ideal) x0 x1 x2 (ix2 n b) : EReal) = rows (eX x0) (eG x1) (eT x2) n b := by
  have e : idx_main_v42 (ix2 n b) = ix2 n 0 := by ext a; fin_cases a <;> rfl
  unfold rows two
  rw [zero_add, val_main_v52_apply, val_main_v50_apply, val_main_v51_apply, val_main_v49_apply, val_main_v43_apply, val_main_v42_apply, e,
    ← v48_at x0 x1 x2 n b]
  beta_reduce
  rw [← v37_at x0 x1 x2 n b, ← v7_at x0 n 0]
  rfl

/-- The gain's gradient. -/
theorem v38_at (b : Fin 1024) : (val_main_v38 (F := Ideal) x0 x1 x2 (ix1 b) : EReal) = gain (eX x0) (eG x1) (eT x2) b := by
  refine (val_main_v38_apply x0 x1 x2 _).trans ((from0 _ _ (fun _ => gain (eX x0) (eG x1) (eT x2) b) zero32 fun z => ?_).trans (by simp))
  have e : idx_main_v35 (idx_main_v38 (ix1 b) z) = ix1 b := by ext a; fin_cases a; show z.val * 1024 + b.val = b.val; omega
  rw [val_main_v35_apply, e]
  unfold gain rt
  refine (val_main_v34_apply x0 x1 x2 _).trans (from0 _ _ _ zero32 fun n => ?_)
  have e : idx_main_v34 (ix1 b) n = ix2 n b := by ext a; fin_cases a <;> rfl
  rw [e, val_main_v33_apply, ← v12_at x0 n b, ← v32_at x0 x1 x2 n b]
  rfl

theorem cat (y : FVec Ideal S1x1024 .f32) (z : FVec Ideal S7x1024 .f32) (p : Fin 8) (b : Fin 1024) :
    (concatenate S8x1024 0 [⟨S1x1024, y⟩, ⟨S7x1024, z⟩] concatenates_S1x1024_S7x1024_S8x1024_d0 : FVec Ideal S8x1024 .f32) (ix2 p b) =
      if h : p.val = 0 then y (ix2 0 b) else z (ix2 ⟨p.val - 1, by omega⟩ b) := by
  by_cases hp : p.val = 0
  · rw [dif_pos hp]
    refine concatenate_pair_apply_left (t := S8x1024) (s₁ := S1x1024) (s₂ := S7x1024) (0 : Fin 2) y z _ _ rfl (ix2 0 b) ?_
    intro a
    fin_cases a
    · exact hp.symm
    · rfl
  · rw [dif_neg hp]
    refine concatenate_pair_apply_right (t := S8x1024) (s₁ := S1x1024) (s₂ := S7x1024) (0 : Fin 2) y z _ _ rfl rfl (ix2 ⟨p.val - 1, by omega⟩ b) ?_ ?_
    · intro a ha
      fin_cases a
      · exact absurd rfl ha
      · rfl
    · show p.val - 1 + 1 = p.val
      omega

theorem v56_at (p : Fin 8) (b : Fin 1024) : (val_main_v56 (F := Ideal) x0 x1 x2 (ix2 p b) : EReal) = if p.val = 0 then gain (eX x0) (eG x1) (eT x2) b else 0 := by
  unfold val_main_v56
  refine (cat _ _ p b).trans ?_
  by_cases hp : p.val = 0
  · rw [dif_pos hp, if_pos hp]
    have e : idx_main_v54 (ix2 (0 : Fin 1) b) = ix1 b := by ext a; fin_cases a <;> rfl
    rw [val_main_v54_apply, e]
    exact v38_at x0 x1 x2 b
  · rw [dif_neg hp, if_neg hp, val_main_v55_apply]
    exact zero32

end Cert.Reference7Ideal.Hand

end
-- ==== Proof.LossTie.lean ====
/- The loss and its gradients: the kernel's arrays are the reference's. -/
module

public import proofs.«01_k».proof.Proof.LossIdeal
public import proofs.«01_k».proof.Proof.LossRef

@[expose] public section

set_option maxRecDepth 16384

noncomputable section

namespace Cert.Kernel7Ideal.Hand

open Cert.Kernel7Ideal Cert.Kernel7Ideal.Gen Cert.Loss
open Idealize.ShloMosaic Idealize.ShloMosaic.TcCoe Idealize.ShloMosaic.Tactic

variable (m : (ℓ : Loc nD τ sig) → Buf (Elt Ideal) ℓ) (c : Dev nD)

theorem inX_eq : inX m c = Cert.Reference7Ideal.Hand.eX (m (c, Proc.tc.devRef main_arg0)) := by
  funext n k
  unfold inX Cert.Reference7Ideal.Hand.eX
  simp only [V, hostOps0, List.flatten_cons, List.flatten_nil, List.append_nil, List.cons_append, List.nil_append]
  entry_read
  rfl

theorem inG_eq : inG m c = Cert.Reference7Ideal.Hand.eG (m (c, Proc.tc.devRef main_arg1)) := by
  funext k
  unfold inG Cert.Reference7Ideal.Hand.eG
  simp only [V, hostOps0, List.flatten_cons, List.flatten_nil, List.append_nil, List.cons_append, List.nil_append]
  entry_read
  pointwise

theorem inT_eq : inT m c = Cert.Reference7Ideal.Hand.eT (m (c, Proc.tc.devRef main_arg2)) := by
  funext n k
  unfold inT Cert.Reference7Ideal.Hand.eT
  simp only [V, hostOps0, List.flatten_cons, List.flatten_nil, List.append_nil, List.cons_append, List.nil_append]
  entry_read
  rfl

/-- The activations' gradient is the reference's. -/
theorem arr3_ref : (dats m 0 c).arrAt 3 cfg0.N = Cert.Reference7Ideal.Read.val_main_v52 (F := Ideal) (m (c, Proc.tc.devRef main_arg0)) (m (c, Proc.tc.devRef main_arg1)) (m (c, Proc.tc.devRef main_arg2)) := by
  funext y
  obtain ⟨a, b, rfl⟩ : ∃ (a : Fin 4224) (b : Fin 1024), y = ix2 a b := ⟨y 0, y 1, by ext k; fin_cases k <;> rfl⟩
  refine (congrFun (arr3 m c) (ix2 a b)).trans ?_
  rw [inX_eq, inG_eq, inT_eq]
  exact (Cert.Reference7Ideal.Hand.v52_at (m (c, Proc.tc.devRef main_arg0)) (m (c, Proc.tc.devRef main_arg1)) (m (c, Proc.tc.devRef main_arg2)) a b).symm

/-- The loss is the reference's. -/
theorem arr4_ref : (dats m 0 c).arrAt 4 cfg0.N = Cert.Reference7Ideal.Read.val_main_v53 (F := Ideal) (m (c, Proc.tc.devRef main_arg0)) (m (c, Proc.tc.devRef main_arg1)) (m (c, Proc.tc.devRef main_arg2)) := by
  funext y
  obtain ⟨a, b, rfl⟩ : ∃ (a : Fin 8) (b : Fin 128), y = ix2 a b := ⟨y 0, y 1, by ext k; fin_cases k <;> rfl⟩
  refine (congrFun (arr4 m c) (ix2 a b)).trans ?_
  rw [inX_eq, inG_eq, inT_eq]
  exact (Cert.Reference7Ideal.Hand.v53_at (m (c, Proc.tc.devRef main_arg0)) (m (c, Proc.tc.devRef main_arg1)) (m (c, Proc.tc.devRef main_arg2)) a b).symm

/-- The gain's gradient is the reference's. -/
theorem arr5_ref : (dats m 0 c).arrAt 5 cfg0.N = Cert.Reference7Ideal.Read.val_main_v56 (F := Ideal) (m (c, Proc.tc.devRef main_arg0)) (m (c, Proc.tc.devRef main_arg1)) (m (c, Proc.tc.devRef main_arg2)) := by
  funext y
  obtain ⟨a, b, rfl⟩ : ∃ (a : Fin 8) (b : Fin 1024), y = ix2 a b := ⟨y 0, y 1, by ext k; fin_cases k <;> rfl⟩
  refine (congrFun (arr5 m c) (ix2 a b)).trans ?_
  rw [inX_eq, inG_eq, inT_eq]
  exact (Cert.Reference7Ideal.Hand.v56_at (m (c, Proc.tc.devRef main_arg0)) (m (c, Proc.tc.devRef main_arg1)) (m (c, Proc.tc.devRef main_arg2)) a b).symm

end Cert.Kernel7Ideal.Hand

end
-- ==== Proof.AwTie.lean ====
/- The optimiser's update of the input projection's weights: the kernel's arrays are the reference's. -/
module

public import proofs.«01_k».proof.Proof.Gen.Kernel8Ideal.Value
public import proofs.«01_k».proof.Proof.Gen.Reference8Ideal.Read
public import Idealize.ShloMosaic.Lib.Pipeline.ValueKit

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Tactic
open Idealize.ShloMosaic.Pipeline (Dat Cfg Window)

/-- The first moment, the second moment and the step, from one element of each array. -/
def fm (g u : EReal) : EReal := Ideal.ofBits .f32 0x3F666666#32 * u + Ideal.ofBits .f32 0x3DCCCCCD#32 * g
def sm (g v : EReal) : EReal := Ideal.ofBits .f32 0x3F7FBE77#32 * v + Ideal.ofBits .f32 0x3A83126F#32 * (g * g)
def st (g u v w : EReal) : EReal :=
  Ideal.ofBits .f32 0xBA83126F#32 * (Ideal.div (Ideal.div (fm g u) (Ideal.ofBits .f32 0x3F26BD02#32))
    (Ideal.sqrt (Ideal.div (sm g v) (Ideal.ofBits .f32 0x3C231ACC#32)) + Ideal.ofBits .f32 0x322BCC77#32) + Ideal.ofBits .f32 0x3C23D70A#32 * w)

section body

variable (g u v w : FVec Ideal S1x256x1898 .f32) (a : Fin 256) (b : Fin 1898)

theorem pay1_at : (k0_pay1 (F := Ideal) g (ix2 a b) : EReal) = g (ix3 0 a b) := by
  pointwise [k0_pay1]

theorem pay2_at : (k0_pay2 (F := Ideal) g u (ix2 a b) : EReal) = fm (g (ix3 0 a b)) (u (ix3 0 a b)) := by
  pointwise [k0_pay2, k0_pay1, fm]

theorem pay3_at : (k0_pay3 (F := Ideal) g v (ix2 a b) : EReal) = sm (g (ix3 0 a b)) (v (ix3 0 a b)) := by
  pointwise [k0_pay3, k0_pay1, sm]

theorem pay4_at : (k0_pay4 (F := Ideal) g u v w (ix2 a b) : EReal) = st (g (ix3 0 a b)) (u (ix3 0 a b)) (v (ix3 0 a b)) (w (ix3 0 a b)) := by
  pointwise [k0_pay4, k0_pay3, k0_pay2, k0_pay1, st, fm, sm]

theorem out4 : out0_4 (F := Ideal) w g u v = k0_pay4 (F := Ideal) g u v w := by
  frame_out

theorem out5 : out0_5 (F := Ideal) w g u v = k0_pay2 (F := Ideal) g u := by
  frame_out

theorem out6 : out0_6 (F := Ideal) w g u v = k0_pay3 (F := Ideal) g v := by
  frame_out

theorem out7 : out0_7 (F := Ideal) w g u v = k0_pay1 (F := Ideal) g := by
  frame_out

end body

variable (m : (ℓ : Loc nD τ sig) → Buf (Elt Ideal) ℓ) (c : Dev nD)

theorem lt8 (t : Fin cfg0.N) : t.val < 8 := t.isLt

/-- The row of the flat arrays that row `a` of point `t`'s blocks is. -/
def row (t : Fin cfg0.N) (a : Fin 256) : Fin 2048 := ⟨256 * t.val + a.val, by have := lt8 t; omega⟩

/-- Row `n` of the flat arrays is row `n % 1024` of layer `n / 1024`. -/
def at3 (n : Fin 2048) (b : Fin 1898) : S2x1024x1898.Idx := ix3 ⟨n.val / 1024, by omega⟩ ⟨n.val % 1024, by omega⟩ b

theorem idx0 : ∀ t : Fin cfg0.N, (win0_0.index t 0 : ℕ) = t.val / 4 ∧ (win0_0.index t 1 : ℕ) = t.val % 4 ∧ (win0_0.index t 2 : ℕ) = 0 := by decide +kernel
theorem idx1 : ∀ t : Fin cfg0.N, (win0_1.index t 0 : ℕ) = t.val / 4 ∧ (win0_1.index t 1 : ℕ) = t.val % 4 ∧ (win0_1.index t 2 : ℕ) = 0 := by decide +kernel
theorem idx2 : ∀ t : Fin cfg0.N, (win0_2.index t 0 : ℕ) = t.val / 4 ∧ (win0_2.index t 1 : ℕ) = t.val % 4 ∧ (win0_2.index t 2 : ℕ) = 0 := by decide +kernel
theorem idx3 : ∀ t : Fin cfg0.N, (win0_3.index t 0 : ℕ) = t.val / 4 ∧ (win0_3.index t 1 : ℕ) = t.val % 4 ∧ (win0_3.index t 2 : ℕ) = 0 := by decide +kernel
theorem idx4 : ∀ t : Fin cfg0.N, (win0_4.index t 0 : ℕ) = t.val ∧ (win0_4.index t 1 : ℕ) = 0 := by decide +kernel
theorem idx5 : ∀ t : Fin cfg0.N, (win0_5.index t 0 : ℕ) = t.val ∧ (win0_5.index t 1 : ℕ) = 0 := by decide +kernel
theorem idx6 : ∀ t : Fin cfg0.N, (win0_6.index t 0 : ℕ) = t.val ∧ (win0_6.index t 1 : ℕ) = 0 := by decide +kernel
theorem idx7 : ∀ t : Fin cfg0.N, (win0_7.index t 0 : ℕ) = t.val ∧ (win0_7.index t 1 : ℕ) = 0 := by decide +kernel

def ar0 (n : Fin 2048) (b : Fin 1898) : EReal := V m c main_arg0 (at3 n b)
def blk0 (t : Fin cfg0.N) (a : Fin 256) (b : Fin 1898) : EReal := iblk m c 0 t (ix3 0 a b)

theorem blk0_eq (t : Fin cfg0.N) (a : Fin 256) (b : Fin 1898) : blk0 m c t a b = ar0 m c (row t a) b := by
  obtain ⟨h0, h1, h2⟩ := idx0 t
  have ht := lt8 t
  have hq : t.val / 4 = (256 * t.val + a.val) / 1024 := by omega
  have hr : 256 * (t.val % 4) + a.val = (256 * t.val + a.val) % 1024 := by omega
  unfold blk0 ar0 at3 row
  blk_ext [iblk, h0, h1, h2]

def ar1 (n : Fin 2048) (b : Fin 1898) : EReal := V m c main_arg1 (at3 n b)
def blk1 (t : Fin cfg0.N) (a : Fin 256) (b : Fin 1898) : EReal := iblk m c 1 t (ix3 0 a b)

theorem blk1_eq (t : Fin cfg0.N) (a : Fin 256) (b : Fin 1898) : blk1 m c t a b = ar1 m c (row t a) b := by
  obtain ⟨h0, h1, h2⟩ := idx1 t
  have ht := lt8 t
  have hq : t.val / 4 = (256 * t.val + a.val) / 1024 := by omega
  have hr : 256 * (t.val % 4) + a.val = (256 * t.val + a.val) % 1024 := by omega
  unfold blk1 ar1 at3 row
  blk_ext [iblk, h0, h1, h2]

def ar2 (n : Fin 2048) (b : Fin 1898) : EReal := V m c main_arg2 (at3 n b)
def blk2 (t : Fin cfg0.N) (a : Fin 256) (b : Fin 1898) : EReal := iblk m c 2 t (ix3 0 a b)

theorem blk2_eq (t : Fin cfg0.N) (a : Fin 256) (b : Fin 1898) : blk2 m c t a b = ar2 m c (row t a) b := by
  obtain ⟨h0, h1, h2⟩ := idx2 t
  have ht := lt8 t
  have hq : t.val / 4 = (256 * t.val + a.val) / 1024 := by omega
  have hr : 256 * (t.val % 4) + a.val = (256 * t.val + a.val) % 1024 := by omega
  unfold blk2 ar2 at3 row
  blk_ext [iblk, h0, h1, h2]

def ar3 (n : Fin 2048) (b : Fin 1898) : EReal := V m c main_arg3 (at3 n b)
def blk3 (t : Fin cfg0.N) (a : Fin 256) (b : Fin 1898) : EReal := iblk m c 3 t (ix3 0 a b)

theorem blk3_eq (t : Fin cfg0.N) (a : Fin 256) (b : Fin 1898) : blk3 m c t a b = ar3 m c (row t a) b := by
  obtain ⟨h0, h1, h2⟩ := idx3 t
  have ht := lt8 t
  have hq : t.val / 4 = (256 * t.val + a.val) / 1024 := by omega
  have hr : 256 * (t.val % 4) + a.val = (256 * t.val + a.val) % 1024 := by omega
  unfold blk3 ar3 at3 row
  blk_ext [iblk, h0, h1, h2]

def res4 (n : Fin 2048) (b : Fin 1898) : EReal := st (ar1 m c n b) (ar2 m c n b) (ar3 m c n b) (ar0 m c n b)

def left4 (t : Fin cfg0.N) : Vec Ideal S256x1898 .f32 := out0_4 (iblk m c 0 t) (iblk m c 1 t) (iblk m c 2 t) (iblk m c 3 t)

theorem after4 (t : Fin cfg0.N) : (dats m 0 c).after 4 t = left4 m c t := after0_4 m c t

theorem outs4 (t : Fin cfg0.N) (a : Fin 256) (b : Fin 1898) :
    (left4 m c t (ix2 a b) : EReal) = res4 m c (row t a) b := by
  unfold res4
  rw [← blk1_eq m c t a b, ← blk2_eq m c t a b, ← blk3_eq m c t a b, ← blk0_eq m c t a b]
  exact (congrFun (out4 (iblk m c 1 t) (iblk m c 2 t) (iblk m c 3 t) (iblk m c 0 t)) _).trans (pay4_at (iblk m c 1 t) (iblk m c 2 t) (iblk m c 3 t) (iblk m c 0 t) a b)

theorem arr4 : (dats m 0 c).arrAt 4 cfg0.N = fun y => res4 m c (y 0) (y 1) := by
  refine (dats m 0 c).arrAt_eq_of_covers 4 _ (by decide +kernel) fun t hf y => ?_
  obtain ⟨a, b, rfl⟩ : ∃ (a : Fin 256) (b : Fin 1898), y = ix2 a b := ⟨y 0, y 1, by ext k; fin_cases k <;> rfl⟩
  have hs := outs4 m c t a b
  obtain ⟨h0, h1⟩ := idx4 t
  rw [after4]
  generalize left4 m c t = L at hs ⊢
  refine Eq.trans hs ?_
  refine congrArg₂ (res4 m c) ?_ ?_
  · refine Fin.ext ?_
    show 256 * t.val + a.val = _
    blk_simp [h0, h1]
    ring
  · refine Fin.ext ?_
    blk_simp [h0, h1]

def res5 (n : Fin 2048) (b : Fin 1898) : EReal := fm (ar1 m c n b) (ar2 m c n b)

def left5 (t : Fin cfg0.N) : Vec Ideal S256x1898 .f32 := out0_5 (iblk m c 0 t) (iblk m c 1 t) (iblk m c 2 t) (iblk m c 3 t)

theorem after5 (t : Fin cfg0.N) : (dats m 0 c).after 5 t = left5 m c t := after0_5 m c t

theorem outs5 (t : Fin cfg0.N) (a : Fin 256) (b : Fin 1898) :
    (left5 m c t (ix2 a b) : EReal) = res5 m c (row t a) b := by
  unfold res5
  rw [← blk1_eq m c t a b, ← blk2_eq m c t a b]
  exact (congrFun (out5 (iblk m c 1 t) (iblk m c 2 t) (iblk m c 3 t) (iblk m c 0 t)) _).trans (pay2_at (iblk m c 1 t) (iblk m c 2 t) a b)

theorem arr5 : (dats m 0 c).arrAt 5 cfg0.N = fun y => res5 m c (y 0) (y 1) := by
  refine (dats m 0 c).arrAt_eq_of_covers 5 _ (by decide +kernel) fun t hf y => ?_
  obtain ⟨a, b, rfl⟩ : ∃ (a : Fin 256) (b : Fin 1898), y = ix2 a b := ⟨y 0, y 1, by ext k; fin_cases k <;> rfl⟩
  have hs := outs5 m c t a b
  obtain ⟨h0, h1⟩ := idx5 t
  rw [after5]
  generalize left5 m c t = L at hs ⊢
  refine Eq.trans hs ?_
  refine congrArg₂ (res5 m c) ?_ ?_
  · refine Fin.ext ?_
    show 256 * t.val + a.val = _
    blk_simp [h0, h1]
    ring
  · refine Fin.ext ?_
    blk_simp [h0, h1]

def res6 (n : Fin 2048) (b : Fin 1898) : EReal := sm (ar1 m c n b) (ar3 m c n b)

def left6 (t : Fin cfg0.N) : Vec Ideal S256x1898 .f32 := out0_6 (iblk m c 0 t) (iblk m c 1 t) (iblk m c 2 t) (iblk m c 3 t)

theorem after6 (t : Fin cfg0.N) : (dats m 0 c).after 6 t = left6 m c t := after0_6 m c t

theorem outs6 (t : Fin cfg0.N) (a : Fin 256) (b : Fin 1898) :
    (left6 m c t (ix2 a b) : EReal) = res6 m c (row t a) b := by
  unfold res6
  rw [← blk1_eq m c t a b, ← blk3_eq m c t a b]
  exact (congrFun (out6 (iblk m c 1 t) (iblk m c 2 t) (iblk m c 3 t) (iblk m c 0 t)) _).trans (pay3_at (iblk m c 1 t) (iblk m c 3 t) a b)

theorem arr6 : (dats m 0 c).arrAt 6 cfg0.N = fun y => res6 m c (y 0) (y 1) := by
  refine (dats m 0 c).arrAt_eq_of_covers 6 _ (by decide +kernel) fun t hf y => ?_
  obtain ⟨a, b, rfl⟩ : ∃ (a : Fin 256) (b : Fin 1898), y = ix2 a b := ⟨y 0, y 1, by ext k; fin_cases k <;> rfl⟩
  have hs := outs6 m c t a b
  obtain ⟨h0, h1⟩ := idx6 t
  rw [after6]
  generalize left6 m c t = L at hs ⊢
  refine Eq.trans hs ?_
  refine congrArg₂ (res6 m c) ?_ ?_
  · refine Fin.ext ?_
    show 256 * t.val + a.val = _
    blk_simp [h0, h1]
    ring
  · refine Fin.ext ?_
    blk_simp [h0, h1]

def res7 (n : Fin 2048) (b : Fin 1898) : EReal := ar1 m c n b

def left7 (t : Fin cfg0.N) : Vec Ideal S256x1898 .f32 := out0_7 (iblk m c 0 t) (iblk m c 1 t) (iblk m c 2 t) (iblk m c 3 t)

theorem after7 (t : Fin cfg0.N) : (dats m 0 c).after 7 t = left7 m c t := after0_7 m c t

theorem outs7 (t : Fin cfg0.N) (a : Fin 256) (b : Fin 1898) :
    (left7 m c t (ix2 a b) : EReal) = res7 m c (row t a) b := by
  unfold res7
  rw [← blk1_eq m c t a b]
  exact (congrFun (out7 (iblk m c 1 t) (iblk m c 2 t) (iblk m c 3 t) (iblk m c 0 t)) _).trans (pay1_at (iblk m c 1 t) a b)

theorem arr7 : (dats m 0 c).arrAt 7 cfg0.N = fun y => res7 m c (y 0) (y 1) := by
  refine (dats m 0 c).arrAt_eq_of_covers 7 _ (by decide +kernel) fun t hf y => ?_
  obtain ⟨a, b, rfl⟩ : ∃ (a : Fin 256) (b : Fin 1898), y = ix2 a b := ⟨y 0, y 1, by ext k; fin_cases k <;> rfl⟩
  have hs := outs7 m c t a b
  obtain ⟨h0, h1⟩ := idx7 t
  rw [after7]
  generalize left7 m c t = L at hs ⊢
  refine Eq.trans hs ?_
  refine congrArg₂ (res7 m c) ?_ ?_
  · refine Fin.ext ?_
    show 256 * t.val + a.val = _
    blk_simp [h0, h1]
    ring
  · refine Fin.ext ?_
    blk_simp [h0, h1]

section reference

open Cert.Reference8Ideal.Read Cert.Reference8Ideal.Gen

theorem at_eq (n : Fin 2048) (b : Fin 1898) : idx_main_v24 (ix2 n b) = at3 n b := by
  unfold at3
  funext k
  refine Fin.ext ?_
  fin_cases k
  · show (n.val * 1898 + b.val) / 1943552 = n.val / 1024
    omega
  · show (n.val * 1898 + b.val) / 1898 % 1024 = n.val % 1024
    omega
  · show (n.val * 1898 + b.val) % 1898 = b.val
    omega

variable (x0 x1 x2 x3 : FVec Ideal S2x1024x1898 .f32) (n : Fin 2048) (b : Fin 1898)

theorem v24_at : (val_main_v24 (F := Ideal) x0 x1 x2 x3 (ix2 n b) : EReal) = st (x1 (at3 n b)) (x2 (at3 n b)) (x3 (at3 n b)) (x0 (at3 n b)) := by
  rw [val_main_v24_apply, at_eq]
  rfl

theorem v25_at : (val_main_v25 (F := Ideal) x1 x2 (ix2 n b) : EReal) = fm (x1 (at3 n b)) (x2 (at3 n b)) := by
  have e : idx_main_v25 (ix2 n b) = at3 n b := at_eq n b
  rw [val_main_v25_apply, e]
  rfl

theorem v26_at : (val_main_v26 (F := Ideal) x1 x3 (ix2 n b) : EReal) = sm (x1 (at3 n b)) (x3 (at3 n b)) := by
  have e : idx_main_v26 (ix2 n b) = at3 n b := at_eq n b
  rw [val_main_v26_apply, e]
  rfl

theorem v27_at : (val_main_v27 (F := Ideal) x1 (ix2 n b) : EReal) = x1 (at3 n b) := by
  have e : idx_main_v27 (ix2 n b) = at3 n b := at_eq n b
  rw [val_main_v27_apply, e]

end reference

/-- The step is the reference's. -/
theorem arr4_ref : (dats m 0 c).arrAt 4 cfg0.N = Cert.Reference8Ideal.Read.val_main_v24 (F := Ideal) (m (c, Proc.tc.devRef main_arg0)) (m (c, Proc.tc.devRef main_arg1)) (m (c, Proc.tc.devRef main_arg2)) (m (c, Proc.tc.devRef main_arg3)) := by
  funext y
  obtain ⟨a, b, rfl⟩ : ∃ (a : Fin 2048) (b : Fin 1898), y = ix2 a b := ⟨y 0, y 1, by ext k; fin_cases k <;> rfl⟩
  refine (congrFun (arr4 m c) (ix2 a b)).trans ?_
  exact (v24_at (m (c, Proc.tc.devRef main_arg0)) (m (c, Proc.tc.devRef main_arg1)) (m (c, Proc.tc.devRef main_arg2)) (m (c, Proc.tc.devRef main_arg3)) a b).symm

/-- The first moment is the reference's. -/
theorem arr5_ref : (dats m 0 c).arrAt 5 cfg0.N = Cert.Reference8Ideal.Read.val_main_v25 (F := Ideal) (m (c, Proc.tc.devRef main_arg1)) (m (c, Proc.tc.devRef main_arg2)) := by
  funext y
  obtain ⟨a, b, rfl⟩ : ∃ (a : Fin 2048) (b : Fin 1898), y = ix2 a b := ⟨y 0, y 1, by ext k; fin_cases k <;> rfl⟩
  refine (congrFun (arr5 m c) (ix2 a b)).trans ?_
  exact (v25_at (m (c, Proc.tc.devRef main_arg1)) (m (c, Proc.tc.devRef main_arg2)) a b).symm

/-- The second moment is the reference's. -/
theorem arr6_ref : (dats m 0 c).arrAt 6 cfg0.N = Cert.Reference8Ideal.Read.val_main_v26 (F := Ideal) (m (c, Proc.tc.devRef main_arg1)) (m (c, Proc.tc.devRef main_arg3)) := by
  funext y
  obtain ⟨a, b, rfl⟩ : ∃ (a : Fin 2048) (b : Fin 1898), y = ix2 a b := ⟨y 0, y 1, by ext k; fin_cases k <;> rfl⟩
  refine (congrFun (arr6 m c) (ix2 a b)).trans ?_
  exact (v26_at (m (c, Proc.tc.devRef main_arg1)) (m (c, Proc.tc.devRef main_arg3)) a b).symm

/-- The gradient is the reference's. -/
theorem arr7_ref : (dats m 0 c).arrAt 7 cfg0.N = Cert.Reference8Ideal.Read.val_main_v27 (F := Ideal) (m (c, Proc.tc.devRef main_arg1)) := by
  funext y
  obtain ⟨a, b, rfl⟩ : ∃ (a : Fin 2048) (b : Fin 1898), y = ix2 a b := ⟨y 0, y 1, by ext k; fin_cases k <;> rfl⟩
  refine (congrFun (arr7 m c) (ix2 a b)).trans ?_
  exact (v27_at (m (c, Proc.tc.devRef main_arg1)) a b).symm

end Cert.Kernel8Ideal.Hand

end
-- ==== Proof.MfIdeal.lean ====
/- The gated merge of three branches: the array its kernel leaves. -/
module

public import proofs.«01_k».proof.Proof.Gen.Kernel6Ideal.Value
public import proofs.«01_k».proof.Proof.MergeBack
public import Idealize.ShloMosaic.Lib.Pipeline.ValueKit
public import Idealize.ShloMosaic.Lib.WritesUnit

@[expose] public section

set_option maxRecDepth 16384

noncomputable section

namespace Cert.Kernel6Ideal.Hand

open Cert.Kernel6Ideal Cert.Kernel6Ideal.Gen Cert.MergeBack
open Idealize.ShloMosaic Idealize.ShloMosaic.TcCoe Idealize.ShloMosaic.Tactic
open Idealize.ShloMosaic.Pipeline (Dat Cfg Window)

theorem pay3_at (z : FVec Ideal S384x512 .f32) (y : FVec Ideal S384x512 .f32) (a : Fin 384) (w : Fin 512) : (k0_pay3 (F := Ideal) z y (ix2 a w) : EReal) = y (ix2 a w) * (z (ix2 a w) * sg (z (ix2 a w))) := by
  pointwise [k0_pay3, sg, one]

theorem pay5_at (z : FVec Ideal S384x512 .f32) (y : FVec Ideal S384x512 .f32) (a : Fin 384) (w : Fin 512) : (k0_pay5 (F := Ideal) z y (ix2 a w) : EReal) = y (ix2 a w) * (z (ix2 a w) * sg (z (ix2 a w))) := by
  pointwise [k0_pay5, sg, one]

theorem pay2_at (z : FVec Ideal S384x512 .f32) (y : FVec Ideal S384x512 .f32) (g : FVec Ideal S384x1024 .f32) (v : FVec Ideal S1x512x1024 .bf16) (a : Fin 384) (d : Fin 1024) : (k0_pay2 (F := Ideal) z y g v (ix2 a d) : EReal) =
    sg (g (ix2 a d)) * ∑ w : Fin 512, y (ix2 a w) * (z (ix2 a w) * sg (z (ix2 a w))) * v (ix3 0 w d) := by
  pointwise [k0_pay2, sg, one]

theorem pay4_at (p : FVec Ideal S384x1024 .f32) (b : FVec Ideal S384x512 .bf16) (g : FVec Ideal S384x1024 .f32) (v : FVec Ideal S1x512x1024 .bf16) (a : Fin 384) (d : Fin 1024) : (k0_pay4 (F := Ideal) p b g v (ix2 a d) : EReal) =
    p (ix2 a d) + sg (g (ix2 a d)) * ∑ w : Fin 512, (b (ix2 a w) : EReal) * v (ix3 0 w d) := by
  pointwise [k0_pay4, sg, one]

theorem pay6_at (g : FVec Ideal S384x1024 .f32) (a : Fin 384) (d : Fin 1024) : (k0_pay6 (F := Ideal) g (ix2 a d) : EReal) = sg (g (ix2 a d)) := by
  pointwise [k0_pay6, sg, one]

theorem pay7_at (v : FVec Ideal S1x512x1024 .bf16) (w : Fin 512) (d : Fin 1024) : (k0_pay7 (F := Ideal) v (ix2 w d) : EReal) = v (ix3 0 w d) := by
  pointwise [k0_pay7]

theorem pay1_at (p : FVec Ideal S384x1024 .f32) (b : FVec Ideal S384x512 .bf16) (g : FVec Ideal S384x1024 .f32) (v : FVec Ideal S512x1024 .bf16) (h : FVec Ideal S384x1024 .f32) (o : FVec Ideal S1024x1024 .bf16) (a : Fin 384) (j : Fin 1024) :
    (k0_pay1 (F := Ideal) p b g v (constant S384x1024 .f32 0x00000000#32) h o (ix2 a j) : EReal) =
    h (ix2 a j) + ∑ k : Fin 1024, (p (ix2 a k) + g (ix2 a k) * ∑ w : Fin 512, (b (ix2 a w) : EReal) * v (ix2 w k)) * o (ix2 k j) := by
  pointwise [k0_pay1]

section body

variable (I : In) (r : Fin 384 → Fin 4224) (x0 : Vec Ideal S384x1024 .f32) (x1 x2 x3 x4 x5 x6 : Vec Ideal S384x512 .f32) (x7 x8 x9 : Vec Ideal S384x1024 .f32) (x10 : Vec Ideal S3x512x1024 .bf16) (x11 : Vec Ideal S1024x1024 .bf16)

/-- The twelve blocks of a point are rows `r` of the arrays in `I`. -/
structure Reads : Prop where
  h0 : ∀ a k, (x0 (ix2 a k) : EReal) = I.H (r a) k
  h1 : ∀ a w, (x1 (ix2 a w) : EReal) = I.Y 0 (r a) w
  h2 : ∀ a w, (x2 (ix2 a w) : EReal) = I.Y 1 (r a) w
  h3 : ∀ a w, (x3 (ix2 a w) : EReal) = I.Y 2 (r a) w
  h4 : ∀ a w, (x4 (ix2 a w) : EReal) = I.Z 0 (r a) w
  h5 : ∀ a w, (x5 (ix2 a w) : EReal) = I.Z 1 (r a) w
  h6 : ∀ a w, (x6 (ix2 a w) : EReal) = I.Z 2 (r a) w
  h7 : ∀ a d, (x7 (ix2 a d) : EReal) = I.G 0 (r a) d
  h8 : ∀ a d, (x8 (ix2 a d) : EReal) = I.G 1 (r a) d
  h9 : ∀ a d, (x9 (ix2 a d) : EReal) = I.G 2 (r a) d
  h10 : ∀ s w d, (x10 (ix3 s w d) : EReal) = I.B s w d
  h11 : ∀ k j, (x11 (ix2 k j) : EReal) = I.O k j

variable {I r x0 x1 x2 x3 x4 x5 x6 x7 x8 x9 x10 x11} (R : Reads I r x0 x1 x2 x3 x4 x5 x6 x7 x8 x9 x10 x11)
include R

theorem part0 (w : Fin 512) (d : Fin 1024) : (View.ld (Val := Elt Ideal) (e' := .bf16) x10 (Rect.unit (s := S3x512x1024) ![0, 0, 0] ![1, 512, 1024] inb_S3x512x1024_S1x512x1024_0_0_0) (ix3 0 w d) : EReal) = I.B 0 w d :=
  (View.ld_unit_apply_of (Val := Elt Ideal) (e := .bf16) (S := S3x512x1024) x10 ![0, 0, 0] ![1, 512, 1024] inb_S3x512x1024_S1x512x1024_0_0_0 (ix3 0 w d) (ix3 0 w d) (by
    intro a; fin_cases a <;> simp)).trans (R.h10 0 w d)

theorem part1 (w : Fin 512) (d : Fin 1024) : (View.ld (Val := Elt Ideal) (e' := .bf16) x10 (Rect.unit (s := S3x512x1024) ![1, 0, 0] ![1, 512, 1024] inb_S3x512x1024_S1x512x1024_1_0_0) (ix3 0 w d) : EReal) = I.B 1 w d :=
  (View.ld_unit_apply_of (Val := Elt Ideal) (e := .bf16) (S := S3x512x1024) x10 ![1, 0, 0] ![1, 512, 1024] inb_S3x512x1024_S1x512x1024_1_0_0 (ix3 0 w d) (ix3 1 w d) (by
    intro a; fin_cases a <;> simp)).trans (R.h10 1 w d)

theorem part2 (w : Fin 512) (d : Fin 1024) : (View.ld (Val := Elt Ideal) (e' := .bf16) x10 (Rect.unit (s := S3x512x1024) ![2, 0, 0] ![1, 512, 1024] inb_S3x512x1024_S1x512x1024_2_0_0) (ix3 0 w d) : EReal) = I.B 2 w d :=
  (View.ld_unit_apply_of (Val := Elt Ideal) (e := .bf16) (S := S3x512x1024) x10 ![2, 0, 0] ![1, 512, 1024] inb_S3x512x1024_S1x512x1024_2_0_0 (ix3 0 w d) (ix3 2 w d) (by
    intro a; fin_cases a <;> simp)).trans (R.h10 2 w d)

theorem m0 (a : Fin 384) (d : Fin 1024) : (k0_pay2 (F := Ideal) x4 x1 x7 (View.ld (Val := Elt Ideal) (e' := .bf16) x10 (Rect.unit (s := S3x512x1024) ![0, 0, 0] ![1, 512, 1024] inb_S3x512x1024_S1x512x1024_0_0_0)) (ix2 a d) : EReal) = gt I 0 (r a) d * pb I 0 (r a) d := by
  refine (pay2_at ..).trans ?_
  unfold gt pb br
  rw [R.h7]
  refine congrArg _ (Finset.sum_congr rfl fun w _ => ?_)
  rw [R.h4, R.h1]
  exact congrArg _ (part0 R w d)

theorem m1 (p : FVec Ideal S384x1024 .f32) (a : Fin 384) (d : Fin 1024) : (k0_pay4 (F := Ideal) p (k0_pay3 (F := Ideal) x5 x2) x8 (View.ld (Val := Elt Ideal) (e' := .bf16) x10 (Rect.unit (s := S3x512x1024) ![1, 0, 0] ![1, 512, 1024] inb_S3x512x1024_S1x512x1024_1_0_0)) (ix2 a d) : EReal) = p (ix2 a d) + gt I 1 (r a) d * pb I 1 (r a) d := by
  refine (pay4_at ..).trans ?_
  unfold gt pb br
  rw [R.h8]
  refine congrArg (fun u : EReal => p (ix2 a d) + sg (I.G 1 (r a) d) * u) (Finset.sum_congr rfl fun w _ => ?_)
  refine congrArg₂ (fun u v : EReal => u * v) ((pay3_at ..).trans ?_) (part1 R w d)
  rw [R.h5, R.h2]

theorem out (a : Fin 384) (j : Fin 1024) :
    (k0_pay1 (F := Ideal) (k0_pay4 (F := Ideal) (k0_pay2 (F := Ideal) x4 x1 x7 (View.ld (Val := Elt Ideal) (e' := .bf16) x10 (Rect.unit (s := S3x512x1024) ![0, 0, 0] ![1, 512, 1024] inb_S3x512x1024_S1x512x1024_0_0_0))) (k0_pay3 (F := Ideal) x5 x2) x8 (View.ld (Val := Elt Ideal) (e' := .bf16) x10 (Rect.unit (s := S3x512x1024) ![1, 0, 0] ![1, 512, 1024] inb_S3x512x1024_S1x512x1024_1_0_0))) (k0_pay5 (F := Ideal) x6 x3) (k0_pay6 (F := Ideal) x9) (k0_pay7 (F := Ideal) (View.ld (Val := Elt Ideal) (e' := .bf16) x10 (Rect.unit (s := S3x512x1024) ![2, 0, 0] ![1, 512, 1024] inb_S3x512x1024_S1x512x1024_2_0_0))) (constant S384x1024 .f32 0x00000000#32) x0 x11 (ix2 a j) : EReal) = mo I (r a) j := by
  refine (pay1_at ..).trans ?_
  unfold mo
  rw [R.h0]
  refine congrArg (fun u : EReal => I.H (r a) j + u) (Finset.sum_congr rfl fun k _ => ?_)
  rw [R.h11]
  refine congrArg (fun u : EReal => u * I.O k j) ?_
  unfold mg
  refine congrArg₂ (fun u v : EReal => u + v) ((m1 R _ a k).trans (congrArg (fun u : EReal => u + gt I 1 (r a) k * pb I 1 (r a) k) (m0 R a k))) ?_
  refine congrArg₂ (fun u v : EReal => u * v) ((pay6_at ..).trans ?_) (Finset.sum_congr rfl fun w _ => ?_)
  · unfold gt
    rw [R.h9]
  · refine congrArg₂ (fun u v : EReal => u * v) ((pay5_at ..).trans ?_) ((pay7_at ..).trans (part2 R w k))
    unfold br
    rw [R.h6, R.h3]

end body

variable (m : (ℓ : Loc nD τ sig) → Buf (Elt Ideal) ℓ) (c : Dev nD)

theorem idx0 : ∀ t : Fin cfg0.N, (win0_0.index t 0 : ℕ) = t.val ∧ (win0_0.index t 1 : ℕ) = 0 := by decide +kernel
theorem idx1 : ∀ t : Fin cfg0.N, (win0_1.index t 0 : ℕ) = t.val ∧ (win0_1.index t 1 : ℕ) = 0 := by decide +kernel
theorem idx2 : ∀ t : Fin cfg0.N, (win0_2.index t 0 : ℕ) = t.val ∧ (win0_2.index t 1 : ℕ) = 0 := by decide +kernel
theorem idx3 : ∀ t : Fin cfg0.N, (win0_3.index t 0 : ℕ) = t.val ∧ (win0_3.index t 1 : ℕ) = 0 := by decide +kernel
theorem idx4 : ∀ t : Fin cfg0.N, (win0_4.index t 0 : ℕ) = t.val ∧ (win0_4.index t 1 : ℕ) = 3 := by decide +kernel
theorem idx5 : ∀ t : Fin cfg0.N, (win0_5.index t 0 : ℕ) = t.val ∧ (win0_5.index t 1 : ℕ) = 4 := by decide +kernel
theorem idx6 : ∀ t : Fin cfg0.N, (win0_6.index t 0 : ℕ) = t.val ∧ (win0_6.index t 1 : ℕ) = 6 := by decide +kernel
theorem idx7 : ∀ t : Fin cfg0.N, (win0_7.index t 0 : ℕ) = t.val ∧ (win0_7.index t 1 : ℕ) = 4 := by decide +kernel
theorem idx8 : ∀ t : Fin cfg0.N, (win0_8.index t 0 : ℕ) = t.val ∧ (win0_8.index t 1 : ℕ) = 5 := by decide +kernel
theorem idx9 : ∀ t : Fin cfg0.N, (win0_9.index t 0 : ℕ) = t.val ∧ (win0_9.index t 1 : ℕ) = 6 := by decide +kernel
theorem idx11 : ∀ t : Fin cfg0.N, (win0_11.index t 0 : ℕ) = 0 ∧ (win0_11.index t 1 : ℕ) = 0 := by decide +kernel
theorem idx12 : ∀ t : Fin cfg0.N, (win0_12.index t 0 : ℕ) = t.val ∧ (win0_12.index t 1 : ℕ) = 0 := by decide +kernel
theorem idx10 : ∀ t : Fin cfg0.N, (win0_10.index t 0 : ℕ) = 0 ∧ (win0_10.index t 1 : ℕ) = 0 ∧ (win0_10.index t 2 : ℕ) = 0 := by decide +kernel

theorem lt11 (t : Fin cfg0.N) : t.val < 11 := t.isLt

/-- The row of the arrays that row `a` of point `t`'s blocks is. -/
def row (t : Fin cfg0.N) (a : Fin 384) : Fin 4224 := ⟨384 * t.val + a.val, by have := lt11 t; omega⟩

/-- What the kernel reads. -/
def kIn : In where
  H := fun n k => V m c main_arg0 (ix2 n k)
  Y := ![fun n w => V m c main_arg1 (ix2 n w), fun n w => V m c main_arg2 (ix2 n w), fun n w => V m c main_arg3 (ix2 n w)]
  Z := ![fun n w => V m c main_arg4 (ix2 n ⟨1536 + w.val, by omega⟩), fun n w => V m c main_arg4 (ix2 n ⟨2048 + w.val, by omega⟩),
    fun n w => V m c main_arg4 (ix2 n ⟨3072 + w.val, by omega⟩)]
  G := fun s n d => V m c main_arg4 (ix2 n ⟨4096 + (1024 * s.val + d.val), by omega⟩)
  B := fun s w d => V m c main_v0 (ix3 s w d)
  O := fun k j => V m c main_v1 (ix2 k j)

def blk0 (t : Fin cfg0.N) (a : Fin 384) (b : Fin 1024) : EReal := iblk m c 0 t (ix2 a b)

theorem blk0_eq (t : Fin cfg0.N) (a : Fin 384) (b : Fin 1024) : blk0 m c t a b = (kIn m c).H (row t a) b := by
  obtain ⟨h0, h1⟩ := idx0 t
  show _ = (V m c main_arg0 (ix2 _ _) : EReal)
  unfold blk0 row
  blk_ext [iblk, h0, h1]

def blk1 (t : Fin cfg0.N) (a : Fin 384) (b : Fin 512) : EReal := iblk m c 1 t (ix2 a b)

theorem blk1_eq (t : Fin cfg0.N) (a : Fin 384) (b : Fin 512) : blk1 m c t a b = (kIn m c).Y 0 (row t a) b := by
  obtain ⟨h0, h1⟩ := idx1 t
  show _ = (V m c main_arg1 (ix2 _ _) : EReal)
  unfold blk1 row
  blk_ext [iblk, h0, h1]

def blk2 (t : Fin cfg0.N) (a : Fin 384) (b : Fin 512) : EReal := iblk m c 2 t (ix2 a b)

theorem blk2_eq (t : Fin cfg0.N) (a : Fin 384) (b : Fin 512) : blk2 m c t a b = (kIn m c).Y 1 (row t a) b := by
  obtain ⟨h0, h1⟩ := idx2 t
  show _ = (V m c main_arg2 (ix2 _ _) : EReal)
  unfold blk2 row
  blk_ext [iblk, h0, h1]

def blk3 (t : Fin cfg0.N) (a : Fin 384) (b : Fin 512) : EReal := iblk m c 3 t (ix2 a b)

theorem blk3_eq (t : Fin cfg0.N) (a : Fin 384) (b : Fin 512) : blk3 m c t a b = (kIn m c).Y 2 (row t a) b := by
  obtain ⟨h0, h1⟩ := idx3 t
  show _ = (V m c main_arg3 (ix2 _ _) : EReal)
  unfold blk3 row
  blk_ext [iblk, h0, h1]

def blk4 (t : Fin cfg0.N) (a : Fin 384) (b : Fin 512) : EReal := iblk m c 4 t (ix2 a b)

theorem blk4_eq (t : Fin cfg0.N) (a : Fin 384) (b : Fin 512) : blk4 m c t a b = (kIn m c).Z 0 (row t a) b := by
  obtain ⟨h0, h1⟩ := idx4 t
  show _ = (V m c main_arg4 (ix2 _ _) : EReal)
  unfold blk4 row
  blk_ext [iblk, h0, h1]

def blk5 (t : Fin cfg0.N) (a : Fin 384) (b : Fin 512) : EReal := iblk m c 5 t (ix2 a b)

theorem blk5_eq (t : Fin cfg0.N) (a : Fin 384) (b : Fin 512) : blk5 m c t a b = (kIn m c).Z 1 (row t a) b := by
  obtain ⟨h0, h1⟩ := idx5 t
  show _ = (V m c main_arg4 (ix2 _ _) : EReal)
  unfold blk5 row
  blk_ext [iblk, h0, h1]

def blk6 (t : Fin cfg0.N) (a : Fin 384) (b : Fin 512) : EReal := iblk m c 6 t (ix2 a b)

theorem blk6_eq (t : Fin cfg0.N) (a : Fin 384) (b : Fin 512) : blk6 m c t a b = (kIn m c).Z 2 (row t a) b := by
  obtain ⟨h0, h1⟩ := idx6 t
  show _ = (V m c main_arg4 (ix2 _ _) : EReal)
  unfold blk6 row
  blk_ext [iblk, h0, h1]

def blk7 (t : Fin cfg0.N) (a : Fin 384) (b : Fin 1024) : EReal := X0_7 m c t (ix2 a b)

theorem blk7_eq (t : Fin cfg0.N) (a : Fin 384) (b : Fin 1024) : blk7 m c t a b = (kIn m c).G 0 (row t a) b := by
  obtain ⟨h0, h1⟩ := idx7 t
  show _ = (V m c main_arg4 (ix2 _ _) : EReal)
  unfold blk7 row X0_7 Pipeline.Window.fill
  rw [dif_pos (moved0_7 t _)]
  blk_ext [iblk, h0, h1]

def blk8 (t : Fin cfg0.N) (a : Fin 384) (b : Fin 1024) : EReal := X0_8 m c t (ix2 a b)

theorem blk8_eq (t : Fin cfg0.N) (a : Fin 384) (b : Fin 1024) : blk8 m c t a b = (kIn m c).G 1 (row t a) b := by
  obtain ⟨h0, h1⟩ := idx8 t
  show _ = (V m c main_arg4 (ix2 _ _) : EReal)
  unfold blk8 row X0_8 Pipeline.Window.fill
  rw [dif_pos (moved0_8 t _)]
  blk_ext [iblk, h0, h1]

def blk9 (t : Fin cfg0.N) (a : Fin 384) (b : Fin 1024) : EReal := X0_9 m c t (ix2 a b)

theorem blk9_eq (t : Fin cfg0.N) (a : Fin 384) (b : Fin 1024) : blk9 m c t a b = (kIn m c).G 2 (row t a) b := by
  obtain ⟨h0, h1⟩ := idx9 t
  show _ = (V m c main_arg4 (ix2 _ _) : EReal)
  unfold blk9 row X0_9 Pipeline.Window.fill
  rw [dif_pos (moved0_9 t _)]
  blk_ext [iblk, h0, h1]

def blk10 (t : Fin cfg0.N) (s : Fin 3) (w : Fin 512) (d : Fin 1024) : EReal := iblk m c 10 t (ix3 s w d)

theorem blk10_eq (t : Fin cfg0.N) (s : Fin 3) (w : Fin 512) (d : Fin 1024) : blk10 m c t s w d = (kIn m c).B s w d := by
  obtain ⟨h0, h1, h2⟩ := idx10 t
  show _ = (V m c main_v0 (ix3 _ _ _) : EReal)
  unfold blk10
  blk_ext [iblk, h0, h1, h2]

def blk11 (t : Fin cfg0.N) (a b : Fin 1024) : EReal := iblk m c 11 t (ix2 a b)

theorem blk11_eq (t : Fin cfg0.N) (a b : Fin 1024) : blk11 m c t a b = (kIn m c).O a b := by
  obtain ⟨h0, h1⟩ := idx11 t
  show _ = (V m c main_v1 (ix2 _ _) : EReal)
  unfold blk11
  blk_ext [iblk, h0, h1]

theorem reads (t : Fin cfg0.N) : Reads (kIn m c) (row t) (iblk m c 0 t) (iblk m c 1 t) (iblk m c 2 t) (iblk m c 3 t) (iblk m c 4 t) (iblk m c 5 t) (iblk m c 6 t)
    (X0_7 m c t) (X0_8 m c t) (X0_9 m c t) (iblk m c 10 t) (iblk m c 11 t) where
  h0 := blk0_eq m c t
  h1 := blk1_eq m c t
  h2 := blk2_eq m c t
  h3 := blk3_eq m c t
  h4 := blk4_eq m c t
  h5 := blk5_eq m c t
  h6 := blk6_eq m c t
  h7 := blk7_eq m c t
  h8 := blk8_eq m c t
  h9 := blk9_eq m c t
  h10 := blk10_eq m c t
  h11 := blk11_eq m c t

theorem outs12 (t : Fin cfg0.N) (a : Fin 384) (b : Fin 1024) : (outsAt0 m c t (ix2 a b) : EReal) = mo (kIn m c) (row t a) b := by
  unfold outsAt0
  frame_out
  exact out (reads m c t) a b

set_option maxHeartbeats 4000000 in
theorem arr12 : (dats m 0 c).arrAt 12 cfg0.N = fun y => mo (kIn m c) (y 0) (y 1) := by
  refine (dats m 0 c).arrAt_eq_of_covers 12 _ (by decide +kernel) fun t hf y => ?_
  obtain ⟨a, b, rfl⟩ : ∃ (a : Fin 384) (b : Fin 1024), y = ix2 a b := ⟨y 0, y 1, by ext k; fin_cases k <;> rfl⟩
  have hs := outs12 m c t a b
  obtain ⟨h0, h1⟩ := idx12 t
  rw [after0_12]
  refine Eq.trans hs ?_
  refine congrArg₂ (mo (kIn m c)) ?_ ?_
  · refine Fin.ext ?_
    show 384 * t.val + a.val = _
    blk_simp [h0, h1]
    ring
  · refine Fin.ext ?_
    blk_simp [h0, h1]

end Cert.Kernel6Ideal.Hand

end
-- ==== Proof.MfRef.lean ====
/- The gated merge of three branches: what the reference computes. -/
module

public import proofs.«01_k».proof.Proof.Gen.Reference6Ideal.Read
public import proofs.«01_k».proof.Proof.MergeBack

@[expose] public section

set_option maxRecDepth 16384

noncomputable section

namespace Cert.Reference6Ideal.Hand

open Cert.Reference6Ideal Cert.Reference6Ideal.Gen Cert.Reference6Ideal.Read Cert.MergeBack
open Idealize.ShloMosaic Idealize.ShloMosaic.TcCoe Idealize.ShloMosaic.Tactic

variable (x0 : FVec Ideal S4224x1024 .f32) (x1 x2 x3 : FVec Ideal S4224x512 .f32) (x4 : FVec Ideal S4224x7680 .f32) (x5 : FVec Ideal S3x512x1024 .f32) (x6 : FVec Ideal S1024x1024 .f32)

/-- The arguments' elements. -/
def rIn : In where
  H := fun n k => x0 (ix2 n k)
  Y := ![fun n w => x1 (ix2 n w), fun n w => x2 (ix2 n w), fun n w => x3 (ix2 n w)]
  Z := ![fun n w => x4 (ix2 n ⟨1536 + w.val, by omega⟩), fun n w => x4 (ix2 n ⟨2048 + w.val, by omega⟩), fun n w => x4 (ix2 n ⟨3072 + w.val, by omega⟩)]
  G := fun s n d => x4 (ix2 n ⟨4096 + (1024 * s.val + d.val), by omega⟩)
  B := fun s w d => x5 (ix3 s w d)
  O := fun k j => x6 (ix2 k j)

theorem zero32 : Ideal.ofBits .f32 0x00000000#32 = 0 := by simp [Ideal.ofBits, Ideal.ieee]

theorem v0_at (n : Fin 4224) (w : Fin 512) : (val_main_v0 (F := Ideal) x4 (ix2 n w) : EReal) = (rIn x0 x1 x2 x3 x4 x5 x6).Z 0 n w := by
  have e : idx_main_v0 (ix2 n w) = ix2 n ⟨1536 + w.val, by omega⟩ := by ext a; fin_cases a <;> rfl
  rw [val_main_v0_apply, e]
  rfl

theorem w4_at (n : Fin 4224) (w : Fin 512) : (val_main_call0_v5 (F := Ideal) x4 (ix2 n w) : EReal) = sg ((rIn x0 x1 x2 x3 x4 x5 x6).Z 0 n w) := by
  rw [← v0_at x0 x1 x2 x3 x4 x5 x6]
  unfold sg one
  rw [zero_sub, val_main_call0_v5_apply, val_main_call0_v4_apply, val_main_call0_v3_apply, val_main_call0_v2_apply, val_main_call0_v1_apply, val_main_call0_v0_apply]
  rfl

theorem v4_at (n : Fin 4224) (w : Fin 512) : (val_main_v4 (F := Ideal) x4 (ix2 n w) : EReal) = (rIn x0 x1 x2 x3 x4 x5 x6).Z 0 n w * sg ((rIn x0 x1 x2 x3 x4 x5 x6).Z 0 n w) := by
  rw [← w4_at x0 x1 x2 x3 x4 x5 x6, ← v0_at x0 x1 x2 x3 x4 x5 x6, val_main_v4_apply]
  rfl

theorem v5_at (n : Fin 4224) (w : Fin 512) : (val_main_v5 (F := Ideal) x1 x4 (ix2 n w) : EReal) = br (rIn x0 x1 x2 x3 x4 x5 x6) 0 n w := by
  unfold br
  rw [← v4_at x0 x1 x2 x3 x4 x5 x6, val_main_v5_apply]
  rfl

theorem v10_at (n : Fin 4224) (z : Fin 1) (w : Fin 512) : (val_main_v10 (F := Ideal) x1 x4 (ix3 n z w) : EReal) = br (rIn x0 x1 x2 x3 x4 x5 x6) 0 n w := by
  have e : idx_main_v10 (ix3 n z w) = ix2 n w := by ext a; fin_cases a <;> rfl
  rw [← v5_at x0 x1 x2 x3 x4 x5 x6, val_main_v10_apply, e]

theorem v13_0 (n : Fin 4224) (w : Fin 512) : (val_main_v13 (F := Ideal) x1 x2 x3 x4 (ix3 n 0 w) : EReal) = br (rIn x0 x1 x2 x3 x4 x5 x6) 0 n w := by
  rw [← v10_at x0 x1 x2 x3 x4 x5 x6 n 0]
  unfold val_main_v13
  refine concatenate_apply_piece (t := S4224x3x512) 1 _ _ (ix3 n 0 w) 0 (by simp) S4224x1x512 (val_main_v10 (F := Ideal) x1 x4) rfl rfl 0 rfl (ix3 n 0 w) ?_ ?_
  · intro b hb
    fin_cases b
    · rfl
    · exact absurd rfl hb
    · rfl
  · rfl

theorem v1_at (n : Fin 4224) (w : Fin 512) : (val_main_v1 (F := Ideal) x4 (ix2 n w) : EReal) = (rIn x0 x1 x2 x3 x4 x5 x6).Z 1 n w := by
  have e : idx_main_v1 (ix2 n w) = ix2 n ⟨2048 + w.val, by omega⟩ := by ext a; fin_cases a <;> rfl
  rw [val_main_v1_apply, e]
  rfl

theorem w6_at (n : Fin 4224) (w : Fin 512) : (val_main_call1_v5 (F := Ideal) x4 (ix2 n w) : EReal) = sg ((rIn x0 x1 x2 x3 x4 x5 x6).Z 1 n w) := by
  rw [← v1_at x0 x1 x2 x3 x4 x5 x6]
  unfold sg one
  rw [zero_sub, val_main_call1_v5_apply, val_main_call1_v4_apply, val_main_call1_v3_apply, val_main_call1_v2_apply, val_main_call1_v1_apply, val_main_call1_v0_apply]
  rfl

theorem v6_at (n : Fin 4224) (w : Fin 512) : (val_main_v6 (F := Ideal) x4 (ix2 n w) : EReal) = (rIn x0 x1 x2 x3 x4 x5 x6).Z 1 n w * sg ((rIn x0 x1 x2 x3 x4 x5 x6).Z 1 n w) := by
  rw [← w6_at x0 x1 x2 x3 x4 x5 x6, ← v1_at x0 x1 x2 x3 x4 x5 x6, val_main_v6_apply]
  rfl

theorem v7_at (n : Fin 4224) (w : Fin 512) : (val_main_v7 (F := Ideal) x2 x4 (ix2 n w) : EReal) = br (rIn x0 x1 x2 x3 x4 x5 x6) 1 n w := by
  unfold br
  rw [← v6_at x0 x1 x2 x3 x4 x5 x6, val_main_v7_apply]
  rfl

theorem v11_at (n : Fin 4224) (z : Fin 1) (w : Fin 512) : (val_main_v11 (F := Ideal) x2 x4 (ix3 n z w) : EReal) = br (rIn x0 x1 x2 x3 x4 x5 x6) 1 n w := by
  have e : idx_main_v11 (ix3 n z w) = ix2 n w := by ext a; fin_cases a <;> rfl
  rw [← v7_at x0 x1 x2 x3 x4 x5 x6, val_main_v11_apply, e]

theorem v13_1 (n : Fin 4224) (w : Fin 512) : (val_main_v13 (F := Ideal) x1 x2 x3 x4 (ix3 n 1 w) : EReal) = br (rIn x0 x1 x2 x3 x4 x5 x6) 1 n w := by
  rw [← v11_at x0 x1 x2 x3 x4 x5 x6 n 0]
  unfold val_main_v13
  refine concatenate_apply_piece (t := S4224x3x512) 1 _ _ (ix3 n 1 w) 1 (by simp) S4224x1x512 (val_main_v11 (F := Ideal) x2 x4) rfl rfl 1 rfl (ix3 n 0 w) ?_ ?_
  · intro b hb
    fin_cases b
    · rfl
    · exact absurd rfl hb
    · rfl
  · rfl

theorem v2_at (n : Fin 4224) (w : Fin 512) : (val_main_v2 (F := Ideal) x4 (ix2 n w) : EReal) = (rIn x0 x1 x2 x3 x4 x5 x6).Z 2 n w := by
  have e : idx_main_v2 (ix2 n w) = ix2 n ⟨3072 + w.val, by omega⟩ := by ext a; fin_cases a <;> rfl
  rw [val_main_v2_apply, e]
  rfl

theorem w8_at (n : Fin 4224) (w : Fin 512) : (val_main_call2_v5 (F := Ideal) x4 (ix2 n w) : EReal) = sg ((rIn x0 x1 x2 x3 x4 x5 x6).Z 2 n w) := by
  rw [← v2_at x0 x1 x2 x3 x4 x5 x6]
  unfold sg one
  rw [zero_sub, val_main_call2_v5_apply, val_main_call2_v4_apply, val_main_call2_v3_apply, val_main_call2_v2_apply, val_main_call2_v1_apply, val_main_call2_v0_apply]
  rfl

theorem v8_at (n : Fin 4224) (w : Fin 512) : (val_main_v8 (F := Ideal) x4 (ix2 n w) : EReal) = (rIn x0 x1 x2 x3 x4 x5 x6).Z 2 n w * sg ((rIn x0 x1 x2 x3 x4 x5 x6).Z 2 n w) := by
  rw [← w8_at x0 x1 x2 x3 x4 x5 x6, ← v2_at x0 x1 x2 x3 x4 x5 x6, val_main_v8_apply]
  rfl

theorem v9_at (n : Fin 4224) (w : Fin 512) : (val_main_v9 (F := Ideal) x3 x4 (ix2 n w) : EReal) = br (rIn x0 x1 x2 x3 x4 x5 x6) 2 n w := by
  unfold br
  rw [← v8_at x0 x1 x2 x3 x4 x5 x6, val_main_v9_apply]
  rfl

theorem v12_at (n : Fin 4224) (z : Fin 1) (w : Fin 512) : (val_main_v12 (F := Ideal) x3 x4 (ix3 n z w) : EReal) = br (rIn x0 x1 x2 x3 x4 x5 x6) 2 n w := by
  have e : idx_main_v12 (ix3 n z w) = ix2 n w := by ext a; fin_cases a <;> rfl
  rw [← v9_at x0 x1 x2 x3 x4 x5 x6, val_main_v12_apply, e]

theorem v13_2 (n : Fin 4224) (w : Fin 512) : (val_main_v13 (F := Ideal) x1 x2 x3 x4 (ix3 n 2 w) : EReal) = br (rIn x0 x1 x2 x3 x4 x5 x6) 2 n w := by
  rw [← v12_at x0 x1 x2 x3 x4 x5 x6 n 0]
  unfold val_main_v13
  refine concatenate_apply_piece (t := S4224x3x512) 1 _ _ (ix3 n 2 w) 2 (by simp) S4224x1x512 (val_main_v12 (F := Ideal) x3 x4) rfl rfl 2 rfl (ix3 n 0 w) ?_ ?_
  · intro b hb
    fin_cases b
    · rfl
    · exact absurd rfl hb
    · rfl
  · rfl

theorem v13_at (n : Fin 4224) (s : Fin 3) (w : Fin 512) : (val_main_v13 (F := Ideal) x1 x2 x3 x4 (ix3 n s w) : EReal) = br (rIn x0 x1 x2 x3 x4 x5 x6) s n w :=
  match s with
  | 0 => v13_0 x0 x1 x2 x3 x4 x5 x6 n w
  | 1 => v13_1 x0 x1 x2 x3 x4 x5 x6 n w
  | 2 => v13_2 x0 x1 x2 x3 x4 x5 x6 n w

theorem v15_at (n : Fin 4224) (s : Fin 3) (d : Fin 1024) : (val_main_v15 (F := Ideal) x1 x2 x3 x4 x5 (ix3 n s d) : EReal) = pb (rIn x0 x1 x2 x3 x4 x5 x6) s n d := by
  have e : idx_main_v15 (ix3 n s d) = ix3 s d n := by ext a; fin_cases a <;> rfl
  rw [val_main_v15_apply, e]
  unfold pb
  refine (val_main_v14_apply x1 x2 x3 x4 x5 _).trans (Finset.sum_congr rfl fun k _ => ?_)
  have e1 : lidx_main_v14 (ix3 s d n) k = ix3 s k d := by ext a; fin_cases a <;> rfl
  have e2 : ridx_main_v14 (ix3 s d n) k = ix3 n s k := by ext a; fin_cases a <;> rfl
  rw [e1, e2]
  exact (mul_comm (x5 (ix3 s k d) : EReal) _).trans (congrArg (fun u : EReal => u * x5 (ix3 s k d)) (v13_at x0 x1 x2 x3 x4 x5 x6 n s k))

theorem v16_at (n : Fin 4224) (s : Fin 3) (d : Fin 1024) : (val_main_v16 (F := Ideal) x4 (ix3 n s d) : EReal) = (rIn x0 x1 x2 x3 x4 x5 x6).G s n d := by
  have e : idx_main_v16 (ix3 n s d) = ix2 n ⟨1024 * s.val + d.val, by omega⟩ := by
    ext a
    fin_cases a
    · show ((n.val * 3 + s.val) * 1024 + d.val) / 3072 = n.val
      omega
    · show ((n.val * 3 + s.val) * 1024 + d.val) % 3072 = 1024 * s.val + d.val
      omega
  have e' : idx_main_v3 (ix2 n ⟨1024 * s.val + d.val, by omega⟩) = ix2 n ⟨4096 + (1024 * s.val + d.val), by omega⟩ := by ext a; fin_cases a <;> rfl
  rw [val_main_v16_apply, e, val_main_v3_apply, e']
  rfl

theorem v22_at (n : Fin 4224) (s : Fin 3) (d : Fin 1024) : (val_main_v22 (F := Ideal) x4 (ix3 n s d) : EReal) = gt (rIn x0 x1 x2 x3 x4 x5 x6) s n d := by
  unfold gt sg one
  rw [← v16_at x0 x1 x2 x3 x4 x5 x6, zero_sub, val_main_v22_apply, val_main_v21_apply, val_main_v20_apply, val_main_v19_apply, val_main_v18_apply, val_main_v17_apply]
  rfl

theorem v23_at (n : Fin 4224) (s : Fin 3) (d : Fin 1024) : (val_main_v23 (F := Ideal) x1 x2 x3 x4 x5 (ix3 n s d) : EReal) = gt (rIn x0 x1 x2 x3 x4 x5 x6) s n d * pb (rIn x0 x1 x2 x3 x4 x5 x6) s n d := by
  rw [← v22_at x0 x1 x2 x3 x4 x5 x6, ← v15_at x0 x1 x2 x3 x4 x5 x6, val_main_v23_apply]
  rfl

/-- A sum of three from the printed zero. -/
theorem from0 (z : EReal) (f g : Fin 3 → EReal) (hz : z = 0) (hf : ∀ k, f k = g k) : z + ∑ k, f k = g 0 + g 1 + g 2 := by
  rw [hz, zero_add, Fin.sum_univ_three, hf, hf, hf]

theorem v24_at (n : Fin 4224) (d : Fin 1024) : (val_main_v24 (F := Ideal) x1 x2 x3 x4 x5 (ix2 n d) : EReal) = mg (rIn x0 x1 x2 x3 x4 x5 x6) n d := by
  unfold mg
  refine (val_main_v24_apply x1 x2 x3 x4 x5 _).trans (from0 _ _ (fun s => gt (rIn x0 x1 x2 x3 x4 x5 x6) s n d * pb (rIn x0 x1 x2 x3 x4 x5 x6) s n d) zero32 fun s => ?_)
  have e : idx_main_v24 (ix2 n d) s = ix3 n s d := by ext a; fin_cases a <;> rfl
  rw [e]
  exact v23_at x0 x1 x2 x3 x4 x5 x6 n s d

/-- The merged branches through the output's weights, added to the layer's rows. -/
theorem v26_at (n : Fin 4224) (j : Fin 1024) : (val_main_v26 (F := Ideal) x0 x1 x2 x3 x4 x5 x6 (ix2 n j) : EReal) = mo (rIn x0 x1 x2 x3 x4 x5 x6) n j := by
  have h : (val_main_v25 (F := Ideal) x1 x2 x3 x4 x5 x6 (ix2 n j) : EReal) = ∑ k : Fin 1024, mg (rIn x0 x1 x2 x3 x4 x5 x6) n k * x6 (ix2 k j) := by
    refine (val_main_v25_apply x1 x2 x3 x4 x5 x6 _).trans (Finset.sum_congr rfl fun k _ => ?_)
    have e1 : lidx_main_v25 (ix2 n j) k = ix2 n k := by ext a; fin_cases a <;> rfl
    have e2 : ridx_main_v25 (ix2 n j) k = ix2 k j := by ext a; fin_cases a <;> rfl
    rw [e1, e2]
    exact congrArg (fun u : EReal => u * x6 (ix2 k j)) (v24_at x0 x1 x2 x3 x4 x5 x6 n k)
  rw [val_main_v26_apply]
  unfold mo
  exact congrArg (fun u : EReal => x0 (ix2 n j) + u) h

end Cert.Reference6Ideal.Hand

end
-- ==== Proof.MfTie.lean ====
/- The gated merge of three branches: the kernel's array is the reference's. -/
module

public import proofs.«01_k».proof.Proof.MfIdeal
public import proofs.«01_k».proof.Proof.MfRef

@[expose] public section

set_option maxRecDepth 16384

noncomputable section

namespace Cert.Kernel6Ideal.Hand

open Cert.Kernel6Ideal Cert.Kernel6Ideal.Gen Cert.MergeBack
open Idealize.ShloMosaic Idealize.ShloMosaic.TcCoe Idealize.ShloMosaic.Tactic

variable (m : (ℓ : Loc nD τ sig) → Buf (Elt Ideal) ℓ) (c : Dev nD)

/-- The reference's arguments in the kernel's memory. -/
def rArgs : In :=
  Cert.Reference6Ideal.Hand.rIn (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6))

def vH (n : Fin 4224) (k : Fin 1024) : EReal := V m c main_arg0 (ix2 n k)
def vY0 (n : Fin 4224) (w : Fin 512) : EReal := V m c main_arg1 (ix2 n w)
def vY1 (n : Fin 4224) (w : Fin 512) : EReal := V m c main_arg2 (ix2 n w)
def vY2 (n : Fin 4224) (w : Fin 512) : EReal := V m c main_arg3 (ix2 n w)
def vP (n : Fin 4224) (w : Fin 7680) : EReal := V m c main_arg4 (ix2 n w)
def vB (s : Fin 3) (w : Fin 512) (d : Fin 1024) : EReal := V m c main_v0 (ix3 s w d)
def vO (k j : Fin 1024) : EReal := V m c main_v1 (ix2 k j)

theorem vH_eq : vH m c = (rArgs m c).H := by
  funext n k
  show _ = m (c, Proc.tc.devRef main_arg0) (ix2 n k)
  unfold vH
  simp only [V, hostOps0, List.flatten_cons, List.flatten_nil, List.append_nil, List.cons_append, List.nil_append]
  entry_read
  try rfl

theorem vY0_eq : vY0 m c = (rArgs m c).Y 0 := by
  funext n k
  show _ = m (c, Proc.tc.devRef main_arg1) (ix2 n k)
  unfold vY0
  simp only [V, hostOps0, List.flatten_cons, List.flatten_nil, List.append_nil, List.cons_append, List.nil_append]
  entry_read
  try rfl

theorem vY1_eq : vY1 m c = (rArgs m c).Y 1 := by
  funext n k
  show _ = m (c, Proc.tc.devRef main_arg2) (ix2 n k)
  unfold vY1
  simp only [V, hostOps0, List.flatten_cons, List.flatten_nil, List.append_nil, List.cons_append, List.nil_append]
  entry_read
  try rfl

theorem vY2_eq : vY2 m c = (rArgs m c).Y 2 := by
  funext n k
  show _ = m (c, Proc.tc.devRef main_arg3) (ix2 n k)
  unfold vY2
  simp only [V, hostOps0, List.flatten_cons, List.flatten_nil, List.append_nil, List.cons_append, List.nil_append]
  entry_read
  try rfl

theorem vP_eq (n : Fin 4224) (k : Fin 7680) : vP m c n k = m (c, Proc.tc.devRef main_arg4) (ix2 n k) := by
  unfold vP
  simp only [V, hostOps0, List.flatten_cons, List.flatten_nil, List.append_nil, List.cons_append, List.nil_append]
  entry_read
  try rfl

theorem vB_eq : vB m c = (rArgs m c).B := by
  funext s w d
  show _ = m (c, Proc.tc.devRef main_arg5) (ix3 s w d)
  unfold vB
  simp only [V, hostOps0, List.flatten_cons, List.flatten_nil, List.append_nil, List.cons_append, List.nil_append]
  entry_read
  try pointwise

theorem vO_eq : vO m c = (rArgs m c).O := by
  funext k j
  show _ = m (c, Proc.tc.devRef main_arg6) (ix2 k j)
  unfold vO
  simp only [V, hostOps0, List.flatten_cons, List.flatten_nil, List.append_nil, List.cons_append, List.nil_append]
  entry_read
  try pointwise

/-- What the kernel reads is the reference's arguments. -/
theorem kIn_eq : kIn m c = rArgs m c := by
  have hY : (kIn m c).Y = (rArgs m c).Y := by
    funext s
    match s with
    | 0 => exact vY0_eq m c
    | 1 => exact vY1_eq m c
    | 2 => exact vY2_eq m c
  have hZ : (kIn m c).Z = (rArgs m c).Z := by
    funext s n w
    match s with
    | 0 => exact vP_eq m c n _
    | 1 => exact vP_eq m c n _
    | 2 => exact vP_eq m c n _
  have hG : (kIn m c).G = (rArgs m c).G := by
    funext s n d
    exact vP_eq m c n _
  have hH : (kIn m c).H = (rArgs m c).H := vH_eq m c
  have hB : (kIn m c).B = (rArgs m c).B := vB_eq m c
  have hO : (kIn m c).O = (rArgs m c).O := vO_eq m c
  revert hH hY hZ hG hB hO
  generalize kIn m c = A
  generalize rArgs m c = A'
  intro hH hY hZ hG hB hO
  cases A
  cases A'
  dsimp only at hH hY hZ hG hB hO
  subst hH hY hZ hG hB hO
  rfl

/-- The array that the kernel leaves is the reference's. -/
theorem arr12_ref : (dats m 0 c).arrAt 12 cfg0.N = Cert.Reference6Ideal.Read.val_main_v26 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) := by
  funext y
  obtain ⟨a, b, rfl⟩ : ∃ (a : Fin 4224) (b : Fin 1024), y = ix2 a b := ⟨y 0, y 1, by ext k; fin_cases k <;> rfl⟩
  refine (congrFun (arr12 m c) (ix2 a b)).trans ?_
  rw [kIn_eq]
  exact (Cert.Reference6Ideal.Hand.v26_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) a b).symm

end Cert.Kernel6Ideal.Hand

end
-- ==== Proof.InIdealRun.lean ====
/- The input projection's kernel: what each point leaves, and the run. -/
module

public import proofs.«01_k».proof.Proof.Gen.Kernel4Ideal.Frame
public import proofs.«01_k».proof.Proof.Gen.Kernel4Ideal.Points
public import proofs.«01_k».proof.Proof.Gen.Kernel4Ideal.Skeleton
public import Idealize.ShloMosaic.Lib.VecWindow
public import Idealize.ShloMosaic.Lib.Pipeline.TableIdle
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs below. -/
local notation "𝕄" => MT nD τ sig Unit (Elt F) ℕ (UR sig nD τ) ℕ

section run
variable (c : Dev nD) (i : grid0.Coords)
  (arg2 : Memref sig .tc .vmem S1408x1024 .f32) (harg2 : arg2.IsWhole)
  (arg3 : Memref sig .tc .vmem S1x1024 .f32) (harg3 : arg3.IsWhole)
  (arg4 : Memref sig .tc .vmem S1024x1280 .bf16) (harg4 : arg4.IsWhole)
  (arg5 : Memref sig .tc .vmem S1408x1280 .f32) (harg5 : arg5.IsWhole)
  (arg6 : Memref sig .tc .vmem S1408x1024 .bf16) (harg6 : arg6.IsWhole)
  (x0 : Vec F S1408x1024 .f32) (x1 : Vec F S1x1024 .f32) (x2 : Vec F S1024x1280 .bf16)

/-- A point that begins a block of rows normalises it and multiplies it by its block of the weights. -/
theorem body_first (hg : k0_cond1 i = 1#1) (d5 : Vec F S1408x1280 .f32) (d6 : Vec F S1408x1024 .bf16) :
    (iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare d6) : sProp 𝕄)
      ⊢ wp frame (wpE (defs₀ (F := F)) Variants.none (c : Thread nD τ) none) Set.univ
          (cc0_inproj_fwd (F := F) i arg2 harg2 arg3 harg3 arg4 harg4 arg5 harg5 arg6 harg6)
          (fun _ => iprop(owns (c : Thread nD τ) arg2 fullShare x0 ∗ owns (c : Thread nD τ) arg3 fullShare x1 ∗ owns (c : Thread nD τ) arg4 fullShare x2
            ∗ owns (c : Thread nD τ) arg5 fullShare (k0_pay2 (k0_pay1 x0 x1) x2) ∗ owns (c : Thread nD τ) arg6 fullShare (k0_pay1 x0 x1))) := by
  simp only [cc0_inproj_fwd_eq_skeleton]; unfold cc0_inproj_fwd_skel
  unfold owns
  iintro ⟨⟨%f2, %h2, H2⟩, ⟨%f3, %h3, H3⟩, ⟨%f4, %h4, H4⟩, ⟨%f5, %h5, H5⟩, ⟨%f6, %h6, H6⟩⟩
  sl_exec (disch := sl_exact hg)
  sl_step
  subst h2 h3 h4 h5 h6
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]
  · iexists _; isplitr; rotate_left; · iexact H5
    ipureintro
    refine (View.read_writes_full _ _ _ _ _).trans ?_
    refine congrArg₂ k0_pay2 ((View.readCov_full _ _ _ _ _).trans ?_) (View.readAt_full _ _ _)
    exact congrArg₂ k0_pay1 (View.readAt_full _ _ _) (View.readAt_full _ _ _)
  iexists _; isplitr; rotate_left; · iexact H6
  ipureintro
  refine (View.read_writes_full _ _ _ _ _).trans ?_
  exact congrArg₂ k0_pay1 (View.readAt_full _ _ _) (View.readAt_full _ _ _)

/-- Every other point multiplies the rows it finds normalised. -/
theorem body_next (hg : ¬k0_cond1 i = 1#1) (d5 : Vec F S1408x1280 .f32) (x6 : Vec F S1408x1024 .bf16) :
    (iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare x6) : sProp 𝕄)
      ⊢ wp frame (wpE (defs₀ (F := F)) Variants.none (c : Thread nD τ) none) Set.univ
          (cc0_inproj_fwd (F := F) i arg2 harg2 arg3 harg3 arg4 harg4 arg5 harg5 arg6 harg6)
          (fun _ => iprop(owns (c : Thread nD τ) arg2 fullShare x0 ∗ owns (c : Thread nD τ) arg3 fullShare x1 ∗ owns (c : Thread nD τ) arg4 fullShare x2
            ∗ owns (c : Thread nD τ) arg5 fullShare (k0_pay2 x6 x2) ∗ owns (c : Thread nD τ) arg6 fullShare x6)) := by
  simp only [cc0_inproj_fwd_eq_skeleton]; unfold cc0_inproj_fwd_skel
  unfold owns
  iintro ⟨⟨%f2, %h2, H2⟩, ⟨%f3, %h3, H3⟩, ⟨%f4, %h4, H4⟩, ⟨%f5, %h5, H5⟩, ⟨%f6, %h6, H6⟩⟩
  sl_exec (disch := sl_exact hg)
  sl_step
  subst h2 h3 h4 h5 h6
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]
  · iexists _; isplitr; rotate_left; · iexact H5
    ipureintro
    refine (View.read_writes_full _ _ _ _ _).trans ?_
    exact congrArg₂ k0_pay2 (View.readAt_full _ _ _) (View.readAt_full _ _ _)
  iexists _; isplitr; · ipureintro; rfl
  iexact H6

end run

variable (m : (ℓ : Loc nD τ sig) → Buf (Elt F) ℓ) (ρ : Dev nD → PrngReg)

/-! ## What the points leave -/

/-- The normalised rows after point `n`: a first point of a block makes them, every other one keeps them. -/
def rowsN (c : Dev nD) : (n : ℕ) → n < cfg0.N → Vec F S1408x1024 .bf16
  | 0, h => k0_pay1 (iblk m c 0 ⟨0, h⟩) (iblk m c 1 ⟨0, h⟩)
  | n + 1, h =>
    if (n + 1) % 6 = 0 then k0_pay1 (iblk m c 0 ⟨n + 1, h⟩) (iblk m c 1 ⟨n + 1, h⟩)
    else rowsN c n (Nat.lt_of_succ_lt h)

/-- The normalised rows after point `t`. -/
def rowsAt (c : Dev nD) (t : Fin cfg0.N) : Vec F S1408x1024 .bf16 := rowsN m c t.val t.isLt

theorem rowsAt_first (c : Dev nD) (t : Fin cfg0.N) (h : t.val % 6 = 0) :
    rowsAt m c t = k0_pay1 (iblk m c 0 t) (iblk m c 1 t) := by
  obtain ⟨n, hn⟩ := t
  unfold rowsAt
  cases n with
  | zero => rw [rowsN]
  | succ n => rw [rowsN]; exact if_pos h

theorem rowsAt_next (c : Dev nD) (t : Fin cfg0.N) (h : ¬ t.val % 6 = 0) :
    rowsAt m c t = rowsAt m c ⟨t.val - 1, Nat.lt_of_le_of_lt (Nat.sub_le _ _) t.isLt⟩ := by
  obtain ⟨n, hn⟩ := t
  unfold rowsAt
  cases n with
  | zero => exact absurd rfl h
  | succ n => rw [rowsN]; exact if_neg h

attribute [irreducible] rowsAt

/-- The points that begin a block of rows are those ≡ 0 (mod 6). -/
theorem guard_iff : ∀ t : Fin cfg0.N, k0_cond1 (grid0.coords t) = 1#1 ↔ t.val % 6 = 0 := by
  unfold k0_cond1; decide +kernel

/-! ## The pipeline's proof data -/

/-- The arrays as the region finds them; after each point the inputs' buffers at their blocks and the results' at what the
    point makes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (rowsAt m c t) (iblk m c 2 t)
    | ⟨4, _⟩ => rowsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (rowsAt m c t) (iblk m c 2 t) := by dsimp only [dats]
theorem after0_4 (c : Dev nD) (t : Fin cfg0.N) : (dats m 0 c).after 4 t = rowsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem idle_true (t : Fin cfg0.N) (h : ¬ t.val % 6 = 0) : cfg0.idle 4 (cfg0.grid.coords t) = true := by
  show (!(k0_cond1 (grid0.coords t) == 1#1)) = true
  rw [beq_eq_false_iff_ne.mpr fun e => h ((guard_iff t).mp e)]
  rfl

theorem idle_false (t : Fin cfg0.N) (h : t.val % 6 = 0) : cfg0.idle 4 (cfg0.grid.coords t) = false := by
  show (!(k0_cond1 (grid0.coords t) == 1#1)) = false
  rw [(guard_iff t).mpr h]
  rfl

theorem flush_false (t : Fin cfg0.N) (h : ¬ t.val % 6 = 5) : (cfg0.win 4).flush t = false := by
  rw [Bool.eq_false_iff]
  exact fun e => h ((flush0_4 t).mp e)

/-- The rows' buffer is nobody's at the points that begin a block of rows, and at no other. -/
theorem fresh_at (n : ℕ) (hn : n ≤ cfg0.N) : cfg0.fresh 4 n = decide (n % 6 = 0) := by
  refine cfg0.fresh_tab 4 (fun n => decide (n % 6 = 0)) rfl (fun t => ?_) n hn
  dsimp only
  by_cases h5 : t.val % 6 = 5
  · rw [(flush0_4 t).mpr h5, Bool.true_or, decide_eq_true (by omega)]
  · rw [flush_false t h5, Bool.false_or]
    by_cases h0 : t.val % 6 = 0
    · rw [show idle0 4 (grid0.coords t) = false from idle_false t h0, Bool.false_and, decide_eq_false (by omega)]
    · rw [decide_eq_false (p := t.val % 6 = 0) h0, Bool.and_false, decide_eq_false (by omega)]

/-- Within a block of rows the rows' buffer holds what the point before left. -/
theorem before0_4 (c : Dev nD) (t : Fin cfg0.N) (h : ¬ t.val % 6 = 0) (d) :
    (dats m 0 c).before 4 t d = rowsAt m c t := by
  rw [Dat.before_out_traj (dats m 0 c) 4 rfl (fun _ _ => rfl) (fun s hs _ hf => by
    rw [fresh_at s.val (Nat.le_of_lt s.isLt)] at hf
    rw [after0_4, after0_4]
    exact rowsAt_next m c s (of_decide_eq_false hf)) t.val t rfl d]
  rw [fresh_at t.val (Nat.le_of_lt t.isLt), decide_eq_false h, if_neg Bool.false_ne_true, after0_4]
  exact (rowsAt_next m c t h).symm

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h : t.val % 6 = 0
  · rw [rowsAt_first m c t h]
    iintro ⟨HΦ, Ho, ⟨%d0, H0⟩, ⟨%d1, H1⟩, ⟨%d2, H2⟩, ⟨%d3, H3⟩, ⟨%d4, H4⟩⟩
    iapply (wp_wand_r Idealize.ShloMosaic.frame (wpE (defs₀ (F := F)) Variants.none (c : Thread nD τ) none) Set.univ)
    isplitl [H0 H1 H2 H3 H4]
    · iapply (body_first (F := F) c (grid0.coords t) _ _ _ _ _ _ _ _ _ _ (iblk m c 0 t) (iblk m c 1 t) (iblk m c 2 t) ((guard_iff t).mpr h) _ _)
      isplitl [H0]; · iexact H0
      isplitl [H1]; · iexact H1
      isplitl [H2]; · iexact H2
      isplitl [H3]; · iexact H3
      iexact H4
    iintro %_ H
    isplitl [HΦ]; · iexact HΦ
    isplitl [Ho]; · iexact Ho
    iexact H
  · simp only [before0_4 m c t h]
    iintro ⟨HΦ, Ho, ⟨%d0, H0⟩, ⟨%d1, H1⟩, ⟨%d2, H2⟩, ⟨%d3, H3⟩, ⟨%d4, H4⟩⟩
    iapply (wp_wand_r Idealize.ShloMosaic.frame (wpE (defs₀ (F := F)) Variants.none (c : Thread nD τ) none) Set.univ)
    isplitl [H0 H1 H2 H3 H4]
    · iapply (body_next (F := F) c (grid0.coords t) _ _ _ _ _ _ _ _ _ _ (iblk m c 0 t) (iblk m c 1 t) (iblk m c 2 t) (fun hg => h ((guard_iff t).mp hg)) _ _)
      isplitl [H0]; · iexact H0
      isplitl [H1]; · iexact H1
      isplitl [H2]; · iexact H2
      isplitl [H3]; · iexact H3
      iexact H4
    iintro %_ H
    isplitl [HΦ]; · iexact HΦ
    isplitl [Ho]; · iexact Ho
    iexact H

/-- The body table's row at point `t`'s buffers is the body there. -/
theorem defs₀_row (t : Fin cfg0.N) :
    defs₀ (F := F) .tc cfg0.body (cfg0.bodyArgs t (cfg0.slots t)) = bodyAt0 t := by
  unfold defs₀; rw [Defs.onTc_tc]

/-- The rows' buffer as a point leaves it: where the point does not store into it, it is as the point found it. -/
theorem leaves4 (c : Dev nD) (t : Fin cfg0.N) :
    (owns (c : Thread nD τ) (st0_4 t) fullShare ((dats m 0 c).after 4 t) : sProp 𝕄) ⊢
      (match cfg0.idle 4 (cfg0.grid.coords t) with
        | true =>
          match (cfg0.win 4).flush t with
          | false => iprop(∃ d, owns (c : Thread nD τ) (st0_4 t) fullShare ((dats m 0 c).before 4 t d))
          | true => owns (c : Thread nD τ) (st0_4 t) fullShare ((dats m 0 c).after 4 t)
        | false => owns (c : Thread nD τ) (st0_4 t) fullShare ((dats m 0 c).after 4 t)) := by
  by_cases h : t.val % 6 = 0
  · rw [idle_false t h]
  · rw [idle_true t h]
    by_cases h5 : t.val % 6 = 5
    · rw [(flush0_4 t).mpr h5]
    · rw [flush_false t h5, after0_4]
      iintro H
      iexists (rowsAt m c t)
      rw [before0_4 m c t h]
      iexact H

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (leaves4 m c t)
  iexact H4

/-! ## The run and the frame -/

set_option backward.isDefEq.respectTransparency.types false in
/-- Every run of the program ends with the arrays at what the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Kernel4Ideal.Hand

end
-- ==== Proof.InIdeal.lean ====
/- The input projection: what its kernel leaves, and that the reference's two arrays are the same. -/
module

public import proofs.«01_k».proof.Proof.InIdealRun
public import proofs.«01_k».proof.Proof.Gen.Reference4Ideal.Read
public import proofs.«01_k».proof.Proof.RmsBack
public import Idealize.ShloMosaic.Lib.Pipeline.ValueKit

@[expose] public section

set_option maxRecDepth 16384

noncomputable section

namespace Cert.Reference4Ideal.Hand

open Cert.Reference4Ideal Cert.Reference4Ideal.Gen Cert.Reference4Ideal.Read Cert.Rms
open Idealize.ShloMosaic Idealize.ShloMosaic.TcCoe Idealize.ShloMosaic.Tactic

variable (x0 : FVec Ideal S4224x1024 .f32) (x1 : FVec Ideal S1024 .f32) (x2 : FVec Ideal S1024x7680 .f32)

/-- The arguments' elements. -/
def eX (n : Fin 4224) (k : Fin 1024) : EReal := x0 (ix2 n k)
def eG (k : Fin 1024) : EReal := x1 (ix1 k)
def eW (k : Fin 1024) (j : Fin 7680) : EReal := x2 (ix2 k j)

/-- The normalised activations, gain included. -/
def eN (n : Fin 4224) (k : Fin 1024) : EReal := eX x0 n k * Ideal.rsqrt (ms (eX x0 n)) * eG x1 k

theorem v6_at (n : Fin 4224) (z : Fin 1) : (val_main_v6 (F := Ideal) x0 (ix2 n z) : EReal) = ms (eX x0 n) := by
  have e1 : idx_main_v2 (ix2 n z) = ix1 n := by ext a; fin_cases a <;> rfl
  have e2 : (val_main_v1 (F := Ideal) x0 (ix1 n) : EReal) = ∑ k, eX x0 n k * eX x0 n k := by
    refine (val_main_v1_apply x0 _).trans ?_
    refine (congrArg (fun z : EReal => z + _) zero32).trans ((zero_add _).trans (Finset.sum_congr rfl fun k _ => ?_))
    have e : idx_main_v1 (ix1 n) k = ix2 n k := by ext a; fin_cases a <;> rfl
    rw [e]
    rfl
  rw [val_main_v6_apply, val_main_v4_apply, val_main_v2_apply, e1, val_main_v3_apply, val_main_v5_apply]
  unfold ms
  rw [← e2]
  rfl

theorem v12_at (n : Fin 4224) (k : Fin 1024) : (val_main_v12 (F := Ideal) x0 x1 (ix2 n k) : EReal) = eN x0 x1 n k := by
  have e : idx_main_v8 (ix2 n k) = ix2 n 0 := by ext a; fin_cases a <;> rfl
  have e1 : idx_main_v10 (idx_main_v11 (ix2 n k)) = ix1 k := by ext a; fin_cases a <;> rfl
  rw [val_main_v12_apply, val_main_v9_apply, val_main_v8_apply, e, val_main_v7_apply, val_main_v11_apply, val_main_v10_apply, e1]
  unfold eN
  rw [← v6_at x0 n 0]
  rfl

theorem v14_at (n : Fin 4224) (k : Fin 1024) : (val_main_v14 (F := Ideal) x0 x1 (ix2 n k) : EReal) = eN x0 x1 n k := by
  rw [val_main_v14_apply]
  exact v12_at x0 x1 n k

theorem v13_at (n : Fin 4224) (j : Fin 7680) : (val_main_v13 (F := Ideal) x0 x1 x2 (ix2 n j) : EReal) = ∑ k, eN x0 x1 n k * eW x2 k j := by
  refine (val_main_v13_apply x0 x1 x2 _).trans (Finset.sum_congr rfl fun k _ => ?_)
  have e1 : lidx_main_v13 (ix2 n j) k = ix2 n k := by ext a; fin_cases a <;> rfl
  have e2 : ridx_main_v13 (ix2 n j) k = ix2 k j := by ext a; fin_cases a <;> rfl
  rw [e1, e2, ← v12_at x0 x1 n k]
  rfl

end Cert.Reference4Ideal.Hand

namespace Cert.Kernel4Ideal.Hand

open Cert.Kernel4Ideal Cert.Kernel4Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem pay1_at (x : FVec Ideal S1408x1024 .f32) (g : FVec Ideal S1x1024 .f32) (a : Fin 1408) (b : Fin 1024) : (k0_pay1 (F := Ideal) x g (ix2 a b) : EReal) =
    (x (ix2 a b) : EReal) * Ideal.rsqrt (Ideal.div (∑ k : Fin 1024, (x (ix2 a k) : EReal) * x (ix2 a k)) (Ideal.ofBits .f32 0x44800000#32) + Ideal.ofBits .f32 0x358637BD#32)
      * g (ix2 0 b) := by
  pointwise [k0_pay1]

theorem pay2_at (x : FVec Ideal S1408x1024 .bf16) (w : FVec Ideal S1024x1280 .bf16) (a : Fin 1408) (b : Fin 1280) : (k0_pay2 (F := Ideal) x w (ix2 a b) : EReal) =
    ∑ k : Fin 1024, (x (ix2 a k) : EReal) * w (ix2 k b) := by
  pointwise [k0_pay2]

theorem idx0 : ∀ t : Fin cfg0.N, (win0_0.index t 0 : ℕ) = t.val / 6 ∧ (win0_0.index t 1 : ℕ) = 0 := by decide +kernel
theorem idx1 : ∀ t : Fin cfg0.N, (win0_1.index t 0 : ℕ) = 0 ∧ (win0_1.index t 1 : ℕ) = 0 := by decide +kernel
theorem idx2 : ∀ t : Fin cfg0.N, (win0_2.index t 0 : ℕ) = 0 ∧ (win0_2.index t 1 : ℕ) = t.val % 6 := by decide +kernel
theorem idx3 : ∀ t : Fin cfg0.N, (win0_3.index t 0 : ℕ) = t.val / 6 ∧ (win0_3.index t 1 : ℕ) = t.val % 6 := by decide +kernel
theorem idx4 : ∀ t : Fin cfg0.N, (win0_4.index t 0 : ℕ) = t.val / 6 ∧ (win0_4.index t 1 : ℕ) = 0 := by decide +kernel

theorem lt18 (t : Fin cfg0.N) : t.val < 18 := t.isLt

/-- The row of the arrays that row `a` of point `t`'s block is. -/
def row (t : Fin cfg0.N) (a : Fin 1408) : Fin 4224 := ⟨1408 * (t.val / 6) + a.val, by have := lt18 t; omega⟩

/-- The column of the product that column `b` of point `t`'s block is. -/
def col (t : Fin cfg0.N) (b : Fin 1280) : Fin 7680 := ⟨1280 * (t.val % 6) + b.val, by omega⟩

/-- The three arrays the kernel reads. -/
def inX (n : Fin 4224) (k : Fin 1024) : EReal := V m c main_arg0 (ix2 n k)
def inG (k : Fin 1024) : EReal := V m c main_v0 (ix2 0 k)
def inW (k : Fin 1024) (j : Fin 7680) : EReal := V m c main_v1 (ix2 k j)

/-- Their blocks at a grid point. -/
def blkX (t : Fin cfg0.N) (a : Fin 1408) (k : Fin 1024) : EReal := iblk m c 0 t (ix2 a k)
def blkG (t : Fin cfg0.N) (k : Fin 1024) : EReal := iblk m c 1 t (ix2 0 k)
def blkW (t : Fin cfg0.N) (k : Fin 1024) (b : Fin 1280) : EReal := iblk m c 2 t (ix2 k b)

theorem blkX_eq (t : Fin cfg0.N) (a : Fin 1408) (k : Fin 1024) : blkX m c t a k = inX m c (row t a) k := by
  obtain ⟨h0, h1⟩ := idx0 t
  unfold blkX inX row
  blk_ext [iblk, h0, h1]

theorem blkG_eq (t : Fin cfg0.N) (k : Fin 1024) : blkG m c t k = inG m c k := by
  obtain ⟨h0, h1⟩ := idx1 t
  unfold blkG inG
  blk_ext [iblk, h0, h1]

theorem blkW_eq (t : Fin cfg0.N) (k : Fin 1024) (b : Fin 1280) : blkW m c t k b = inW m c k (col t b) := by
  obtain ⟨h0, h1⟩ := idx2 t
  unfold blkW inW col
  blk_ext [iblk, h0, h1]

/-- The normalised activations, gain included. -/
def nrm (n : Fin 4224) (b : Fin 1024) : EReal := inX m c n b * Ideal.rsqrt (Cert.Rms.ms (inX m c n)) * inG m c b

theorem pay1_blk (t : Fin cfg0.N) (a : Fin 1408) (b : Fin 1024) :
    (k0_pay1 (F := Ideal) (iblk m c 0 t) (iblk m c 1 t) (ix2 a b) : EReal) = nrm m c (row t a) b := by
  refine (pay1_at _ _ a b).trans ?_
  unfold nrm Cert.Rms.ms
  have e : (∑ k : Fin 1024, blkX m c t a k * blkX m c t a k) = ∑ k : Fin 1024, inX m c (row t a) k * inX m c (row t a) k :=
    Finset.sum_congr rfl fun k _ => by rw [blkX_eq]
  rw [← e, ← blkX_eq m c t a b, ← blkG_eq m c t b]
  rfl

/-- After every point the buffer holds its block's normalised rows. -/
theorem rows_at (n : ℕ) : ∀ (hn : n < cfg0.N) (a : Fin 1408) (b : Fin 1024), (rowsAt m c ⟨n, hn⟩ (ix2 a b) : EReal) = nrm m c (row ⟨n, hn⟩ a) b := by
  induction n with
  | zero =>
    intro hn a b
    rw [rowsAt_first m c ⟨0, hn⟩ rfl]
    exact pay1_blk m c _ a b
  | succ n ih =>
    intro hn a b
    by_cases h0 : (n + 1) % 6 = 0
    · rw [rowsAt_first m c ⟨n + 1, hn⟩ h0]
      exact pay1_blk m c _ a b
    · rw [rowsAt_next m c ⟨n + 1, hn⟩ h0]
      refine (ih (Nat.lt_of_succ_lt hn) a b).trans ?_
      have e : row ⟨n, Nat.lt_of_succ_lt hn⟩ a = row ⟨n + 1, hn⟩ a := Fin.ext (by
        show 1408 * (n / 6) + a.val = 1408 * ((n + 1) / 6) + a.val
        omega)
      rw [e]

/-- The product of the normalised activations with the weights. -/
def prd (n : Fin 4224) (j : Fin 7680) : EReal := ∑ k : Fin 1024, nrm m c n k * inW m c k j

/-- The block of the product a point writes. -/
theorem prod_at (t : Fin cfg0.N) (a : Fin 1408) (b : Fin 1280) :
    (k0_pay2 (F := Ideal) (rowsAt m c t) (iblk m c 2 t) (ix2 a b) : EReal) = prd m c (row t a) (col t b) := by
  refine (pay2_at _ _ a b).trans (Finset.sum_congr rfl fun k _ => ?_)
  exact congrArg₂ (fun u v : EReal => u * v) (rows_at m c t.val t.isLt a k) (blkW_eq m c t k b)

/-- The product, as the kernel leaves it. -/
theorem arr3 : (dats m 0 c).arrAt 3 cfg0.N = fun y => prd m c (y 0) (y 1) := by
  refine (dats m 0 c).arrAt_eq_of_covers 3 _ (by decide +kernel) fun t hf y => ?_
  obtain ⟨a, b, rfl⟩ : ∃ (a : Fin 1408) (b : Fin 1280), y = ix2 a b := ⟨y 0, y 1, by ext k; fin_cases k <;> rfl⟩
  have hs := prod_at m c t a b
  obtain ⟨h0, h1⟩ := idx3 t
  rw [after0_3]
  refine Eq.trans hs ?_
  have e0 : (((cfg0.win 3).blk t).view.emb (ix2 a b)) 0 = row t a := Fin.ext (by
    show _ = 1408 * (t.val / 6) + a.val
    blk_simp [h0, h1]
    ring)
  have e1 : (((cfg0.win 3).blk t).view.emb (ix2 a b)) 1 = col t b := Fin.ext (by
    show _ = 1280 * (t.val % 6) + b.val
    blk_simp [h0, h1]
    ring)
  dsimp only
  rw [e0, e1]

/-- The normalised activations, as the kernel leaves them. -/
theorem arr4 : (dats m 0 c).arrAt 4 cfg0.N = fun y => nrm m c (y 0) (y 1) := by
  refine (dats m 0 c).arrAt_eq_of_covers 4 _ (by decide +kernel) fun t hf y => ?_
  obtain ⟨a, b, rfl⟩ : ∃ (a : Fin 1408) (b : Fin 1024), y = ix2 a b := ⟨y 0, y 1, by ext k; fin_cases k <;> rfl⟩
  have hs := rows_at m c t.val t.isLt a b
  obtain ⟨h0, h1⟩ := idx4 t
  rw [after0_4]
  refine Eq.trans hs ?_
  have e0 : (((cfg0.win 4).blk t).view.emb (ix2 a b)) 0 = row t a := Fin.ext (by
    show _ = 1408 * (t.val / 6) + a.val
    blk_simp [h0, h1]
    ring)
  have e1 : (((cfg0.win 4).blk t).view.emb (ix2 a b)) 1 = b := Fin.ext (by blk_simp [h0, h1])
  dsimp only
  rw [e0, e1]

theorem inX_eq (n : Fin 4224) (k : Fin 1024) : inX m c n k = Cert.Reference4Ideal.Hand.eX (m (c, Proc.tc.devRef main_arg0)) n k := by
  unfold inX Cert.Reference4Ideal.Hand.eX
  simp only [V, hostOps0, List.flatten_cons, List.flatten_nil, List.append_nil, List.cons_append, List.nil_append]
  entry_read
  rfl

theorem inW_eq (k : Fin 1024) (j : Fin 7680) : inW m c k j = Cert.Reference4Ideal.Hand.eW (m (c, Proc.tc.devRef main_arg2)) k j := by
  unfold inW Cert.Reference4Ideal.Hand.eW
  simp only [V, hostOps0, List.flatten_cons, List.flatten_nil, List.append_nil, List.cons_append, List.nil_append]
  entry_read
  rfl

theorem inG_eq (k : Fin 1024) : inG m c k = Cert.Reference4Ideal.Hand.eG (m (c, Proc.tc.devRef main_arg1)) k := by
  unfold inG Cert.Reference4Ideal.Hand.eG
  simp only [V, hostOps0, List.flatten_cons, List.flatten_nil, List.append_nil, List.cons_append, List.nil_append]
  entry_read
  pointwise

theorem nrm_eq (n : Fin 4224) (k : Fin 1024) : nrm m c n k = Cert.Reference4Ideal.Hand.eN (m (c, Proc.tc.devRef main_arg0)) (m (c, Proc.tc.devRef main_arg1)) n k := by
  unfold nrm Cert.Reference4Ideal.Hand.eN Cert.Rms.ms
  simp only [inX_eq, inG_eq]

theorem prd_eq (n : Fin 4224) (j : Fin 7680) : prd m c n j =
    ∑ k, Cert.Reference4Ideal.Hand.eN (m (c, Proc.tc.devRef main_arg0)) (m (c, Proc.tc.devRef main_arg1)) n k * Cert.Reference4Ideal.Hand.eW (m (c, Proc.tc.devRef main_arg2)) k j := by
  unfold prd
  exact Finset.sum_congr rfl fun k _ => congrArg₂ (fun u v : EReal => u * v) (nrm_eq m c n k) (inW_eq m c k j)

/-- The kernel's product is the reference's. -/
theorem arr3_ref : (dats m 0 c).arrAt 3 cfg0.N = Cert.Reference4Ideal.Read.val_main_v13 (F := Ideal) (m (c, Proc.tc.devRef main_arg0)) (m (c, Proc.tc.devRef main_arg1)) (m (c, Proc.tc.devRef main_arg2)) := by
  funext y
  obtain ⟨a, b, rfl⟩ : ∃ (a : Fin 4224) (b : Fin 7680), y = ix2 a b := ⟨y 0, y 1, by ext k; fin_cases k <;> rfl⟩
  refine (congrFun (arr3 m c) (ix2 a b)).trans ?_
  exact (prd_eq m c a b).trans (Cert.Reference4Ideal.Hand.v13_at (m (c, Proc.tc.devRef main_arg0)) (m (c, Proc.tc.devRef main_arg1)) (m (c, Proc.tc.devRef main_arg2)) a b).symm

/-- The kernel's normalised activations are the reference's. -/
theorem arr4_ref : (dats m 0 c).arrAt 4 cfg0.N = Cert.Reference4Ideal.Read.val_main_v14 (F := Ideal) (m (c, Proc.tc.devRef main_arg0)) (m (c, Proc.tc.devRef main_arg1)) := by
  funext y
  obtain ⟨a, b, rfl⟩ : ∃ (a : Fin 4224) (b : Fin 1024), y = ix2 a b := ⟨y 0, y 1, by ext k; fin_cases k <;> rfl⟩
  refine (congrFun (arr4 m c) (ix2 a b)).trans ?_
  exact (nrm_eq m c a b).trans (Cert.Reference4Ideal.Hand.v14_at (m (c, Proc.tc.devRef main_arg0)) (m (c, Proc.tc.devRef main_arg1)) a b).symm

end Cert.Kernel4Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.KernelRun
public import proofs.«01_k».proof.Proof.IdealRun
public import proofs.«01_k».proof.Proof.IdealArrays
public import proofs.«01_k».proof.Proof.RefGrads
public import proofs.«01_k».proof.Proof.Finite
public import proofs.«01_k».proof.Proof.DwIdeal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.DxTie
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.MbTie
public import proofs.«01_k».proof.Proof.LossTie
public import proofs.«01_k».proof.Proof.AwTie
public import proofs.«01_k».proof.Proof.MfTie
public import proofs.«01_k».proof.Proof.InRun
public import proofs.«01_k».proof.Proof.InIdeal
public import Idealize.ShloMosaic.Lib.Claim

@[expose] public section

set_option maxRecDepth 16384

noncomputable section

namespace Cert.Proof

open Idealize.ShloMosaic Idealize.SL.Sem

/-- The kernel's runs end, its arguments unchanged and its counters at zero. -/
theorem frame_kernel : Cert.quiescent_Kernel := fun m g _ => Cert.Kernel.Hand.frame m g

/-- The same of the kernel at extended reals. -/
theorem frame_kernelIdeal : Cert.quiescent_KernelIdeal := fun m g _ => Cert.KernelIdeal.Hand.frame m g

/-- The same of the reference at extended reals. -/
theorem frame_referenceIdeal : Cert.quiescent_ReferenceIdeal := fun m g _ =>
  (θ_run Cert.ReferenceIdeal.defs _ _).mono (fun r h => ⟨h, sem_eq_zero_of_no_sems (by decide) r.2⟩)
    (by hlo_run : θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)))

/-- The one named literal stands for minus infinity. -/
theorem preserves : Cert.preserves_Kernel_KernelIdeal :=
  IdealRules.named_const.statement Cert.KernelIdeal.κ "mask" .f32 0xF149F2CA#32 ⊥ rfl

section values

open Cert.KernelIdeal.Hand (DQ DK DV DCK DCQ)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The gradient of the queries, as an array. -/
def out0 (c : Dev Cert.KernelIdeal.nD) : FVec Ideal Cert.KernelIdeal.S4224x512 .f32 := fun y => ((DQ (Cert.Finite.args m c) (y 0).val (y 1).val : ℝ) : EReal)

/-- The gradient of the keys. -/
def out1 (c : Dev Cert.KernelIdeal.nD) : FVec Ideal Cert.KernelIdeal.S4224x512 .f32 := fun y => ((DK (Cert.Finite.args m c) (y 0).val (y 1).val : ℝ) : EReal)

/-- The gradient of the values. -/
def out2 (c : Dev Cert.KernelIdeal.nD) : FVec Ideal Cert.KernelIdeal.S4224x512 .f32 := fun y => ((DV (Cert.Finite.args m c) (y 0).val (y 1).val : ℝ) : EReal)

/-- The gradient of the cumulative gates as the keys meet them. -/
def out3 (c : Dev Cert.KernelIdeal.nD) : FVec Ideal Cert.KernelIdeal.S4224x512 .f32 := fun y => ((DCK (Cert.Finite.args m c) (y 0).val (y 1).val : ℝ) : EReal)

/-- The gradient of the cumulative gates as the queries meet them. -/
def out4 (c : Dev Cert.KernelIdeal.nD) : FVec Ideal Cert.KernelIdeal.S4x11x2x384 .f32 := fun y =>
  ((DCQ (Cert.Finite.args m c) (2 * (y 0).val + (y 2).val) (384 * (y 1).val + (y 3).val) : ℝ) : EReal)

variable (c : Dev Cert.KernelIdeal.nD) (x0 x1 x2 : FVec Ideal Cert.ReferenceIdeal.S4224x512 .f32) (x3 : FVec Ideal Cert.ReferenceIdeal.S4224x8 .f32)
  (x4 : FVec Ideal Cert.ReferenceIdeal.S4112x512 .f32) (hB : Cert.ReferenceIdeal.Hand.IsArr x0 x1 x2 x3 x4 (Cert.Finite.args m c))

include hB

/-- The reference's gradient of the queries is the same array. -/
theorem ref0 : Cert.ReferenceIdeal.Read.val_main_v98 (F := Ideal) x0 x1 x2 x3 x4 = out0 m c := by
  funext y
  obtain ⟨a, b, rfl⟩ : ∃ (a : Fin 4224) (b : Fin 512), y = ix2 a b := ⟨y 0, y 1, by ext k; fin_cases k <;> rfl⟩
  exact Cert.ReferenceIdeal.Hand.r98_at x0 x1 x2 x3 x4 _ hB a b

/-- The same of the keys. -/
theorem ref1 : Cert.ReferenceIdeal.Read.val_main_v99 (F := Ideal) x0 x1 x2 x3 x4 = out1 m c := by
  funext y
  obtain ⟨a, b, rfl⟩ : ∃ (a : Fin 4224) (b : Fin 512), y = ix2 a b := ⟨y 0, y 1, by ext k; fin_cases k <;> rfl⟩
  exact Cert.ReferenceIdeal.Hand.r99_at x0 x1 x2 x3 x4 _ hB a b

/-- The same of the values. -/
theorem ref2 : Cert.ReferenceIdeal.Read.val_main_v100 (F := Ideal) x0 x1 x3 x4 = out2 m c := by
  funext y
  obtain ⟨a, b, rfl⟩ : ∃ (a : Fin 4224) (b : Fin 512), y = ix2 a b := ⟨y 0, y 1, by ext k; fin_cases k <;> rfl⟩
  exact Cert.ReferenceIdeal.Hand.r100_at x0 x1 x2 x3 x4 _ hB a b

/-- The same of the gates as the keys meet them. -/
theorem ref3 : Cert.ReferenceIdeal.Read.val_main_v102 (F := Ideal) x0 x1 x2 x3 x4 = out3 m c := by
  funext y
  obtain ⟨a, b, rfl⟩ : ∃ (a : Fin 4224) (b : Fin 512), y = ix2 a b := ⟨y 0, y 1, by ext k; fin_cases k <;> rfl⟩
  exact Cert.ReferenceIdeal.Hand.r102_at x0 x1 x2 x3 x4 _ hB a b

/-- The same of the gates as the queries meet them. -/
theorem ref4 : Cert.ReferenceIdeal.Read.val_main_v105 (F := Ideal) x0 x1 x2 x3 x4 = out4 m c := by
  funext y
  obtain ⟨p, n, h, r, rfl⟩ : ∃ (p : Fin 4) (n : Fin 11) (h : Fin 2) (r : Fin 384), y = ix4 p n h r := ⟨y 0, y 1, y 2, y 3, by ext k; fin_cases k <;> rfl⟩
  exact Cert.ReferenceIdeal.Hand.r105_at x0 x1 x2 x3 x4 _ hB p n h r

omit hB

open Idealize.ShloMosaic.TcCoe in
/-- Memories that agree on the arguments hold the same real numbers. -/
theorem ref_args (hp : Cert.Pre_KernelIdeal_finite m)
    (hm : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Hand.IsArr (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (Cert.Finite.args m c) := by
  obtain ⟨e0, e1, e2, e3, e4⟩ := hm
  have hA := Cert.Finite.kernel_args m hp c
  rw [e0, e1, e2, e3, e4]
  exact ⟨hA.q, hA.k, hA.v, hA.c, hA.g⟩

end values

/-- From finite arguments the kernel's five arrays are, over the extended reals, the gradients that the reference
    gets by differentiating its forward lines. -/
theorem algebraic : Cert.algebraic_KernelIdeal_ReferenceIdeal_pre_finite := by
  intro m g m' g' hp hm
  refine ⟨out0 m, out1 m, out2 m, out3 m, out4 m, ?_, ?_⟩
  · refine (θ_run Cert.KernelIdeal.defs _ _).mono (fun r h c => ?_)
      (θ_run_and (Cert.KernelIdeal.Hand.run_main (F := Ideal) m g) (Cert.KernelIdeal.Hand.frame (F := Ideal) m g))
    have hA := Cert.Finite.kernel_args m hp c
    exact ⟨Cert.KernelIdeal.Hand.end7 m c _ hA r h.1, Cert.KernelIdeal.Hand.end8 m c _ hA r h.1, Cert.KernelIdeal.Hand.end9 m c _ hA r h.1,
      Cert.KernelIdeal.Hand.end10 m c _ hA r h.1, Cert.KernelIdeal.Hand.end11 m c _ hA r h.1, h.2.1 c⟩
  · refine (θ_run Cert.ReferenceIdeal.defs _ _).mono (fun r h c => ?_) (Cert.ReferenceIdeal.Value.run (F := Ideal) m' g')
    have hB := ref_args m m' c hp (hm c)
    obtain ⟨h0, h1, h2, h3, h4, hr⟩ := h c
    exact ⟨h0.trans ((Cert.ReferenceIdeal.Read.val_main_v98_eq m' c).trans (ref0 m c _ _ _ _ _ hB)),
      h1.trans ((Cert.ReferenceIdeal.Read.val_main_v99_eq m' c).trans (ref1 m c _ _ _ _ _ hB)),
      h2.trans ((Cert.ReferenceIdeal.Read.val_main_v100_eq m' c).trans (ref2 m c _ _ _ _ _ hB)),
      h3.trans ((Cert.ReferenceIdeal.Read.val_main_v102_eq m' c).trans (ref3 m c _ _ _ _ _ hB)),
      h4.trans ((Cert.ReferenceIdeal.Read.val_main_v105_eq m' c).trans (ref4 m c _ _ _ _ _ hB)), hr⟩

/-! The weights' gradient of the projection. -/

theorem frame2_kernel : Cert.quiescent_Kernel2 := fun m g _ => Cert.Kernel2.Gen.frame m g

theorem frame2_kernelIdeal : Cert.quiescent_Kernel2Ideal := fun m g _ => Cert.Kernel2Ideal.Gen.frame m g

theorem frame2_referenceIdeal : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem preserves2 : Cert.preserves_Kernel2_Kernel2Ideal := trivial

/-- The kernel's sum over three blocks of rows is the reference's one sum over the rows. -/
theorem algebraic2 : Cert.algebraic_Kernel2Ideal_Reference2Ideal := by
  intro m g m' g' _ hm
  refine ⟨fun c => (Cert.Kernel2Ideal.Gen.dats m 0 c).arrAt 2 Cert.Kernel2Ideal.cfg0.N, Cert.Kernel2Ideal.Value.run_blocks (F := Ideal) m g, ?_⟩
  refine (θ_run Cert.Reference2Ideal.defs _ _).mono (fun r h c => ?_) (Cert.Reference2Ideal.Value.run (F := Ideal) m' g')
  obtain ⟨h0, hr⟩ := h c
  obtain ⟨e0, e1, e2, e3⟩ := hm c
  refine ⟨h0.trans ?_, hr⟩
  rw [e0, e1, e3]
  exact (Cert.Reference2Ideal.Read.val_main_v15_eq _ _ _).trans (Cert.Kernel2Ideal.Hand.arr2_ref m c).symm

theorem frame3_kernel : Cert.quiescent_Kernel3 := fun m g _ => Cert.Kernel3.Gen.frame m g

theorem frame3_kernelIdeal : Cert.quiescent_Kernel3Ideal := fun m g _ => Cert.Kernel3Ideal.Gen.frame m g

theorem frame3_referenceIdeal : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

theorem preserves3 : Cert.preserves_Kernel3_Kernel3Ideal := trivial

/-- The kernel's gradient of the rows is the reference's, and its sum over the blocks of rows the gain's gradient. -/
theorem algebraic3 : Cert.algebraic_Kernel3Ideal_Reference3Ideal := by
  intro m g m' g' _ hm
  refine ⟨fun c => (Cert.Kernel3Ideal.Gen.dats m 0 c).arrAt 4 Cert.Kernel3Ideal.cfg0.N,
    fun c => (Cert.Kernel3Ideal.Gen.dats m 0 c).arrAt 5 Cert.Kernel3Ideal.cfg0.N, Cert.Kernel3Ideal.Value.run_blocks (F := Ideal) m g, ?_⟩
  refine (θ_run Cert.Reference3Ideal.defs _ _).mono (fun r h c => ?_) (Cert.Reference3Ideal.Value.run (F := Ideal) m' g')
  obtain ⟨h0, h1, hr⟩ := h c
  obtain ⟨e0, e1, e2, e3, e4⟩ := hm c
  refine ⟨h0.trans ?_, h1.trans ?_, hr⟩
  · refine (Cert.Reference3Ideal.Read.val_main_v38_eq m' c).trans ?_
    rw [e0, e1, e2, e3, e4]
    exact (Cert.Kernel3Ideal.Hand.arr4_ref m c).symm
  · rw [e0, e2, e3]
    exact (Cert.Reference3Ideal.Read.val_main_v41_eq _ _ _).trans (Cert.Kernel3Ideal.Hand.arr5_ref m c).symm

/-! The input projection. -/

theorem frame4_kernel : Cert.quiescent_Kernel4 := fun m g _ => Cert.Kernel4.Hand.frame m g

theorem frame4_kernelIdeal : Cert.quiescent_Kernel4Ideal := fun m g _ => Cert.Kernel4Ideal.Hand.frame m g

theorem frame4_referenceIdeal : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

theorem preserves4 : Cert.preserves_Kernel4_Kernel4Ideal := trivial

/-- The kernel's blocks of the product and of the normalised activations make the reference's two arrays. -/
theorem algebraic4 : Cert.algebraic_Kernel4Ideal_Reference4Ideal := by
  intro m g m' g' _ hm
  refine ⟨fun c => (Cert.Kernel4Ideal.Hand.dats m 0 c).arrAt 3 Cert.Kernel4Ideal.cfg0.N,
    fun c => (Cert.Kernel4Ideal.Hand.dats m 0 c).arrAt 4 Cert.Kernel4Ideal.cfg0.N, ?_, ?_⟩
  · exact (θ_run Cert.Kernel4Ideal.defs _ _).mono (fun r h c => ⟨(h.1 c).1 3, (h.1 c).1 4, h.2.1 c⟩)
      (θ_run_and (Cert.Kernel4Ideal.Hand.run_main (F := Ideal) m g) (Cert.Kernel4Ideal.Hand.frame (F := Ideal) m g))
  refine (θ_run Cert.Reference4Ideal.defs _ _).mono (fun r h c => ?_) (Cert.Reference4Ideal.Value.run (F := Ideal) m' g')
  obtain ⟨h0, h1, hr⟩ := h c
  obtain ⟨e0, e1, e2⟩ := hm c
  refine ⟨h0.trans ?_, h1.trans ?_, hr⟩
  · rw [e0, e1, e2]
    exact (Cert.Reference4Ideal.Read.val_main_v13_eq _ _ _).trans (Cert.Kernel4Ideal.Hand.arr3_ref m c).symm
  · rw [e0, e1]
    exact (Cert.Reference4Ideal.Read.val_main_v14_eq _ _).trans (Cert.Kernel4Ideal.Hand.arr4_ref m c).symm

/-! The gradient of the gated merge. -/

theorem frame5_kernel : Cert.quiescent_Kernel5 := fun m g _ => Cert.Kernel5.Gen.frame m g

theorem frame5_kernelIdeal : Cert.quiescent_Kernel5Ideal := fun m g _ => Cert.Kernel5Ideal.Gen.frame m g

theorem frame5_referenceIdeal : Cert.quiescent_Reference5Ideal := fun m g _ =>
  (θ_run Cert.Reference5Ideal.defs _ _).mono (fun r h => ⟨fun c => (h c).2.2.2.2.2.2.2.2.2, sem_eq_zero_of_no_sems (by decide) r.2⟩)
    (Cert.Reference5Ideal.Value.run (F := Ideal) m g)

theorem preserves5 : Cert.preserves_Kernel5_Kernel5Ideal := trivial

set_option maxHeartbeats 2000000 in
/-- From finite arguments the kernel's seven arrays and its two sums over the rows are the reference's gradients. -/
theorem algebraic5 : Cert.algebraic_Kernel5Ideal_Reference5Ideal_pre_finite5 := by
  intro m g m' g' hp hm
  refine ⟨fun c => (Cert.Kernel5Ideal.Gen.dats m 0 c).arrAt 12 Cert.Kernel5Ideal.cfg0.N,
    fun c => (Cert.Kernel5Ideal.Gen.dats m 0 c).arrAt 13 Cert.Kernel5Ideal.cfg0.N,
    fun c => (Cert.Kernel5Ideal.Gen.dats m 0 c).arrAt 14 Cert.Kernel5Ideal.cfg0.N,
    fun c => (Cert.Kernel5Ideal.Gen.dats m 0 c).arrAt 15 Cert.Kernel5Ideal.cfg0.N,
    fun c => (Cert.Kernel5Ideal.Gen.dats m 0 c).arrAt 16 Cert.Kernel5Ideal.cfg0.N,
    fun c => (Cert.Kernel5Ideal.Gen.dats m 0 c).arrAt 17 Cert.Kernel5Ideal.cfg0.N,
    fun c => (Cert.Kernel5Ideal.Gen.dats m 0 c).arrAt 18 Cert.Kernel5Ideal.cfg0.N,
    fun c => Cert.Reference5Ideal.Read.val_main_v41 (F := Ideal) (m (c, Proc.tc.devRef Cert.Kernel5Ideal.main_arg0)) (m (c, Proc.tc.devRef Cert.Kernel5Ideal.main_arg1)) (m (c, Proc.tc.devRef Cert.Kernel5Ideal.main_arg2)) (m (c, Proc.tc.devRef Cert.Kernel5Ideal.main_arg3)) (m (c, Proc.tc.devRef Cert.Kernel5Ideal.main_arg4)) (m (c, Proc.tc.devRef Cert.Kernel5Ideal.main_arg6)),
    fun c => Cert.Reference5Ideal.Read.val_main_v30 (F := Ideal) (m (c, Proc.tc.devRef Cert.Kernel5Ideal.main_arg0)) (m (c, Proc.tc.devRef Cert.Kernel5Ideal.main_arg1)) (m (c, Proc.tc.devRef Cert.Kernel5Ideal.main_arg2)) (m (c, Proc.tc.devRef Cert.Kernel5Ideal.main_arg3)) (m (c, Proc.tc.devRef Cert.Kernel5Ideal.main_arg4)) (m (c, Proc.tc.devRef Cert.Kernel5Ideal.main_arg5)), ?_, ?_⟩
  · refine (θ_run Cert.Kernel5Ideal.defs _ _).mono (fun r h c => ?_) (Cert.Kernel5Ideal.Value.run_blocks (F := Ideal) m g)
    obtain ⟨h0, h1, h2, h3, h4, h5, h6, a0, a1, a2, a3, a4, a5, a6, h7, h8⟩ := h c
    exact ⟨h0, h1, h2, h3, h4, h5, h6, h7.trans (Cert.Kernel5Ideal.Hand.held0_ref m c _ _ (by rw [Fin.val_last]; have : Cert.Kernel5Ideal.cfg0.N = 22 := Cert.Kernel5Ideal.Gen.N_0; omega)), h8.trans (Cert.Kernel5Ideal.Hand.held1_ref m c _ _ (by rw [Fin.val_last]; have : Cert.Kernel5Ideal.cfg0.N = 22 := Cert.Kernel5Ideal.Gen.N_0; omega)), a0, a1, a2, a3, a4, a5, a6⟩
  refine (θ_run Cert.Reference5Ideal.defs _ _).mono (fun r h c => ?_) (Cert.Reference5Ideal.Value.run (F := Ideal) m' g')
  obtain ⟨h0, h1, h2, h3, h4, h5, h6, h7, h8, hr⟩ := h c
  obtain ⟨e0, e1, e2, e3, e4, e5, e6⟩ := hm c
  refine ⟨h0.trans ?_, h1.trans ?_, h2.trans ?_, h3.trans ?_, h4.trans ?_, h5.trans ?_, h6.trans ?_, h7.trans ?_, h8.trans ?_, hr⟩
  · rw [e0, e4, e5, e6]
    exact (Cert.Reference5Ideal.Read.val_main_v57_eq _ _ _ _).trans (Cert.Kernel5Ideal.Hand.arr12_ref m c).symm
  · rw [e0, e4, e5, e6]
    exact (Cert.Reference5Ideal.Read.val_main_v58_eq _ _ _ _).trans (Cert.Kernel5Ideal.Hand.arr13_ref m c).symm
  · rw [e0, e4, e5, e6]
    exact (Cert.Reference5Ideal.Read.val_main_v59_eq _ _ _ _).trans (Cert.Kernel5Ideal.Hand.arr14_ref m c).symm
  · rw [e0, e1, e4, e5, e6]
    exact (Cert.Reference5Ideal.Read.val_main_v60_eq _ _ _ _ _).trans (Cert.Kernel5Ideal.Hand.arr15_ref m c hp).symm
  · rw [e0, e2, e4, e5, e6]
    exact (Cert.Reference5Ideal.Read.val_main_v61_eq _ _ _ _ _).trans (Cert.Kernel5Ideal.Hand.arr16_ref m c hp).symm
  · rw [e0, e3, e4, e5, e6]
    exact (Cert.Reference5Ideal.Read.val_main_v62_eq _ _ _ _ _).trans (Cert.Kernel5Ideal.Hand.arr17_ref m c hp).symm
  · rw [e0, e1, e2, e3, e4, e5, e6]
    exact (Cert.Reference5Ideal.Read.val_main_v63_eq _ _ _ _ _ _ _).trans (Cert.Kernel5Ideal.Hand.arr18_ref m c).symm
  · rw [e0, e1, e2, e3, e4, e6]
    exact Cert.Reference5Ideal.Read.val_main_v41_eq _ _ _ _ _ _
  · rw [e0, e1, e2, e3, e4, e5]
    exact Cert.Reference5Ideal.Read.val_main_v30_eq _ _ _ _ _ _

/-! The gated merge. -/

theorem frame6_kernel : Cert.quiescent_Kernel6 := fun m g _ => Cert.Kernel6.Gen.frame m g

theorem frame6_kernelIdeal : Cert.quiescent_Kernel6Ideal := fun m g _ => Cert.Kernel6Ideal.Gen.frame m g

theorem frame6_referenceIdeal : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem preserves6 : Cert.preserves_Kernel6_Kernel6Ideal := trivial

/-- The kernel's eleven blocks of rows make the reference's array. -/
theorem algebraic6 : Cert.algebraic_Kernel6Ideal_Reference6Ideal := by
  intro m g m' g' _ hm
  refine ⟨fun c => (Cert.Kernel6Ideal.Gen.dats m 0 c).arrAt 12 Cert.Kernel6Ideal.cfg0.N, Cert.Kernel6Ideal.Value.run_blocks (F := Ideal) m g, ?_⟩
  refine (θ_run Cert.Reference6Ideal.defs _ _).mono (fun r h c => ?_) (Cert.Reference6Ideal.Value.run (F := Ideal) m' g')
  obtain ⟨h0, hr⟩ := h c
  obtain ⟨e0, e1, e2, e3, e4, e5, e6⟩ := hm c
  refine ⟨h0.trans ?_, hr⟩
  rw [e0, e1, e2, e3, e4, e5, e6]
  exact (Cert.Reference6Ideal.Read.val_main_v26_eq _ _ _ _ _ _ _).trans (Cert.Kernel6Ideal.Hand.arr12_ref m c).symm

/-! The loss and its gradients. -/

theorem frame7_kernel : Cert.quiescent_Kernel7 := fun m g _ => Cert.Kernel7.Gen.frame m g

theorem frame7_kernelIdeal : Cert.quiescent_Kernel7Ideal := fun m g _ => Cert.Kernel7Ideal.Gen.frame m g

theorem frame7_referenceIdeal : Cert.quiescent_Reference7Ideal := fun m g _ =>
  (θ_run Cert.Reference7Ideal.defs _ _).mono (fun r h => ⟨fun c => (h c).2.2.2, sem_eq_zero_of_no_sems (by decide) r.2⟩)
    (Cert.Reference7Ideal.Value.run (F := Ideal) m g)

theorem preserves7 : Cert.preserves_Kernel7_Kernel7Ideal := trivial

/-- The kernel's rows, and its sums over the blocks of rows, are the reference's gradients and loss. -/
theorem algebraic7 : Cert.algebraic_Kernel7Ideal_Reference7Ideal := by
  intro m g m' g' _ hm
  refine ⟨fun c => (Cert.Kernel7Ideal.Gen.dats m 0 c).arrAt 3 Cert.Kernel7Ideal.cfg0.N,
    fun c => (Cert.Kernel7Ideal.Gen.dats m 0 c).arrAt 4 Cert.Kernel7Ideal.cfg0.N,
    fun c => (Cert.Kernel7Ideal.Gen.dats m 0 c).arrAt 5 Cert.Kernel7Ideal.cfg0.N, Cert.Kernel7Ideal.Value.run_blocks (F := Ideal) m g, ?_⟩
  refine (θ_run Cert.Reference7Ideal.defs _ _).mono (fun r h c => ?_) (Cert.Reference7Ideal.Value.run (F := Ideal) m' g')
  obtain ⟨h0, h1, h2, hr⟩ := h c
  obtain ⟨e0, e1, e2⟩ := hm c
  refine ⟨h0.trans ?_, h1.trans ?_, h2.trans ?_, hr⟩
  · refine (Cert.Reference7Ideal.Read.val_main_v52_eq m' c).trans ?_
    rw [e0, e1, e2]
    exact (Cert.Kernel7Ideal.Hand.arr3_ref m c).symm
  · rw [e0, e1, e2]
    exact (Cert.Reference7Ideal.Read.val_main_v53_eq _ _ _).trans (Cert.Kernel7Ideal.Hand.arr4_ref m c).symm
  · rw [e0, e1, e2]
    exact (Cert.Reference7Ideal.Read.val_main_v56_eq _ _ _).trans (Cert.Kernel7Ideal.Hand.arr5_ref m c).symm

/-! The optimiser's update of the input projection's weights. -/

theorem frame8_kernel : Cert.quiescent_Kernel8 := fun m g _ => Cert.Kernel8.Gen.frame m g

theorem frame8_kernelIdeal : Cert.quiescent_Kernel8Ideal := fun m g _ => Cert.Kernel8Ideal.Gen.frame m g

theorem frame8_referenceIdeal : Cert.quiescent_Reference8Ideal := fun m g _ =>
  (θ_run Cert.Reference8Ideal.defs _ _).mono (fun r h => ⟨fun c => (h c).2.2.2.2, sem_eq_zero_of_no_sems (by decide) r.2⟩)
    (Cert.Reference8Ideal.Value.run (F := Ideal) m g)

theorem preserves8 : Cert.preserves_Kernel8_Kernel8Ideal := trivial

/-- The kernel's blocks of rows make the reference's four arrays. -/
theorem algebraic8 : Cert.algebraic_Kernel8Ideal_Reference8Ideal := by
  intro m g m' g' _ hm
  refine ⟨fun c => (Cert.Kernel8Ideal.Gen.dats m 0 c).arrAt 4 Cert.Kernel8Ideal.cfg0.N,
    fun c => (Cert.Kernel8Ideal.Gen.dats m 0 c).arrAt 5 Cert.Kernel8Ideal.cfg0.N,
    fun c => (Cert.Kernel8Ideal.Gen.dats m 0 c).arrAt 6 Cert.Kernel8Ideal.cfg0.N,
    fun c => (Cert.Kernel8Ideal.Gen.dats m 0 c).arrAt 7 Cert.Kernel8Ideal.cfg0.N, Cert.Kernel8Ideal.Value.run_blocks (F := Ideal) m g, ?_⟩
  refine (θ_run Cert.Reference8Ideal.defs _ _).mono (fun r h c => ?_) (Cert.Reference8Ideal.Value.run (F := Ideal) m' g')
  obtain ⟨h0, h1, h2, h3, hr⟩ := h c
  obtain ⟨e0, e1, e2, e3⟩ := hm c
  refine ⟨h0.trans ?_, h1.trans ?_, h2.trans ?_, h3.trans ?_, hr⟩
  · rw [e0, e1, e2, e3]
    exact (Cert.Reference8Ideal.Read.val_main_v24_eq _ _ _ _).trans (Cert.Kernel8Ideal.Hand.arr4_ref m c).symm
  · rw [e1, e2]
    exact (Cert.Reference8Ideal.Read.val_main_v25_eq _ _).trans (Cert.Kernel8Ideal.Hand.arr5_ref m c).symm
  · rw [e1, e3]
    exact (Cert.Reference8Ideal.Read.val_main_v26_eq _ _).trans (Cert.Kernel8Ideal.Hand.arr6_ref m c).symm
  · rw [e1]
    exact (Cert.Reference8Ideal.Read.val_main_v27_eq _).trans (Cert.Kernel8Ideal.Hand.arr7_ref m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite.Gen.facts, Cert.Pre_finite5.Gen.facts,
  frame_kernel, frame_kernelIdeal, fun m g _ => Cert.KernelIdeal.Hand.frame m g, frame_referenceIdeal, fun m g _ => frame_referenceIdeal m g trivial,
  frame2_kernel, frame2_kernelIdeal, frame2_referenceIdeal, frame3_kernel, frame3_kernelIdeal, frame3_referenceIdeal,
  frame4_kernel, frame4_kernelIdeal, frame4_referenceIdeal,
  frame5_kernel, frame5_kernelIdeal, fun m g _ => Cert.Kernel5Ideal.Gen.frame m g, frame5_referenceIdeal, fun m g _ => frame5_referenceIdeal m g trivial,
  frame6_kernel, frame6_kernelIdeal, frame6_referenceIdeal, frame7_kernel, frame7_kernelIdeal, frame7_referenceIdeal,
  frame8_kernel, frame8_kernelIdeal, frame8_referenceIdeal,
  preserves, algebraic, preserves2, algebraic2, preserves3, algebraic3, preserves4, algebraic4, preserves5, algebraic5, preserves6, algebraic6,
  preserves7, algebraic7, preserves8, algebraic8⟩

end Cert.Proof

end
